-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.Statement Cert.KernelIdeal.S16x128 Cert.KernelIdeal.S8x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2880x5760 : Shape := ⟨2, ![2880, 5760]⟩
abbrev S1536x5760 : Shape := ⟨2, ![1536, 5760]⟩
abbrev S1536x2880 : Shape := ⟨2, ![1536, 2880]⟩
abbrev S2880x1536 : Shape := ⟨2, ![2880, 1536]⟩
abbrev S4x2880x384 : Shape := ⟨3, ![4, 2880, 384]⟩
abbrev S90x5760 : Shape := ⟨2, ![90, 5760]⟩
abbrev S180x2880 : Shape := ⟨2, ![180, 2880]⟩
abbrev S4x384x5760 : Shape := ⟨3, ![4, 384, 5760]⟩
abbrev S180x4x384 : Shape := ⟨3, ![180, 4, 384]⟩
abbrev S12x4x5760 : Shape := ⟨3, ![12, 4, 5760]⟩
abbrev S2880x256 : Shape := ⟨2, ![2880, 256]⟩
abbrev S90x256 : Shape := ⟨2, ![90, 256]⟩
abbrev S8x2880 : Shape := ⟨2, ![8, 2880]⟩
abbrev S4x384x256 : Shape := ⟨3, ![4, 384, 256]⟩
abbrev S8x4x384 : Shape := ⟨3, ![8, 4, 384]⟩
abbrev S12x4x256 : Shape := ⟨3, ![12, 4, 256]⟩
abbrev S2x2880x256 : Shape := ⟨3, ![2, 2880, 256]⟩
abbrev S2x1536x256 : Shape := ⟨3, ![2, 1536, 256]⟩
abbrev S1536x256 : Shape := ⟨2, ![1536, 256]⟩
abbrev S2x2 : Shape := ⟨2, ![2, 2]⟩
abbrev S_ : Shape := ⟨0, ![]⟩
abbrev S2 : Shape := ⟨1, ![2]⟩
abbrev S1x1 : Shape := ⟨2, ![1, 1]⟩
abbrev S1x2880x256 : Shape := ⟨3, ![1, 2880, 256]⟩
abbrev S1x1536x256 : Shape := ⟨3, ![1, 1536, 256]⟩
abbrev S1 : Shape := ⟨1, ![1]⟩
abbrev S1x2880x128 : Shape := ⟨3, ![1, 2880, 128]⟩
abbrev S2880x128 : Shape := ⟨2, ![2880, 128]⟩
abbrev S1x1536x128 : Shape := ⟨3, ![1, 1536, 128]⟩
abbrev S1536x128 : Shape := ⟨2, ![1536, 128]⟩
abbrev S32x128 : Shape := ⟨2, ![32, 128]⟩
abbrev S16x128 : Shape := ⟨2, ![16, 128]⟩
abbrev S8x128 : Shape := ⟨2, ![8, 128]⟩
abbrev S1x128 : Shape := ⟨2, ![1, 128]⟩
abbrev S1x32x128 : Shape := ⟨3, ![1, 32, 128]⟩
abbrev S1x1x128 : Shape := ⟨3, ![1, 1, 128]⟩
abbrev S128x128 : Shape := ⟨2, ![128, 128]⟩
abbrev S1x128x128 : Shape := ⟨3, ![1, 128, 128]⟩
abbrev S64x128 : Shape := ⟨2, ![64, 128]⟩
abbrev S1x64 : Shape := ⟨2, ![1, 64]⟩
abbrev S256x256 : Shape := ⟨2, ![256, 256]⟩

abbrev nBuf : Space → Nat
  | .hbm => 15
  | .vmem => 32
  | .smem => 0
  | _ => 0

abbrev bufTy : (tb : Table) → Fin (tcTables nBuf tb) → BufTy
  | .hbm, ⟨0, _⟩ => ⟨S2880x5760, .bf16⟩
  | .hbm, ⟨1, _⟩ => ⟨S1536x5760, .bf16⟩
  | .hbm, ⟨2, _⟩ => ⟨S1536x2880, .bf16⟩
  | .hbm, ⟨3, _⟩ => ⟨S2880x1536, .bf16⟩
  | .hbm, ⟨4, _⟩ => ⟨S1536x5760, .bf16⟩
  | .hbm, ⟨5, _⟩ => ⟨S4x2880x384, .bf16⟩
  | .hbm, ⟨6, _⟩ => ⟨S2880x5760, .f32⟩
  | .hbm, ⟨7, _⟩ => ⟨S2880x5760, .fp8e4m3⟩
  | .hbm, ⟨8, _⟩ => ⟨S90x5760, .i8⟩
  | .hbm, ⟨9, _⟩ => ⟨S2880x5760, .fp8e4m3⟩
  | .hbm, ⟨10, _⟩ => ⟨S180x2880, .i8⟩
  | .hbm, ⟨11, _⟩ => ⟨S4x384x5760, .fp8e4m3⟩
  | .hbm, ⟨12, _⟩ => ⟨S180x4x384, .i8⟩
  | .hbm, ⟨13, _⟩ => ⟨S4x384x5760, .fp8e4m3⟩
  | .hbm, ⟨14, _⟩ => ⟨S12x4x5760, .i8⟩
  | .local _ .vmem, ⟨0, _⟩ => ⟨S2880x256, .f32⟩
  | .local _ .vmem, ⟨1, _⟩ => ⟨S2880x256, .f32⟩
  | .local _ .vmem, ⟨2, _⟩ => ⟨S2880x256, .fp8e4m3⟩
  | .local _ .vmem, ⟨3, _⟩ => ⟨S2880x256, .fp8e4m3⟩
  | .local _ .vmem, ⟨4, _⟩ => ⟨S90x256, .i8⟩
  | .local _ .vmem, ⟨5, _⟩ => ⟨S90x256, .i8⟩
  | .local _ .vmem, ⟨6, _⟩ => ⟨S2880x256, .fp8e4m3⟩
  | .local _ .vmem, ⟨7, _⟩ => ⟨S2880x256, .fp8e4m3⟩
  | .local _ .vmem, ⟨8, _⟩ => ⟨S8x2880, .i8⟩
  | .local _ .vmem, ⟨9, _⟩ => ⟨S8x2880, .i8⟩
  | .local _ .vmem, ⟨10, _⟩ => ⟨S4x384x256, .fp8e4m3⟩
  | .local _ .vmem, ⟨11, _⟩ => ⟨S4x384x256, .fp8e4m3⟩
  | .local _ .vmem, ⟨12, _⟩ => ⟨S8x4x384, .i8⟩
  | .local _ .vmem, ⟨13, _⟩ => ⟨S8x4x384, .i8⟩
  | .local _ .vmem, ⟨14, _⟩ => ⟨S4x384x256, .fp8e4m3⟩
  | .local _ .vmem, ⟨15, _⟩ => ⟨S4x384x256, .fp8e4m3⟩
  | .local _ .vmem, ⟨16, _⟩ => ⟨S12x4x256, .i8⟩
  | .local _ .vmem, ⟨17, _⟩ => ⟨S12x4x256, .i8⟩
  | .local _ .vmem, ⟨18, _⟩ => ⟨S1536x2880, .bf16⟩
  | .local _ .vmem, ⟨19, _⟩ => ⟨S2880x1536, .bf16⟩
  | .local _ .vmem, ⟨20, _⟩ => ⟨S2880x1536, .f32⟩
  | .local _ .vmem, ⟨21, _⟩ => ⟨S2x2880x256, .bf16⟩
  | .local _ .vmem, ⟨22, _⟩ => ⟨S2x1536x256, .bf16⟩
  | .local _ .vmem, ⟨23, _⟩ => ⟨S2880x256, .bf16⟩
  | .local _ .vmem, ⟨24, _⟩ => ⟨S2880x256, .bf16⟩
  | .local _ .vmem, ⟨25, _⟩ => ⟨S1536x256, .bf16⟩
  | .local _ .vmem, ⟨26, _⟩ => ⟨S1536x256, .bf16⟩
  | .local _ .vmem, ⟨27, _⟩ => ⟨S1536x256, .bf16⟩
  | .local _ .vmem, ⟨28, _⟩ => ⟨S90x256, .i32⟩
  | .local _ .vmem, ⟨29, _⟩ => ⟨S8x2880, .i32⟩
  | .local _ .vmem, ⟨30, _⟩ => ⟨S8x4x384, .i32⟩
  | .local _ .vmem, ⟨31, _⟩ => ⟨S12x4x256, .i32⟩
  | _, _ => ⟨S2880x5760, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev main_v0_6 : Ref sig .tc := ⟨.hbm, 10, rfl⟩
abbrev main_v0_7 : Ref sig .tc := ⟨.hbm, 11, rfl⟩
abbrev main_v0_8 : Ref sig .tc := ⟨.hbm, 12, rfl⟩
abbrev main_v0_9 : Ref sig .tc := ⟨.hbm, 13, rfl⟩
abbrev main_v0_10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_scratch8 : Ref sig .tc := ⟨.vmem, 26, rfl⟩
abbrev cc0_scratch9 : Ref sig .tc := ⟨.vmem, 27, rfl⟩
abbrev cc0_scratch10 : Ref sig .tc := ⟨.vmem, 28, rfl⟩
abbrev cc0_scratch11 : Ref sig .tc := ⟨.vmem, 29, rfl⟩
abbrev cc0_scratch12 : Ref sig .tc := ⟨.vmem, 30, rfl⟩
abbrev cc0_scratch13 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [BitOps F]

abbrev grid0 : Pipeline.Grid := ⟨1, ![23], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_1 : BitVec 32 := 0#32
  let v3 : BitVec 1 := Scalar.cmpi .ne v2 c0_i32_1
  v3

def k0_mult1 : BitVec 32 :=
  let c0_i32_492 : BitVec 32 := 0#32
  c0_i32_492
def k0_cond2 (i : grid0.Coords) : BitVec 1 :=
  let arg0 : BitVec 32 := BitVec.ofNat 32 (i 0).val
  let c1_i32_2 : BitVec 32 := 1#32
  let v4 : BitVec 32 := Scalar.addi arg0 c1_i32_2
  let c22_i32 : BitVec 32 := 22#32
  let v5 : BitVec 1 := Scalar.cmpi .slt v4 c22_i32
  let v6 : BitVec 32 := Scalar.extui v5
  let c0_i32_3 : BitVec 32 := 0#32
  let v7 : BitVec 1 := Scalar.cmpi .ne v6 c0_i32_3
  v7

def k0_mult2 (i : grid0.Coords) : BitVec 32 :=
  let arg0 : BitVec 32 := BitVec.ofNat 32 (i 0).val
  let c1_i32_492 : BitVec 32 := 1#32
  let v1150 : BitVec 32 := Scalar.addi arg0 c1_i32_492
  let c256_i32 : BitVec 32 := 256#32
  let v1152 : BitVec 32 := Scalar.muli v1150 c256_i32
  v1152
def k0_off1 (i : grid0.Coords) : Fin 2 → Nat :=
  let c0_i32_494 : BitVec 32 := 0#32
  let c1_i32_493 : BitVec 32 := 1#32
  let arg0 : BitVec 32 := BitVec.ofNat 32 (i 0).val
  let c2_i32 : BitVec 32 := 2#32
  let v0 : BitVec 32 := Scalar.remsi arg0 c2_i32
  let v1151 : BitVec 32 := Scalar.subi c1_i32_493 v0
  ![0, v1151.toNat]
def k0_off2 (i : grid0.Coords) : Fin 3 → Nat :=
  let c1_i32_493 : BitVec 32 := 1#32
  let arg0 : BitVec 32 := BitVec.ofNat 32 (i 0).val
  let c2_i32 : BitVec 32 := 2#32
  let v0 : BitVec 32 := Scalar.remsi arg0 c2_i32
  let v1151 : BitVec 32 := Scalar.subi c1_i32_493 v0
  let c0_i32_495 : BitVec 32 := 0#32
  let c0_i32_496 : BitVec 32 := 0#32
  ![v1151.toNat, 0, 0]
def k0_off3 (i : grid0.Coords) : Fin 2 → Nat :=
  let c0_i32_497 : BitVec 32 := 0#32
  let arg0 : BitVec 32 := BitVec.ofNat 32 (i 0).val
  let c1_i32_492 : BitVec 32 := 1#32
  let v1150 : BitVec 32 := Scalar.addi arg0 c1_i32_492
  let c256_i32 : BitVec 32 := 256#32
  let v1152 : BitVec 32 := Scalar.muli v1150 c256_i32
  let v1153 : BitVec 32 := v1152
  ![0, v1153.toNat]
def k0_off4 (i : grid0.Coords) : Fin 2 → Nat :=
  let c1_i32_498 : BitVec 32 := 1#32
  let c1_i32_493 : BitVec 32 := 1#32
  let arg0 : BitVec 32 := BitVec.ofNat 32 (i 0).val
  let c2_i32 : BitVec 32 := 2#32
  let v0 : BitVec 32 := Scalar.remsi arg0 c2_i32
  let v1151 : BitVec 32 := Scalar.subi c1_i32_493 v0
  ![1, v1151.toNat]
def k0_off5 (i : grid0.Coords) : Fin 3 → Nat :=
  let c1_i32_493 : BitVec 32 := 1#32
  let arg0 : BitVec 32 := BitVec.ofNat 32 (i 0).val
  let c2_i32 : BitVec 32 := 2#32
  let v0 : BitVec 32 := Scalar.remsi arg0 c2_i32
  let v1151 : BitVec 32 := Scalar.subi c1_i32_493 v0
  let c0_i32_499 : BitVec 32 := 0#32
  let c0_i32_500 : BitVec 32 := 0#32
  ![v1151.toNat, 0, 0]
def k0_off6 (i : grid0.Coords) : Fin 2 → Nat :=
  let c0_i32_501 : BitVec 32 := 0#32
  let arg0 : BitVec 32 := BitVec.ofNat 32 (i 0).val
  let c1_i32_492 : BitVec 32 := 1#32
  let v1150 : BitVec 32 := Scalar.addi arg0 c1_i32_492
  let c256_i32 : BitVec 32 := 256#32
  let v1152 : BitVec 32 := Scalar.muli v1150 c256_i32
  let v1153 : BitVec 32 := v1152
  ![0, v1153.toNat]
def k0_cond3 (i : grid0.Coords) : BitVec 1 :=
  let arg0 : BitVec 32 := BitVec.ofNat 32 (i 0).val
  let c1_i32_4 : BitVec 32 := 1#32
  let v8 : BitVec 32 := Scalar.addi arg0 c1_i32_4
  let c22_i32_5 : BitVec 32 := 22#32
  let v9 : BitVec 1 := Scalar.cmpi .eq v8 c22_i32_5
  let v10 : BitVec 32 := Scalar.extui v9
  let c0_i32_6 : BitVec 32 := 0#32
  let v11 : BitVec 1 := Scalar.cmpi .ne v10 c0_i32_6
  v11

def k0_mult3 (i : grid0.Coords) : BitVec 32 :=
  let arg0 : BitVec 32 := BitVec.ofNat 32 (i 0).val
  let c1_i32_492 : BitVec 32 := 1#32
  let v1150 : BitVec 32 := Scalar.addi arg0 c1_i32_492
  let c256_i32 : BitVec 32 := 256#32
  let v1152 : BitVec 32 := Scalar.muli v1150 c256_i32
  v1152
def k0_off7 (i : grid0.Coords) : Fin 2 → Nat :=
  let c0_i32_494 : BitVec 32 := 0#32
  let c1_i32_493 : BitVec 32 := 1#32
  let arg0 : BitVec 32 := BitVec.ofNat 32 (i 0).val
  let c2_i32 : BitVec 32 := 2#32
  let v0 : BitVec 32 := Scalar.remsi arg0 c2_i32
  let v1151 : BitVec 32 := Scalar.subi c1_i32_493 v0
  ![0, v1151.toNat]
def k0_off8 (i : grid0.Coords) : Fin 3 → Nat :=
  let c1_i32_493 : BitVec 32 := 1#32
  let arg0 : BitVec 32 := BitVec.ofNat 32 (i 0).val
  let c2_i32 : BitVec 32 := 2#32
  let v0 : BitVec 32 := Scalar.remsi arg0 c2_i32
  let v1151 : BitVec 32 := Scalar.subi c1_i32_493 v0
  let c0_i32_495 : BitVec 32 := 0#32
  let c0_i32_496 : BitVec 32 := 0#32
  ![v1151.toNat, 0, 0]
def k0_off9 (i : grid0.Coords) : Fin 2 → Nat :=
  let c0_i32_497 : BitVec 32 := 0#32
  let arg0 : BitVec 32 := BitVec.ofNat 32 (i 0).val
  let c1_i32_492 : BitVec 32 := 1#32
  let v1150 : BitVec 32 := Scalar.addi arg0 c1_i32_492
  let c256_i32 : BitVec 32 := 256#32
  let v1152 : BitVec 32 := Scalar.muli v1150 c256_i32
  let v1153 : BitVec 32 := v1152
  ![0, v1153.toNat]
def k0_off10 (i : grid0.Coords) : Fin 2 → Nat :=
  let c1_i32_498 : BitVec 32 := 1#32
  let c1_i32_493 : BitVec 32 := 1#32
  let arg0 : BitVec 32 := BitVec.ofNat 32 (i 0).val
  let c2_i32 : BitVec 32 := 2#32
  let v0 : BitVec 32 := Scalar.remsi arg0 c2_i32
  let v1151 : BitVec 32 := Scalar.subi c1_i32_493 v0
  ![1, v1151.toNat]
def k0_off11 (i : grid0.Coords) : Fin 3 → Nat :=
  let c1_i32_493 : BitVec 32 := 1#32
  let arg0 : BitVec 32 := BitVec.ofNat 32 (i 0).val
  let c2_i32 : BitVec 32 := 2#32
  let v0 : BitVec 32 := Scalar.remsi arg0 c2_i32
  let v1151 : BitVec 32 := Scalar.subi c1_i32_493 v0
  let c0_i32_499 : BitVec 32 := 0#32
  let c0_i32_500 : BitVec 32 := 0#32
  ![v1151.toNat, 0, 0]
def k0_off12 (i : grid0.Coords) : Fin 2 → Nat :=
  let c0_i32_501 : BitVec 32 := 0#32
  let arg0 : BitVec 32 := BitVec.ofNat 32 (i 0).val
  let c1_i32_492 : BitVec 32 := 1#32
  let v1150 : BitVec 32 := Scalar.addi arg0 c1_i32_492
  let c256_i32 : BitVec 32 := 256#32
  let v1152 : BitVec 32 := Scalar.muli v1150 c256_i32
  let v1153 : BitVec 32 := v1152
  ![0, v1153.toNat]
def k0_cond4 (i : grid0.Coords) : BitVec 1 :=
  let arg0 : BitVec 32 := BitVec.ofNat 32 (i 0).val
  let c22_i32_7 : BitVec 32 := 22#32
  let v12 : BitVec 1 := Scalar.cmpi .slt arg0 c22_i32_7
  let v13 : BitVec 32 := Scalar.extui v12
  let c0_i32_8 : BitVec 32 := 0#32
  let v14 : BitVec 1 := Scalar.cmpi .ne v13 c0_i32_8
  v14

def k0_mult4 (i : grid0.Coords) : BitVec 32 :=
  let arg0 : BitVec 32 := BitVec.ofNat 32 (i 0).val
  let c256_i32 : BitVec 32 := 256#32
  let v1150 : BitVec 32 := Scalar.muli arg0 c256_i32
  v1150
def k0_off13 (i : grid0.Coords) : Fin 2 → Nat :=
  let c0_i32_492 : BitVec 32 := 0#32
  let arg0 : BitVec 32 := BitVec.ofNat 32 (i 0).val
  let c2_i32 : BitVec 32 := 2#32
  let v0 : BitVec 32 := Scalar.remsi arg0 c2_i32
  ![0, v0.toNat]
def k0_off14 (i : grid0.Coords) : Fin 3 → Nat :=
  let arg0 : BitVec 32 := BitVec.ofNat 32 (i 0).val
  let c2_i32 : BitVec 32 := 2#32
  let v0 : BitVec 32 := Scalar.remsi arg0 c2_i32
  let c0_i32_493 : BitVec 32 := 0#32
  let c0_i32_494 : BitVec 32 := 0#32
  ![v0.toNat, 0, 0]
def k0_off15 (i : grid0.Coords) : Fin 2 → Nat :=
  let c0_i32_495 : BitVec 32 := 0#32
  let arg0 : BitVec 32 := BitVec.ofNat 32 (i 0).val
  let c256_i32 : BitVec 32 := 256#32
  let v1150 : BitVec 32 := Scalar.muli arg0 c256_i32
  let v1151 : BitVec 32 := v1150
  ![0, v1151.toNat]
def k0_off16 (i : grid0.Coords) : Fin 2 → Nat :=
  let c1_i32_496 : BitVec 32 := 1#32
  let arg0 : BitVec 32 := BitVec.ofNat 32 (i 0).val
  let c2_i32 : BitVec 32 := 2#32
  let v0 : BitVec 32 := Scalar.remsi arg0 c2_i32
  ![1, v0.toNat]
def k0_off17 (i : grid0.Coords) : Fin 3 → Nat :=
  let arg0 : BitVec 32 := BitVec.ofNat 32 (i 0).val
  let c2_i32 : BitVec 32 := 2#32
  let v0 : BitVec 32 := Scalar.remsi arg0 c2_i32
  let c0_i32_497 : BitVec 32 := 0#32
  let c0_i32_498 : BitVec 32 := 0#32
  ![v0.toNat, 0, 0]
def k0_off18 (i : grid0.Coords) : Fin 2 → Nat :=
  let c0_i32_499 : BitVec 32 := 0#32
  let arg0 : BitVec 32 := BitVec.ofNat 32 (i 0).val
  let c256_i32 : BitVec 32 := 256#32
  let v1150 : BitVec 32 := Scalar.muli arg0 c256_i32
  let v1151 : BitVec 32 := v1150
  ![0, v1151.toNat]
def k0_cond5 (i : grid0.Coords) : BitVec 1 :=
  let arg0 : BitVec 32 := BitVec.ofNat 32 (i 0).val
  let c22_i32_9 : BitVec 32 := 22#32
  let v15 : BitVec 1 := Scalar.cmpi .eq arg0 c22_i32_9
  let v16 : BitVec 32 := Scalar.extui v15
  let c0_i32_10 : BitVec 32 := 0#32
  let v17 : BitVec 1 := Scalar.cmpi .ne v16 c0_i32_10
  v17

def k0_mult5 (i : grid0.Coords) : BitVec 32 :=
  let arg0 : BitVec 32 := BitVec.ofNat 32 (i 0).val
  let c256_i32 : BitVec 32 := 256#32
  let v1150 : BitVec 32 := Scalar.muli arg0 c256_i32
  v1150
def k0_off19 (i : grid0.Coords) : Fin 2 → Nat :=
  let c0_i32_492 : BitVec 32 := 0#32
  let arg0 : BitVec 32 := BitVec.ofNat 32 (i 0).val
  let c2_i32 : BitVec 32 := 2#32
  let v0 : BitVec 32 := Scalar.remsi arg0 c2_i32
  ![0, v0.toNat]
def k0_off20 (i : grid0.Coords) : Fin 3 → Nat :=
  let arg0 : BitVec 32 := BitVec.ofNat 32 (i 0).val
  let c2_i32 : BitVec 32 := 2#32
  let v0 : BitVec 32 := Scalar.remsi arg0 c2_i32
  let c0_i32_493 : BitVec 32 := 0#32
  let c0_i32_494 : BitVec 32 := 0#32
  ![v0.toNat, 0, 0]
def k0_off21 (i : grid0.Coords) : Fin 2 → Nat :=
  let c0_i32_495 : BitVec 32 := 0#32
  let arg0 : BitVec 32 := BitVec.ofNat 32 (i 0).val
  let c256_i32 : BitVec 32 := 256#32
  let v1150 : BitVec 32 := Scalar.muli arg0 c256_i32
  let v1151 : BitVec 32 := v1150
  ![0, v1151.toNat]
def k0_off22 (i : grid0.Coords) : Fin 2 → Nat :=
  let c1_i32_496 : BitVec 32 := 1#32
  let arg0 : BitVec 32 := BitVec.ofNat 32 (i 0).val
  let c2_i32 : BitVec 32 := 2#32
  let v0 : BitVec 32 := Scalar.remsi arg0 c2_i32
  ![1, v0.toNat]
def k0_off23 (i : grid0.Coords) : Fin 3 → Nat :=
  let arg0 : BitVec 32 := BitVec.ofNat 32 (i 0).val
  let c2_i32 : BitVec 32 := 2#32
  let v0 : BitVec 32 := Scalar.remsi arg0 c2_i32
  let c0_i32_497 : BitVec 32 := 0#32
  let c0_i32_498 : BitVec 32 := 0#32
  ![v0.toNat, 0, 0]
def k0_off24 (i : grid0.Coords) : Fin 2 → Nat :=
  let c0_i32_499 : BitVec 32 := 0#32
  let arg0 : BitVec 32 := BitVec.ofNat 32 (i 0).val
  let c256_i32 : BitVec 32 := 256#32
  let v1150 : BitVec 32 := Scalar.muli arg0 c256_i32
  let v1151 : BitVec 32 := v1150
  ![0, v1151.toNat]
def k0_cond7 (i : grid0.Coords) : BitVec 1 :=
  let arg0 : BitVec 32 := BitVec.ofNat 32 (i 0).val
  let c0_i32_15 : BitVec 32 := 0#32
  let v21 : BitVec 1 := Scalar.cmpi .sgt arg0 c0_i32_15
  let v22 : BitVec 32 := Scalar.extui v21
  let c0_i32_16 : BitVec 32 := 0#32
  let v23 : BitVec 1 := Scalar.cmpi .ne v22 c0_i32_16
  v23

def k0_mult6 (i : grid0.Coords) : BitVec 32 :=
  let arg0 : BitVec 32 := BitVec.ofNat 32 (i 0).val
  let c1_i32_492 : BitVec 32 := 1#32
  let v1150 : BitVec 32 := Scalar.subi arg0 c1_i32_492
  let c256_i32 : BitVec 32 := 256#32
  let v1151 : BitVec 32 := Scalar.muli v1150 c256_i32
  v1151
def k0_off25 (i : grid0.Coords) : Fin 2 → Nat :=
  let c0_i32_493 : BitVec 32 := 0#32
  let arg0 : BitVec 32 := BitVec.ofNat 32 (i 0).val
  let c1_i32_492 : BitVec 32 := 1#32
  let v1150 : BitVec 32 := Scalar.subi arg0 c1_i32_492
  let c256_i32 : BitVec 32 := 256#32
  let v1151 : BitVec 32 := Scalar.muli v1150 c256_i32
  let v1152 : BitVec 32 := v1151
  ![0, v1152.toNat]
@[reducible] def k0_t1_loop : Scf.Loop 32 :=
  let c0_i32_19 : BitVec 32 := 0#32
  let c48_i32 : BitVec 32 := 48#32
  let v27 : BitVec 32 := Scalar.addi c0_i32_19 c48_i32
  let c1_i32_20 : BitVec 32 := 1#32
  ⟨c0_i32_19, v27, c1_i32_20⟩
def k0_mult7 (k0_t1 : Fin k0_t1_loop.trips) : BitVec 32 :=
  let c0_i32_19 : BitVec 32 := 0#32
  let c1_i32_20 : BitVec 32 := 1#32
  let arg33 : BitVec 32 := Scf.iv c0_i32_19 c1_i32_20 k0_t1
  let c12_i32_493 : BitVec 32 := 12#32
  let v1151 : BitVec 32 := Scalar.remsi arg33 c12_i32_493
  let c32_i32_494 : BitVec 32 := 32#32
  let v1152 : BitVec 32 := Scalar.muli v1151 c32_i32_494
  v1152
def k0_mult8 (k0_t1 : Fin k0_t1_loop.trips) : BitVec 32 :=
  let c0_i32_19 : BitVec 32 := 0#32
  let c1_i32_20 : BitVec 32 := 1#32
  let arg33 : BitVec 32 := Scf.iv c0_i32_19 c1_i32_20 k0_t1
  let c32_i32_495 : BitVec 32 := 32#32
  let v1154 : BitVec 32 := Scalar.muli arg33 c32_i32_495
  v1154
def k0_off26 (i : grid0.Coords) : Fin 3 → Nat :=
  let arg0 : BitVec 32 := BitVec.ofNat 32 (i 0).val
  let c2_i32 : BitVec 32 := 2#32
  let v0 : BitVec 32 := Scalar.remsi arg0 c2_i32
  let c0_i32_496 : BitVec 32 := 0#32
  let c0_i32_497 : BitVec 32 := 0#32
  ![v0.toNat, 0, 0]
def k0_off27 (k0_t1 : Fin k0_t1_loop.trips) : Fin 2 → Nat :=
  let c0_i32_19 : BitVec 32 := 0#32
  let c1_i32_20 : BitVec 32 := 1#32
  let arg33 : BitVec 32 := Scf.iv c0_i32_19 c1_i32_20 k0_t1
  let c32_i32_495 : BitVec 32 := 32#32
  let v1154 : BitVec 32 := Scalar.muli arg33 c32_i32_495
  let v1155 : BitVec 32 := v1154
  let v1158 : Index := Scalar.indexCast v1155
  let c0_498 : Index := 0#32
  ![v1158.toNat, 0]
def k0_off28 (k0_t1 : Fin k0_t1_loop.trips) : Fin 3 → Nat :=
  let c0_i32_19 : BitVec 32 := 0#32
  let c1_i32_20 : BitVec 32 := 1#32
  let arg33 : BitVec 32 := Scf.iv c0_i32_19 c1_i32_20 k0_t1
  let c12_i32_492 : BitVec 32 := 12#32
  let v1150 : BitVec 32 := Scalar.divsi arg33 c12_i32_492
  let v1292 : Index := Scalar.indexCast v1150
  let c12_i32_493 : BitVec 32 := 12#32
  let v1151 : BitVec 32 := Scalar.remsi arg33 c12_i32_493
  let c32_i32_494 : BitVec 32 := 32#32
  let v1152 : BitVec 32 := Scalar.muli v1151 c32_i32_494
  let v1153 : BitVec 32 := v1152
  let v1293 : Index := Scalar.indexCast v1153
  let c0_544 : Index := 0#32
  ![v1292.toNat, v1293.toNat, 0]
def k0_off29 (k0_t1 : Fin k0_t1_loop.trips) : Fin 3 → Nat :=
  let c0_i32_19 : BitVec 32 := 0#32
  let c1_i32_20 : BitVec 32 := 1#32
  let arg33 : BitVec 32 := Scf.iv c0_i32_19 c1_i32_20 k0_t1
  let c12_i32_493 : BitVec 32 := 12#32
  let v1151 : BitVec 32 := Scalar.remsi arg33 c12_i32_493
  let v1301 : Index := Scalar.indexCast v1151
  let c12_i32_492 : BitVec 32 := 12#32
  let v1150 : BitVec 32 := Scalar.divsi arg33 c12_i32_492
  let v1302 : Index := Scalar.indexCast v1150
  let c0_546 : Index := 0#32
  ![v1301.toNat, v1302.toNat, 0]
@[reducible] def k0_t2_loop : Scf.Loop 32 :=
  let c0_i32_22 : BitVec 32 := 0#32
  let c90_i32 : BitVec 32 := 90#32
  let v28 : BitVec 32 := Scalar.addi c0_i32_22 c90_i32
  let c1_i32_23 : BitVec 32 := 1#32
  ⟨c0_i32_22, v28, c1_i32_23⟩
def k0_mult9 (k0_t2 : Fin k0_t2_loop.trips) : BitVec 32 :=
  let c0_i32_22 : BitVec 32 := 0#32
  let c1_i32_23 : BitVec 32 := 1#32
  let arg33 : BitVec 32 := Scf.iv c0_i32_22 c1_i32_23 k0_t2
  let c32_i32_492 : BitVec 32 := 32#32
  let v1150 : BitVec 32 := Scalar.muli arg33 c32_i32_492
  v1150
def k0_off30 (i : grid0.Coords) : Fin 3 → Nat :=
  let arg0 : BitVec 32 := BitVec.ofNat 32 (i 0).val
  let c2_i32 : BitVec 32 := 2#32
  let v0 : BitVec 32 := Scalar.remsi arg0 c2_i32
  let c0_i32_493 : BitVec 32 := 0#32
  let c0_i32_494 : BitVec 32 := 0#32
  ![v0.toNat, 0, 0]
def k0_off31 (k0_t2 : Fin k0_t2_loop.trips) : Fin 2 → Nat :=
  let c0_i32_22 : BitVec 32 := 0#32
  let c1_i32_23 : BitVec 32 := 1#32
  let arg33 : BitVec 32 := Scf.iv c0_i32_22 c1_i32_23 k0_t2
  let c32_i32_492 : BitVec 32 := 32#32
  let v1150 : BitVec 32 := Scalar.muli arg33 c32_i32_492
  let v1151 : BitVec 32 := v1150
  let v1154 : Index := Scalar.indexCast v1151
  let c0_495 : Index := 0#32
  ![v1154.toNat, 0]
def k0_off32 (k0_t2 : Fin k0_t2_loop.trips) : Fin 2 → Nat :=
  let c0_i32_22 : BitVec 32 := 0#32
  let c1_i32_23 : BitVec 32 := 1#32
  let arg33 : BitVec 32 := Scf.iv c0_i32_22 c1_i32_23 k0_t2
  let v1294 : Index := Scalar.indexCast arg33
  let c0_543 : Index := 0#32
  ![v1294.toNat, 0]
@[reducible] def k0_t3_loop : Scf.Loop 32 :=
  let c0_i32_25 : BitVec 32 := 0#32
  let c12_i32 : BitVec 32 := 12#32
  let v29 : BitVec 32 := Scalar.addi c0_i32_25 c12_i32
  let c1_i32_26 : BitVec 32 := 1#32
  ⟨c0_i32_25, v29, c1_i32_26⟩
def k0_mult10 (k0_t3 : Fin k0_t3_loop.trips) : BitVec 32 :=
  let c0_i32_25 : BitVec 32 := 0#32
  let c1_i32_26 : BitVec 32 := 1#32
  let arg33 : BitVec 32 := Scf.iv c0_i32_25 c1_i32_26 k0_t3
  let c3_i32_492 : BitVec 32 := 3#32
  let v1151 : BitVec 32 := Scalar.remsi arg33 c3_i32_492
  let c128_i32 : BitVec 32 := 128#32
  let v1152 : BitVec 32 := Scalar.muli v1151 c128_i32
  v1152
def k0_mult11 (k0_t3 : Fin k0_t3_loop.trips) : BitVec 32 :=
  let c0_i32_25 : BitVec 32 := 0#32
  let c1_i32_26 : BitVec 32 := 1#32
  let arg33 : BitVec 32 := Scf.iv c0_i32_25 c1_i32_26 k0_t3
  let c128_i32_493 : BitVec 32 := 128#32
  let v1154 : BitVec 32 := Scalar.muli arg33 c128_i32_493
  v1154
def k0_off33 (i : grid0.Coords) : Fin 3 → Nat :=
  let arg0 : BitVec 32 := BitVec.ofNat 32 (i 0).val
  let c2_i32 : BitVec 32 := 2#32
  let v0 : BitVec 32 := Scalar.remsi arg0 c2_i32
  let c0_i32_494 : BitVec 32 := 0#32
  let c0_i32_495 : BitVec 32 := 0#32
  ![v0.toNat, 0, 0]
def k0_off34 (k0_t3 : Fin k0_t3_loop.trips) : Fin 2 → Nat :=
  let c0_i32_25 : BitVec 32 := 0#32
  let c1_i32_26 : BitVec 32 := 1#32
  let arg33 : BitVec 32 := Scf.iv c0_i32_25 c1_i32_26 k0_t3
  let c128_i32_493 : BitVec 32 := 128#32
  let v1154 : BitVec 32 := Scalar.muli arg33 c128_i32_493
  let v1155 : BitVec 32 := v1154
  let v1158 : Index := Scalar.indexCast v1155
  let c0_496 : Index := 0#32
  ![v1158.toNat, 0]
def k0_off35 (k0_t3 : Fin k0_t3_loop.trips) : Fin 3 → Nat :=
  let c0_i32_25 : BitVec 32 := 0#32
  let c1_i32_26 : BitVec 32 := 1#32
  let arg33 : BitVec 32 := Scf.iv c0_i32_25 c1_i32_26 k0_t3
  let c3_i32 : BitVec 32 := 3#32
  let v1150 : BitVec 32 := Scalar.divsi arg33 c3_i32
  let v1652 : Index := Scalar.indexCast v1150
  let c3_i32_492 : BitVec 32 := 3#32
  let v1151 : BitVec 32 := Scalar.remsi arg33 c3_i32_492
  let c128_i32 : BitVec 32 := 128#32
  let v1152 : BitVec 32 := Scalar.muli v1151 c128_i32
  let v1153 : BitVec 32 := v1152
  let v1653 : Index := Scalar.indexCast v1153
  let c0_668 : Index := 0#32
  ![v1652.toNat, v1653.toNat, 0]
def k0_off36 (k0_t3 : Fin k0_t3_loop.trips) : Fin 3 → Nat :=
  let c0_670 : Index := 0#32
  let c0_i32_25 : BitVec 32 := 0#32
  let c1_i32_26 : BitVec 32 := 1#32
  let arg33 : BitVec 32 := Scf.iv c0_i32_25 c1_i32_26 k0_t3
  let c3_i32 : BitVec 32 := 3#32
  let v1150 : BitVec 32 := Scalar.divsi arg33 c3_i32
  let v1661 : Index := Scalar.indexCast v1150
  let c3_i32_492 : BitVec 32 := 3#32
  let v1151 : BitVec 32 := Scalar.remsi arg33 c3_i32_492
  let c128_i32 : BitVec 32 := 128#32
  let v1152 : BitVec 32 := Scalar.muli v1151 c128_i32
  let v1153 : BitVec 32 := v1152
  let v1662 : Index := Scalar.indexCast v1153
  ![0, v1661.toNat, v1662.toNat]
def k0_off37 (k0_t3 : Fin k0_t3_loop.trips) : Fin 3 → Nat :=
  let c1_671 : Index := 1#32
  let c0_i32_25 : BitVec 32 := 0#32
  let c1_i32_26 : BitVec 32 := 1#32
  let arg33 : BitVec 32 := Scf.iv c0_i32_25 c1_i32_26 k0_t3
  let c3_i32 : BitVec 32 := 3#32
  let v1150 : BitVec 32 := Scalar.divsi arg33 c3_i32
  let v1666 : Index := Scalar.indexCast v1150
  let c3_i32_492 : BitVec 32 := 3#32
  let v1151 : BitVec 32 := Scalar.remsi arg33 c3_i32_492
  let c128_i32 : BitVec 32 := 128#32
  let v1152 : BitVec 32 := Scalar.muli v1151 c128_i32
  let v1153 : BitVec 32 := v1152
  let v1667 : Index := Scalar.indexCast v1153
  ![1, v1666.toNat, v1667.toNat]
def k0_off38 (k0_t3 : Fin k0_t3_loop.trips) : Fin 3 → Nat :=
  let c2_672 : Index := 2#32
  let c0_i32_25 : BitVec 32 := 0#32
  let c1_i32_26 : BitVec 32 := 1#32
  let arg33 : BitVec 32 := Scf.iv c0_i32_25 c1_i32_26 k0_t3
  let c3_i32 : BitVec 32 := 3#32
  let v1150 : BitVec 32 := Scalar.divsi arg33 c3_i32
  let v1671 : Index := Scalar.indexCast v1150
  let c3_i32_492 : BitVec 32 := 3#32
  let v1151 : BitVec 32 := Scalar.remsi arg33 c3_i32_492
  let c128_i32 : BitVec 32 := 128#32
  let v1152 : BitVec 32 := Scalar.muli v1151 c128_i32
  let v1153 : BitVec 32 := v1152
  let v1672 : Index := Scalar.indexCast v1153
  ![2, v1671.toNat, v1672.toNat]
def k0_off39 (k0_t3 : Fin k0_t3_loop.trips) : Fin 3 → Nat :=
  let c3_673 : Index := 3#32
  let c0_i32_25 : BitVec 32 := 0#32
  let c1_i32_26 : BitVec 32 := 1#32
  let arg33 : BitVec 32 := Scf.iv c0_i32_25 c1_i32_26 k0_t3
  let c3_i32 : BitVec 32 := 3#32
  let v1150 : BitVec 32 := Scalar.divsi arg33 c3_i32
  let v1676 : Index := Scalar.indexCast v1150
  let c3_i32_492 : BitVec 32 := 3#32
  let v1151 : BitVec 32 := Scalar.remsi arg33 c3_i32_492
  let c128_i32 : BitVec 32 := 128#32
  let v1152 : BitVec 32 := Scalar.muli v1151 c128_i32
  let v1153 : BitVec 32 := v1152
  let v1677 : Index := Scalar.indexCast v1153
  ![3, v1676.toNat, v1677.toNat]
@[reducible] def k0_t4_loop : Scf.Loop 32 :=
  let c0_i32_28 : BitVec 32 := 0#32
  let c22_i32_29 : BitVec 32 := 22#32
  let v30 : BitVec 32 := Scalar.addi c0_i32_28 c22_i32_29
  let c1_i32_30 : BitVec 32 := 1#32
  ⟨c0_i32_28, v30, c1_i32_30⟩
def k0_mult12 (k0_t4 : Fin k0_t4_loop.trips) : BitVec 32 :=
  let c0_i32_28 : BitVec 32 := 0#32
  let c1_i32_30 : BitVec 32 := 1#32
  let arg33 : BitVec 32 := Scf.iv c0_i32_28 c1_i32_30 k0_t4
  let c128_i32 : BitVec 32 := 128#32
  let v1150 : BitVec 32 := Scalar.muli arg33 c128_i32
  v1150
def k0_off40 (i : grid0.Coords) : Fin 3 → Nat :=
  let arg0 : BitVec 32 := BitVec.ofNat 32 (i 0).val
  let c2_i32 : BitVec 32 := 2#32
  let v0 : BitVec 32 := Scalar.remsi arg0 c2_i32
  let c0_i32_492 : BitVec 32 := 0#32
  let c0_i32_493 : BitVec 32 := 0#32
  ![v0.toNat, 0, 0]
def k0_off41 (k0_t4 : Fin k0_t4_loop.trips) : Fin 2 → Nat :=
  let c0_i32_28 : BitVec 32 := 0#32
  let c1_i32_30 : BitVec 32 := 1#32
  let arg33 : BitVec 32 := Scf.iv c0_i32_28 c1_i32_30 k0_t4
  let c128_i32 : BitVec 32 := 128#32
  let v1150 : BitVec 32 := Scalar.muli arg33 c128_i32
  let v1151 : BitVec 32 := v1150
  let v1154 : Index := Scalar.indexCast v1151
  let c0_494 : Index := 0#32
  ![v1154.toNat, 0]
def k0_off42 (k0_t4 : Fin k0_t4_loop.trips) : Fin 2 → Nat :=
  let c0_668 : Index := 0#32
  let c0_i32_28 : BitVec 32 := 0#32
  let c1_i32_30 : BitVec 32 := 1#32
  let arg33 : BitVec 32 := Scf.iv c0_i32_28 c1_i32_30 k0_t4
  let c128_i32 : BitVec 32 := 128#32
  let v1150 : BitVec 32 := Scalar.muli arg33 c128_i32
  let v1151 : BitVec 32 := v1150
  let v1654 : Index := Scalar.indexCast v1151
  ![0, v1654.toNat]
def k0_off43 (k0_t4 : Fin k0_t4_loop.trips) : Fin 2 → Nat :=
  let c1_669 : Index := 1#32
  let c0_i32_28 : BitVec 32 := 0#32
  let c1_i32_30 : BitVec 32 := 1#32
  let arg33 : BitVec 32 := Scf.iv c0_i32_28 c1_i32_30 k0_t4
  let c128_i32 : BitVec 32 := 128#32
  let v1150 : BitVec 32 := Scalar.muli arg33 c128_i32
  let v1151 : BitVec 32 := v1150
  let v1658 : Index := Scalar.indexCast v1151
  ![1, v1658.toNat]
def k0_off44 (k0_t4 : Fin k0_t4_loop.trips) : Fin 2 → Nat :=
  let c2_670 : Index := 2#32
  let c0_i32_28 : BitVec 32 := 0#32
  let c1_i32_30 : BitVec 32 := 1#32
  let arg33 : BitVec 32 := Scf.iv c0_i32_28 c1_i32_30 k0_t4
  let c128_i32 : BitVec 32 := 128#32
  let v1150 : BitVec 32 := Scalar.muli arg33 c128_i32
  let v1151 : BitVec 32 := v1150
  let v1662 : Index := Scalar.indexCast v1151
  ![2, v1662.toNat]
def k0_off45 (k0_t4 : Fin k0_t4_loop.trips) : Fin 2 → Nat :=
  let c3_671 : Index := 3#32
  let c0_i32_28 : BitVec 32 := 0#32
  let c1_i32_30 : BitVec 32 := 1#32
  let arg33 : BitVec 32 := Scf.iv c0_i32_28 c1_i32_30 k0_t4
  let c128_i32 : BitVec 32 := 128#32
  let v1150 : BitVec 32 := Scalar.muli arg33 c128_i32
  let v1151 : BitVec 32 := v1150
  let v1666 : Index := Scalar.indexCast v1151
  ![3, v1666.toNat]
def k0_off46 (i : grid0.Coords) : Fin 3 → Nat :=
  let arg0 : BitVec 32 := BitVec.ofNat 32 (i 0).val
  let c2_i32 : BitVec 32 := 2#32
  let v0 : BitVec 32 := Scalar.remsi arg0 c2_i32
  let c0_i32_32 : BitVec 32 := 0#32
  let c0_i32_33 : BitVec 32 := 0#32
  ![v0.toNat, 0, 0]
@[reducible] def k0_t5_loop : Scf.Loop 32 :=
  let c0_i32_207 : BitVec 32 := 0#32
  let c48_i32_208 : BitVec 32 := 48#32
  let v549 : BitVec 32 := Scalar.addi c0_i32_207 c48_i32_208
  let c1_i32_209 : BitVec 32 := 1#32
  ⟨c0_i32_207, v549, c1_i32_209⟩
def k0_mult13 (k0_t5 : Fin k0_t5_loop.trips) : BitVec 32 :=
  let c0_i32_207 : BitVec 32 := 0#32
  let c1_i32_209 : BitVec 32 := 1#32
  let arg33 : BitVec 32 := Scf.iv c0_i32_207 c1_i32_209 k0_t5
  let c12_i32_493 : BitVec 32 := 12#32
  let v1151 : BitVec 32 := Scalar.remsi arg33 c12_i32_493
  let c32_i32_494 : BitVec 32 := 32#32
  let v1152 : BitVec 32 := Scalar.muli v1151 c32_i32_494
  v1152
def k0_mult14 (k0_t5 : Fin k0_t5_loop.trips) : BitVec 32 :=
  let c0_i32_207 : BitVec 32 := 0#32
  let c1_i32_209 : BitVec 32 := 1#32
  let arg33 : BitVec 32 := Scf.iv c0_i32_207 c1_i32_209 k0_t5
  let c32_i32_495 : BitVec 32 := 32#32
  let v1154 : BitVec 32 := Scalar.muli arg33 c32_i32_495
  v1154
def k0_off47 (i : grid0.Coords) : Fin 3 → Nat :=
  let arg0 : BitVec 32 := BitVec.ofNat 32 (i 0).val
  let c2_i32 : BitVec 32 := 2#32
  let v0 : BitVec 32 := Scalar.remsi arg0 c2_i32
  let c0_i32_496 : BitVec 32 := 0#32
  let c0_i32_497 : BitVec 32 := 0#32
  ![v0.toNat, 0, 0]
def k0_off48 (k0_t5 : Fin k0_t5_loop.trips) : Fin 2 → Nat :=
  let c0_i32_207 : BitVec 32 := 0#32
  let c1_i32_209 : BitVec 32 := 1#32
  let arg33 : BitVec 32 := Scf.iv c0_i32_207 c1_i32_209 k0_t5
  let c32_i32_495 : BitVec 32 := 32#32
  let v1154 : BitVec 32 := Scalar.muli arg33 c32_i32_495
  let v1155 : BitVec 32 := v1154
  let v1158 : Index := Scalar.indexCast v1155
  let c128_498 : Index := 128#32
  ![v1158.toNat, 128]
def k0_off49 (k0_t5 : Fin k0_t5_loop.trips) : Fin 3 → Nat :=
  let c0_i32_207 : BitVec 32 := 0#32
  let c1_i32_209 : BitVec 32 := 1#32
  let arg33 : BitVec 32 := Scf.iv c0_i32_207 c1_i32_209 k0_t5
  let c12_i32_492 : BitVec 32 := 12#32
  let v1150 : BitVec 32 := Scalar.divsi arg33 c12_i32_492
  let v1292 : Index := Scalar.indexCast v1150
  let c12_i32_493 : BitVec 32 := 12#32
  let v1151 : BitVec 32 := Scalar.remsi arg33 c12_i32_493
  let c32_i32_494 : BitVec 32 := 32#32
  let v1152 : BitVec 32 := Scalar.muli v1151 c32_i32_494
  let v1153 : BitVec 32 := v1152
  let v1293 : Index := Scalar.indexCast v1153
  let c128_544 : Index := 128#32
  ![v1292.toNat, v1293.toNat, 128]
def k0_off50 (k0_t5 : Fin k0_t5_loop.trips) : Fin 3 → Nat :=
  let c0_i32_207 : BitVec 32 := 0#32
  let c1_i32_209 : BitVec 32 := 1#32
  let arg33 : BitVec 32 := Scf.iv c0_i32_207 c1_i32_209 k0_t5
  let c12_i32_493 : BitVec 32 := 12#32
  let v1151 : BitVec 32 := Scalar.remsi arg33 c12_i32_493
  let v1301 : Index := Scalar.indexCast v1151
  let c12_i32_492 : BitVec 32 := 12#32
  let v1150 : BitVec 32 := Scalar.divsi arg33 c12_i32_492
  let v1302 : Index := Scalar.indexCast v1150
  let c128_546 : Index := 128#32
  ![v1301.toNat, v1302.toNat, 128]
@[reducible] def k0_t6_loop : Scf.Loop 32 :=
  let c0_i32_211 : BitVec 32 := 0#32
  let c90_i32_212 : BitVec 32 := 90#32
  let v550 : BitVec 32 := Scalar.addi c0_i32_211 c90_i32_212
  let c1_i32_213 : BitVec 32 := 1#32
  ⟨c0_i32_211, v550, c1_i32_213⟩
def k0_mult15 (k0_t6 : Fin k0_t6_loop.trips) : BitVec 32 :=
  let c0_i32_211 : BitVec 32 := 0#32
  let c1_i32_213 : BitVec 32 := 1#32
  let arg33 : BitVec 32 := Scf.iv c0_i32_211 c1_i32_213 k0_t6
  let c32_i32_492 : BitVec 32 := 32#32
  let v1150 : BitVec 32 := Scalar.muli arg33 c32_i32_492
  v1150
def k0_off51 (i : grid0.Coords) : Fin 3 → Nat :=
  let arg0 : BitVec 32 := BitVec.ofNat 32 (i 0).val
  let c2_i32 : BitVec 32 := 2#32
  let v0 : BitVec 32 := Scalar.remsi arg0 c2_i32
  let c0_i32_493 : BitVec 32 := 0#32
  let c0_i32_494 : BitVec 32 := 0#32
  ![v0.toNat, 0, 0]
def k0_off52 (k0_t6 : Fin k0_t6_loop.trips) : Fin 2 → Nat :=
  let c0_i32_211 : BitVec 32 := 0#32
  let c1_i32_213 : BitVec 32 := 1#32
  let arg33 : BitVec 32 := Scf.iv c0_i32_211 c1_i32_213 k0_t6
  let c32_i32_492 : BitVec 32 := 32#32
  let v1150 : BitVec 32 := Scalar.muli arg33 c32_i32_492
  let v1151 : BitVec 32 := v1150
  let v1154 : Index := Scalar.indexCast v1151
  let c128_495 : Index := 128#32
  ![v1154.toNat, 128]
def k0_off53 (k0_t6 : Fin k0_t6_loop.trips) : Fin 2 → Nat :=
  let c0_i32_211 : BitVec 32 := 0#32
  let c1_i32_213 : BitVec 32 := 1#32
  let arg33 : BitVec 32 := Scf.iv c0_i32_211 c1_i32_213 k0_t6
  let v1294 : Index := Scalar.indexCast arg33
  let c128_543 : Index := 128#32
  ![v1294.toNat, 128]
@[reducible] def k0_t7_loop : Scf.Loop 32 :=
  let c0_i32_215 : BitVec 32 := 0#32
  let c12_i32_216 : BitVec 32 := 12#32
  let v551 : BitVec 32 := Scalar.addi c0_i32_215 c12_i32_216
  let c1_i32_217 : BitVec 32 := 1#32
  ⟨c0_i32_215, v551, c1_i32_217⟩
def k0_mult16 (k0_t7 : Fin k0_t7_loop.trips) : BitVec 32 :=
  let c0_i32_215 : BitVec 32 := 0#32
  let c1_i32_217 : BitVec 32 := 1#32
  let arg33 : BitVec 32 := Scf.iv c0_i32_215 c1_i32_217 k0_t7
  let c3_i32_492 : BitVec 32 := 3#32
  let v1151 : BitVec 32 := Scalar.remsi arg33 c3_i32_492
  let c128_i32 : BitVec 32 := 128#32
  let v1152 : BitVec 32 := Scalar.muli v1151 c128_i32
  v1152
def k0_mult17 (k0_t7 : Fin k0_t7_loop.trips) : BitVec 32 :=
  let c0_i32_215 : BitVec 32 := 0#32
  let c1_i32_217 : BitVec 32 := 1#32
  let arg33 : BitVec 32 := Scf.iv c0_i32_215 c1_i32_217 k0_t7
  let c128_i32_493 : BitVec 32 := 128#32
  let v1154 : BitVec 32 := Scalar.muli arg33 c128_i32_493
  v1154
def k0_off54 (i : grid0.Coords) : Fin 3 → Nat :=
  let arg0 : BitVec 32 := BitVec.ofNat 32 (i 0).val
  let c2_i32 : BitVec 32 := 2#32
  let v0 : BitVec 32 := Scalar.remsi arg0 c2_i32
  let c0_i32_494 : BitVec 32 := 0#32
  let c0_i32_495 : BitVec 32 := 0#32
  ![v0.toNat, 0, 0]
def k0_off55 (k0_t7 : Fin k0_t7_loop.trips) : Fin 2 → Nat :=
  let c0_i32_215 : BitVec 32 := 0#32
  let c1_i32_217 : BitVec 32 := 1#32
  let arg33 : BitVec 32 := Scf.iv c0_i32_215 c1_i32_217 k0_t7
  let c128_i32_493 : BitVec 32 := 128#32
  let v1154 : BitVec 32 := Scalar.muli arg33 c128_i32_493
  let v1155 : BitVec 32 := v1154
  let v1158 : Index := Scalar.indexCast v1155
  let c128_496 : Index := 128#32
  ![v1158.toNat, 128]
def k0_off56 (k0_t7 : Fin k0_t7_loop.trips) : Fin 3 → Nat :=
  let c0_i32_215 : BitVec 32 := 0#32
  let c1_i32_217 : BitVec 32 := 1#32
  let arg33 : BitVec 32 := Scf.iv c0_i32_215 c1_i32_217 k0_t7
  let c3_i32 : BitVec 32 := 3#32
  let v1150 : BitVec 32 := Scalar.divsi arg33 c3_i32
  let v1652 : Index := Scalar.indexCast v1150
  let c3_i32_492 : BitVec 32 := 3#32
  let v1151 : BitVec 32 := Scalar.remsi arg33 c3_i32_492
  let c128_i32 : BitVec 32 := 128#32
  let v1152 : BitVec 32 := Scalar.muli v1151 c128_i32
  let v1153 : BitVec 32 := v1152
  let v1653 : Index := Scalar.indexCast v1153
  let c128_668 : Index := 128#32
  ![v1652.toNat, v1653.toNat, 128]
def k0_off57 (k0_t7 : Fin k0_t7_loop.trips) : Fin 3 → Nat :=
  let c4_670 : Index := 4#32
  let c0_i32_215 : BitVec 32 := 0#32
  let c1_i32_217 : BitVec 32 := 1#32
  let arg33 : BitVec 32 := Scf.iv c0_i32_215 c1_i32_217 k0_t7
  let c3_i32 : BitVec 32 := 3#32
  let v1150 : BitVec 32 := Scalar.divsi arg33 c3_i32
  let v1661 : Index := Scalar.indexCast v1150
  let c3_i32_492 : BitVec 32 := 3#32
  let v1151 : BitVec 32 := Scalar.remsi arg33 c3_i32_492
  let c128_i32 : BitVec 32 := 128#32
  let v1152 : BitVec 32 := Scalar.muli v1151 c128_i32
  let v1153 : BitVec 32 := v1152
  let v1662 : Index := Scalar.indexCast v1153
  ![4, v1661.toNat, v1662.toNat]
def k0_off58 (k0_t7 : Fin k0_t7_loop.trips) : Fin 3 → Nat :=
  let c5_671 : Index := 5#32
  let c0_i32_215 : BitVec 32 := 0#32
  let c1_i32_217 : BitVec 32 := 1#32
  let arg33 : BitVec 32 := Scf.iv c0_i32_215 c1_i32_217 k0_t7
  let c3_i32 : BitVec 32 := 3#32
  let v1150 : BitVec 32 := Scalar.divsi arg33 c3_i32
  let v1666 : Index := Scalar.indexCast v1150
  let c3_i32_492 : BitVec 32 := 3#32
  let v1151 : BitVec 32 := Scalar.remsi arg33 c3_i32_492
  let c128_i32 : BitVec 32 := 128#32
  let v1152 : BitVec 32 := Scalar.muli v1151 c128_i32
  let v1153 : BitVec 32 := v1152
  let v1667 : Index := Scalar.indexCast v1153
  ![5, v1666.toNat, v1667.toNat]
def k0_off59 (k0_t7 : Fin k0_t7_loop.trips) : Fin 3 → Nat :=
  let c6_672 : Index := 6#32
  let c0_i32_215 : BitVec 32 := 0#32
  let c1_i32_217 : BitVec 32 := 1#32
  let arg33 : BitVec 32 := Scf.iv c0_i32_215 c1_i32_217 k0_t7
  let c3_i32 : BitVec 32 := 3#32
  let v1150 : BitVec 32 := Scalar.divsi arg33 c3_i32
  let v1671 : Index := Scalar.indexCast v1150
  let c3_i32_492 : BitVec 32 := 3#32
  let v1151 : BitVec 32 := Scalar.remsi arg33 c3_i32_492
  let c128_i32 : BitVec 32 := 128#32
  let v1152 : BitVec 32 := Scalar.muli v1151 c128_i32
  let v1153 : BitVec 32 := v1152
  let v1672 : Index := Scalar.indexCast v1153
  ![6, v1671.toNat, v1672.toNat]
def k0_off60 (k0_t7 : Fin k0_t7_loop.trips) : Fin 3 → Nat :=
  let c7_673 : Index := 7#32
  let c0_i32_215 : BitVec 32 := 0#32
  let c1_i32_217 : BitVec 32 := 1#32
  let arg33 : BitVec 32 := Scf.iv c0_i32_215 c1_i32_217 k0_t7
  let c3_i32 : BitVec 32 := 3#32
  let v1150 : BitVec 32 := Scalar.divsi arg33 c3_i32
  let v1676 : Index := Scalar.indexCast v1150
  let c3_i32_492 : BitVec 32 := 3#32
  let v1151 : BitVec 32 := Scalar.remsi arg33 c3_i32_492
  let c128_i32 : BitVec 32 := 128#32
  let v1152 : BitVec 32 := Scalar.muli v1151 c128_i32
  let v1153 : BitVec 32 := v1152
  let v1677 : Index := Scalar.indexCast v1153
  ![7, v1676.toNat, v1677.toNat]
@[reducible] def k0_t8_loop : Scf.Loop 32 :=
  let c0_i32_219 : BitVec 32 := 0#32
  let c22_i32_220 : BitVec 32 := 22#32
  let v552 : BitVec 32 := Scalar.addi c0_i32_219 c22_i32_220
  let c1_i32_221 : BitVec 32 := 1#32
  ⟨c0_i32_219, v552, c1_i32_221⟩
def k0_mult18 (k0_t8 : Fin k0_t8_loop.trips) : BitVec 32 :=
  let c0_i32_219 : BitVec 32 := 0#32
  let c1_i32_221 : BitVec 32 := 1#32
  let arg33 : BitVec 32 := Scf.iv c0_i32_219 c1_i32_221 k0_t8
  let c128_i32 : BitVec 32 := 128#32
  let v1150 : BitVec 32 := Scalar.muli arg33 c128_i32
  v1150
def k0_off61 (i : grid0.Coords) : Fin 3 → Nat :=
  let arg0 : BitVec 32 := BitVec.ofNat 32 (i 0).val
  let c2_i32 : BitVec 32 := 2#32
  let v0 : BitVec 32 := Scalar.remsi arg0 c2_i32
  let c0_i32_492 : BitVec 32 := 0#32
  let c0_i32_493 : BitVec 32 := 0#32
  ![v0.toNat, 0, 0]
def k0_off62 (k0_t8 : Fin k0_t8_loop.trips) : Fin 2 → Nat :=
  let c0_i32_219 : BitVec 32 := 0#32
  let c1_i32_221 : BitVec 32 := 1#32
  let arg33 : BitVec 32 := Scf.iv c0_i32_219 c1_i32_221 k0_t8
  let c128_i32 : BitVec 32 := 128#32
  let v1150 : BitVec 32 := Scalar.muli arg33 c128_i32
  let v1151 : BitVec 32 := v1150
  let v1154 : Index := Scalar.indexCast v1151
  let c128_494 : Index := 128#32
  ![v1154.toNat, 128]
def k0_off63 (k0_t8 : Fin k0_t8_loop.trips) : Fin 2 → Nat :=
  let c4_668 : Index := 4#32
  let c0_i32_219 : BitVec 32 := 0#32
  let c1_i32_221 : BitVec 32 := 1#32
  let arg33 : BitVec 32 := Scf.iv c0_i32_219 c1_i32_221 k0_t8
  let c128_i32 : BitVec 32 := 128#32
  let v1150 : BitVec 32 := Scalar.muli arg33 c128_i32
  let v1151 : BitVec 32 := v1150
  let v1656 : Index := Scalar.indexCast v1151
  ![4, v1656.toNat]
def k0_off64 (k0_t8 : Fin k0_t8_loop.trips) : Fin 2 → Nat :=
  let c5_669 : Index := 5#32
  let c0_i32_219 : BitVec 32 := 0#32
  let c1_i32_221 : BitVec 32 := 1#32
  let arg33 : BitVec 32 := Scf.iv c0_i32_219 c1_i32_221 k0_t8
  let c128_i32 : BitVec 32 := 128#32
  let v1150 : BitVec 32 := Scalar.muli arg33 c128_i32
  let v1151 : BitVec 32 := v1150
  let v1660 : Index := Scalar.indexCast v1151
  ![5, v1660.toNat]
def k0_off65 (k0_t8 : Fin k0_t8_loop.trips) : Fin 2 → Nat :=
  let c6_670 : Index := 6#32
  let c0_i32_219 : BitVec 32 := 0#32
  let c1_i32_221 : BitVec 32 := 1#32
  let arg33 : BitVec 32 := Scf.iv c0_i32_219 c1_i32_221 k0_t8
  let c128_i32 : BitVec 32 := 128#32
  let v1150 : BitVec 32 := Scalar.muli arg33 c128_i32
  let v1151 : BitVec 32 := v1150
  let v1664 : Index := Scalar.indexCast v1151
  ![6, v1664.toNat]
def k0_off66 (k0_t8 : Fin k0_t8_loop.trips) : Fin 2 → Nat :=
  let c7_671 : Index := 7#32
  let c0_i32_219 : BitVec 32 := 0#32
  let c1_i32_221 : BitVec 32 := 1#32
  let arg33 : BitVec 32 := Scf.iv c0_i32_219 c1_i32_221 k0_t8
  let c128_i32 : BitVec 32 := 128#32
  let v1150 : BitVec 32 := Scalar.muli arg33 c128_i32
  let v1151 : BitVec 32 := v1150
  let v1668 : Index := Scalar.indexCast v1151
  ![7, v1668.toNat]
def k0_cond8 (i : grid0.Coords) : BitVec 1 :=
  let arg0 : BitVec 32 := BitVec.ofNat 32 (i 0).val
  let c22_i32_488 : BitVec 32 := 22#32
  let v1144 : BitVec 1 := Scalar.cmpi .slt arg0 c22_i32_488
  let v1145 : BitVec 32 := Scalar.extui v1144
  let c0_i32_489 : BitVec 32 := 0#32
  let v1146 : BitVec 1 := Scalar.cmpi .ne v1145 c0_i32_489
  v1146

def k0_mult19 (i : grid0.Coords) : BitVec 32 :=
  let arg0 : BitVec 32 := BitVec.ofNat 32 (i 0).val
  let c256_i32 : BitVec 32 := 256#32
  let v1150 : BitVec 32 := Scalar.muli arg0 c256_i32
  v1150
def k0_off67 (i : grid0.Coords) : Fin 2 → Nat :=
  let c0_i32_492 : BitVec 32 := 0#32
  let arg0 : BitVec 32 := BitVec.ofNat 32 (i 0).val
  let c256_i32 : BitVec 32 := 256#32
  let v1150 : BitVec 32 := Scalar.muli arg0 c256_i32
  let v1151 : BitVec 32 := v1150
  ![0, v1151.toNat]
def k0_cond9 (i : grid0.Coords) : BitVec 1 :=
  let arg0 : BitVec 32 := BitVec.ofNat 32 (i 0).val
  let c22_i32_490 : BitVec 32 := 22#32
  let v1147 : BitVec 1 := Scalar.cmpi .eq arg0 c22_i32_490
  let v1148 : BitVec 32 := Scalar.extui v1147
  let c0_i32_491 : BitVec 32 := 0#32
  let v1149 : BitVec 1 := Scalar.cmpi .ne v1148 c0_i32_491
  v1149

def k0_mult20 (i : grid0.Coords) : BitVec 32 :=
  let arg0 : BitVec 32 := BitVec.ofNat 32 (i 0).val
  let c256_i32 : BitVec 32 := 256#32
  let v1150 : BitVec 32 := Scalar.muli arg0 c256_i32
  v1150
def k0_off68 (i : grid0.Coords) : Fin 2 → Nat :=
  let c0_i32_492 : BitVec 32 := 0#32
  let arg0 : BitVec 32 := BitVec.ofNat 32 (i 0).val
  let c256_i32 : BitVec 32 := 256#32
  let v1150 : BitVec 32 := Scalar.muli arg0 c256_i32
  let v1151 : BitVec 32 := v1150
  ![0, v1151.toNat]
def k0_mult21 (i : grid0.Coords) : BitVec 32 :=
  let arg0 : BitVec 32 := BitVec.ofNat 32 (i 0).val
  let c256_i32_495 : BitVec 32 := 256#32
  let v1154 : BitVec 32 := Scalar.muli arg0 c256_i32_495
  v1154
def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2880x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2880x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S90x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2880x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x2880 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x384x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x4x384 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x384x256 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S12x4x256 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F]
-- ==== ReferenceIdeal.lean ====
abbrev S2880x5760 : Shape := ⟨2, ![2880, 5760]⟩
abbrev S1536x5760 : Shape := ⟨2, ![1536, 5760]⟩
abbrev S1536x2880 : Shape := ⟨2, ![1536, 2880]⟩
abbrev S2880x1536 : Shape := ⟨2, ![2880, 1536]⟩
abbrev S90x32x5760 : Shape := ⟨3, ![90, 32, 5760]⟩
abbrev S90x5760 : Shape := ⟨2, ![90, 5760]⟩
abbrev S90x1x5760 : Shape := ⟨3, ![90, 1, 5760]⟩
abbrev S48x32x5760 : Shape := ⟨3, ![48, 32, 5760]⟩
abbrev S48x5760 : Shape := ⟨2, ![48, 5760]⟩
abbrev S48x1x5760 : Shape := ⟨3, ![48, 1, 5760]⟩

abbrev nBuf : Space → Nat
  | .hbm => 6
  | .vmem => 6
  | .smem => 0
  | _ => 0

abbrev bufTy : (tb : Table) → Fin (tcTables nBuf tb) → BufTy
  | .hbm, ⟨0, _⟩ => ⟨S2880x5760, .bf16⟩
  | .hbm, ⟨1, _⟩ => ⟨S1536x5760, .bf16⟩
  | .hbm, ⟨2, _⟩ => ⟨S1536x2880, .bf16⟩
  | .hbm, ⟨3, _⟩ => ⟨S2880x1536, .bf16⟩
  | .hbm, ⟨4, _⟩ => ⟨S1536x5760, .bf16⟩
  | .hbm, ⟨5, _⟩ => ⟨S2880x5760, .f32⟩
  | .local _ .vmem, ⟨0, _⟩ => ⟨S2880x5760, .bf16⟩
  | .local _ .vmem, ⟨1, _⟩ => ⟨S1536x5760, .bf16⟩
  | .local _ .vmem, ⟨2, _⟩ => ⟨S1536x2880, .bf16⟩
  | .local _ .vmem, ⟨3, _⟩ => ⟨S2880x1536, .bf16⟩
  | .local _ .vmem, ⟨4, _⟩ => ⟨S1536x5760, .bf16⟩
  | .local _ .vmem, ⟨5, _⟩ => ⟨S2880x5760, .f32⟩
  | _, _ => ⟨S2880x5760, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c255_i32 : BitVec 32 := 255#32
  let v6 : BitVec 32 := Scalar.addi c0_i32 c255_i32
  let c1_i32 : BitVec 32 := 1#32
  ⟨c0_i32, v6, c1_i32⟩
@[reducible] def k0_t2_loop : Scf.Loop 32 :=
  let c0_i32_17 : BitVec 32 := 0#32
  let c255_i32_18 : BitVec 32 := 255#32
  let v41 : BitVec 32 := Scalar.addi c0_i32_17 c255_i32_18
  let c1_i32_19 : BitVec 32 := 1#32
  ⟨c0_i32_17, v41, c1_i32_19⟩
abbrev stage0_0 : Fin 1 → Memref sig .tc .vmem S2880x5760 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x5760 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x2880 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2880x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x5760 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2880x5760 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Kernel.Base.lean ====
/-
What the pieces of the kernel's proof share: the launch, the branch conditions over the grid's
points, the names of the buffers, and the two rings that bring the tiles of `w` and `dy` in.

Each operand is streamed through two slots: at point `t` the copy of tile `t + 1` is started into the
other slot and the copy of tile `t` is waited for. The last tile is only 128 columns wide and is copied
into the first 128 columns of its slot; the other columns keep what an earlier tile left there.
-/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.SparseCore.Scatter
public import Idealize.ShloMosaic.Lib.Exec.Geometry
public import Idealize.ShloMosaic.Lib.Tactic
public import Idealize.ShloMosaic.Lib.WordCmp

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)

/-- Core `c`'s buffers when the region is entered: as launched. -/
abbrev V (c : Dev nD) (b : Ref sig .tc) : Buf (Elt F) ((c : Thread nD τ).loc b) := m ((c : Thread nD τ).loc b)

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-! ## The branch conditions -/

theorem hc1 : ∀ t : Fin grid0.N, k0_cond1 (grid0.coords t) = 1#1 ↔ t.val = 0 := by decide +kernel
theorem hc2 : ∀ t : Fin grid0.N, k0_cond2 (grid0.coords t) = 1#1 ↔ t.val + 1 < 22 := by decide +kernel
theorem hc3 : ∀ t : Fin grid0.N, k0_cond3 (grid0.coords t) = 1#1 ↔ t.val + 1 = 22 := by decide +kernel
theorem hc4 : ∀ t : Fin grid0.N, k0_cond4 (grid0.coords t) = 1#1 ↔ t.val < 22 := by decide +kernel
theorem hc5 : ∀ t : Fin grid0.N, k0_cond5 (grid0.coords t) = 1#1 ↔ t.val = 22 := by decide +kernel
theorem hc7 : ∀ t : Fin grid0.N, k0_cond7 (grid0.coords t) = 1#1 ↔ 0 < t.val := by decide +kernel
theorem hc8 : ∀ t : Fin grid0.N, k0_cond8 (grid0.coords t) = 1#1 ↔ t.val < 22 := by decide +kernel
theorem hc9 : ∀ t : Fin grid0.N, k0_cond9 (grid0.coords t) = 1#1 ↔ t.val = 22 := by decide +kernel
/-- The condition under which the copies of the two `x` operands are waited for. -/
abbrev cond6 (i : grid0.Coords) : Prop := (Scalar.cmpi .ne (Scalar.extui (Scalar.cmpi .eq (BitVec.ofNat 32 (i 0).val) 0#32)) 0#32) = 1#1
theorem hc6 : ∀ t : Fin grid0.N, cond6 (grid0.coords t) ↔ t.val = 0 := by decide +kernel

/-! ## The buffers -/

abbrev ms0_0 (t : Fin cfg0.N) : Memref sig .tc .vmem S2880x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2880x256 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S90x256 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2880x256 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x2880 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x384x256 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x4x384 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4x384x256 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S12x4x256 .i8 := win0_8.stage (cfg0.slots t 8)
abbrev hs0_8 (t : Fin cfg0.N) : (ms0_8 t).IsWhole := hstage0_8 ((cfg0.slots t 8).cast nbuf0_8)
abbrev scM0_0 : Memref sig .tc .vmem S1536x2880 .bf16 := Memref.whole cc0_scratch0
abbrev scM0_1 : Memref sig .tc .vmem S2880x1536 .bf16 := Memref.whole cc0_scratch1
abbrev scM0_2 : Memref sig .tc .vmem S2880x1536 .f32 := Memref.whole cc0_scratch2
abbrev scM0_3 : Memref sig .tc .vmem S2x2880x256 .bf16 := Memref.whole cc0_scratch3
abbrev scM0_4 : Memref sig .tc .vmem S2x1536x256 .bf16 := Memref.whole cc0_scratch4
abbrev scM0_5 : Memref sig .tc .vmem S2880x256 .bf16 := Memref.whole cc0_scratch5
abbrev scM0_6 : Memref sig .tc .vmem S2880x256 .bf16 := Memref.whole cc0_scratch6
abbrev scM0_7 : Memref sig .tc .vmem S1536x256 .bf16 := Memref.whole cc0_scratch7
abbrev scM0_8 : Memref sig .tc .vmem S1536x256 .bf16 := Memref.whole cc0_scratch8
abbrev scM0_9 : Memref sig .tc .vmem S1536x256 .bf16 := Memref.whole cc0_scratch9
abbrev scM0_10 : Memref sig .tc .vmem S90x256 .i32 := Memref.whole cc0_scratch10
abbrev scM0_11 : Memref sig .tc .vmem S8x2880 .i32 := Memref.whole cc0_scratch11
abbrev scM0_12 : Memref sig .tc .vmem S8x4x384 .i32 := Memref.whole cc0_scratch12
abbrev scM0_13 : Memref sig .tc .vmem S12x4x256 .i32 := Memref.whole cc0_scratch13
abbrev hbM0_0 : Memref sig .tc .hbm S2880x5760 .bf16 := Memref.whole main_arg0
abbrev hbM0_1 : Memref sig .tc .hbm S1536x5760 .bf16 := Memref.whole main_arg1
abbrev hbM0_2 : Memref sig .tc .hbm S1536x2880 .bf16 := Memref.whole main_arg2
abbrev hbM0_3 : Memref sig .tc .hbm S2880x1536 .bf16 := Memref.whole main_arg3
abbrev hbM0_4 : Memref sig .tc .hbm S1536x5760 .bf16 := Memref.whole main_v0_0
abbrev hbM0_5 : Memref sig .tc .hbm S4x2880x384 .bf16 := Memref.whole main_v0_1
/-- A buffer's contents on core `c`, and the buffer held whole. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own cells. -/
abbrev osem0 : Fin 7 → SemLoc sig := fun j => (![SemLoc.dma 18, SemLoc.dma 19, SemLoc.dma 20, SemLoc.dma 21, SemLoc.dma 22, SemLoc.dma 23, SemLoc.dma 24] : Fin 7 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0) := by
  rw [Pipeline.ownSems0_eq_of_list c osem0 [0, 1, 2, 3, 4, 5, 6] (by decide) (by decide)]; rfl
/-- The operands read in HBM, and the two results the body writes there itself. -/
def H0 : Finset (Ref sig .tc) := {main_arg0, main_arg1, main_arg2, main_arg3}
def R0 : Finset (Ref sig .tc) := {main_v0_0, main_v0_1}
theorem H0_sub : H0 ⊆ Pipeline.restRefs sig spec0 := by decide
theorem R0_sub : R0 ⊆ Pipeline.restRefs sig spec0 \ H0 := by decide
theorem hbmPts0_eq (c : Dev nD) :
    (bigSep H0 (fun b => ((c : Thread nD τ).loc b) ↦{fullShare} V m c b) : sProp 𝕄) = iprop(hbPt0 c hbM0_0 (V m c main_arg0) ∗ hbPt0 c hbM0_1 (V m c main_arg1) ∗ hbPt0 c hbM0_2 (V m c main_arg2) ∗ hbPt0 c hbM0_3 (V m c main_arg3)) := by
  rw [BI.bigSep_eq_bigSepL_of_eq [main_arg0, main_arg1, main_arg2, main_arg3] (by decide) (by decide)]; rfl
theorem ownedPts0_eq (c : Dev nD) :
    (Pipeline.owned R0 c : sProp 𝕄) = iprop((∃ f, hbPt0 c hbM0_4 f) ∗ (∃ f, hbPt0 c hbM0_5 f)) := by
  unfold Pipeline.owned; rw [BI.bigSep_eq_bigSepL_of_eq [main_v0_0, main_v0_1] (by decide) (by decide)]; rfl
/-- What the launch hands the body and takes back, conjunct by conjunct. -/
theorem PhiDR0_eq (c : Dev nD) :
    (Pipeline.ΦDR osem0 spec0 H0 R0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d) ∗ (∃ d, owns (c : Thread nD τ) scM0_13 fullShare d)) ∗ (∃ r, prngReg c r) ∗ iprop(semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0) ∗ iprop(hbPt0 c hbM0_0 (V m c main_arg0) ∗ hbPt0 c hbM0_1 (V m c main_arg1) ∗ hbPt0 c hbM0_2 (V m c main_arg2) ∗ hbPt0 c hbM0_3 (V m c main_arg3)) ∗ iprop((∃ f, hbPt0 c hbM0_4 f) ∗ (∃ f, hbPt0 c hbM0_5 f))) := by
  rw [Pipeline.ΦDR_eq, scopedRest0_eq, ownSems00_eq, hbmPts0_eq, ownedPts0_eq]; simp only [scM0_0, scM0_1, scM0_2, scM0_3, scM0_4, scM0_5, scM0_6, scM0_7, scM0_8, scM0_9, scM0_10, scM0_11, scM0_12, scM0_13, owns_whole]; try rfl

omit [BitOps F] in
/-- Off a view's cells its writes change nothing. -/
theorem writes_off {κ : Kind} {sp : Space} {S : Shape} {e : EltTy} (v : View sig κ sp S e) (f : v.ty.Contents (Elt F)) (p : View.Piece (Elt F) S e) (i : v.ty.Idx) (h : i ∉ v.set) :
    v.writes (Elt F) f [p] i = f i :=
  View.write_of_not_mem _ _ _ fun h' => h (View.set_slice_subset _ _ h')

theorem pt_writes_off (c : Dev nD) {sp : Space} {S : Shape} {e : EltTy} (v : View sig .tc sp S e) (f : v.ty.Contents (Elt F)) (p : View.Piece (Elt F) S e) (I : Finset v.ty.Idx) (h : ∀ i ∈ I, i ∉ v.set) :
    (v.loc (c : Thread nD τ) ↦[I]{fullShare} f : sProp 𝕄) ⊢ (v.loc (c : Thread nD τ) ↦[I]{fullShare} (v.writes (Elt F) f [p])) :=
  BIBase.Entails.of_eq (pointsTo_congr fun i hi => (writes_off v f p i (h i hi)).symm)

instance : NeZero grid0.N := ⟨by rw [N_0]; decide⟩

/-! ## Ring 0: `main_arg0` streamed tile by tile through the two slots of `cc0_scratch3` -/

theorem inb_slot0 (s : Fin 2) : ∀ a, (![s.val, 0, 0] : Fin 3 → Nat) a + S1x2880x256.size a ≤ S2x2880x256.size a := by
  have := s.isLt; intro a; fin_cases a <;> simp <;> omega
theorem inb_nslot0 (s : Fin 2) : ∀ a, (![s.val, 0, 0] : Fin 3 → Nat) a + S1x2880x128.size a ≤ S2x2880x256.size a := by
  have := s.isLt; intro a; fin_cases a <;> simp <;> omega
theorem inb_src0 (b : Fin 22) : ∀ a, (![0, 256 * b.val] : Fin 2 → Nat) a + S2880x256.size a ≤ S2880x5760.size a := by
  have := b.isLt; intro a; fin_cases a <;> simp <;> omega
theorem inb_tail0 : ∀ a, (![0, 5632] : Fin 2 → Nat) a + S2880x128.size a ≤ S2880x5760.size a := by
  intro a; fin_cases a <;> simp
theorem inb_cell0 (s : Fin 2) : ∀ a, (![0, s.val] : Fin 2 → Nat) a + S1x1.size a ≤ S2x2.size a := by
  have := s.isLt; intro a; fin_cases a <;> simp <;> omega
/-- Slot `s` of the ring, spelt as the body spells it. -/
def rslot0 (s : Fin 2) : Memref sig .tc .vmem S2880x256 .bf16 :=
  (scM0_3.slice (Rect.unit (s := S2x2880x256) ![s.val, 0, 0] S1x2880x256.size (inb_slot0 s)) (fun _ => rfl)).squeeze S2880x256 squeezes_S1x2880x256_S2880x256
/-- The first 128 columns of slot `s`: what the last, narrow tile is copied into. -/
def nslot0 (s : Fin 2) : Memref sig .tc .vmem S2880x128 .bf16 :=
  (scM0_3.slice (Rect.unit (s := S2x2880x256) ![s.val, 0, 0] S1x2880x128.size (inb_nslot0 s)) (fun _ => rfl)).squeeze S2880x128 squeezes_S1x2880x128_S2880x128
/-- Tile `b` of the operand, `b < 22`. -/
def srcB0 (b : Fin 22) : Memref sig .tc .hbm S2880x256 .bf16 :=
  hbM0_0.slice (Rect.unit (s := S2880x5760) ![0, 256 * b.val] S2880x256.size (inb_src0 b)) (fun _ => rfl)
/-- The last tile, 128 columns wide. -/
def srcT0 : Memref sig .tc .hbm S2880x128 .bf16 :=
  hbM0_0.slice (Rect.unit (s := S2880x5760) ![0, 5632] S2880x128.size inb_tail0) (fun _ => rfl)
/-- The cell of slot `s`. -/
def cellA0 (s : Fin 2) : DmaSems sig S_ := (cc0_scratch14.slice (Rect.unit (s := S2x2) ![0, s.val] S1x1.size (inb_cell0 s))).squeeze S_ squeezes_S1x1_S_
abbrev cellR0 (s : Fin 2) : SemLoc sig := SemLoc.dma (cellA0 s).sem
theorem cellR0_0 : cellR0 0 = SemLoc.dma 18 := by decide
theorem cellR0_1 : cellR0 1 = SemLoc.dma 19 := by decide

section Ring0
variable (c : Dev nD) (W : HbBuf0 (F := F) c hbM0_0)
/-- The operand is lent by share, one read-share copy of it per slot. -/
abbrev qs0 (s : Fin 2) : PosShare TreeShare := if s.val = 0 then fullShare.left else fullShare.right
abbrev slotP0 (s : Fin 2) (f : HbBuf0 (F := F) c (rslot0 s)) : sProp 𝕄 := (rslot0 s).view.loc (c : Thread nD τ) ↦[(rslot0 s).view.set]{fullShare} f
abbrev nslotP0 (s : Fin 2) (f : HbBuf0 (F := F) c (nslot0 s)) : sProp 𝕄 := (nslot0 s).view.loc (c : Thread nD τ) ↦[(nslot0 s).view.set]{fullShare} f
abbrev cellP0 (s : Fin 2) : sProp 𝕄 := semVal ((c : Thread nD τ), cellR0 s) 0
abbrev srcP0 (s : Fin 2) (b : Fin 22) : sProp 𝕄 := (srcB0 b).view.loc (c : Thread nD τ) ↦[(srcB0 b).view.set]{qs0 s} W
abbrev srcTP0 (s : Fin 2) : sProp 𝕄 := (srcT0).view.loc (c : Thread nD τ) ↦[(srcT0).view.set]{qs0 s} W
/-- What a transfer leaves of its slot's copy of the operand, and of the slot (definitions, so that no run reads them). -/
def restP0 (s : Fin 2) (b : Fin 22) : sProp 𝕄 := ((c : Thread nD τ).loc main_arg0) ↦[Finset.univ \ (srcB0 b).view.set]{qs0 s} W
def restT0 (s : Fin 2) : sProp 𝕄 := ((c : Thread nD τ).loc main_arg0) ↦[Finset.univ \ (srcT0).view.set]{qs0 s} W
def nrest0 (s : Fin 2) (f : HbBuf0 (F := F) c (nslot0 s)) : sProp 𝕄 := (nslot0 s).view.loc (c : Thread nD τ) ↦[(rslot0 s).view.set \ (nslot0 s).view.set]{fullShare} f
abbrev wholeP0 (s : Fin 2) : sProp 𝕄 := ((c : Thread nD τ).loc main_arg0) ↦[Finset.univ]{qs0 s} W
abbrev landed0 (s : Fin 2) (b : Fin 22) (f : HbBuf0 (F := F) c (rslot0 s)) : HbBuf0 (F := F) c (rslot0 s) :=
  (rslot0 s).view.writes (Elt F) f [⟨Rect.whole S2880x256, ReadAs.same.apply ((srcB0 b).view.read (Elt F) W)⟩]
abbrev nlanded0 (s : Fin 2) (f : HbBuf0 (F := F) c (nslot0 s)) : HbBuf0 (F := F) c (nslot0 s) :=
  (nslot0 s).view.writes (Elt F) f [⟨Rect.whole S2880x128, ReadAs.same.apply ((srcT0).view.read (Elt F) W)⟩]
/-- Slot `s` holds tile `k`. -/
def Ok0 (s : Fin 2) (k : ℕ) (f : HbBuf0 (F := F) c (rslot0 s)) : Prop :=
  (∀ h : k < 22, (rslot0 s).view.read (Elt F) f = (srcB0 ⟨k, h⟩).view.read (Elt F) W)
  ∧ (k = 22 → (nslot0 s).view.read (Elt F) f = (srcT0).view.read (Elt F) W)
/-- Tile `k` on its way into slot `s`, with what is left of the operand's copy meanwhile. -/
def fly0 (s : Fin 2) (k : ℕ) : sProp 𝕄 := iprop(∃ f, Transfers.Flight countersEmb (c : Thread nD τ) (cellR0 s) default ((rslot0 s).view.amount (cellR0 s))
    iprop(slotP0 c s (landed0 c W s (Ring.bk 22 k) f) ∗ srcP0 c W s (Ring.bk 22 k)) ∗ restP0 c W s (Ring.bk 22 k))
/-- The narrow tile on its way into slot `s`. -/
def flyT0 (s : Fin 2) : sProp 𝕄 := iprop(∃ f, Transfers.Flight countersEmb (c : Thread nD τ) (cellR0 s) default ((nslot0 s).view.amount (cellR0 s))
    iprop(nslotP0 c s (nlanded0 c W s f) ∗ srcTP0 c W s) ∗ restT0 c W s ∗ nrest0 c s f)
def free0 (s : Fin 2) : sProp 𝕄 := iprop(cellP0 c s ∗ (∃ f, slotP0 c s f) ∗ wholeP0 c W s)
/-- The slot of tile `k` before point `k`: tile `k` in flight, or, before the first point and after the last, free. -/
def next0 (k : ℕ) : sProp 𝕄 :=
  if k = 0 ∨ k = 23 then free0 c W (Ring.sl 2 k) else if k = 22 then flyT0 c W (Ring.sl 2 k) else fly0 c W (Ring.sl 2 k) k
def ringAt0 (k : ℕ) : sProp 𝕄 := iprop(next0 c W k ∗ free0 c W (Ring.sl 2 (k + 1)))
/-- The slot of tile `k` once it landed. -/
def have0 (k : ℕ) : sProp 𝕄 := iprop(cellP0 c (Ring.sl 2 k) ∗ (∃ f, ⌜Ok0 c W (Ring.sl 2 k) k f⌝ ∗ slotP0 c (Ring.sl 2 k) f) ∗ wholeP0 c W (Ring.sl 2 k))
omit [BitOps F] in
theorem cellP0_0 : cellP0 (F := F) c 0 = semVal ((c : Thread nD τ), SemLoc.dma 18) 0 := congrArg (fun x => (semVal ((c : Thread nD τ), x) 0 : sProp 𝕄)) cellR0_0
omit [BitOps F] in
theorem cellP0_1 : cellP0 (F := F) c 1 = semVal ((c : Thread nD τ), SemLoc.dma 19) 0 := congrArg (fun x => (semVal ((c : Thread nD τ), x) 0 : sProp 𝕄)) cellR0_1
end Ring0

abbrev slotSet0 (s : Fin 2) : Finset S2x2880x256.Idx := (Rect.unit (s := S2x2880x256) ![s.val, 0, 0] S1x2880x256.size (inb_slot0 s)).set
theorem slotSet0_eq (s : Fin 2) : (rslot0 s).view.set = slotSet0 s := by
  simp only [rslot0, Memref.view_squeeze, View.set_reshape]; exact View.set_slice_whole _ _
theorem nslotSet0_eq (s : Fin 2) : (nslot0 s).view.set = (Rect.unit (s := S2x2880x256) ![s.val, 0, 0] S1x2880x128.size (inb_nslot0 s)).set := by
  simp only [nslot0, Memref.view_squeeze, View.set_reshape]; exact View.set_slice_whole _ _
theorem nslot0_sub (s : Fin 2) : (nslot0 s).view.set ⊆ (rslot0 s).view.set := by
  rw [slotSet0_eq, nslotSet0_eq]
  refine fun (i : S2x2880x256.Idx) hi => ?_
  refine Rect.mem_set_unit.mpr fun a => ?_
  have := Rect.mem_set_unit.mp hi a
  fin_cases a <;> simp [S1x2880x128, S1x2880x256] at this ⊢ <;> omega
theorem slots0_disjoint (s s' : Fin 2) (h : s ≠ s') : Disjoint (slotSet0 s) (slotSet0 s') :=
  Ring.lead_disjoint (s := S2x2880x256) (0 : Fin 3) 1 (fun s : Fin 2 => (![s.val, 0, 0] : Fin 3 → Nat)) S1x2880x256.size inb_slot0 (fun s => by simp) rfl s s' h
theorem slots0_cover : Finset.univ.biUnion slotSet0 = Finset.univ :=
  Ring.lead_cover (s := S2x2880x256) (0 : Fin 3) 1 (fun s : Fin 2 => (![s.val, 0, 0] : Fin 3 → Nat)) S1x2880x256.size inb_slot0 (fun s => by simp)
    (fun s a ha => by fin_cases a <;> first | exact absurd rfl ha | rfl) rfl (fun a ha => by fin_cases a <;> first | exact absurd rfl ha | rfl) rfl

section InOut0
variable (c : Dev nD) (W : HbBuf0 (F := F) c hbM0_0)
theorem slotP0_eq (s : Fin 2) (f) : slotP0 (F := F) c s f = (((c : Thread nD τ).loc cc0_scratch3) ↦[slotSet0 s]{fullShare} f : sProp 𝕄) := by
  unfold slotP0; rw [slotSet0_eq]; rfl
theorem src0_split (s : Fin 2) (b : Fin 22) : wholeP0 (F := F) c W s ⊣⊢ iprop(srcP0 c W s b ∗ restP0 c W s b) := by
  unfold restP0; exact pointsTo_split_subset (Finset.subset_univ _)
theorem srcT0_split (s : Fin 2) : wholeP0 (F := F) c W s ⊣⊢ iprop(srcTP0 c W s ∗ restT0 c W s) := by
  unfold restT0; exact pointsTo_split_subset (Finset.subset_univ _)
theorem nslot0_split (s : Fin 2) (f : HbBuf0 (F := F) c (rslot0 s)) : slotP0 (F := F) c s f ⊢ iprop(nslotP0 c s f ∗ nrest0 c s f) := by
  unfold nrest0; exact (pointsTo_split_subset (nslot0_sub s)).1
theorem whole0_split : (hbPt0 c hbM0_0 W : sProp 𝕄) ⊣⊢ iprop(wholeP0 c W 0 ∗ wholeP0 c W 1) :=
  pointsTo_share (PosShare.mem_left_op_right fullShare)
set_option maxHeartbeats 1000000 in
theorem slots0_in : iprop(∃ d, owns (c : Thread nD τ) scM0_3 fullShare d) ⊢ (iprop((∃ f, slotP0 (F := F) c 0 f) ∗ ∃ f, slotP0 (F := F) c 1 f) : sProp 𝕄) := by
  simp only [scM0_3, owns_whole]
  exact Ring.slots2_split (U := Pipeline.UD sig nD τ) (ℓ := (c : Thread nD τ).loc cc0_scratch3) (q := fullShare) slotSet0 slots0_disjoint slots0_cover
    (slotP0 c 0) (slotP0 c 1) (slotP0_eq c 0) (slotP0_eq c 1)
set_option maxHeartbeats 1000000 in
theorem slots0_out : (iprop((∃ f, slotP0 (F := F) c 0 f) ∗ ∃ f, slotP0 (F := F) c 1 f) : sProp 𝕄) ⊢ iprop(∃ d, owns (c : Thread nD τ) scM0_3 fullShare d) := by
  simp only [scM0_3, owns_whole]
  exact Ring.slots2_join (U := Pipeline.UD sig nD τ) (ℓ := (c : Thread nD τ).loc cc0_scratch3) (q := fullShare) slotSet0 slots0_disjoint slots0_cover
    (slotP0 c 0) (slotP0 c 1) (slotP0_eq c 0) (slotP0_eq c 1)
/-- Into the ring, out of it. -/
theorem ring0_in :
    iprop((∃ d, owns (c : Thread nD τ) scM0_3 fullShare d) ∗ (semVal ((c : Thread nD τ), SemLoc.dma 18) 0 ∗ semVal ((c : Thread nD τ), SemLoc.dma 19) 0) ∗ hbPt0 c hbM0_0 W)
      ⊢ ringAt0 c W 0 := by
  unfold ringAt0 next0; rw [if_pos (Or.inl rfl)]
  rw [show Ring.sl 2 0 = 0 from rfl, show Ring.sl 2 (0 + 1) = 1 from rfl]
  unfold free0
  rw [cellP0_0, cellP0_1]
  iintro ⟨HS, ⟨H0, H1⟩, HW⟩
  ihave HS' := (slots0_in (F := F) c) $$ HS
  icases HS' with ⟨⟨%d0, HS0⟩, ⟨%d1, HS1⟩⟩
  ihave HW' := (whole0_split (F := F) c W).1 $$ HW
  icases HW' with ⟨HW0, HW1⟩
  isplitl [H0 HS0 HW0]
  · isplitl [H0]; · iexact H0
    isplitl [HS0]; · iexists d0; iexact HS0
    iexact HW0
  · isplitl [H1]; · iexact H1
    isplitl [HS1]; · iexists d1; iexact HS1
    iexact HW1
theorem ring0_out :
    ringAt0 c W 23
      ⊢ iprop((∃ d, owns (c : Thread nD τ) scM0_3 fullShare d) ∗ (semVal ((c : Thread nD τ), SemLoc.dma 18) 0 ∗ semVal ((c : Thread nD τ), SemLoc.dma 19) 0) ∗ hbPt0 c hbM0_0 W) := by
  unfold ringAt0 next0; rw [if_pos (Or.inr rfl)]
  rw [show Ring.sl 2 23 = 1 from rfl, show Ring.sl 2 (23 + 1) = 0 from rfl]
  unfold free0
  rw [cellP0_0, cellP0_1]
  iintro ⟨⟨H1, ⟨%f1, HS1⟩, HW1⟩, ⟨H0, ⟨%f0, HS0⟩, HW0⟩⟩
  isplitl [HS0 HS1]
  · iapply (slots0_out (F := F) c); isplitl [HS0]; · iexists f0; iexact HS0
    iexists f1; iexact HS1
  isplitl [H0 H1]
  · isplitl [H0]; · iexact H0
    iexact H1
  · iapply (whole0_split (F := F) c W).2; isplitl [HW0]; · iexact HW0
    iexact HW1
theorem have0_free (k : ℕ) : have0 c W k ⊢ free0 c W (Ring.sl 2 k) := by
  unfold have0 free0
  iintro ⟨Hc, ⟨%f, -, HS⟩, HW⟩
  isplitl [Hc]; · iexact Hc
  isplitl [HS]; · iexists f; iexact HS
  iexact HW
theorem ok0_of (s : Fin 2) (k : ℕ) (hk : k < 22) (f : HbBuf0 (F := F) c (rslot0 s)) : Ok0 c W s k (landed0 c W s (Ring.bk 22 k) f) := by
  refine ⟨fun h => ?_, fun h => absurd h (by omega)⟩
  have e : Ring.bk 22 k = ⟨k, hk⟩ := Fin.ext (Nat.mod_eq_of_lt hk)
  rw [e]
  exact View.read_writes_whole _ _ _
/-- A tile landed: the slot holds it, and the operand's copy is whole again. -/
theorem land0 (s : Fin 2) (k : ℕ) (hk : k < 22) (f : HbBuf0 (F := F) c (rslot0 s)) :
    iprop(slotP0 c s (landed0 c W s (Ring.bk 22 k) f) ∗ srcP0 c W s (Ring.bk 22 k) ∗ restP0 c W s (Ring.bk 22 k)) ⊢ iprop((∃ f, ⌜Ok0 c W s k f⌝ ∗ slotP0 c s f) ∗ wholeP0 c W s) := by
  iintro ⟨HS, HW, HR⟩
  isplitl [HS]
  · iexists _; isplitr; swap; · iexact HS
    ipureintro; exact ok0_of c W s k hk f
  · iapply (src0_split c W s (Ring.bk 22 k)).2; isplitl [HW]; · iexact HW
    iexact HR
/-- The narrow landing leaves the rest of its slot as it was. -/
theorem nrest0_congr (s : Fin 2) (f : HbBuf0 (F := F) c (nslot0 s)) : nrest0 c s f ⊢ nrest0 c s (nlanded0 c W s f) := by
  unfold nrest0 nlanded0
  exact pt_writes_off c (nslot0 s).view f _ _ (fun i hi => (Finset.mem_sdiff.mp hi).2)
theorem flyT0_of (s : Fin 2) (f : HbBuf0 (F := F) c (nslot0 s)) :
    iprop(nslotP0 c s (nlanded0 c W s f) ∗ srcTP0 c W s ∗ restT0 c W s ∗ nrest0 c s f) ⊢ iprop((∃ f, ⌜Ok0 c W s 22 f⌝ ∗ slotP0 c s f) ∗ wholeP0 c W s) := by
  iintro ⟨HS, HW, HR, HN⟩
  isplitl [HS HN]
  · iexists (nlanded0 c W s f); isplitr
    · ipureintro
      refine ⟨fun h => absurd h (by omega), fun _ => ?_⟩
      exact View.read_writes_whole _ _ _
    · iapply (pointsTo_split_subset (nslot0_sub s)).2
      isplitl [HS]; · iexact HS
      ihave HN' := (nrest0_congr c W s f) $$ HN
      unfold nrest0
      iexact HN'
  · iapply (srcT0_split c W s).2; isplitl [HW]; · iexact HW
    iexact HR
end InOut0

/-! ## Ring 1: `main_arg1` streamed tile by tile through the two slots of `cc0_scratch4` -/

theorem inb_slot1 (s : Fin 2) : ∀ a, (![s.val, 0, 0] : Fin 3 → Nat) a + S1x1536x256.size a ≤ S2x1536x256.size a := by
  have := s.isLt; intro a; fin_cases a <;> simp <;> omega
theorem inb_nslot1 (s : Fin 2) : ∀ a, (![s.val, 0, 0] : Fin 3 → Nat) a + S1x1536x128.size a ≤ S2x1536x256.size a := by
  have := s.isLt; intro a; fin_cases a <;> simp <;> omega
theorem inb_src1 (b : Fin 22) : ∀ a, (![0, 256 * b.val] : Fin 2 → Nat) a + S1536x256.size a ≤ S1536x5760.size a := by
  have := b.isLt; intro a; fin_cases a <;> simp <;> omega
theorem inb_tail1 : ∀ a, (![0, 5632] : Fin 2 → Nat) a + S1536x128.size a ≤ S1536x5760.size a := by
  intro a; fin_cases a <;> simp
theorem inb_cell1 (s : Fin 2) : ∀ a, (![1, s.val] : Fin 2 → Nat) a + S1x1.size a ≤ S2x2.size a := by
  have := s.isLt; intro a; fin_cases a <;> simp <;> omega
/-- Slot `s` of the ring, spelt as the body spells it. -/
def rslot1 (s : Fin 2) : Memref sig .tc .vmem S1536x256 .bf16 :=
  (scM0_4.slice (Rect.unit (s := S2x1536x256) ![s.val, 0, 0] S1x1536x256.size (inb_slot1 s)) (fun _ => rfl)).squeeze S1536x256 squeezes_S1x1536x256_S1536x256
/-- The first 128 columns of slot `s`: what the last, narrow tile is copied into. -/
def nslot1 (s : Fin 2) : Memref sig .tc .vmem S1536x128 .bf16 :=
  (scM0_4.slice (Rect.unit (s := S2x1536x256) ![s.val, 0, 0] S1x1536x128.size (inb_nslot1 s)) (fun _ => rfl)).squeeze S1536x128 squeezes_S1x1536x128_S1536x128
/-- Tile `b` of the operand, `b < 22`. -/
def srcB1 (b : Fin 22) : Memref sig .tc .hbm S1536x256 .bf16 :=
  hbM0_1.slice (Rect.unit (s := S1536x5760) ![0, 256 * b.val] S1536x256.size (inb_src1 b)) (fun _ => rfl)
/-- The last tile, 128 columns wide. -/
def srcT1 : Memref sig .tc .hbm S1536x128 .bf16 :=
  hbM0_1.slice (Rect.unit (s := S1536x5760) ![0, 5632] S1536x128.size inb_tail1) (fun _ => rfl)
/-- The cell of slot `s`. -/
def cellA1 (s : Fin 2) : DmaSems sig S_ := (cc0_scratch14.slice (Rect.unit (s := S2x2) ![1, s.val] S1x1.size (inb_cell1 s))).squeeze S_ squeezes_S1x1_S_
abbrev cellR1 (s : Fin 2) : SemLoc sig := SemLoc.dma (cellA1 s).sem
theorem cellR1_0 : cellR1 0 = SemLoc.dma 20 := by decide
theorem cellR1_1 : cellR1 1 = SemLoc.dma 21 := by decide

section Ring1
variable (c : Dev nD) (W : HbBuf0 (F := F) c hbM0_1)
/-- The operand is lent by share, one read-share copy of it per slot. -/
abbrev qs1 (s : Fin 2) : PosShare TreeShare := if s.val = 0 then fullShare.left else fullShare.right
abbrev slotP1 (s : Fin 2) (f : HbBuf0 (F := F) c (rslot1 s)) : sProp 𝕄 := (rslot1 s).view.loc (c : Thread nD τ) ↦[(rslot1 s).view.set]{fullShare} f
abbrev nslotP1 (s : Fin 2) (f : HbBuf0 (F := F) c (nslot1 s)) : sProp 𝕄 := (nslot1 s).view.loc (c : Thread nD τ) ↦[(nslot1 s).view.set]{fullShare} f
abbrev cellP1 (s : Fin 2) : sProp 𝕄 := semVal ((c : Thread nD τ), cellR1 s) 0
abbrev srcP1 (s : Fin 2) (b : Fin 22) : sProp 𝕄 := (srcB1 b).view.loc (c : Thread nD τ) ↦[(srcB1 b).view.set]{qs1 s} W
abbrev srcTP1 (s : Fin 2) : sProp 𝕄 := (srcT1).view.loc (c : Thread nD τ) ↦[(srcT1).view.set]{qs1 s} W
/-- What a transfer leaves of its slot's copy of the operand, and of the slot (definitions, so that no run reads them). -/
def restP1 (s : Fin 2) (b : Fin 22) : sProp 𝕄 := ((c : Thread nD τ).loc main_arg1) ↦[Finset.univ \ (srcB1 b).view.set]{qs1 s} W
def restT1 (s : Fin 2) : sProp 𝕄 := ((c : Thread nD τ).loc main_arg1) ↦[Finset.univ \ (srcT1).view.set]{qs1 s} W
def nrest1 (s : Fin 2) (f : HbBuf0 (F := F) c (nslot1 s)) : sProp 𝕄 := (nslot1 s).view.loc (c : Thread nD τ) ↦[(rslot1 s).view.set \ (nslot1 s).view.set]{fullShare} f
abbrev wholeP1 (s : Fin 2) : sProp 𝕄 := ((c : Thread nD τ).loc main_arg1) ↦[Finset.univ]{qs1 s} W
abbrev landed1 (s : Fin 2) (b : Fin 22) (f : HbBuf0 (F := F) c (rslot1 s)) : HbBuf0 (F := F) c (rslot1 s) :=
  (rslot1 s).view.writes (Elt F) f [⟨Rect.whole S1536x256, ReadAs.same.apply ((srcB1 b).view.read (Elt F) W)⟩]
abbrev nlanded1 (s : Fin 2) (f : HbBuf0 (F := F) c (nslot1 s)) : HbBuf0 (F := F) c (nslot1 s) :=
  (nslot1 s).view.writes (Elt F) f [⟨Rect.whole S1536x128, ReadAs.same.apply ((srcT1).view.read (Elt F) W)⟩]
/-- Slot `s` holds tile `k`. -/
def Ok1 (s : Fin 2) (k : ℕ) (f : HbBuf0 (F := F) c (rslot1 s)) : Prop :=
  (∀ h : k < 22, (rslot1 s).view.read (Elt F) f = (srcB1 ⟨k, h⟩).view.read (Elt F) W)
  ∧ (k = 22 → (nslot1 s).view.read (Elt F) f = (srcT1).view.read (Elt F) W)
/-- Tile `k` on its way into slot `s`, with what is left of the operand's copy meanwhile. -/
def fly1 (s : Fin 2) (k : ℕ) : sProp 𝕄 := iprop(∃ f, Transfers.Flight countersEmb (c : Thread nD τ) (cellR1 s) default ((rslot1 s).view.amount (cellR1 s))
    iprop(slotP1 c s (landed1 c W s (Ring.bk 22 k) f) ∗ srcP1 c W s (Ring.bk 22 k)) ∗ restP1 c W s (Ring.bk 22 k))
/-- The narrow tile on its way into slot `s`. -/
def flyT1 (s : Fin 2) : sProp 𝕄 := iprop(∃ f, Transfers.Flight countersEmb (c : Thread nD τ) (cellR1 s) default ((nslot1 s).view.amount (cellR1 s))
    iprop(nslotP1 c s (nlanded1 c W s f) ∗ srcTP1 c W s) ∗ restT1 c W s ∗ nrest1 c s f)
def free1 (s : Fin 2) : sProp 𝕄 := iprop(cellP1 c s ∗ (∃ f, slotP1 c s f) ∗ wholeP1 c W s)
/-- The slot of tile `k` before point `k`: tile `k` in flight, or, before the first point and after the last, free. -/
def next1 (k : ℕ) : sProp 𝕄 :=
  if k = 0 ∨ k = 23 then free1 c W (Ring.sl 2 k) else if k = 22 then flyT1 c W (Ring.sl 2 k) else fly1 c W (Ring.sl 2 k) k
def ringAt1 (k : ℕ) : sProp 𝕄 := iprop(next1 c W k ∗ free1 c W (Ring.sl 2 (k + 1)))
/-- The slot of tile `k` once it landed. -/
def have1 (k : ℕ) : sProp 𝕄 := iprop(cellP1 c (Ring.sl 2 k) ∗ (∃ f, ⌜Ok1 c W (Ring.sl 2 k) k f⌝ ∗ slotP1 c (Ring.sl 2 k) f) ∗ wholeP1 c W (Ring.sl 2 k))
omit [BitOps F] in
theorem cellP1_0 : cellP1 (F := F) c 0 = semVal ((c : Thread nD τ), SemLoc.dma 20) 0 := congrArg (fun x => (semVal ((c : Thread nD τ), x) 0 : sProp 𝕄)) cellR1_0
omit [BitOps F] in
theorem cellP1_1 : cellP1 (F := F) c 1 = semVal ((c : Thread nD τ), SemLoc.dma 21) 0 := congrArg (fun x => (semVal ((c : Thread nD τ), x) 0 : sProp 𝕄)) cellR1_1
end Ring1

abbrev slotSet1 (s : Fin 2) : Finset S2x1536x256.Idx := (Rect.unit (s := S2x1536x256) ![s.val, 0, 0] S1x1536x256.size (inb_slot1 s)).set
theorem slotSet1_eq (s : Fin 2) : (rslot1 s).view.set = slotSet1 s := by
  simp only [rslot1, Memref.view_squeeze, View.set_reshape]; exact View.set_slice_whole _ _
theorem nslotSet1_eq (s : Fin 2) : (nslot1 s).view.set = (Rect.unit (s := S2x1536x256) ![s.val, 0, 0] S1x1536x128.size (inb_nslot1 s)).set := by
  simp only [nslot1, Memref.view_squeeze, View.set_reshape]; exact View.set_slice_whole _ _
theorem nslot1_sub (s : Fin 2) : (nslot1 s).view.set ⊆ (rslot1 s).view.set := by
  rw [slotSet1_eq, nslotSet1_eq]
  refine fun (i : S2x1536x256.Idx) hi => ?_
  refine Rect.mem_set_unit.mpr fun a => ?_
  have := Rect.mem_set_unit.mp hi a
  fin_cases a <;> simp [S1x1536x128, S1x1536x256] at this ⊢ <;> omega
theorem slots1_disjoint (s s' : Fin 2) (h : s ≠ s') : Disjoint (slotSet1 s) (slotSet1 s') :=
  Ring.lead_disjoint (s := S2x1536x256) (0 : Fin 3) 1 (fun s : Fin 2 => (![s.val, 0, 0] : Fin 3 → Nat)) S1x1536x256.size inb_slot1 (fun s => by simp) rfl s s' h
theorem slots1_cover : Finset.univ.biUnion slotSet1 = Finset.univ :=
  Ring.lead_cover (s := S2x1536x256) (0 : Fin 3) 1 (fun s : Fin 2 => (![s.val, 0, 0] : Fin 3 → Nat)) S1x1536x256.size inb_slot1 (fun s => by simp)
    (fun s a ha => by fin_cases a <;> first | exact absurd rfl ha | rfl) rfl (fun a ha => by fin_cases a <;> first | exact absurd rfl ha | rfl) rfl

section InOut1
variable (c : Dev nD) (W : HbBuf0 (F := F) c hbM0_1)
theorem slotP1_eq (s : Fin 2) (f) : slotP1 (F := F) c s f = (((c : Thread nD τ).loc cc0_scratch4) ↦[slotSet1 s]{fullShare} f : sProp 𝕄) := by
  unfold slotP1; rw [slotSet1_eq]; rfl
theorem src1_split (s : Fin 2) (b : Fin 22) : wholeP1 (F := F) c W s ⊣⊢ iprop(srcP1 c W s b ∗ restP1 c W s b) := by
  unfold restP1; exact pointsTo_split_subset (Finset.subset_univ _)
theorem srcT1_split (s : Fin 2) : wholeP1 (F := F) c W s ⊣⊢ iprop(srcTP1 c W s ∗ restT1 c W s) := by
  unfold restT1; exact pointsTo_split_subset (Finset.subset_univ _)
theorem nslot1_split (s : Fin 2) (f : HbBuf0 (F := F) c (rslot1 s)) : slotP1 (F := F) c s f ⊢ iprop(nslotP1 c s f ∗ nrest1 c s f) := by
  unfold nrest1; exact (pointsTo_split_subset (nslot1_sub s)).1
theorem whole1_split : (hbPt0 c hbM0_1 W : sProp 𝕄) ⊣⊢ iprop(wholeP1 c W 0 ∗ wholeP1 c W 1) :=
  pointsTo_share (PosShare.mem_left_op_right fullShare)
set_option maxHeartbeats 1000000 in
theorem slots1_in : iprop(∃ d, owns (c : Thread nD τ) scM0_4 fullShare d) ⊢ (iprop((∃ f, slotP1 (F := F) c 0 f) ∗ ∃ f, slotP1 (F := F) c 1 f) : sProp 𝕄) := by
  simp only [scM0_4, owns_whole]
  exact Ring.slots2_split (U := Pipeline.UD sig nD τ) (ℓ := (c : Thread nD τ).loc cc0_scratch4) (q := fullShare) slotSet1 slots1_disjoint slots1_cover
    (slotP1 c 0) (slotP1 c 1) (slotP1_eq c 0) (slotP1_eq c 1)
set_option maxHeartbeats 1000000 in
theorem slots1_out : (iprop((∃ f, slotP1 (F := F) c 0 f) ∗ ∃ f, slotP1 (F := F) c 1 f) : sProp 𝕄) ⊢ iprop(∃ d, owns (c : Thread nD τ) scM0_4 fullShare d) := by
  simp only [scM0_4, owns_whole]
  exact Ring.slots2_join (U := Pipeline.UD sig nD τ) (ℓ := (c : Thread nD τ).loc cc0_scratch4) (q := fullShare) slotSet1 slots1_disjoint slots1_cover
    (slotP1 c 0) (slotP1 c 1) (slotP1_eq c 0) (slotP1_eq c 1)
/-- Into the ring, out of it. -/
theorem ring1_in :
    iprop((∃ d, owns (c : Thread nD τ) scM0_4 fullShare d) ∗ (semVal ((c : Thread nD τ), SemLoc.dma 20) 0 ∗ semVal ((c : Thread nD τ), SemLoc.dma 21) 0) ∗ hbPt0 c hbM0_1 W)
      ⊢ ringAt1 c W 0 := by
  unfold ringAt1 next1; rw [if_pos (Or.inl rfl)]
  rw [show Ring.sl 2 0 = 0 from rfl, show Ring.sl 2 (0 + 1) = 1 from rfl]
  unfold free1
  rw [cellP1_0, cellP1_1]
  iintro ⟨HS, ⟨H0, H1⟩, HW⟩
  ihave HS' := (slots1_in (F := F) c) $$ HS
  icases HS' with ⟨⟨%d0, HS0⟩, ⟨%d1, HS1⟩⟩
  ihave HW' := (whole1_split (F := F) c W).1 $$ HW
  icases HW' with ⟨HW0, HW1⟩
  isplitl [H0 HS0 HW0]
  · isplitl [H0]; · iexact H0
    isplitl [HS0]; · iexists d0; iexact HS0
    iexact HW0
  · isplitl [H1]; · iexact H1
    isplitl [HS1]; · iexists d1; iexact HS1
    iexact HW1
theorem ring1_out :
    ringAt1 c W 23
      ⊢ iprop((∃ d, owns (c : Thread nD τ) scM0_4 fullShare d) ∗ (semVal ((c : Thread nD τ), SemLoc.dma 20) 0 ∗ semVal ((c : Thread nD τ), SemLoc.dma 21) 0) ∗ hbPt0 c hbM0_1 W) := by
  unfold ringAt1 next1; rw [if_pos (Or.inr rfl)]
  rw [show Ring.sl 2 23 = 1 from rfl, show Ring.sl 2 (23 + 1) = 0 from rfl]
  unfold free1
  rw [cellP1_0, cellP1_1]
  iintro ⟨⟨H1, ⟨%f1, HS1⟩, HW1⟩, ⟨H0, ⟨%f0, HS0⟩, HW0⟩⟩
  isplitl [HS0 HS1]
  · iapply (slots1_out (F := F) c); isplitl [HS0]; · iexists f0; iexact HS0
    iexists f1; iexact HS1
  isplitl [H0 H1]
  · isplitl [H0]; · iexact H0
    iexact H1
  · iapply (whole1_split (F := F) c W).2; isplitl [HW0]; · iexact HW0
    iexact HW1
theorem have1_free (k : ℕ) : have1 c W k ⊢ free1 c W (Ring.sl 2 k) := by
  unfold have1 free1
  iintro ⟨Hc, ⟨%f, -, HS⟩, HW⟩
  isplitl [Hc]; · iexact Hc
  isplitl [HS]; · iexists f; iexact HS
  iexact HW
theorem ok1_of (s : Fin 2) (k : ℕ) (hk : k < 22) (f : HbBuf0 (F := F) c (rslot1 s)) : Ok1 c W s k (landed1 c W s (Ring.bk 22 k) f) := by
  refine ⟨fun h => ?_, fun h => absurd h (by omega)⟩
  have e : Ring.bk 22 k = ⟨k, hk⟩ := Fin.ext (Nat.mod_eq_of_lt hk)
  rw [e]
  exact View.read_writes_whole _ _ _
/-- A tile landed: the slot holds it, and the operand's copy is whole again. -/
theorem land1 (s : Fin 2) (k : ℕ) (hk : k < 22) (f : HbBuf0 (F := F) c (rslot1 s)) :
    iprop(slotP1 c s (landed1 c W s (Ring.bk 22 k) f) ∗ srcP1 c W s (Ring.bk 22 k) ∗ restP1 c W s (Ring.bk 22 k)) ⊢ iprop((∃ f, ⌜Ok1 c W s k f⌝ ∗ slotP1 c s f) ∗ wholeP1 c W s) := by
  iintro ⟨HS, HW, HR⟩
  isplitl [HS]
  · iexists _; isplitr; swap; · iexact HS
    ipureintro; exact ok1_of c W s k hk f
  · iapply (src1_split c W s (Ring.bk 22 k)).2; isplitl [HW]; · iexact HW
    iexact HR
/-- The narrow landing leaves the rest of its slot as it was. -/
theorem nrest1_congr (s : Fin 2) (f : HbBuf0 (F := F) c (nslot1 s)) : nrest1 c s f ⊢ nrest1 c s (nlanded1 c W s f) := by
  unfold nrest1 nlanded1
  exact pt_writes_off c (nslot1 s).view f _ _ (fun i hi => (Finset.mem_sdiff.mp hi).2)
theorem flyT1_of (s : Fin 2) (f : HbBuf0 (F := F) c (nslot1 s)) :
    iprop(nslotP1 c s (nlanded1 c W s f) ∗ srcTP1 c W s ∗ restT1 c W s ∗ nrest1 c s f) ⊢ iprop((∃ f, ⌜Ok1 c W s 22 f⌝ ∗ slotP1 c s f) ∗ wholeP1 c W s) := by
  iintro ⟨HS, HW, HR, HN⟩
  isplitl [HS HN]
  · iexists (nlanded1 c W s f); isplitr
    · ipureintro
      refine ⟨fun h => absurd h (by omega), fun _ => ?_⟩
      exact View.read_writes_whole _ _ _
    · iapply (pointsTo_split_subset (nslot1_sub s)).2
      isplitl [HS]; · iexact HS
      ihave HN' := (nrest1_congr c W s f) $$ HN
      unfold nrest1
      iexact HN'
  · iapply (srcT1_split c W s).2; isplitl [HW]; · iexact HW
    iexact HR
end InOut1

/-! ## Ring 0: what the body names is the ring's slots, tiles and cells -/

section Canon0
omit [BitOps F]
set_option synthInstance.maxSize 4096 in
theorem co0_1 : ∀ t : Fin grid0.N, k0_cond2 (grid0.coords t) = 1#1 → k0_off1 (grid0.coords t) = ![0, (Ring.sl 2 (t.val + 1)).val] := by decide +kernel
@[sl_canon] theorem ca0_1 (t : Fin grid0.N) (h : k0_cond2 (grid0.coords t) = 1#1) :
    (cc0_scratch14.slice (Rect.unit (s := S2x2) (k0_off1 (grid0.coords t)) S1x1.size (k0_off1_inb (grid0.coords t) h))).squeeze S_ squeezes_S1x1_S_ = cellA0 (Ring.sl 2 (t.val + 1)) :=
  congrArg (fun A : DmaSems sig S1x1 => A.squeeze S_ squeezes_S1x1_S_) (SemArray.slice_unit_congr _ (co0_1 t h) _ _)
set_option synthInstance.maxSize 4096 in
theorem co0_2 : ∀ t : Fin grid0.N, k0_cond2 (grid0.coords t) = 1#1 → k0_off2 (grid0.coords t) = ![(Ring.sl 2 (t.val + 1)).val, 0, 0] := by decide +kernel
@[sl_canon] theorem ca0_2 (t : Fin grid0.N) (h : k0_cond2 (grid0.coords t) = 1#1) :
    (scM0_3.slice (Rect.unit (s := S2x2880x256) (k0_off2 (grid0.coords t)) S1x2880x256.size (k0_off2_inb (grid0.coords t) h)) (fun _ => rfl)).squeeze S2880x256 squeezes_S1x2880x256_S2880x256 = rslot0 (Ring.sl 2 (t.val + 1)) :=
  congrArg (fun M : Memref sig .tc .vmem S1x2880x256 .bf16 => M.squeeze S2880x256 squeezes_S1x2880x256_S2880x256) (Memref.slice_unit_congr _ (co0_2 t h) _ _ (fun _ => rfl) (fun _ => rfl))
set_option synthInstance.maxSize 4096 in
theorem co0_3 : ∀ t : Fin grid0.N, k0_cond2 (grid0.coords t) = 1#1 → k0_off3 (grid0.coords t) = ![0, 256 * (Ring.bk 22 (t.val + 1)).val] := by decide +kernel
@[sl_canon] theorem ca0_3 (t : Fin grid0.N) (h : k0_cond2 (grid0.coords t) = 1#1) :
    hbM0_0.slice (Rect.unit (s := S2880x5760) (k0_off3 (grid0.coords t)) S2880x256.size (k0_off3_inb (grid0.coords t) h)) (fun _ => rfl) = srcB0 (Ring.bk 22 (t.val + 1)) :=
  Memref.slice_unit_congr _ (co0_3 t h) _ _ (fun _ => rfl) (fun _ => rfl)
set_option synthInstance.maxSize 4096 in
theorem co0_7 : ∀ t : Fin grid0.N, k0_cond3 (grid0.coords t) = 1#1 → k0_off7 (grid0.coords t) = ![0, (Ring.sl 2 (t.val + 1)).val] := by decide +kernel
@[sl_canon] theorem ca0_7 (t : Fin grid0.N) (h : k0_cond3 (grid0.coords t) = 1#1) :
    (cc0_scratch14.slice (Rect.unit (s := S2x2) (k0_off7 (grid0.coords t)) S1x1.size (k0_off7_inb (grid0.coords t) h))).squeeze S_ squeezes_S1x1_S_ = cellA0 (Ring.sl 2 (t.val + 1)) :=
  congrArg (fun A : DmaSems sig S1x1 => A.squeeze S_ squeezes_S1x1_S_) (SemArray.slice_unit_congr _ (co0_7 t h) _ _)
set_option synthInstance.maxSize 4096 in
theorem co0_8 : ∀ t : Fin grid0.N, k0_cond3 (grid0.coords t) = 1#1 → k0_off8 (grid0.coords t) = ![(Ring.sl 2 (t.val + 1)).val, 0, 0] := by decide +kernel
@[sl_canon] theorem ca0_8 (t : Fin grid0.N) (h : k0_cond3 (grid0.coords t) = 1#1) :
    (scM0_3.slice (Rect.unit (s := S2x2880x256) (k0_off8 (grid0.coords t)) S1x2880x128.size (k0_off8_inb (grid0.coords t) h)) (fun _ => rfl)).squeeze S2880x128 squeezes_S1x2880x128_S2880x128 = nslot0 (Ring.sl 2 (t.val + 1)) :=
  congrArg (fun M : Memref sig .tc .vmem S1x2880x128 .bf16 => M.squeeze S2880x128 squeezes_S1x2880x128_S2880x128) (Memref.slice_unit_congr _ (co0_8 t h) _ _ (fun _ => rfl) (fun _ => rfl))
set_option synthInstance.maxSize 4096 in
theorem co0_9 : ∀ t : Fin grid0.N, k0_cond3 (grid0.coords t) = 1#1 → k0_off9 (grid0.coords t) = ![0, 5632] := by decide +kernel
@[sl_canon] theorem ca0_9 (t : Fin grid0.N) (h : k0_cond3 (grid0.coords t) = 1#1) :
    hbM0_0.slice (Rect.unit (s := S2880x5760) (k0_off9 (grid0.coords t)) S2880x128.size (k0_off9_inb (grid0.coords t) h)) (fun _ => rfl) = srcT0 :=
  Memref.slice_unit_congr _ (co0_9 t h) _ _ (fun _ => rfl) (fun _ => rfl)
set_option synthInstance.maxSize 4096 in
theorem co0_13 : ∀ t : Fin grid0.N, k0_cond4 (grid0.coords t) = 1#1 → k0_off13 (grid0.coords t) = ![0, (Ring.sl 2 t.val).val] := by decide +kernel
@[sl_canon] theorem ca0_13 (t : Fin grid0.N) (h : k0_cond4 (grid0.coords t) = 1#1) :
    (cc0_scratch14.slice (Rect.unit (s := S2x2) (k0_off13 (grid0.coords t)) S1x1.size (k0_off13_inb (grid0.coords t) h))).squeeze S_ squeezes_S1x1_S_ = cellA0 (Ring.sl 2 t.val) :=
  congrArg (fun A : DmaSems sig S1x1 => A.squeeze S_ squeezes_S1x1_S_) (SemArray.slice_unit_congr _ (co0_13 t h) _ _)
set_option synthInstance.maxSize 4096 in
theorem co0_14 : ∀ t : Fin grid0.N, k0_cond4 (grid0.coords t) = 1#1 → k0_off14 (grid0.coords t) = ![(Ring.sl 2 t.val).val, 0, 0] := by decide +kernel
@[sl_canon] theorem ca0_14 (t : Fin grid0.N) (h : k0_cond4 (grid0.coords t) = 1#1) :
    (scM0_3.slice (Rect.unit (s := S2x2880x256) (k0_off14 (grid0.coords t)) S1x2880x256.size (k0_off14_inb (grid0.coords t) h)) (fun _ => rfl)).squeeze S2880x256 squeezes_S1x2880x256_S2880x256 = rslot0 (Ring.sl 2 t.val) :=
  congrArg (fun M : Memref sig .tc .vmem S1x2880x256 .bf16 => M.squeeze S2880x256 squeezes_S1x2880x256_S2880x256) (Memref.slice_unit_congr _ (co0_14 t h) _ _ (fun _ => rfl) (fun _ => rfl))
set_option synthInstance.maxSize 4096 in
theorem co0_15 : ∀ t : Fin grid0.N, k0_cond4 (grid0.coords t) = 1#1 → k0_off15 (grid0.coords t) = ![0, 256 * (Ring.bk 22 t.val).val] := by decide +kernel
@[sl_canon] theorem ca0_15 (t : Fin grid0.N) (h : k0_cond4 (grid0.coords t) = 1#1) :
    hbM0_0.slice (Rect.unit (s := S2880x5760) (k0_off15 (grid0.coords t)) S2880x256.size (k0_off15_inb (grid0.coords t) h)) (fun _ => rfl) = srcB0 (Ring.bk 22 t.val) :=
  Memref.slice_unit_congr _ (co0_15 t h) _ _ (fun _ => rfl) (fun _ => rfl)
set_option synthInstance.maxSize 4096 in
theorem co0_19 : ∀ t : Fin grid0.N, k0_cond5 (grid0.coords t) = 1#1 → k0_off19 (grid0.coords t) = ![0, (Ring.sl 2 t.val).val] := by decide +kernel
@[sl_canon] theorem ca0_19 (t : Fin grid0.N) (h : k0_cond5 (grid0.coords t) = 1#1) :
    (cc0_scratch14.slice (Rect.unit (s := S2x2) (k0_off19 (grid0.coords t)) S1x1.size (k0_off19_inb (grid0.coords t) h))).squeeze S_ squeezes_S1x1_S_ = cellA0 (Ring.sl 2 t.val) :=
  congrArg (fun A : DmaSems sig S1x1 => A.squeeze S_ squeezes_S1x1_S_) (SemArray.slice_unit_congr _ (co0_19 t h) _ _)
set_option synthInstance.maxSize 4096 in
theorem co0_20 : ∀ t : Fin grid0.N, k0_cond5 (grid0.coords t) = 1#1 → k0_off20 (grid0.coords t) = ![(Ring.sl 2 t.val).val, 0, 0] := by decide +kernel
@[sl_canon] theorem ca0_20 (t : Fin grid0.N) (h : k0_cond5 (grid0.coords t) = 1#1) :
    (scM0_3.slice (Rect.unit (s := S2x2880x256) (k0_off20 (grid0.coords t)) S1x2880x128.size (k0_off20_inb (grid0.coords t) h)) (fun _ => rfl)).squeeze S2880x128 squeezes_S1x2880x128_S2880x128 = nslot0 (Ring.sl 2 t.val) :=
  congrArg (fun M : Memref sig .tc .vmem S1x2880x128 .bf16 => M.squeeze S2880x128 squeezes_S1x2880x128_S2880x128) (Memref.slice_unit_congr _ (co0_20 t h) _ _ (fun _ => rfl) (fun _ => rfl))
set_option synthInstance.maxSize 4096 in
theorem co0_21 : ∀ t : Fin grid0.N, k0_cond5 (grid0.coords t) = 1#1 → k0_off21 (grid0.coords t) = ![0, 5632] := by decide +kernel
@[sl_canon] theorem ca0_21 (t : Fin grid0.N) (h : k0_cond5 (grid0.coords t) = 1#1) :
    hbM0_0.slice (Rect.unit (s := S2880x5760) (k0_off21 (grid0.coords t)) S2880x128.size (k0_off21_inb (grid0.coords t) h)) (fun _ => rfl) = srcT0 :=
  Memref.slice_unit_congr _ (co0_21 t h) _ _ (fun _ => rfl) (fun _ => rfl)
theorem lit0_s : ∀ t : Fin grid0.N, t.val = 0 → (![0, 0, 0] : Fin 3 → Nat) = ![(Ring.sl 2 t.val).val, 0, 0] := by decide +kernel
theorem lit0_b : ∀ t : Fin grid0.N, t.val = 0 → (![0, 0] : Fin 2 → Nat) = ![0, 256 * (Ring.bk 22 t.val).val] := by decide +kernel
theorem lit0_c : ∀ t : Fin grid0.N, t.val = 0 → (![0, 0] : Fin 2 → Nat) = ![0, (Ring.sl 2 t.val).val] := by decide +kernel
@[sl_canon] theorem cl0_s (t : Fin grid0.N) (h : k0_cond1 (grid0.coords t) = 1#1) :
    (scM0_3.slice (Rect.unit (s := S2x2880x256) ![0, 0, 0] S1x2880x256.size inb_S2x2880x256_S1x2880x256_0_0_0) (fun _ => rfl)).squeeze S2880x256 squeezes_S1x2880x256_S2880x256 = rslot0 (Ring.sl 2 t.val) :=
  congrArg (fun M : Memref sig .tc .vmem S1x2880x256 .bf16 => M.squeeze S2880x256 squeezes_S1x2880x256_S2880x256) (Memref.slice_unit_congr _ (lit0_s t ((hc1 t).mp h)) _ _ (fun _ => rfl) (fun _ => rfl))
@[sl_canon] theorem cl0_b (t : Fin grid0.N) (h : k0_cond1 (grid0.coords t) = 1#1) :
    hbM0_0.slice (Rect.unit (s := S2880x5760) ![0, 0] S2880x256.size inb_S2880x5760_S2880x256_0_0) (fun _ => rfl) = srcB0 (Ring.bk 22 t.val) :=
  Memref.slice_unit_congr _ (lit0_b t ((hc1 t).mp h)) _ _ (fun _ => rfl) (fun _ => rfl)
@[sl_canon] theorem cl0_c (t : Fin grid0.N) (h : k0_cond1 (grid0.coords t) = 1#1) :
    (cc0_scratch14.slice (Rect.unit (s := S2x2) ![0, 0] S1x1.size inb_S2x2_S1x1_0_0)).squeeze S_ squeezes_S1x1_S_ = cellA0 (Ring.sl 2 t.val) :=
  congrArg (fun A : DmaSems sig S1x1 => A.squeeze S_ squeezes_S1x1_S_) (SemArray.slice_unit_congr _ (lit0_c t ((hc1 t).mp h)) _ _)
set_option synthInstance.maxSize 4096 in
theorem co0_30 : ∀ t : Fin grid0.N, k0_off30 (grid0.coords t) = ![(Ring.sl 2 t.val).val, 0, 0] := by decide +kernel
@[sl_canon] theorem ca0_30 (t : Fin grid0.N) :
    (scM0_3.slice (Rect.unit (s := S2x2880x256) (k0_off30 (grid0.coords t)) S1x2880x256.size (k0_off30_inb (grid0.coords t))) (fun _ => rfl)).squeeze S2880x256 squeezes_S1x2880x256_S2880x256 = rslot0 (Ring.sl 2 t.val) :=
  congrArg (fun M : Memref sig .tc .vmem S1x2880x256 .bf16 => M.squeeze S2880x256 squeezes_S1x2880x256_S2880x256) (Memref.slice_unit_congr _ (co0_30 t) _ _ (fun _ => rfl) (fun _ => rfl))
instance (priority := high) closed0_30 (t : Fin grid0.N) : ClosedOff (k0_off30 (grid0.coords t)) := ⟨![(Ring.sl 2 t.val).val, 0, 0], co0_30 t⟩
set_option synthInstance.maxSize 4096 in
theorem co0_40 : ∀ t : Fin grid0.N, k0_off40 (grid0.coords t) = ![(Ring.sl 2 t.val).val, 0, 0] := by decide +kernel
@[sl_canon] theorem ca0_40 (t : Fin grid0.N) :
    (scM0_3.slice (Rect.unit (s := S2x2880x256) (k0_off40 (grid0.coords t)) S1x2880x256.size (k0_off40_inb (grid0.coords t))) (fun _ => rfl)).squeeze S2880x256 squeezes_S1x2880x256_S2880x256 = rslot0 (Ring.sl 2 t.val) :=
  congrArg (fun M : Memref sig .tc .vmem S1x2880x256 .bf16 => M.squeeze S2880x256 squeezes_S1x2880x256_S2880x256) (Memref.slice_unit_congr _ (co0_40 t) _ _ (fun _ => rfl) (fun _ => rfl))
instance (priority := high) closed0_40 (t : Fin grid0.N) : ClosedOff (k0_off40 (grid0.coords t)) := ⟨![(Ring.sl 2 t.val).val, 0, 0], co0_40 t⟩
set_option synthInstance.maxSize 4096 in
theorem co0_46 : ∀ t : Fin grid0.N, k0_off46 (grid0.coords t) = ![(Ring.sl 2 t.val).val, 0, 0] := by decide +kernel
@[sl_canon] theorem ca0_46 (t : Fin grid0.N) :
    (scM0_3.slice (Rect.unit (s := S2x2880x256) (k0_off46 (grid0.coords t)) S1x2880x256.size (k0_off46_inb (grid0.coords t))) (fun _ => rfl)).squeeze S2880x256 squeezes_S1x2880x256_S2880x256 = rslot0 (Ring.sl 2 t.val) :=
  congrArg (fun M : Memref sig .tc .vmem S1x2880x256 .bf16 => M.squeeze S2880x256 squeezes_S1x2880x256_S2880x256) (Memref.slice_unit_congr _ (co0_46 t) _ _ (fun _ => rfl) (fun _ => rfl))
instance (priority := high) closed0_46 (t : Fin grid0.N) : ClosedOff (k0_off46 (grid0.coords t)) := ⟨![(Ring.sl 2 t.val).val, 0, 0], co0_46 t⟩
set_option synthInstance.maxSize 4096 in
theorem co0_51 : ∀ t : Fin grid0.N, k0_off51 (grid0.coords t) = ![(Ring.sl 2 t.val).val, 0, 0] := by decide +kernel
@[sl_canon] theorem ca0_51 (t : Fin grid0.N) :
    (scM0_3.slice (Rect.unit (s := S2x2880x256) (k0_off51 (grid0.coords t)) S1x2880x256.size (k0_off51_inb (grid0.coords t))) (fun _ => rfl)).squeeze S2880x256 squeezes_S1x2880x256_S2880x256 = rslot0 (Ring.sl 2 t.val) :=
  congrArg (fun M : Memref sig .tc .vmem S1x2880x256 .bf16 => M.squeeze S2880x256 squeezes_S1x2880x256_S2880x256) (Memref.slice_unit_congr _ (co0_51 t) _ _ (fun _ => rfl) (fun _ => rfl))
instance (priority := high) closed0_51 (t : Fin grid0.N) : ClosedOff (k0_off51 (grid0.coords t)) := ⟨![(Ring.sl 2 t.val).val, 0, 0], co0_51 t⟩
set_option synthInstance.maxSize 4096 in
theorem co0_61 : ∀ t : Fin grid0.N, k0_off61 (grid0.coords t) = ![(Ring.sl 2 t.val).val, 0, 0] := by decide +kernel
@[sl_canon] theorem ca0_61 (t : Fin grid0.N) :
    (scM0_3.slice (Rect.unit (s := S2x2880x256) (k0_off61 (grid0.coords t)) S1x2880x256.size (k0_off61_inb (grid0.coords t))) (fun _ => rfl)).squeeze S2880x256 squeezes_S1x2880x256_S2880x256 = rslot0 (Ring.sl 2 t.val) :=
  congrArg (fun M : Memref sig .tc .vmem S1x2880x256 .bf16 => M.squeeze S2880x256 squeezes_S1x2880x256_S2880x256) (Memref.slice_unit_congr _ (co0_61 t) _ _ (fun _ => rfl) (fun _ => rfl))
instance (priority := high) closed0_61 (t : Fin grid0.N) : ClosedOff (k0_off61 (grid0.coords t)) := ⟨![(Ring.sl 2 t.val).val, 0, 0], co0_61 t⟩
end Canon0

/-! ## Ring 1: what the body names is the ring's slots, tiles and cells -/

section Canon1
omit [BitOps F]
set_option synthInstance.maxSize 4096 in
theorem co1_4 : ∀ t : Fin grid0.N, k0_cond2 (grid0.coords t) = 1#1 → k0_off4 (grid0.coords t) = ![1, (Ring.sl 2 (t.val + 1)).val] := by decide +kernel
@[sl_canon] theorem ca1_4 (t : Fin grid0.N) (h : k0_cond2 (grid0.coords t) = 1#1) :
    (cc0_scratch14.slice (Rect.unit (s := S2x2) (k0_off4 (grid0.coords t)) S1x1.size (k0_off4_inb (grid0.coords t) h))).squeeze S_ squeezes_S1x1_S_ = cellA1 (Ring.sl 2 (t.val + 1)) :=
  congrArg (fun A : DmaSems sig S1x1 => A.squeeze S_ squeezes_S1x1_S_) (SemArray.slice_unit_congr _ (co1_4 t h) _ _)
set_option synthInstance.maxSize 4096 in
theorem co1_5 : ∀ t : Fin grid0.N, k0_cond2 (grid0.coords t) = 1#1 → k0_off5 (grid0.coords t) = ![(Ring.sl 2 (t.val + 1)).val, 0, 0] := by decide +kernel
@[sl_canon] theorem ca1_5 (t : Fin grid0.N) (h : k0_cond2 (grid0.coords t) = 1#1) :
    (scM0_4.slice (Rect.unit (s := S2x1536x256) (k0_off5 (grid0.coords t)) S1x1536x256.size (k0_off5_inb (grid0.coords t) h)) (fun _ => rfl)).squeeze S1536x256 squeezes_S1x1536x256_S1536x256 = rslot1 (Ring.sl 2 (t.val + 1)) :=
  congrArg (fun M : Memref sig .tc .vmem S1x1536x256 .bf16 => M.squeeze S1536x256 squeezes_S1x1536x256_S1536x256) (Memref.slice_unit_congr _ (co1_5 t h) _ _ (fun _ => rfl) (fun _ => rfl))
set_option synthInstance.maxSize 4096 in
theorem co1_6 : ∀ t : Fin grid0.N, k0_cond2 (grid0.coords t) = 1#1 → k0_off6 (grid0.coords t) = ![0, 256 * (Ring.bk 22 (t.val + 1)).val] := by decide +kernel
@[sl_canon] theorem ca1_6 (t : Fin grid0.N) (h : k0_cond2 (grid0.coords t) = 1#1) :
    hbM0_1.slice (Rect.unit (s := S1536x5760) (k0_off6 (grid0.coords t)) S1536x256.size (k0_off6_inb (grid0.coords t) h)) (fun _ => rfl) = srcB1 (Ring.bk 22 (t.val + 1)) :=
  Memref.slice_unit_congr _ (co1_6 t h) _ _ (fun _ => rfl) (fun _ => rfl)
set_option synthInstance.maxSize 4096 in
theorem co1_10 : ∀ t : Fin grid0.N, k0_cond3 (grid0.coords t) = 1#1 → k0_off10 (grid0.coords t) = ![1, (Ring.sl 2 (t.val + 1)).val] := by decide +kernel
@[sl_canon] theorem ca1_10 (t : Fin grid0.N) (h : k0_cond3 (grid0.coords t) = 1#1) :
    (cc0_scratch14.slice (Rect.unit (s := S2x2) (k0_off10 (grid0.coords t)) S1x1.size (k0_off10_inb (grid0.coords t) h))).squeeze S_ squeezes_S1x1_S_ = cellA1 (Ring.sl 2 (t.val + 1)) :=
  congrArg (fun A : DmaSems sig S1x1 => A.squeeze S_ squeezes_S1x1_S_) (SemArray.slice_unit_congr _ (co1_10 t h) _ _)
set_option synthInstance.maxSize 4096 in
theorem co1_11 : ∀ t : Fin grid0.N, k0_cond3 (grid0.coords t) = 1#1 → k0_off11 (grid0.coords t) = ![(Ring.sl 2 (t.val + 1)).val, 0, 0] := by decide +kernel
@[sl_canon] theorem ca1_11 (t : Fin grid0.N) (h : k0_cond3 (grid0.coords t) = 1#1) :
    (scM0_4.slice (Rect.unit (s := S2x1536x256) (k0_off11 (grid0.coords t)) S1x1536x128.size (k0_off11_inb (grid0.coords t) h)) (fun _ => rfl)).squeeze S1536x128 squeezes_S1x1536x128_S1536x128 = nslot1 (Ring.sl 2 (t.val + 1)) :=
  congrArg (fun M : Memref sig .tc .vmem S1x1536x128 .bf16 => M.squeeze S1536x128 squeezes_S1x1536x128_S1536x128) (Memref.slice_unit_congr _ (co1_11 t h) _ _ (fun _ => rfl) (fun _ => rfl))
set_option synthInstance.maxSize 4096 in
theorem co1_12 : ∀ t : Fin grid0.N, k0_cond3 (grid0.coords t) = 1#1 → k0_off12 (grid0.coords t) = ![0, 5632] := by decide +kernel
@[sl_canon] theorem ca1_12 (t : Fin grid0.N) (h : k0_cond3 (grid0.coords t) = 1#1) :
    hbM0_1.slice (Rect.unit (s := S1536x5760) (k0_off12 (grid0.coords t)) S1536x128.size (k0_off12_inb (grid0.coords t) h)) (fun _ => rfl) = srcT1 :=
  Memref.slice_unit_congr _ (co1_12 t h) _ _ (fun _ => rfl) (fun _ => rfl)
set_option synthInstance.maxSize 4096 in
theorem co1_16 : ∀ t : Fin grid0.N, k0_cond4 (grid0.coords t) = 1#1 → k0_off16 (grid0.coords t) = ![1, (Ring.sl 2 t.val).val] := by decide +kernel
@[sl_canon] theorem ca1_16 (t : Fin grid0.N) (h : k0_cond4 (grid0.coords t) = 1#1) :
    (cc0_scratch14.slice (Rect.unit (s := S2x2) (k0_off16 (grid0.coords t)) S1x1.size (k0_off16_inb (grid0.coords t) h))).squeeze S_ squeezes_S1x1_S_ = cellA1 (Ring.sl 2 t.val) :=
  congrArg (fun A : DmaSems sig S1x1 => A.squeeze S_ squeezes_S1x1_S_) (SemArray.slice_unit_congr _ (co1_16 t h) _ _)
set_option synthInstance.maxSize 4096 in
theorem co1_17 : ∀ t : Fin grid0.N, k0_cond4 (grid0.coords t) = 1#1 → k0_off17 (grid0.coords t) = ![(Ring.sl 2 t.val).val, 0, 0] := by decide +kernel
@[sl_canon] theorem ca1_17 (t : Fin grid0.N) (h : k0_cond4 (grid0.coords t) = 1#1) :
    (scM0_4.slice (Rect.unit (s := S2x1536x256) (k0_off17 (grid0.coords t)) S1x1536x256.size (k0_off17_inb (grid0.coords t) h)) (fun _ => rfl)).squeeze S1536x256 squeezes_S1x1536x256_S1536x256 = rslot1 (Ring.sl 2 t.val) :=
  congrArg (fun M : Memref sig .tc .vmem S1x1536x256 .bf16 => M.squeeze S1536x256 squeezes_S1x1536x256_S1536x256) (Memref.slice_unit_congr _ (co1_17 t h) _ _ (fun _ => rfl) (fun _ => rfl))
set_option synthInstance.maxSize 4096 in
theorem co1_18 : ∀ t : Fin grid0.N, k0_cond4 (grid0.coords t) = 1#1 → k0_off18 (grid0.coords t) = ![0, 256 * (Ring.bk 22 t.val).val] := by decide +kernel
@[sl_canon] theorem ca1_18 (t : Fin grid0.N) (h : k0_cond4 (grid0.coords t) = 1#1) :
    hbM0_1.slice (Rect.unit (s := S1536x5760) (k0_off18 (grid0.coords t)) S1536x256.size (k0_off18_inb (grid0.coords t) h)) (fun _ => rfl) = srcB1 (Ring.bk 22 t.val) :=
  Memref.slice_unit_congr _ (co1_18 t h) _ _ (fun _ => rfl) (fun _ => rfl)
set_option synthInstance.maxSize 4096 in
theorem co1_22 : ∀ t : Fin grid0.N, k0_cond5 (grid0.coords t) = 1#1 → k0_off22 (grid0.coords t) = ![1, (Ring.sl 2 t.val).val] := by decide +kernel
@[sl_canon] theorem ca1_22 (t : Fin grid0.N) (h : k0_cond5 (grid0.coords t) = 1#1) :
    (cc0_scratch14.slice (Rect.unit (s := S2x2) (k0_off22 (grid0.coords t)) S1x1.size (k0_off22_inb (grid0.coords t) h))).squeeze S_ squeezes_S1x1_S_ = cellA1 (Ring.sl 2 t.val) :=
  congrArg (fun A : DmaSems sig S1x1 => A.squeeze S_ squeezes_S1x1_S_) (SemArray.slice_unit_congr _ (co1_22 t h) _ _)
set_option synthInstance.maxSize 4096 in
theorem co1_23 : ∀ t : Fin grid0.N, k0_cond5 (grid0.coords t) = 1#1 → k0_off23 (grid0.coords t) = ![(Ring.sl 2 t.val).val, 0, 0] := by decide +kernel
@[sl_canon] theorem ca1_23 (t : Fin grid0.N) (h : k0_cond5 (grid0.coords t) = 1#1) :
    (scM0_4.slice (Rect.unit (s := S2x1536x256) (k0_off23 (grid0.coords t)) S1x1536x128.size (k0_off23_inb (grid0.coords t) h)) (fun _ => rfl)).squeeze S1536x128 squeezes_S1x1536x128_S1536x128 = nslot1 (Ring.sl 2 t.val) :=
  congrArg (fun M : Memref sig .tc .vmem S1x1536x128 .bf16 => M.squeeze S1536x128 squeezes_S1x1536x128_S1536x128) (Memref.slice_unit_congr _ (co1_23 t h) _ _ (fun _ => rfl) (fun _ => rfl))
set_option synthInstance.maxSize 4096 in
theorem co1_24 : ∀ t : Fin grid0.N, k0_cond5 (grid0.coords t) = 1#1 → k0_off24 (grid0.coords t) = ![0, 5632] := by decide +kernel
@[sl_canon] theorem ca1_24 (t : Fin grid0.N) (h : k0_cond5 (grid0.coords t) = 1#1) :
    hbM0_1.slice (Rect.unit (s := S1536x5760) (k0_off24 (grid0.coords t)) S1536x128.size (k0_off24_inb (grid0.coords t) h)) (fun _ => rfl) = srcT1 :=
  Memref.slice_unit_congr _ (co1_24 t h) _ _ (fun _ => rfl) (fun _ => rfl)
theorem lit1_s : ∀ t : Fin grid0.N, t.val = 0 → (![0, 0, 0] : Fin 3 → Nat) = ![(Ring.sl 2 t.val).val, 0, 0] := by decide +kernel
theorem lit1_b : ∀ t : Fin grid0.N, t.val = 0 → (![0, 0] : Fin 2 → Nat) = ![0, 256 * (Ring.bk 22 t.val).val] := by decide +kernel
theorem lit1_c : ∀ t : Fin grid0.N, t.val = 0 → (![1, 0] : Fin 2 → Nat) = ![1, (Ring.sl 2 t.val).val] := by decide +kernel
@[sl_canon] theorem cl1_s (t : Fin grid0.N) (h : k0_cond1 (grid0.coords t) = 1#1) :
    (scM0_4.slice (Rect.unit (s := S2x1536x256) ![0, 0, 0] S1x1536x256.size inb_S2x1536x256_S1x1536x256_0_0_0) (fun _ => rfl)).squeeze S1536x256 squeezes_S1x1536x256_S1536x256 = rslot1 (Ring.sl 2 t.val) :=
  congrArg (fun M : Memref sig .tc .vmem S1x1536x256 .bf16 => M.squeeze S1536x256 squeezes_S1x1536x256_S1536x256) (Memref.slice_unit_congr _ (lit1_s t ((hc1 t).mp h)) _ _ (fun _ => rfl) (fun _ => rfl))
@[sl_canon] theorem cl1_b (t : Fin grid0.N) (h : k0_cond1 (grid0.coords t) = 1#1) :
    hbM0_1.slice (Rect.unit (s := S1536x5760) ![0, 0] S1536x256.size inb_S1536x5760_S1536x256_0_0) (fun _ => rfl) = srcB1 (Ring.bk 22 t.val) :=
  Memref.slice_unit_congr _ (lit1_b t ((hc1 t).mp h)) _ _ (fun _ => rfl) (fun _ => rfl)
@[sl_canon] theorem cl1_c (t : Fin grid0.N) (h : k0_cond1 (grid0.coords t) = 1#1) :
    (cc0_scratch14.slice (Rect.unit (s := S2x2) ![1, 0] S1x1.size inb_S2x2_S1x1_1_0)).squeeze S_ squeezes_S1x1_S_ = cellA1 (Ring.sl 2 t.val) :=
  congrArg (fun A : DmaSems sig S1x1 => A.squeeze S_ squeezes_S1x1_S_) (SemArray.slice_unit_congr _ (lit1_c t ((hc1 t).mp h)) _ _)
set_option synthInstance.maxSize 4096 in
theorem co1_26 : ∀ t : Fin grid0.N, k0_off26 (grid0.coords t) = ![(Ring.sl 2 t.val).val, 0, 0] := by decide +kernel
@[sl_canon] theorem ca1_26 (t : Fin grid0.N) :
    (scM0_4.slice (Rect.unit (s := S2x1536x256) (k0_off26 (grid0.coords t)) S1x1536x256.size (k0_off26_inb (grid0.coords t))) (fun _ => rfl)).squeeze S1536x256 squeezes_S1x1536x256_S1536x256 = rslot1 (Ring.sl 2 t.val) :=
  congrArg (fun M : Memref sig .tc .vmem S1x1536x256 .bf16 => M.squeeze S1536x256 squeezes_S1x1536x256_S1536x256) (Memref.slice_unit_congr _ (co1_26 t) _ _ (fun _ => rfl) (fun _ => rfl))
instance (priority := high) closed1_26 (t : Fin grid0.N) : ClosedOff (k0_off26 (grid0.coords t)) := ⟨![(Ring.sl 2 t.val).val, 0, 0], co1_26 t⟩
set_option synthInstance.maxSize 4096 in
theorem co1_33 : ∀ t : Fin grid0.N, k0_off33 (grid0.coords t) = ![(Ring.sl 2 t.val).val, 0, 0] := by decide +kernel
@[sl_canon] theorem ca1_33 (t : Fin grid0.N) :
    (scM0_4.slice (Rect.unit (s := S2x1536x256) (k0_off33 (grid0.coords t)) S1x1536x256.size (k0_off33_inb (grid0.coords t))) (fun _ => rfl)).squeeze S1536x256 squeezes_S1x1536x256_S1536x256 = rslot1 (Ring.sl 2 t.val) :=
  congrArg (fun M : Memref sig .tc .vmem S1x1536x256 .bf16 => M.squeeze S1536x256 squeezes_S1x1536x256_S1536x256) (Memref.slice_unit_congr _ (co1_33 t) _ _ (fun _ => rfl) (fun _ => rfl))
instance (priority := high) closed1_33 (t : Fin grid0.N) : ClosedOff (k0_off33 (grid0.coords t)) := ⟨![(Ring.sl 2 t.val).val, 0, 0], co1_33 t⟩
set_option synthInstance.maxSize 4096 in
theorem co1_47 : ∀ t : Fin grid0.N, k0_off47 (grid0.coords t) = ![(Ring.sl 2 t.val).val, 0, 0] := by decide +kernel
@[sl_canon] theorem ca1_47 (t : Fin grid0.N) :
    (scM0_4.slice (Rect.unit (s := S2x1536x256) (k0_off47 (grid0.coords t)) S1x1536x256.size (k0_off47_inb (grid0.coords t))) (fun _ => rfl)).squeeze S1536x256 squeezes_S1x1536x256_S1536x256 = rslot1 (Ring.sl 2 t.val) :=
  congrArg (fun M : Memref sig .tc .vmem S1x1536x256 .bf16 => M.squeeze S1536x256 squeezes_S1x1536x256_S1536x256) (Memref.slice_unit_congr _ (co1_47 t) _ _ (fun _ => rfl) (fun _ => rfl))
instance (priority := high) closed1_47 (t : Fin grid0.N) : ClosedOff (k0_off47 (grid0.coords t)) := ⟨![(Ring.sl 2 t.val).val, 0, 0], co1_47 t⟩
set_option synthInstance.maxSize 4096 in
theorem co1_54 : ∀ t : Fin grid0.N, k0_off54 (grid0.coords t) = ![(Ring.sl 2 t.val).val, 0, 0] := by decide +kernel
@[sl_canon] theorem ca1_54 (t : Fin grid0.N) :
    (scM0_4.slice (Rect.unit (s := S2x1536x256) (k0_off54 (grid0.coords t)) S1x1536x256.size (k0_off54_inb (grid0.coords t))) (fun _ => rfl)).squeeze S1536x256 squeezes_S1x1536x256_S1536x256 = rslot1 (Ring.sl 2 t.val) :=
  congrArg (fun M : Memref sig .tc .vmem S1x1536x256 .bf16 => M.squeeze S1536x256 squeezes_S1x1536x256_S1536x256) (Memref.slice_unit_congr _ (co1_54 t) _ _ (fun _ => rfl) (fun _ => rfl))
instance (priority := high) closed1_54 (t : Fin grid0.N) : ClosedOff (k0_off54 (grid0.coords t)) := ⟨![(Ring.sl 2 t.val).val, 0, 0], co1_54 t⟩
end Canon1

/-! ## The copy of `y` out of its scratch -/

theorem inb_y (b : Fin 22) : ∀ a, (![0, 256 * b.val] : Fin 2 → Nat) a + S1536x256.size a ≤ S1536x5760.size a := by
  have := b.isLt; intro a; fin_cases a <;> simp <;> omega
/-- Tile `b` of the result `y`. -/
def ydst (b : Fin 22) : Memref sig .tc .hbm S1536x256 .bf16 :=
  hbM0_4.slice (Rect.unit (s := S1536x5760) ![0, 256 * b.val] S1536x256.size (inb_y b)) (fun _ => rfl)
section CanonY
omit [BitOps F]
theorem co_67 : ∀ t : Fin grid0.N, k0_cond8 (grid0.coords t) = 1#1 → k0_off67 (grid0.coords t) = ![0, 256 * (Ring.bk 22 t.val).val] := by decide +kernel
theorem co_25 : ∀ t : Fin grid0.N, k0_cond7 (grid0.coords t) = 1#1 → k0_off25 (grid0.coords t) = ![0, 256 * (Ring.bk 22 (t.val - 1)).val] := by decide +kernel
@[sl_canon] theorem ca_67 (t : Fin grid0.N) (h : k0_cond8 (grid0.coords t) = 1#1) :
    hbM0_4.slice (Rect.unit (s := S1536x5760) (k0_off67 (grid0.coords t)) S1536x256.size (k0_off67_inb (grid0.coords t) h)) (fun _ => rfl) = ydst (Ring.bk 22 t.val) :=
  Memref.slice_unit_congr _ (co_67 t h) _ _ (fun _ => rfl) (fun _ => rfl)
@[sl_canon] theorem ca_25 (t : Fin grid0.N) (h : k0_cond7 (grid0.coords t) = 1#1) :
    hbM0_4.slice (Rect.unit (s := S1536x5760) (k0_off25 (grid0.coords t)) S1536x256.size (k0_off25_inb (grid0.coords t) h)) (fun _ => rfl) = ydst (Ring.bk 22 (t.val - 1)) :=
  Memref.slice_unit_congr _ (co_25 t h) _ _ (fun _ => rfl) (fun _ => rfl)
end CanonY
section Y
variable (c : Dev nD)
def yrest (b : Fin 22) (g : HbBuf0 (F := F) c hbM0_4) : sProp 𝕄 := hbM0_4.view.loc (c : Thread nD τ) ↦[Finset.univ \ (ydst b).view.set]{fullShare} g
theorem y_split (b : Fin 22) (g : HbBuf0 (F := F) c hbM0_4) : (hbPt0 c hbM0_4 g : sProp 𝕄) ⊢ iprop(((ydst b).view.loc (c : Thread nD τ) ↦[(ydst b).view.set]{fullShare} g) ∗ yrest c b g) := by
  unfold yrest; exact (pointsTo_split_subset (Finset.subset_univ _)).1
/-- What the copy of a tile of `y` delivers: the result and the scratch, at something. -/
def ydlv : sProp 𝕄 := iprop((∃ g, hbPt0 (F := F) c hbM0_4 g) ∗ (∃ d, owns (c : Thread nD τ) scM0_9 fullShare d))
/-- The scratch `y` is copied from, as the copies name it. -/
abbrev ysrc : Memref sig .tc .vmem S1536x256 .bf16 := scM0_9.slice (Rect.unit (s := S1536x256) ![0, 0] S1536x256.size inb_S1536x256_S1536x256_0_0) (fun _ => rfl)
abbrev ylanded (b : Fin 22) (f : HbBuf0 (F := F) c scM0_9) (g : HbBuf0 (F := F) c (ydst b)) : HbBuf0 (F := F) c (ydst b) :=
  (ydst b).view.writes (Elt F) g [⟨Rect.whole S1536x256, ReadAs.same.apply ((scM0_9.slice (Rect.unit (s := S1536x256) ![0, 0] S1536x256.size inb_S1536x256_S1536x256_0_0) (fun _ => rfl)).view.read (Elt F) f)⟩]
abbrev ydstP (b : Fin 22) (g : HbBuf0 (F := F) c (ydst b)) : sProp 𝕄 := (ydst b).view.loc (c : Thread nD τ) ↦[(ydst b).view.set]{fullShare} g
abbrev ysrcP (f : HbBuf0 (F := F) c scM0_9) : sProp 𝕄 := scM0_9.view.loc (c : Thread nD τ) ↦[(scM0_9.slice (Rect.unit (s := S1536x256) ![0, 0] S1536x256.size inb_S1536x256_S1536x256_0_0) (fun _ => rfl)).view.set]{fullShare} f
abbrev ysrcR (f : HbBuf0 (F := F) c scM0_9) : sProp 𝕄 := scM0_9.view.loc (c : Thread nD τ) ↦[scM0_9.view.set \ (scM0_9.slice (Rect.unit (s := S1536x256) ![0, 0] S1536x256.size inb_S1536x256_S1536x256_0_0) (fun _ => rfl)).view.set]{fullShare} f
/-- Tile `b` of `y` on its way out, with what is left of the result and of the scratch meanwhile. -/
def yfly (b : Fin 22) : sProp 𝕄 := iprop(∃ f g, Transfers.Flight countersEmb (c : Thread nD τ) (SemLoc.dma 22) default ((ydst b).view.amount (SemLoc.dma 22))
    iprop(ydstP c b (ylanded c b f g) ∗ ysrcP c f) ∗ yrest c b g ∗ ysrcR c f)
theorem yrest_congr (b : Fin 22) (f : HbBuf0 (F := F) c scM0_9) (g : HbBuf0 (F := F) c (ydst b)) : yrest (F := F) c b g ⊢ yrest c b (ylanded c b f g) := by
  unfold yrest ylanded
  exact pt_writes_off c (ydst b).view g _ _ (fun i hi => (Finset.mem_sdiff.mp hi).2)
theorem ysrc_sub : ysrc.view.set ⊆ scM0_9.view.set := View.set_slice_subset _ _
/-- A tile of `y` landed. -/
theorem yland (b : Fin 22) (f : HbBuf0 (F := F) c scM0_9) (g : HbBuf0 (F := F) c (ydst b)) (f' : HbBuf0 (F := F) c scM0_9) :
    iprop(ydstP c b (ylanded c b f g) ∗ yrest c b g ∗ (scM0_9.view.loc (c : Thread nD τ) ↦[scM0_9.view.set]{fullShare} f')) ⊢ ydlv (F := F) c := by
  unfold ydlv
  iintro ⟨HD, HR, HQ⟩
  isplitl [HD HR]
  · iexists (ylanded c b f g)
    ihave HR' := (yrest_congr c b f g) $$ HR
    unfold yrest
    iapply (pointsTo_split_subset (Finset.subset_univ _)).2
    isplitl [HD]; · iexact HD
    iexact HR'
  · unfold owns
    iexists _, _; isplitr; swap; · iexact HQ
    ipureintro; rfl
def yfree : sProp 𝕄 := iprop(semVal ((c : Thread nD τ), SemLoc.dma 22) 0 ∗ ydlv (F := F) c)
/-- The copy of `y` before point `k`: that of tile `k - 1` in flight, or none. -/
def yAt (k : ℕ) : sProp 𝕄 := if k = 0 ∨ k = 23 then yfree (F := F) c else yfly (F := F) c (Ring.bk 22 (k - 1))
end Y

end Cert.Kernel.Hand

end
-- ==== Proof.Kernel.HeadA.lean ====
/-
The head of a step: the copies it starts and those it waits for. Point 0 starts its own tile, the next
one and the two `x` operands; the points up to 20 start the next tile; point 21 starts the narrow one;
point 22 only waits.
-/
module

public import proofs.«01_k».proof.Proof.Kernel.Base

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

set_option pp.maxSteps 3000
set_option maxHeartbeats 4000000 in
theorem headA (c : Dev nD) (t : Fin cfg0.N) (ht : t.val = 0) (arg7 : Memref sig .tc .vmem S2880x256 .f32) (harg7 : arg7.IsWhole) (arg8 : Memref sig .tc .vmem S2880x256 .fp8e4m3) (harg8 : arg8.IsWhole) (arg9 : Memref sig .tc .vmem S90x256 .i8) (harg9 : arg9.IsWhole) (arg10 : Memref sig .tc .vmem S2880x256 .fp8e4m3) (harg10 : arg10.IsWhole) (arg11 : Memref sig .tc .vmem S8x2880 .i8) (harg11 : arg11.IsWhole) (arg12 : Memref sig .tc .vmem S4x384x256 .fp8e4m3) (harg12 : arg12.IsWhole) (arg13 : Memref sig .tc .vmem S8x4x384 .i8) (harg13 : arg13.IsWhole) (arg14 : Memref sig .tc .vmem S4x384x256 .fp8e4m3) (harg14 : arg14.IsWhole) (arg15 : Memref sig .tc .vmem S12x4x256 .i8) (harg15 : arg15.IsWhole) (arg16 : Memref sig .tc .vmem S1536x2880 .bf16) (harg16 : arg16.IsWhole) (arg17 : Memref sig .tc .vmem S2880x1536 .bf16) (harg17 : arg17.IsWhole) (arg18 : Memref sig .tc .vmem S2880x1536 .f32) (harg18 : arg18.IsWhole) (arg21 : Memref sig .tc .vmem S2880x256 .bf16) (harg21 : arg21.IsWhole) (arg22 : Memref sig .tc .vmem S2880x256 .bf16) (harg22 : arg22.IsWhole) (arg23 : Memref sig .tc .vmem S1536x256 .bf16) (harg23 : arg23.IsWhole) (arg24 : Memref sig .tc .vmem S1536x256 .bf16) (harg24 : arg24.IsWhole) (arg26 : Memref sig .tc .vmem S90x256 .i32) (harg26 : arg26.IsWhole) (arg27 : Memref sig .tc .vmem S8x2880 .i32) (harg27 : arg27.IsWhole) (arg28 : Memref sig .tc .vmem S8x4x384 .i32) (harg28 : arg28.IsWhole) (arg29 : Memref sig .tc .vmem S12x4x256 .i32) (harg29 : arg29.IsWhole)
    (W0 : HbBuf0 (F := F) c hbM0_0) (W1 : HbBuf0 (F := F) c hbM0_1) (W2 : HbBuf0 (F := F) c hbM0_2) (W3 : HbBuf0 (F := F) c hbM0_3) :
    ∀ (W : Waits sig Unit) (K : _ → sProp 𝕄),
      iprop(free0 c W0 (Ring.sl 2 t.val) ∗ free0 c W0 (Ring.sl 2 (t.val + 1)) ∗ free1 c W1 (Ring.sl 2 t.val) ∗ free1 c W1 (Ring.sl 2 (t.val + 1)) ∗ (∃ d, owns (c : Thread nD τ) arg16 fullShare d) ∗ (∃ d, owns (c : Thread nD τ) arg17 fullShare d) ∗ (∃ d, owns (c : Thread nD τ) arg18 fullShare d) ∗ semVal ((c : Thread nD τ), SemLoc.dma 23) 0 ∗ semVal ((c : Thread nD τ), SemLoc.dma 24) 0 ∗ hbPt0 c hbM0_2 W2 ∗ hbPt0 c hbM0_3 W3 ∗ owes (c : Thread nD τ) 0 W
        ∗ (iprop(have0 c W0 t.val ∗ fly0 c W0 (Ring.sl 2 (t.val + 1)) (t.val + 1) ∗ have1 c W1 t.val ∗ fly1 c W1 (Ring.sl 2 (t.val + 1)) (t.val + 1) ∗ owns (c : Thread nD τ) arg16 fullShare (hbM0_2.view.read (Elt F) W2) ∗ owns (c : Thread nD τ) arg17 fullShare (hbM0_3.view.read (Elt F) W3) ∗ (∃ d, owns (c : Thread nD τ) arg18 fullShare d) ∗ semVal ((c : Thread nD τ), SemLoc.dma 23) 0 ∗ semVal ((c : Thread nD τ), SemLoc.dma 24) 0 ∗ hbPt0 c hbM0_2 W2 ∗ hbPt0 c hbM0_3 W3 ∗ (∃ W', owes (c : Thread nD τ) 0 W')) -∗ K ⟨BitVec.ofNat 32 ((grid0.coords t) 0).val, k0_pay514 (F := F) (grid0.coords t), 0#32⟩))
      ⊢ wp frame (wpE (defs₀ (F := F)) Variants.none c none) Set.univ (k0_part65 (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 arg16 harg16 arg17 harg17 arg18 harg18 scM0_3 (Memref.isWhole_whole _) scM0_4 (Memref.isWhole_whole _) arg21 harg21 arg22 harg22 arg23 harg23 arg24 harg24 scM0_9 (Memref.isWhole_whole _) arg26 harg26 arg27 harg27 arg28 harg28 arg29 harg29 cc0_scratch14 cc0_scratch15 cc0_scratch16) K := by
  intro W K
  have h1 : k0_cond1 (grid0.coords t) = 1#1 := by rw [hc1]; omega
  haveI : Fact (k0_cond1 (grid0.coords t) = 1#1) := ⟨h1⟩
  have h2 : k0_cond2 (grid0.coords t) = 1#1 := by rw [hc2]; omega
  haveI : Fact (k0_cond2 (grid0.coords t) = 1#1) := ⟨h2⟩
  have h3 : ¬ k0_cond3 (grid0.coords t) = 1#1 := by rw [hc3]; omega
  haveI : Fact (¬ k0_cond3 (grid0.coords t) = 1#1) := ⟨h3⟩
  have h4 : k0_cond4 (grid0.coords t) = 1#1 := by rw [hc4]; omega
  haveI : Fact (k0_cond4 (grid0.coords t) = 1#1) := ⟨h4⟩
  have h5 : ¬ k0_cond5 (grid0.coords t) = 1#1 := by rw [hc5]; omega
  haveI : Fact (¬ k0_cond5 (grid0.coords t) = 1#1) := ⟨h5⟩
  have h6 : cond6 (grid0.coords t) := by rw [hc6]; omega
  haveI : Fact (cond6 (grid0.coords t)) := ⟨h6⟩
  have h7 : ¬ k0_cond7 (grid0.coords t) = 1#1 := by rw [hc7]; omega
  haveI : Fact (¬ k0_cond7 (grid0.coords t) = 1#1) := ⟨h7⟩
  simp only [k0_part65_eq_skeleton]; unfold k0_part65_skel
  have hcn0 := cl0_s t h1
  have hcn1 := cl0_b t h1
  have hcn2 := cl0_c t h1
  have hcn3 := ca0_1 t h2
  have hcn4 := ca0_2 t h2
  have hcn5 := ca0_3 t h2
  have hcn6 := ca0_13 t h4
  have hcn7 := ca0_14 t h4
  have hcn8 := ca0_15 t h4
  have hcn9 := cl1_s t h1
  have hcn10 := cl1_b t h1
  have hcn11 := cl1_c t h1
  have hcn12 := ca1_4 t h2
  have hcn13 := ca1_5 t h2
  have hcn14 := ca1_6 t h2
  have hcn15 := ca1_16 t h4
  have hcn16 := ca1_17 t h4
  have hcn17 := ca1_18 t h4
  unfold owns
  unfold free0 free1
  iintro ⟨⟨Hca0, ⟨%fa0, Hsa0⟩, Hwa0⟩, ⟨Hcb0, ⟨%fb0, Hsb0⟩, Hwb0⟩, ⟨Hca1, ⟨%fa1, Hsa1⟩, Hwa1⟩, ⟨Hcb1, ⟨%fb1, Hsb1⟩, Hwb1⟩, ⟨%d16, %f16, -, H16⟩, ⟨%d17, %f17, -, H17⟩, ⟨%d18, %f18, -, H18⟩, Hq1, Hq2, Hh2, Hh3, HW, Hk⟩
  ihave Hx := (src0_split c W0 (Ring.sl 2 t.val) (Ring.bk 22 t.val)).1 $$ Hwa0
  icases Hx with ⟨Hha0, Hra0⟩
  ihave Hx := (src0_split c W0 (Ring.sl 2 (t.val + 1)) (Ring.bk 22 (t.val + 1))).1 $$ Hwb0
  icases Hx with ⟨Hhb0, Hrb0⟩
  ihave Hx := (src1_split c W1 (Ring.sl 2 t.val) (Ring.bk 22 t.val)).1 $$ Hwa1
  icases Hx with ⟨Hha1, Hra1⟩
  ihave Hx := (src1_split c W1 (Ring.sl 2 (t.val + 1)) (Ring.bk 22 (t.val + 1))).1 $$ Hwb1
  icases Hx with ⟨Hhb1, Hrb1⟩
  sl_exec (disch := first | sl_exact h1 | sl_exact h2 | sl_exact h3 | sl_exact h4 | sl_exact h5 | sl_exact h6 | sl_exact h7)
  sl_step
  iapply Hk
  isplitl [Hca0 Hsa0 Hha0 Hra0]
  · unfold have0
    isplitl [Hca0]; · iexact Hca0
    iapply (land0 c W0 (Ring.sl 2 t.val) t.val (by omega) fa0)
    isplitl [Hsa0]; · iexact Hsa0
    isplitl [Hha0]; · iexact Hha0
    iexact Hra0
  isplitl [Hcb0 Hrb0]
  · try unfold fly0
    iexists fb0
    isplitl [Hcb0]; · iexact Hcb0
    iexact Hrb0
  isplitl [Hca1 Hsa1 Hha1 Hra1]
  · unfold have1
    isplitl [Hca1]; · iexact Hca1
    iapply (land1 c W1 (Ring.sl 2 t.val) t.val (by omega) fa1)
    isplitl [Hsa1]; · iexact Hsa1
    isplitl [Hha1]; · iexact Hha1
    iexact Hra1
  isplitl [Hcb1 Hrb1]
  · try unfold fly1
    iexists fb1
    isplitl [Hcb1]; · iexact Hcb1
    iexact Hrb1
  isplitl [H16]
  · iexists _; isplitr; swap; · iexact H16
    ipureintro; exact View.read_writes_whole _ _ _
  isplitl [H17]
  · iexists _; isplitr; swap; · iexact H17
    ipureintro; exact View.read_writes_whole _ _ _
  isplitl [H18]
  · iexists _, _; isplitr; swap; · iexact H18
    ipureintro; rfl
  isplitl [Hq1]; · iexact Hq1
  isplitl [Hq2]; · iexact Hq2
  isplitl [Hh2]; · iexact Hh2
  isplitl [Hh3]; · iexact Hh3
  iexists _; iexact HW

end Cert.Kernel.Hand

end
-- ==== Proof.Kernel.HeadB.lean ====
/-
The head of a step: the copies it starts and those it waits for. Point 0 starts its own tile, the next
one and the two `x` operands; the points up to 20 start the next tile; point 21 starts the narrow one;
point 22 only waits.
-/
module

public import proofs.«01_k».proof.Proof.Kernel.Base

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

set_option pp.maxSteps 3000
set_option maxHeartbeats 4000000 in
theorem headB (c : Dev nD) (t : Fin cfg0.N) (ht : 0 < t.val ∧ t.val < 21) (arg7 : Memref sig .tc .vmem S2880x256 .f32) (harg7 : arg7.IsWhole) (arg8 : Memref sig .tc .vmem S2880x256 .fp8e4m3) (harg8 : arg8.IsWhole) (arg9 : Memref sig .tc .vmem S90x256 .i8) (harg9 : arg9.IsWhole) (arg10 : Memref sig .tc .vmem S2880x256 .fp8e4m3) (harg10 : arg10.IsWhole) (arg11 : Memref sig .tc .vmem S8x2880 .i8) (harg11 : arg11.IsWhole) (arg12 : Memref sig .tc .vmem S4x384x256 .fp8e4m3) (harg12 : arg12.IsWhole) (arg13 : Memref sig .tc .vmem S8x4x384 .i8) (harg13 : arg13.IsWhole) (arg14 : Memref sig .tc .vmem S4x384x256 .fp8e4m3) (harg14 : arg14.IsWhole) (arg15 : Memref sig .tc .vmem S12x4x256 .i8) (harg15 : arg15.IsWhole) (arg16 : Memref sig .tc .vmem S1536x2880 .bf16) (harg16 : arg16.IsWhole) (arg17 : Memref sig .tc .vmem S2880x1536 .bf16) (harg17 : arg17.IsWhole) (arg18 : Memref sig .tc .vmem S2880x1536 .f32) (harg18 : arg18.IsWhole) (arg21 : Memref sig .tc .vmem S2880x256 .bf16) (harg21 : arg21.IsWhole) (arg22 : Memref sig .tc .vmem S2880x256 .bf16) (harg22 : arg22.IsWhole) (arg23 : Memref sig .tc .vmem S1536x256 .bf16) (harg23 : arg23.IsWhole) (arg24 : Memref sig .tc .vmem S1536x256 .bf16) (harg24 : arg24.IsWhole) (arg26 : Memref sig .tc .vmem S90x256 .i32) (harg26 : arg26.IsWhole) (arg27 : Memref sig .tc .vmem S8x2880 .i32) (harg27 : arg27.IsWhole) (arg28 : Memref sig .tc .vmem S8x4x384 .i32) (harg28 : arg28.IsWhole) (arg29 : Memref sig .tc .vmem S12x4x256 .i32) (harg29 : arg29.IsWhole)
    (W0 : HbBuf0 (F := F) c hbM0_0) (W1 : HbBuf0 (F := F) c hbM0_1) :
    ∀ (W : Waits sig Unit) (K : _ → sProp 𝕄),
      iprop(fly0 c W0 (Ring.sl 2 t.val) t.val ∗ free0 c W0 (Ring.sl 2 (t.val + 1)) ∗ fly1 c W1 (Ring.sl 2 t.val) t.val ∗ free1 c W1 (Ring.sl 2 (t.val + 1)) ∗ yfly (F := F) c (Ring.bk 22 (t.val - 1)) ∗ owes (c : Thread nD τ) 0 W
        ∗ (iprop(have0 c W0 t.val ∗ fly0 c W0 (Ring.sl 2 (t.val + 1)) (t.val + 1) ∗ have1 c W1 t.val ∗ fly1 c W1 (Ring.sl 2 (t.val + 1)) (t.val + 1) ∗ yfree (F := F) c ∗ (∃ W', owes (c : Thread nD τ) 0 W')) -∗ K ⟨BitVec.ofNat 32 ((grid0.coords t) 0).val, k0_pay514 (F := F) (grid0.coords t), 0#32⟩))
      ⊢ wp frame (wpE (defs₀ (F := F)) Variants.none c none) Set.univ (k0_part65 (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 arg16 harg16 arg17 harg17 arg18 harg18 scM0_3 (Memref.isWhole_whole _) scM0_4 (Memref.isWhole_whole _) arg21 harg21 arg22 harg22 arg23 harg23 arg24 harg24 scM0_9 (Memref.isWhole_whole _) arg26 harg26 arg27 harg27 arg28 harg28 arg29 harg29 cc0_scratch14 cc0_scratch15 cc0_scratch16) K := by
  intro W K
  have h1 : ¬ k0_cond1 (grid0.coords t) = 1#1 := by rw [hc1]; omega
  haveI : Fact (¬ k0_cond1 (grid0.coords t) = 1#1) := ⟨h1⟩
  have h2 : k0_cond2 (grid0.coords t) = 1#1 := by rw [hc2]; omega
  haveI : Fact (k0_cond2 (grid0.coords t) = 1#1) := ⟨h2⟩
  have h3 : ¬ k0_cond3 (grid0.coords t) = 1#1 := by rw [hc3]; omega
  haveI : Fact (¬ k0_cond3 (grid0.coords t) = 1#1) := ⟨h3⟩
  have h4 : k0_cond4 (grid0.coords t) = 1#1 := by rw [hc4]; omega
  haveI : Fact (k0_cond4 (grid0.coords t) = 1#1) := ⟨h4⟩
  have h5 : ¬ k0_cond5 (grid0.coords t) = 1#1 := by rw [hc5]; omega
  haveI : Fact (¬ k0_cond5 (grid0.coords t) = 1#1) := ⟨h5⟩
  have h6 : ¬ cond6 (grid0.coords t) := by rw [hc6]; omega
  haveI : Fact (¬ cond6 (grid0.coords t)) := ⟨h6⟩
  have h7 : k0_cond7 (grid0.coords t) = 1#1 := by rw [hc7]; omega
  haveI : Fact (k0_cond7 (grid0.coords t) = 1#1) := ⟨h7⟩
  simp only [k0_part65_eq_skeleton]; unfold k0_part65_skel
  have hcn0 := ca0_1 t h2
  have hcn1 := ca0_2 t h2
  have hcn2 := ca0_3 t h2
  have hcn3 := ca0_13 t h4
  have hcn4 := ca0_14 t h4
  have hcn5 := ca0_15 t h4
  have hcn6 := ca1_4 t h2
  have hcn7 := ca1_5 t h2
  have hcn8 := ca1_6 t h2
  have hcn9 := ca1_16 t h4
  have hcn10 := ca1_17 t h4
  have hcn11 := ca1_18 t h4
  have hcn12 := ca_25 t h7
  unfold yfly fly0 fly1 free0 free1
  iintro ⟨⟨%fa0, Hfa0, Hra0⟩, ⟨Hcb0, ⟨%fb0, Hsb0⟩, Hwb0⟩, ⟨%fa1, Hfa1, Hra1⟩, ⟨Hcb1, ⟨%fb1, Hsb1⟩, Hwb1⟩, ⟨%fy, %gy, Hy, Hyr, Hyq⟩, HW, Hk⟩
  ihave Hx := (src0_split c W0 (Ring.sl 2 (t.val + 1)) (Ring.bk 22 (t.val + 1))).1 $$ Hwb0
  icases Hx with ⟨Hhb0, Hrb0⟩
  ihave Hx := (src1_split c W1 (Ring.sl 2 (t.val + 1)) (Ring.bk 22 (t.val + 1))).1 $$ Hwb1
  icases Hx with ⟨Hhb1, Hrb1⟩
  sl_exec (disch := first | sl_exact h1 | sl_exact h2 | sl_exact h3 | sl_exact h4 | sl_exact h5 | sl_exact h6 | sl_exact h7)
  sl_step
  iapply Hk
  isplitl [Hfa0 Hfa0_dst Hfa0_src Hra0]
  · unfold have0
    isplitl [Hfa0]; · iexact Hfa0
    iapply (land0 c W0 (Ring.sl 2 t.val) t.val (by omega) fa0)
    isplitl [Hfa0_dst]; · iexact Hfa0_dst
    isplitl [Hfa0_src]; · iexact Hfa0_src
    iexact Hra0
  isplitl [Hcb0 Hrb0]
  · try unfold fly0
    iexists fb0
    isplitl [Hcb0]; · iexact Hcb0
    iexact Hrb0
  isplitl [Hfa1 Hfa1_dst Hfa1_src Hra1]
  · unfold have1
    isplitl [Hfa1]; · iexact Hfa1
    iapply (land1 c W1 (Ring.sl 2 t.val) t.val (by omega) fa1)
    isplitl [Hfa1_dst]; · iexact Hfa1_dst
    isplitl [Hfa1_src]; · iexact Hfa1_src
    iexact Hra1
  isplitl [Hcb1 Hrb1]
  · try unfold fly1
    iexists fb1
    isplitl [Hcb1]; · iexact Hcb1
    iexact Hrb1
  isplitl [Hy Hy_dst Hyr Hyq]
  · unfold yfree
    isplitl [Hy]; · iexact Hy
    iapply (yland c (Ring.bk 22 (t.val - 1)) fy gy _)
    isplitl [Hy_dst]; · iexact Hy_dst
    isplitl [Hyr]; · iexact Hyr
    iexact Hyq
  iexists _; iexact HW

end Cert.Kernel.Hand

end
-- ==== Proof.Kernel.HeadC.lean ====
/-
The head of a step: the copies it starts and those it waits for. Point 0 starts its own tile, the next
one and the two `x` operands; the points up to 20 start the next tile; point 21 starts the narrow one;
point 22 only waits.
-/
module

public import proofs.«01_k».proof.Proof.Kernel.Base

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

set_option pp.maxSteps 3000
set_option maxHeartbeats 4000000 in
theorem headC (c : Dev nD) (t : Fin cfg0.N) (ht : t.val = 21) (arg7 : Memref sig .tc .vmem S2880x256 .f32) (harg7 : arg7.IsWhole) (arg8 : Memref sig .tc .vmem S2880x256 .fp8e4m3) (harg8 : arg8.IsWhole) (arg9 : Memref sig .tc .vmem S90x256 .i8) (harg9 : arg9.IsWhole) (arg10 : Memref sig .tc .vmem S2880x256 .fp8e4m3) (harg10 : arg10.IsWhole) (arg11 : Memref sig .tc .vmem S8x2880 .i8) (harg11 : arg11.IsWhole) (arg12 : Memref sig .tc .vmem S4x384x256 .fp8e4m3) (harg12 : arg12.IsWhole) (arg13 : Memref sig .tc .vmem S8x4x384 .i8) (harg13 : arg13.IsWhole) (arg14 : Memref sig .tc .vmem S4x384x256 .fp8e4m3) (harg14 : arg14.IsWhole) (arg15 : Memref sig .tc .vmem S12x4x256 .i8) (harg15 : arg15.IsWhole) (arg16 : Memref sig .tc .vmem S1536x2880 .bf16) (harg16 : arg16.IsWhole) (arg17 : Memref sig .tc .vmem S2880x1536 .bf16) (harg17 : arg17.IsWhole) (arg18 : Memref sig .tc .vmem S2880x1536 .f32) (harg18 : arg18.IsWhole) (arg21 : Memref sig .tc .vmem S2880x256 .bf16) (harg21 : arg21.IsWhole) (arg22 : Memref sig .tc .vmem S2880x256 .bf16) (harg22 : arg22.IsWhole) (arg23 : Memref sig .tc .vmem S1536x256 .bf16) (harg23 : arg23.IsWhole) (arg24 : Memref sig .tc .vmem S1536x256 .bf16) (harg24 : arg24.IsWhole) (arg26 : Memref sig .tc .vmem S90x256 .i32) (harg26 : arg26.IsWhole) (arg27 : Memref sig .tc .vmem S8x2880 .i32) (harg27 : arg27.IsWhole) (arg28 : Memref sig .tc .vmem S8x4x384 .i32) (harg28 : arg28.IsWhole) (arg29 : Memref sig .tc .vmem S12x4x256 .i32) (harg29 : arg29.IsWhole)
    (W0 : HbBuf0 (F := F) c hbM0_0) (W1 : HbBuf0 (F := F) c hbM0_1) :
    ∀ (W : Waits sig Unit) (K : _ → sProp 𝕄),
      iprop(fly0 c W0 (Ring.sl 2 t.val) t.val ∗ free0 c W0 (Ring.sl 2 (t.val + 1)) ∗ fly1 c W1 (Ring.sl 2 t.val) t.val ∗ free1 c W1 (Ring.sl 2 (t.val + 1)) ∗ yfly (F := F) c (Ring.bk 22 (t.val - 1)) ∗ owes (c : Thread nD τ) 0 W
        ∗ (iprop(have0 c W0 t.val ∗ flyT0 c W0 (Ring.sl 2 (t.val + 1)) ∗ have1 c W1 t.val ∗ flyT1 c W1 (Ring.sl 2 (t.val + 1)) ∗ yfree (F := F) c ∗ (∃ W', owes (c : Thread nD τ) 0 W')) -∗ K ⟨BitVec.ofNat 32 ((grid0.coords t) 0).val, k0_pay514 (F := F) (grid0.coords t), 0#32⟩))
      ⊢ wp frame (wpE (defs₀ (F := F)) Variants.none c none) Set.univ (k0_part65 (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 arg16 harg16 arg17 harg17 arg18 harg18 scM0_3 (Memref.isWhole_whole _) scM0_4 (Memref.isWhole_whole _) arg21 harg21 arg22 harg22 arg23 harg23 arg24 harg24 scM0_9 (Memref.isWhole_whole _) arg26 harg26 arg27 harg27 arg28 harg28 arg29 harg29 cc0_scratch14 cc0_scratch15 cc0_scratch16) K := by
  intro W K
  have h1 : ¬ k0_cond1 (grid0.coords t) = 1#1 := by rw [hc1]; omega
  haveI : Fact (¬ k0_cond1 (grid0.coords t) = 1#1) := ⟨h1⟩
  have h2 : ¬ k0_cond2 (grid0.coords t) = 1#1 := by rw [hc2]; omega
  haveI : Fact (¬ k0_cond2 (grid0.coords t) = 1#1) := ⟨h2⟩
  have h3 : k0_cond3 (grid0.coords t) = 1#1 := by rw [hc3]; omega
  haveI : Fact (k0_cond3 (grid0.coords t) = 1#1) := ⟨h3⟩
  have h4 : k0_cond4 (grid0.coords t) = 1#1 := by rw [hc4]; omega
  haveI : Fact (k0_cond4 (grid0.coords t) = 1#1) := ⟨h4⟩
  have h5 : ¬ k0_cond5 (grid0.coords t) = 1#1 := by rw [hc5]; omega
  haveI : Fact (¬ k0_cond5 (grid0.coords t) = 1#1) := ⟨h5⟩
  have h6 : ¬ cond6 (grid0.coords t) := by rw [hc6]; omega
  haveI : Fact (¬ cond6 (grid0.coords t)) := ⟨h6⟩
  have h7 : k0_cond7 (grid0.coords t) = 1#1 := by rw [hc7]; omega
  haveI : Fact (k0_cond7 (grid0.coords t) = 1#1) := ⟨h7⟩
  simp only [k0_part65_eq_skeleton]; unfold k0_part65_skel
  have hcn0 := ca0_7 t h3
  have hcn1 := ca0_8 t h3
  have hcn2 := ca0_9 t h3
  have hcn3 := ca0_13 t h4
  have hcn4 := ca0_14 t h4
  have hcn5 := ca0_15 t h4
  have hcn6 := ca1_10 t h3
  have hcn7 := ca1_11 t h3
  have hcn8 := ca1_12 t h3
  have hcn9 := ca1_16 t h4
  have hcn10 := ca1_17 t h4
  have hcn11 := ca1_18 t h4
  have hcn12 := ca_25 t h7
  unfold yfly fly0 fly1 free0 free1
  iintro ⟨⟨%fa0, Hfa0, Hra0⟩, ⟨Hcb0, ⟨%fb0, Hsb0⟩, Hwb0⟩, ⟨%fa1, Hfa1, Hra1⟩, ⟨Hcb1, ⟨%fb1, Hsb1⟩, Hwb1⟩, ⟨%fy, %gy, Hy, Hyr, Hyq⟩, HW, Hk⟩
  ihave Hx := (srcT0_split c W0 (Ring.sl 2 (t.val + 1))).1 $$ Hwb0
  icases Hx with ⟨Hhb0, Hrb0⟩
  ihave Hx := (nslot0_split c (Ring.sl 2 (t.val + 1)) fb0) $$ Hsb0
  icases Hx with ⟨Hsb0, Hnb0⟩
  ihave Hx := (srcT1_split c W1 (Ring.sl 2 (t.val + 1))).1 $$ Hwb1
  icases Hx with ⟨Hhb1, Hrb1⟩
  ihave Hx := (nslot1_split c (Ring.sl 2 (t.val + 1)) fb1) $$ Hsb1
  icases Hx with ⟨Hsb1, Hnb1⟩
  sl_exec (disch := first | sl_exact h1 | sl_exact h2 | sl_exact h3 | sl_exact h4 | sl_exact h5 | sl_exact h6 | sl_exact h7)
  sl_step
  iapply Hk
  isplitl [Hfa0 Hfa0_dst Hfa0_src Hra0]
  · unfold have0
    isplitl [Hfa0]; · iexact Hfa0
    iapply (land0 c W0 (Ring.sl 2 t.val) t.val (by omega) fa0)
    isplitl [Hfa0_dst]; · iexact Hfa0_dst
    isplitl [Hfa0_src]; · iexact Hfa0_src
    iexact Hra0
  isplitl [Hcb0 Hrb0 Hnb0]
  · try unfold flyT0
    iexists fb0
    isplitl [Hcb0]; · iexact Hcb0
    isplitl [Hrb0]; · iexact Hrb0
    iexact Hnb0
  isplitl [Hfa1 Hfa1_dst Hfa1_src Hra1]
  · unfold have1
    isplitl [Hfa1]; · iexact Hfa1
    iapply (land1 c W1 (Ring.sl 2 t.val) t.val (by omega) fa1)
    isplitl [Hfa1_dst]; · iexact Hfa1_dst
    isplitl [Hfa1_src]; · iexact Hfa1_src
    iexact Hra1
  isplitl [Hcb1 Hrb1 Hnb1]
  · try unfold flyT1
    iexists fb1
    isplitl [Hcb1]; · iexact Hcb1
    isplitl [Hrb1]; · iexact Hrb1
    iexact Hnb1
  isplitl [Hy Hy_dst Hyr Hyq]
  · unfold yfree
    isplitl [Hy]; · iexact Hy
    iapply (yland c (Ring.bk 22 (t.val - 1)) fy gy _)
    isplitl [Hy_dst]; · iexact Hy_dst
    isplitl [Hyr]; · iexact Hyr
    iexact Hyq
  iexists _; iexact HW

end Cert.Kernel.Hand

end
-- ==== Proof.Kernel.HeadD.lean ====
/-
The head of a step: the copies it starts and those it waits for. Point 0 starts its own tile, the next
one and the two `x` operands; the points up to 20 start the next tile; point 21 starts the narrow one;
point 22 only waits.
-/
module

public import proofs.«01_k».proof.Proof.Kernel.Base

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

set_option pp.maxSteps 3000
set_option maxHeartbeats 4000000 in
theorem headD (c : Dev nD) (t : Fin cfg0.N) (ht : t.val = 22) (arg7 : Memref sig .tc .vmem S2880x256 .f32) (harg7 : arg7.IsWhole) (arg8 : Memref sig .tc .vmem S2880x256 .fp8e4m3) (harg8 : arg8.IsWhole) (arg9 : Memref sig .tc .vmem S90x256 .i8) (harg9 : arg9.IsWhole) (arg10 : Memref sig .tc .vmem S2880x256 .fp8e4m3) (harg10 : arg10.IsWhole) (arg11 : Memref sig .tc .vmem S8x2880 .i8) (harg11 : arg11.IsWhole) (arg12 : Memref sig .tc .vmem S4x384x256 .fp8e4m3) (harg12 : arg12.IsWhole) (arg13 : Memref sig .tc .vmem S8x4x384 .i8) (harg13 : arg13.IsWhole) (arg14 : Memref sig .tc .vmem S4x384x256 .fp8e4m3) (harg14 : arg14.IsWhole) (arg15 : Memref sig .tc .vmem S12x4x256 .i8) (harg15 : arg15.IsWhole) (arg16 : Memref sig .tc .vmem S1536x2880 .bf16) (harg16 : arg16.IsWhole) (arg17 : Memref sig .tc .vmem S2880x1536 .bf16) (harg17 : arg17.IsWhole) (arg18 : Memref sig .tc .vmem S2880x1536 .f32) (harg18 : arg18.IsWhole) (arg21 : Memref sig .tc .vmem S2880x256 .bf16) (harg21 : arg21.IsWhole) (arg22 : Memref sig .tc .vmem S2880x256 .bf16) (harg22 : arg22.IsWhole) (arg23 : Memref sig .tc .vmem S1536x256 .bf16) (harg23 : arg23.IsWhole) (arg24 : Memref sig .tc .vmem S1536x256 .bf16) (harg24 : arg24.IsWhole) (arg26 : Memref sig .tc .vmem S90x256 .i32) (harg26 : arg26.IsWhole) (arg27 : Memref sig .tc .vmem S8x2880 .i32) (harg27 : arg27.IsWhole) (arg28 : Memref sig .tc .vmem S8x4x384 .i32) (harg28 : arg28.IsWhole) (arg29 : Memref sig .tc .vmem S12x4x256 .i32) (harg29 : arg29.IsWhole)
    (W0 : HbBuf0 (F := F) c hbM0_0) (W1 : HbBuf0 (F := F) c hbM0_1) :
    ∀ (W : Waits sig Unit) (K : _ → sProp 𝕄),
      iprop(flyT0 c W0 (Ring.sl 2 t.val) ∗ flyT1 c W1 (Ring.sl 2 t.val) ∗ yfly (F := F) c (Ring.bk 22 (t.val - 1)) ∗ owes (c : Thread nD τ) 0 W
        ∗ (iprop(have0 c W0 t.val ∗ have1 c W1 t.val ∗ yfree (F := F) c ∗ (∃ W', owes (c : Thread nD τ) 0 W')) -∗ K ⟨BitVec.ofNat 32 ((grid0.coords t) 0).val, k0_pay514 (F := F) (grid0.coords t), 0#32⟩))
      ⊢ wp frame (wpE (defs₀ (F := F)) Variants.none c none) Set.univ (k0_part65 (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 arg16 harg16 arg17 harg17 arg18 harg18 scM0_3 (Memref.isWhole_whole _) scM0_4 (Memref.isWhole_whole _) arg21 harg21 arg22 harg22 arg23 harg23 arg24 harg24 scM0_9 (Memref.isWhole_whole _) arg26 harg26 arg27 harg27 arg28 harg28 arg29 harg29 cc0_scratch14 cc0_scratch15 cc0_scratch16) K := by
  intro W K
  have h1 : ¬ k0_cond1 (grid0.coords t) = 1#1 := by rw [hc1]; omega
  haveI : Fact (¬ k0_cond1 (grid0.coords t) = 1#1) := ⟨h1⟩
  have h2 : ¬ k0_cond2 (grid0.coords t) = 1#1 := by rw [hc2]; omega
  haveI : Fact (¬ k0_cond2 (grid0.coords t) = 1#1) := ⟨h2⟩
  have h3 : ¬ k0_cond3 (grid0.coords t) = 1#1 := by rw [hc3]; omega
  haveI : Fact (¬ k0_cond3 (grid0.coords t) = 1#1) := ⟨h3⟩
  have h4 : ¬ k0_cond4 (grid0.coords t) = 1#1 := by rw [hc4]; omega
  haveI : Fact (¬ k0_cond4 (grid0.coords t) = 1#1) := ⟨h4⟩
  have h5 : k0_cond5 (grid0.coords t) = 1#1 := by rw [hc5]; omega
  haveI : Fact (k0_cond5 (grid0.coords t) = 1#1) := ⟨h5⟩
  have h6 : ¬ cond6 (grid0.coords t) := by rw [hc6]; omega
  haveI : Fact (¬ cond6 (grid0.coords t)) := ⟨h6⟩
  have h7 : k0_cond7 (grid0.coords t) = 1#1 := by rw [hc7]; omega
  haveI : Fact (k0_cond7 (grid0.coords t) = 1#1) := ⟨h7⟩
  simp only [k0_part65_eq_skeleton]; unfold k0_part65_skel
  have hcn0 := ca0_19 t h5
  have hcn1 := ca0_20 t h5
  have hcn2 := ca0_21 t h5
  have hcn3 := ca1_22 t h5
  have hcn4 := ca1_23 t h5
  have hcn5 := ca1_24 t h5
  have hcn6 := ca_25 t h7
  unfold yfly flyT0 flyT1
  iintro ⟨⟨%fa0, Hfa0, Hra0, Hna0⟩, ⟨%fa1, Hfa1, Hra1, Hna1⟩, ⟨%fy, %gy, Hy, Hyr, Hyq⟩, HW, Hk⟩
  sl_exec (disch := first | sl_exact h1 | sl_exact h2 | sl_exact h3 | sl_exact h4 | sl_exact h5 | sl_exact h6 | sl_exact h7)
  sl_step
  iapply Hk
  isplitl [Hfa0 Hfa0_dst Hfa0_src Hra0 Hna0]
  · unfold have0
    isplitl [Hfa0]; · iexact Hfa0
    have h := flyT0_of c W0 (Ring.sl 2 t.val) fa0
    rw [show (22 : ℕ) = t.val from ht.symm] at h
    iapply h
    isplitl [Hfa0_dst]; · iexact Hfa0_dst
    isplitl [Hfa0_src]; · iexact Hfa0_src
    isplitl [Hra0]; · iexact Hra0
    iexact Hna0
  isplitl [Hfa1 Hfa1_dst Hfa1_src Hra1 Hna1]
  · unfold have1
    isplitl [Hfa1]; · iexact Hfa1
    have h := flyT1_of c W1 (Ring.sl 2 t.val) fa1
    rw [show (22 : ℕ) = t.val from ht.symm] at h
    iapply h
    isplitl [Hfa1_dst]; · iexact Hfa1_dst
    isplitl [Hfa1_src]; · iexact Hfa1_src
    isplitl [Hra1]; · iexact Hra1
    iexact Hna1
  isplitl [Hy Hy_dst Hyr Hyq]
  · unfold yfree
    isplitl [Hy]; · iexact Hy
    iapply (yland c (Ring.bk 22 (t.val - 1)) fy gy _)
    isplitl [Hy_dst]; · iexact Hy_dst
    isplitl [Hyr]; · iexact Hyr
    iexact Hyq
  iexists _; iexact HW

end Cert.Kernel.Hand

end
-- ==== Proof.Kernel.Loops.lean ====
/-
The counted loops of the body, each gone through by what it keeps: the slot it reads stays as it is, and
each buffer it writes stays held, at some contents.
-/
module

public import proofs.«01_k».proof.Proof.Kernel.Base

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

set_option warn.classDefReducibility false in
@[sl_loop] def loop_t1 (𝒱 : Variants) (c : Dev nD) (bd : Option 𝒱.V) (E : Set ℕ) (t : Fin grid0.N) (arg7 : Memref sig .tc .vmem S2880x256 .f32) (harg7 : arg7.IsWhole) (arg8 : Memref sig .tc .vmem S2880x256 .fp8e4m3) (harg8 : arg8.IsWhole) (arg9 : Memref sig .tc .vmem S90x256 .i8) (harg9 : arg9.IsWhole) (arg10 : Memref sig .tc .vmem S2880x256 .fp8e4m3) (harg10 : arg10.IsWhole) (arg11 : Memref sig .tc .vmem S8x2880 .i8) (harg11 : arg11.IsWhole) (arg12 : Memref sig .tc .vmem S4x384x256 .fp8e4m3) (harg12 : arg12.IsWhole) (arg13 : Memref sig .tc .vmem S8x4x384 .i8) (harg13 : arg13.IsWhole) (arg14 : Memref sig .tc .vmem S4x384x256 .fp8e4m3) (harg14 : arg14.IsWhole) (arg15 : Memref sig .tc .vmem S12x4x256 .i8) (harg15 : arg15.IsWhole) (arg16 : Memref sig .tc .vmem S1536x2880 .bf16) (harg16 : arg16.IsWhole) (arg17 : Memref sig .tc .vmem S2880x1536 .bf16) (harg17 : arg17.IsWhole) (arg18 : Memref sig .tc .vmem S2880x1536 .f32) (harg18 : arg18.IsWhole) (arg21 : Memref sig .tc .vmem S2880x256 .bf16) (harg21 : arg21.IsWhole) (arg22 : Memref sig .tc .vmem S2880x256 .bf16) (harg22 : arg22.IsWhole) (arg23 : Memref sig .tc .vmem S1536x256 .bf16) (harg23 : arg23.IsWhole) (arg24 : Memref sig .tc .vmem S1536x256 .bf16) (harg24 : arg24.IsWhole) (arg25 : Memref sig .tc .vmem S1536x256 .bf16) (harg25 : arg25.IsWhole) (arg26 : Memref sig .tc .vmem S90x256 .i32) (harg26 : arg26.IsWhole) (arg27 : Memref sig .tc .vmem S8x2880 .i32) (harg27 : arg27.IsWhole) (arg28 : Memref sig .tc .vmem S8x4x384 .i32) (harg28 : arg28.IsWhole) (arg29 : Memref sig .tc .vmem S12x4x256 .i32) (harg29 : arg29.IsWhole) (c0_i32_19 : BitVec 32) (X_v1157 : HbBuf0 (F := F) c (rslot1 (Ring.sl 2 t.val))) :
    LoopInvTy_k0_t1 (F := F) Unit ℕ (Pipeline.UD sig nD τ) ℕ 𝒱 c bd E (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 arg16 harg16 arg17 harg17 arg18 harg18 scM0_3 (Memref.isWhole_whole _) scM0_4 (Memref.isWhole_whole _) arg21 harg21 arg22 harg22 arg23 harg23 arg24 harg24 arg25 harg25 arg26 harg26 arg27 harg27 arg28 harg28 arg29 harg29 cc0_scratch14 cc0_scratch15 cc0_scratch16 c0_i32_19 where
  inv k _ := iprop(((rslot1 (Ring.sl 2 t.val)).view.loc (c : Thread nD τ) ↦[(rslot1 (Ring.sl 2 t.val)).view.set]{fullShare} X_v1157) ∗ (∃ f, (arg14.view.loc (c : Thread nD τ) ↦[arg14.view.set]{fullShare} f)) ∗ (∃ f, (arg24.view.loc (c : Thread nD τ) ↦[arg24.view.set]{fullShare} f)) ∗ (∃ f, (arg29.view.loc (c : Thread nD τ) ↦[arg29.view.set]{fullShare} f)))
  step k acc := by
    unfold k0_t1_body
    have hk : k.val < 48 := Nat.lt_of_lt_of_le k.isLt k0_t1_abs.2.1
    have hca1_26 := ca1_26 t
    iintro ⟨HR_v1157, ⟨%f_arg14, HW_arg14⟩, ⟨%f_arg24, HW_arg24⟩, ⟨%f_arg29, HW_arg29⟩⟩
    sl_exec
    sl_step
    isplitl [HR_v1157]; · iexact HR_v1157
    isplitl [HW_arg14]; · iexists _; iexact HW_arg14
    isplitl [HW_arg24]; · iexists _; iexact HW_arg24
    iexists _; iexact HW_arg29

set_option warn.classDefReducibility false in
@[sl_loop] def loop_t2 (𝒱 : Variants) (c : Dev nD) (bd : Option 𝒱.V) (E : Set ℕ) (t : Fin grid0.N) (arg7 : Memref sig .tc .vmem S2880x256 .f32) (harg7 : arg7.IsWhole) (arg8 : Memref sig .tc .vmem S2880x256 .fp8e4m3) (harg8 : arg8.IsWhole) (arg9 : Memref sig .tc .vmem S90x256 .i8) (harg9 : arg9.IsWhole) (arg10 : Memref sig .tc .vmem S2880x256 .fp8e4m3) (harg10 : arg10.IsWhole) (arg11 : Memref sig .tc .vmem S8x2880 .i8) (harg11 : arg11.IsWhole) (arg12 : Memref sig .tc .vmem S4x384x256 .fp8e4m3) (harg12 : arg12.IsWhole) (arg13 : Memref sig .tc .vmem S8x4x384 .i8) (harg13 : arg13.IsWhole) (arg14 : Memref sig .tc .vmem S4x384x256 .fp8e4m3) (harg14 : arg14.IsWhole) (arg15 : Memref sig .tc .vmem S12x4x256 .i8) (harg15 : arg15.IsWhole) (arg16 : Memref sig .tc .vmem S1536x2880 .bf16) (harg16 : arg16.IsWhole) (arg17 : Memref sig .tc .vmem S2880x1536 .bf16) (harg17 : arg17.IsWhole) (arg18 : Memref sig .tc .vmem S2880x1536 .f32) (harg18 : arg18.IsWhole) (arg21 : Memref sig .tc .vmem S2880x256 .bf16) (harg21 : arg21.IsWhole) (arg22 : Memref sig .tc .vmem S2880x256 .bf16) (harg22 : arg22.IsWhole) (arg23 : Memref sig .tc .vmem S1536x256 .bf16) (harg23 : arg23.IsWhole) (arg24 : Memref sig .tc .vmem S1536x256 .bf16) (harg24 : arg24.IsWhole) (arg25 : Memref sig .tc .vmem S1536x256 .bf16) (harg25 : arg25.IsWhole) (arg26 : Memref sig .tc .vmem S90x256 .i32) (harg26 : arg26.IsWhole) (arg27 : Memref sig .tc .vmem S8x2880 .i32) (harg27 : arg27.IsWhole) (arg28 : Memref sig .tc .vmem S8x4x384 .i32) (harg28 : arg28.IsWhole) (arg29 : Memref sig .tc .vmem S12x4x256 .i32) (harg29 : arg29.IsWhole) (c0_i32_19 : BitVec 32) (X_v1153 : HbBuf0 (F := F) c (rslot0 (Ring.sl 2 t.val))) :
    LoopInvTy_k0_t2 (F := F) Unit ℕ (Pipeline.UD sig nD τ) ℕ 𝒱 c bd E (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 arg16 harg16 arg17 harg17 arg18 harg18 scM0_3 (Memref.isWhole_whole _) scM0_4 (Memref.isWhole_whole _) arg21 harg21 arg22 harg22 arg23 harg23 arg24 harg24 arg25 harg25 arg26 harg26 arg27 harg27 arg28 harg28 arg29 harg29 cc0_scratch14 cc0_scratch15 cc0_scratch16 c0_i32_19 where
  inv k _ := iprop(((rslot0 (Ring.sl 2 t.val)).view.loc (c : Thread nD τ) ↦[(rslot0 (Ring.sl 2 t.val)).view.set]{fullShare} X_v1153) ∗ (∃ f, (arg8.view.loc (c : Thread nD τ) ↦[arg8.view.set]{fullShare} f)) ∗ (∃ f, (arg21.view.loc (c : Thread nD τ) ↦[arg21.view.set]{fullShare} f)) ∗ (∃ f, (arg26.view.loc (c : Thread nD τ) ↦[arg26.view.set]{fullShare} f)))
  step k acc := by
    unfold k0_t2_body
    have hk : k.val < 90 := Nat.lt_of_lt_of_le k.isLt k0_t2_abs.2.1
    have hca0_30 := ca0_30 t
    iintro ⟨HR_v1153, ⟨%f_arg8, HW_arg8⟩, ⟨%f_arg21, HW_arg21⟩, ⟨%f_arg26, HW_arg26⟩⟩
    sl_exec
    sl_step
    isplitl [HR_v1153]; · iexact HR_v1153
    isplitl [HW_arg8]; · iexists _; iexact HW_arg8
    isplitl [HW_arg21]; · iexists _; iexact HW_arg21
    iexists _; iexact HW_arg26

set_option warn.classDefReducibility false in
@[sl_loop] def loop_t3 (𝒱 : Variants) (c : Dev nD) (bd : Option 𝒱.V) (E : Set ℕ) (t : Fin grid0.N) (arg7 : Memref sig .tc .vmem S2880x256 .f32) (harg7 : arg7.IsWhole) (arg8 : Memref sig .tc .vmem S2880x256 .fp8e4m3) (harg8 : arg8.IsWhole) (arg9 : Memref sig .tc .vmem S90x256 .i8) (harg9 : arg9.IsWhole) (arg10 : Memref sig .tc .vmem S2880x256 .fp8e4m3) (harg10 : arg10.IsWhole) (arg11 : Memref sig .tc .vmem S8x2880 .i8) (harg11 : arg11.IsWhole) (arg12 : Memref sig .tc .vmem S4x384x256 .fp8e4m3) (harg12 : arg12.IsWhole) (arg13 : Memref sig .tc .vmem S8x4x384 .i8) (harg13 : arg13.IsWhole) (arg14 : Memref sig .tc .vmem S4x384x256 .fp8e4m3) (harg14 : arg14.IsWhole) (arg15 : Memref sig .tc .vmem S12x4x256 .i8) (harg15 : arg15.IsWhole) (arg16 : Memref sig .tc .vmem S1536x2880 .bf16) (harg16 : arg16.IsWhole) (arg17 : Memref sig .tc .vmem S2880x1536 .bf16) (harg17 : arg17.IsWhole) (arg18 : Memref sig .tc .vmem S2880x1536 .f32) (harg18 : arg18.IsWhole) (arg21 : Memref sig .tc .vmem S2880x256 .bf16) (harg21 : arg21.IsWhole) (arg22 : Memref sig .tc .vmem S2880x256 .bf16) (harg22 : arg22.IsWhole) (arg23 : Memref sig .tc .vmem S1536x256 .bf16) (harg23 : arg23.IsWhole) (arg24 : Memref sig .tc .vmem S1536x256 .bf16) (harg24 : arg24.IsWhole) (arg25 : Memref sig .tc .vmem S1536x256 .bf16) (harg25 : arg25.IsWhole) (arg26 : Memref sig .tc .vmem S90x256 .i32) (harg26 : arg26.IsWhole) (arg27 : Memref sig .tc .vmem S8x2880 .i32) (harg27 : arg27.IsWhole) (arg28 : Memref sig .tc .vmem S8x4x384 .i32) (harg28 : arg28.IsWhole) (arg29 : Memref sig .tc .vmem S12x4x256 .i32) (harg29 : arg29.IsWhole) (c0_i32_19 : BitVec 32) (X_v1157 : HbBuf0 (F := F) c (rslot1 (Ring.sl 2 t.val))) :
    LoopInvTy_k0_t3 (F := F) Unit ℕ (Pipeline.UD sig nD τ) ℕ 𝒱 c bd E (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 arg16 harg16 arg17 harg17 arg18 harg18 scM0_3 (Memref.isWhole_whole _) scM0_4 (Memref.isWhole_whole _) arg21 harg21 arg22 harg22 arg23 harg23 arg24 harg24 arg25 harg25 arg26 harg26 arg27 harg27 arg28 harg28 arg29 harg29 cc0_scratch14 cc0_scratch15 cc0_scratch16 c0_i32_19 where
  inv k _ := iprop(((rslot1 (Ring.sl 2 t.val)).view.loc (c : Thread nD τ) ↦[(rslot1 (Ring.sl 2 t.val)).view.set]{fullShare} X_v1157) ∗ (∃ f, (arg12.view.loc (c : Thread nD τ) ↦[arg12.view.set]{fullShare} f)) ∗ (∃ f, (arg23.view.loc (c : Thread nD τ) ↦[arg23.view.set]{fullShare} f)) ∗ (∃ f, (arg28.view.loc (c : Thread nD τ) ↦[arg28.view.set]{fullShare} f)))
  step k acc := by
    unfold k0_t3_body
    have hk : k.val < 12 := Nat.lt_of_lt_of_le k.isLt k0_t3_abs.2.1
    have hca1_33 := ca1_33 t
    iintro ⟨HR_v1157, ⟨%f_arg12, HW_arg12⟩, ⟨%f_arg23, HW_arg23⟩, ⟨%f_arg28, HW_arg28⟩⟩
    sl_exec
    sl_step
    isplitl [HR_v1157]; · iexact HR_v1157
    isplitl [HW_arg12]; · iexists _; iexact HW_arg12
    isplitl [HW_arg23]; · iexists _; iexact HW_arg23
    iexists _; iexact HW_arg28

set_option warn.classDefReducibility false in
@[sl_loop] def loop_t4 (𝒱 : Variants) (c : Dev nD) (bd : Option 𝒱.V) (E : Set ℕ) (t : Fin grid0.N) (arg7 : Memref sig .tc .vmem S2880x256 .f32) (harg7 : arg7.IsWhole) (arg8 : Memref sig .tc .vmem S2880x256 .fp8e4m3) (harg8 : arg8.IsWhole) (arg9 : Memref sig .tc .vmem S90x256 .i8) (harg9 : arg9.IsWhole) (arg10 : Memref sig .tc .vmem S2880x256 .fp8e4m3) (harg10 : arg10.IsWhole) (arg11 : Memref sig .tc .vmem S8x2880 .i8) (harg11 : arg11.IsWhole) (arg12 : Memref sig .tc .vmem S4x384x256 .fp8e4m3) (harg12 : arg12.IsWhole) (arg13 : Memref sig .tc .vmem S8x4x384 .i8) (harg13 : arg13.IsWhole) (arg14 : Memref sig .tc .vmem S4x384x256 .fp8e4m3) (harg14 : arg14.IsWhole) (arg15 : Memref sig .tc .vmem S12x4x256 .i8) (harg15 : arg15.IsWhole) (arg16 : Memref sig .tc .vmem S1536x2880 .bf16) (harg16 : arg16.IsWhole) (arg17 : Memref sig .tc .vmem S2880x1536 .bf16) (harg17 : arg17.IsWhole) (arg18 : Memref sig .tc .vmem S2880x1536 .f32) (harg18 : arg18.IsWhole) (arg21 : Memref sig .tc .vmem S2880x256 .bf16) (harg21 : arg21.IsWhole) (arg22 : Memref sig .tc .vmem S2880x256 .bf16) (harg22 : arg22.IsWhole) (arg23 : Memref sig .tc .vmem S1536x256 .bf16) (harg23 : arg23.IsWhole) (arg24 : Memref sig .tc .vmem S1536x256 .bf16) (harg24 : arg24.IsWhole) (arg25 : Memref sig .tc .vmem S1536x256 .bf16) (harg25 : arg25.IsWhole) (arg26 : Memref sig .tc .vmem S90x256 .i32) (harg26 : arg26.IsWhole) (arg27 : Memref sig .tc .vmem S8x2880 .i32) (harg27 : arg27.IsWhole) (arg28 : Memref sig .tc .vmem S8x4x384 .i32) (harg28 : arg28.IsWhole) (arg29 : Memref sig .tc .vmem S12x4x256 .i32) (harg29 : arg29.IsWhole) (c0_i32_19 : BitVec 32) (X_v1153 : HbBuf0 (F := F) c (rslot0 (Ring.sl 2 t.val))) :
    LoopInvTy_k0_t4 (F := F) Unit ℕ (Pipeline.UD sig nD τ) ℕ 𝒱 c bd E (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 arg16 harg16 arg17 harg17 arg18 harg18 scM0_3 (Memref.isWhole_whole _) scM0_4 (Memref.isWhole_whole _) arg21 harg21 arg22 harg22 arg23 harg23 arg24 harg24 arg25 harg25 arg26 harg26 arg27 harg27 arg28 harg28 arg29 harg29 cc0_scratch14 cc0_scratch15 cc0_scratch16 c0_i32_19 where
  inv k _ := iprop(((rslot0 (Ring.sl 2 t.val)).view.loc (c : Thread nD τ) ↦[(rslot0 (Ring.sl 2 t.val)).view.set]{fullShare} X_v1153) ∗ (∃ f, (arg10.view.loc (c : Thread nD τ) ↦[arg10.view.set]{fullShare} f)) ∗ (∃ f, (arg22.view.loc (c : Thread nD τ) ↦[arg22.view.set]{fullShare} f)) ∗ (∃ f, (arg27.view.loc (c : Thread nD τ) ↦[arg27.view.set]{fullShare} f)))
  step k acc := by
    unfold k0_t4_body
    have hk : k.val < 22 := Nat.lt_of_lt_of_le k.isLt k0_t4_abs.2.1
    have hca0_40 := ca0_40 t
    iintro ⟨HR_v1153, ⟨%f_arg10, HW_arg10⟩, ⟨%f_arg22, HW_arg22⟩, ⟨%f_arg27, HW_arg27⟩⟩
    sl_exec
    sl_step
    isplitl [HR_v1153]; · iexact HR_v1153
    isplitl [HW_arg10]; · iexists _; iexact HW_arg10
    isplitl [HW_arg22]; · iexists _; iexact HW_arg22
    iexists _; iexact HW_arg27

set_option warn.classDefReducibility false in
@[sl_loop] def loop_t5 (𝒱 : Variants) (c : Dev nD) (bd : Option 𝒱.V) (E : Set ℕ) (t : Fin grid0.N) (arg7 : Memref sig .tc .vmem S2880x256 .f32) (harg7 : arg7.IsWhole) (arg8 : Memref sig .tc .vmem S2880x256 .fp8e4m3) (harg8 : arg8.IsWhole) (arg9 : Memref sig .tc .vmem S90x256 .i8) (harg9 : arg9.IsWhole) (arg10 : Memref sig .tc .vmem S2880x256 .fp8e4m3) (harg10 : arg10.IsWhole) (arg11 : Memref sig .tc .vmem S8x2880 .i8) (harg11 : arg11.IsWhole) (arg12 : Memref sig .tc .vmem S4x384x256 .fp8e4m3) (harg12 : arg12.IsWhole) (arg13 : Memref sig .tc .vmem S8x4x384 .i8) (harg13 : arg13.IsWhole) (arg14 : Memref sig .tc .vmem S4x384x256 .fp8e4m3) (harg14 : arg14.IsWhole) (arg15 : Memref sig .tc .vmem S12x4x256 .i8) (harg15 : arg15.IsWhole) (arg16 : Memref sig .tc .vmem S1536x2880 .bf16) (harg16 : arg16.IsWhole) (arg17 : Memref sig .tc .vmem S2880x1536 .bf16) (harg17 : arg17.IsWhole) (arg18 : Memref sig .tc .vmem S2880x1536 .f32) (harg18 : arg18.IsWhole) (arg21 : Memref sig .tc .vmem S2880x256 .bf16) (harg21 : arg21.IsWhole) (arg22 : Memref sig .tc .vmem S2880x256 .bf16) (harg22 : arg22.IsWhole) (arg23 : Memref sig .tc .vmem S1536x256 .bf16) (harg23 : arg23.IsWhole) (arg24 : Memref sig .tc .vmem S1536x256 .bf16) (harg24 : arg24.IsWhole) (arg25 : Memref sig .tc .vmem S1536x256 .bf16) (harg25 : arg25.IsWhole) (arg26 : Memref sig .tc .vmem S90x256 .i32) (harg26 : arg26.IsWhole) (arg27 : Memref sig .tc .vmem S8x2880 .i32) (harg27 : arg27.IsWhole) (arg28 : Memref sig .tc .vmem S8x4x384 .i32) (harg28 : arg28.IsWhole) (arg29 : Memref sig .tc .vmem S12x4x256 .i32) (harg29 : arg29.IsWhole) (v26 : F .bf16) (v393 : IVec S1x128 32) (v512 : IVec S1x128 32) (X_v1157 : HbBuf0 (F := F) c (rslot1 (Ring.sl 2 t.val))) :
    LoopInvTy_k0_t5 (F := F) Unit ℕ (Pipeline.UD sig nD τ) ℕ 𝒱 c bd E (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 arg16 harg16 arg17 harg17 arg18 harg18 scM0_3 (Memref.isWhole_whole _) scM0_4 (Memref.isWhole_whole _) arg21 harg21 arg22 harg22 arg23 harg23 arg24 harg24 arg25 harg25 arg26 harg26 arg27 harg27 arg28 harg28 arg29 harg29 cc0_scratch14 cc0_scratch15 cc0_scratch16 v26 v393 v512 where
  inv k _ := iprop(((rslot1 (Ring.sl 2 t.val)).view.loc (c : Thread nD τ) ↦[(rslot1 (Ring.sl 2 t.val)).view.set]{fullShare} X_v1157) ∗ (∃ f, (arg14.view.loc (c : Thread nD τ) ↦[arg14.view.set]{fullShare} f)) ∗ (∃ f, (arg24.view.loc (c : Thread nD τ) ↦[arg24.view.set]{fullShare} f)) ∗ (∃ f, (arg29.view.loc (c : Thread nD τ) ↦[arg29.view.set]{fullShare} f)))
  step k acc := by
    unfold k0_t5_body
    have hk : k.val < 48 := Nat.lt_of_lt_of_le k.isLt k0_t5_abs.2.1
    have hca1_47 := ca1_47 t
    iintro ⟨HR_v1157, ⟨%f_arg14, HW_arg14⟩, ⟨%f_arg24, HW_arg24⟩, ⟨%f_arg29, HW_arg29⟩⟩
    sl_exec
    sl_step
    isplitl [HR_v1157]; · iexact HR_v1157
    isplitl [HW_arg14]; · iexists _; iexact HW_arg14
    isplitl [HW_arg24]; · iexists _; iexact HW_arg24
    iexists _; iexact HW_arg29

set_option warn.classDefReducibility false in
@[sl_loop] def loop_t6 (𝒱 : Variants) (c : Dev nD) (bd : Option 𝒱.V) (E : Set ℕ) (t : Fin grid0.N) (arg7 : Memref sig .tc .vmem S2880x256 .f32) (harg7 : arg7.IsWhole) (arg8 : Memref sig .tc .vmem S2880x256 .fp8e4m3) (harg8 : arg8.IsWhole) (arg9 : Memref sig .tc .vmem S90x256 .i8) (harg9 : arg9.IsWhole) (arg10 : Memref sig .tc .vmem S2880x256 .fp8e4m3) (harg10 : arg10.IsWhole) (arg11 : Memref sig .tc .vmem S8x2880 .i8) (harg11 : arg11.IsWhole) (arg12 : Memref sig .tc .vmem S4x384x256 .fp8e4m3) (harg12 : arg12.IsWhole) (arg13 : Memref sig .tc .vmem S8x4x384 .i8) (harg13 : arg13.IsWhole) (arg14 : Memref sig .tc .vmem S4x384x256 .fp8e4m3) (harg14 : arg14.IsWhole) (arg15 : Memref sig .tc .vmem S12x4x256 .i8) (harg15 : arg15.IsWhole) (arg16 : Memref sig .tc .vmem S1536x2880 .bf16) (harg16 : arg16.IsWhole) (arg17 : Memref sig .tc .vmem S2880x1536 .bf16) (harg17 : arg17.IsWhole) (arg18 : Memref sig .tc .vmem S2880x1536 .f32) (harg18 : arg18.IsWhole) (arg21 : Memref sig .tc .vmem S2880x256 .bf16) (harg21 : arg21.IsWhole) (arg22 : Memref sig .tc .vmem S2880x256 .bf16) (harg22 : arg22.IsWhole) (arg23 : Memref sig .tc .vmem S1536x256 .bf16) (harg23 : arg23.IsWhole) (arg24 : Memref sig .tc .vmem S1536x256 .bf16) (harg24 : arg24.IsWhole) (arg25 : Memref sig .tc .vmem S1536x256 .bf16) (harg25 : arg25.IsWhole) (arg26 : Memref sig .tc .vmem S90x256 .i32) (harg26 : arg26.IsWhole) (arg27 : Memref sig .tc .vmem S8x2880 .i32) (harg27 : arg27.IsWhole) (arg28 : Memref sig .tc .vmem S8x4x384 .i32) (harg28 : arg28.IsWhole) (arg29 : Memref sig .tc .vmem S12x4x256 .i32) (harg29 : arg29.IsWhole) (v26 : F .bf16) (v393 : IVec S1x128 32) (v512 : IVec S1x128 32) (X_v1153 : HbBuf0 (F := F) c (rslot0 (Ring.sl 2 t.val))) :
    LoopInvTy_k0_t6 (F := F) Unit ℕ (Pipeline.UD sig nD τ) ℕ 𝒱 c bd E (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 arg16 harg16 arg17 harg17 arg18 harg18 scM0_3 (Memref.isWhole_whole _) scM0_4 (Memref.isWhole_whole _) arg21 harg21 arg22 harg22 arg23 harg23 arg24 harg24 arg25 harg25 arg26 harg26 arg27 harg27 arg28 harg28 arg29 harg29 cc0_scratch14 cc0_scratch15 cc0_scratch16 v26 v393 v512 where
  inv k _ := iprop(((rslot0 (Ring.sl 2 t.val)).view.loc (c : Thread nD τ) ↦[(rslot0 (Ring.sl 2 t.val)).view.set]{fullShare} X_v1153) ∗ (∃ f, (arg8.view.loc (c : Thread nD τ) ↦[arg8.view.set]{fullShare} f)) ∗ (∃ f, (arg21.view.loc (c : Thread nD τ) ↦[arg21.view.set]{fullShare} f)) ∗ (∃ f, (arg26.view.loc (c : Thread nD τ) ↦[arg26.view.set]{fullShare} f)))
  step k acc := by
    unfold k0_t6_body
    have hk : k.val < 90 := Nat.lt_of_lt_of_le k.isLt k0_t6_abs.2.1
    have hca0_51 := ca0_51 t
    iintro ⟨HR_v1153, ⟨%f_arg8, HW_arg8⟩, ⟨%f_arg21, HW_arg21⟩, ⟨%f_arg26, HW_arg26⟩⟩
    sl_exec
    sl_step
    isplitl [HR_v1153]; · iexact HR_v1153
    isplitl [HW_arg8]; · iexists _; iexact HW_arg8
    isplitl [HW_arg21]; · iexists _; iexact HW_arg21
    iexists _; iexact HW_arg26

set_option warn.classDefReducibility false in
@[sl_loop] def loop_t7 (𝒱 : Variants) (c : Dev nD) (bd : Option 𝒱.V) (E : Set ℕ) (t : Fin grid0.N) (arg7 : Memref sig .tc .vmem S2880x256 .f32) (harg7 : arg7.IsWhole) (arg8 : Memref sig .tc .vmem S2880x256 .fp8e4m3) (harg8 : arg8.IsWhole) (arg9 : Memref sig .tc .vmem S90x256 .i8) (harg9 : arg9.IsWhole) (arg10 : Memref sig .tc .vmem S2880x256 .fp8e4m3) (harg10 : arg10.IsWhole) (arg11 : Memref sig .tc .vmem S8x2880 .i8) (harg11 : arg11.IsWhole) (arg12 : Memref sig .tc .vmem S4x384x256 .fp8e4m3) (harg12 : arg12.IsWhole) (arg13 : Memref sig .tc .vmem S8x4x384 .i8) (harg13 : arg13.IsWhole) (arg14 : Memref sig .tc .vmem S4x384x256 .fp8e4m3) (harg14 : arg14.IsWhole) (arg15 : Memref sig .tc .vmem S12x4x256 .i8) (harg15 : arg15.IsWhole) (arg16 : Memref sig .tc .vmem S1536x2880 .bf16) (harg16 : arg16.IsWhole) (arg17 : Memref sig .tc .vmem S2880x1536 .bf16) (harg17 : arg17.IsWhole) (arg18 : Memref sig .tc .vmem S2880x1536 .f32) (harg18 : arg18.IsWhole) (arg21 : Memref sig .tc .vmem S2880x256 .bf16) (harg21 : arg21.IsWhole) (arg22 : Memref sig .tc .vmem S2880x256 .bf16) (harg22 : arg22.IsWhole) (arg23 : Memref sig .tc .vmem S1536x256 .bf16) (harg23 : arg23.IsWhole) (arg24 : Memref sig .tc .vmem S1536x256 .bf16) (harg24 : arg24.IsWhole) (arg25 : Memref sig .tc .vmem S1536x256 .bf16) (harg25 : arg25.IsWhole) (arg26 : Memref sig .tc .vmem S90x256 .i32) (harg26 : arg26.IsWhole) (arg27 : Memref sig .tc .vmem S8x2880 .i32) (harg27 : arg27.IsWhole) (arg28 : Memref sig .tc .vmem S8x4x384 .i32) (harg28 : arg28.IsWhole) (arg29 : Memref sig .tc .vmem S12x4x256 .i32) (harg29 : arg29.IsWhole) (v26 : F .bf16) (v393 : IVec S1x128 32) (v512 : IVec S1x128 32) (X_v1157 : HbBuf0 (F := F) c (rslot1 (Ring.sl 2 t.val))) :
    LoopInvTy_k0_t7 (F := F) Unit ℕ (Pipeline.UD sig nD τ) ℕ 𝒱 c bd E (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 arg16 harg16 arg17 harg17 arg18 harg18 scM0_3 (Memref.isWhole_whole _) scM0_4 (Memref.isWhole_whole _) arg21 harg21 arg22 harg22 arg23 harg23 arg24 harg24 arg25 harg25 arg26 harg26 arg27 harg27 arg28 harg28 arg29 harg29 cc0_scratch14 cc0_scratch15 cc0_scratch16 v26 v393 v512 where
  inv k _ := iprop(((rslot1 (Ring.sl 2 t.val)).view.loc (c : Thread nD τ) ↦[(rslot1 (Ring.sl 2 t.val)).view.set]{fullShare} X_v1157) ∗ (∃ f, (arg12.view.loc (c : Thread nD τ) ↦[arg12.view.set]{fullShare} f)) ∗ (∃ f, (arg23.view.loc (c : Thread nD τ) ↦[arg23.view.set]{fullShare} f)) ∗ (∃ f, (arg28.view.loc (c : Thread nD τ) ↦[arg28.view.set]{fullShare} f)))
  step k acc := by
    unfold k0_t7_body
    have hk : k.val < 12 := Nat.lt_of_lt_of_le k.isLt k0_t7_abs.2.1
    have hca1_54 := ca1_54 t
    iintro ⟨HR_v1157, ⟨%f_arg12, HW_arg12⟩, ⟨%f_arg23, HW_arg23⟩, ⟨%f_arg28, HW_arg28⟩⟩
    sl_exec
    sl_step
    isplitl [HR_v1157]; · iexact HR_v1157
    isplitl [HW_arg12]; · iexists _; iexact HW_arg12
    isplitl [HW_arg23]; · iexists _; iexact HW_arg23
    iexists _; iexact HW_arg28

set_option warn.classDefReducibility false in
@[sl_loop] def loop_t8 (𝒱 : Variants) (c : Dev nD) (bd : Option 𝒱.V) (E : Set ℕ) (t : Fin grid0.N) (arg7 : Memref sig .tc .vmem S2880x256 .f32) (harg7 : arg7.IsWhole) (arg8 : Memref sig .tc .vmem S2880x256 .fp8e4m3) (harg8 : arg8.IsWhole) (arg9 : Memref sig .tc .vmem S90x256 .i8) (harg9 : arg9.IsWhole) (arg10 : Memref sig .tc .vmem S2880x256 .fp8e4m3) (harg10 : arg10.IsWhole) (arg11 : Memref sig .tc .vmem S8x2880 .i8) (harg11 : arg11.IsWhole) (arg12 : Memref sig .tc .vmem S4x384x256 .fp8e4m3) (harg12 : arg12.IsWhole) (arg13 : Memref sig .tc .vmem S8x4x384 .i8) (harg13 : arg13.IsWhole) (arg14 : Memref sig .tc .vmem S4x384x256 .fp8e4m3) (harg14 : arg14.IsWhole) (arg15 : Memref sig .tc .vmem S12x4x256 .i8) (harg15 : arg15.IsWhole) (arg16 : Memref sig .tc .vmem S1536x2880 .bf16) (harg16 : arg16.IsWhole) (arg17 : Memref sig .tc .vmem S2880x1536 .bf16) (harg17 : arg17.IsWhole) (arg18 : Memref sig .tc .vmem S2880x1536 .f32) (harg18 : arg18.IsWhole) (arg21 : Memref sig .tc .vmem S2880x256 .bf16) (harg21 : arg21.IsWhole) (arg22 : Memref sig .tc .vmem S2880x256 .bf16) (harg22 : arg22.IsWhole) (arg23 : Memref sig .tc .vmem S1536x256 .bf16) (harg23 : arg23.IsWhole) (arg24 : Memref sig .tc .vmem S1536x256 .bf16) (harg24 : arg24.IsWhole) (arg25 : Memref sig .tc .vmem S1536x256 .bf16) (harg25 : arg25.IsWhole) (arg26 : Memref sig .tc .vmem S90x256 .i32) (harg26 : arg26.IsWhole) (arg27 : Memref sig .tc .vmem S8x2880 .i32) (harg27 : arg27.IsWhole) (arg28 : Memref sig .tc .vmem S8x4x384 .i32) (harg28 : arg28.IsWhole) (arg29 : Memref sig .tc .vmem S12x4x256 .i32) (harg29 : arg29.IsWhole) (v26 : F .bf16) (v393 : IVec S1x128 32) (v512 : IVec S1x128 32) (X_v1153 : HbBuf0 (F := F) c (rslot0 (Ring.sl 2 t.val))) :
    LoopInvTy_k0_t8 (F := F) Unit ℕ (Pipeline.UD sig nD τ) ℕ 𝒱 c bd E (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 arg16 harg16 arg17 harg17 arg18 harg18 scM0_3 (Memref.isWhole_whole _) scM0_4 (Memref.isWhole_whole _) arg21 harg21 arg22 harg22 arg23 harg23 arg24 harg24 arg25 harg25 arg26 harg26 arg27 harg27 arg28 harg28 arg29 harg29 cc0_scratch14 cc0_scratch15 cc0_scratch16 v26 v393 v512 where
  inv k _ := iprop(((rslot0 (Ring.sl 2 t.val)).view.loc (c : Thread nD τ) ↦[(rslot0 (Ring.sl 2 t.val)).view.set]{fullShare} X_v1153) ∗ (∃ f, (arg10.view.loc (c : Thread nD τ) ↦[arg10.view.set]{fullShare} f)) ∗ (∃ f, (arg22.view.loc (c : Thread nD τ) ↦[arg22.view.set]{fullShare} f)) ∗ (∃ f, (arg27.view.loc (c : Thread nD τ) ↦[arg27.view.set]{fullShare} f)))
  step k acc := by
    unfold k0_t8_body
    have hk : k.val < 22 := Nat.lt_of_lt_of_le k.isLt k0_t8_abs.2.1
    have hca0_61 := ca0_61 t
    iintro ⟨HR_v1153, ⟨%f_arg10, HW_arg10⟩, ⟨%f_arg22, HW_arg22⟩, ⟨%f_arg27, HW_arg27⟩⟩
    sl_exec
    sl_step
    isplitl [HR_v1153]; · iexact HR_v1153
    isplitl [HW_arg10]; · iexists _; iexact HW_arg10
    isplitl [HW_arg22]; · iexists _; iexact HW_arg22
    iexists _; iexact HW_arg27

end Cert.Kernel.Hand

end
-- ==== Proof.Kernel.Split.lean ====
/-
The kernel's body in three pieces: the head (the transfers of the step and their waits), the work on
the tile (`rest`), and what follows it (`fin`: the end of the products, the copy of the product `y` out
of its scratch, and, at the last point, the copies of `dx`). The texts are the printed skeleton's own,
cut so that each piece is proved once.
-/
module

public import proofs.«01_k».proof.Proof.Gen.Kernel.Skeleton

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- What follows the work on the tile. -/
def fin (i : grid0.Coords) (arg1 : Memref sig .tc .hbm S2880x5760 .bf16) (harg1 : arg1.IsWhole) (arg2 : Memref sig .tc .hbm S1536x5760 .bf16) (harg2 : arg2.IsWhole) (arg3 : Memref sig .tc .hbm S1536x2880 .bf16) (harg3 : arg3.IsWhole) (arg4 : Memref sig .tc .hbm S2880x1536 .bf16) (harg4 : arg4.IsWhole) (arg5 : Memref sig .tc .hbm S1536x5760 .bf16) (harg5 : arg5.IsWhole) (arg6 : Memref sig .tc .hbm S4x2880x384 .bf16) (harg6 : arg6.IsWhole) (arg7 : Memref sig .tc .vmem S2880x256 .f32) (harg7 : arg7.IsWhole) (arg8 : Memref sig .tc .vmem S2880x256 .fp8e4m3) (harg8 : arg8.IsWhole) (arg9 : Memref sig .tc .vmem S90x256 .i8) (harg9 : arg9.IsWhole) (arg10 : Memref sig .tc .vmem S2880x256 .fp8e4m3) (harg10 : arg10.IsWhole) (arg11 : Memref sig .tc .vmem S8x2880 .i8) (harg11 : arg11.IsWhole) (arg12 : Memref sig .tc .vmem S4x384x256 .fp8e4m3) (harg12 : arg12.IsWhole) (arg13 : Memref sig .tc .vmem S8x4x384 .i8) (harg13 : arg13.IsWhole) (arg14 : Memref sig .tc .vmem S4x384x256 .fp8e4m3) (harg14 : arg14.IsWhole) (arg15 : Memref sig .tc .vmem S12x4x256 .i8) (harg15 : arg15.IsWhole) (arg16 : Memref sig .tc .vmem S1536x2880 .bf16) (harg16 : arg16.IsWhole) (arg17 : Memref sig .tc .vmem S2880x1536 .bf16) (harg17 : arg17.IsWhole) (arg18 : Memref sig .tc .vmem S2880x1536 .f32) (harg18 : arg18.IsWhole) (arg19 : Memref sig .tc .vmem S2x2880x256 .bf16) (harg19 : arg19.IsWhole) (arg20 : Memref sig .tc .vmem S2x1536x256 .bf16) (harg20 : arg20.IsWhole) (arg21 : Memref sig .tc .vmem S2880x256 .bf16) (harg21 : arg21.IsWhole) (arg22 : Memref sig .tc .vmem S2880x256 .bf16) (harg22 : arg22.IsWhole) (arg23 : Memref sig .tc .vmem S1536x256 .bf16) (harg23 : arg23.IsWhole) (arg24 : Memref sig .tc .vmem S1536x256 .bf16) (harg24 : arg24.IsWhole) (arg25 : Memref sig .tc .vmem S1536x256 .bf16) (harg25 : arg25.IsWhole) (arg26 : Memref sig .tc .vmem S90x256 .i32) (harg26 : arg26.IsWhole) (arg27 : Memref sig .tc .vmem S8x2880 .i32) (harg27 : arg27.IsWhole) (arg28 : Memref sig .tc .vmem S8x4x384 .i32) (harg28 : arg28.IsWhole) (arg29 : Memref sig .tc .vmem S12x4x256 .i32) (harg29 : arg29.IsWhole) (arg30 : DmaSems sig S2x2) (arg31 : DmaSems sig S_) (arg32 : DmaSems sig S2) (arg0 : BitVec 32) :
    Prog (TpuEff nD τ sig (Elt F) Λ₀ .tc) (Σ' (arg0 : BitVec 32) (v1148 : BitVec 32), BitVec 32) := do
  if k0_h8 : k0_cond8 i = 1#1 then do
    let v1152 : Memref sig .tc .hbm S1536x256 .bf16 := arg5.slice (Rect.unit (s := S1536x5760) (k0_off67 i) S1536x256.size (k0_off67_inb i k0_h8)) (fun _ => rfl)
    let v1153 : Memref sig .tc .vmem S1536x256 .bf16 := arg25.slice (Rect.unit (s := S1536x256) ![0, 0] S1536x256.size inb_S1536x256_S1536x256_0_0) (fun _ => rfl)
    Prog.lift (.enqueueDma v1153 (.here v1152) (.dma arg31.sem) (harg25.wordExact_slice rfl _ wordsbf16_S1536x256_S1536x256_0_0) (harg5.wordExact_slice rfl _ (k0_off67_wordsbf16 i k0_h8)) ⟨Or.inl rfl, trivial⟩)
    pure ⟨⟩
  else do
    pure ⟨⟩
  let v1147 : BitVec 1 := Scalar.cmpi .eq arg0 22#32
  let v1148 : BitVec 32 := Scalar.extui v1147
  pure ⟨arg0, v1148, 0#32⟩

/-- The work on the tile: the eight quantising loops, the products, the packing of the scales. -/
def rest (i : grid0.Coords) (arg1 : Memref sig .tc .hbm S2880x5760 .bf16) (harg1 : arg1.IsWhole) (arg2 : Memref sig .tc .hbm S1536x5760 .bf16) (harg2 : arg2.IsWhole) (arg3 : Memref sig .tc .hbm S1536x2880 .bf16) (harg3 : arg3.IsWhole) (arg4 : Memref sig .tc .hbm S2880x1536 .bf16) (harg4 : arg4.IsWhole) (arg5 : Memref sig .tc .hbm S1536x5760 .bf16) (harg5 : arg5.IsWhole) (arg6 : Memref sig .tc .hbm S4x2880x384 .bf16) (harg6 : arg6.IsWhole) (arg7 : Memref sig .tc .vmem S2880x256 .f32) (harg7 : arg7.IsWhole) (arg8 : Memref sig .tc .vmem S2880x256 .fp8e4m3) (harg8 : arg8.IsWhole) (arg9 : Memref sig .tc .vmem S90x256 .i8) (harg9 : arg9.IsWhole) (arg10 : Memref sig .tc .vmem S2880x256 .fp8e4m3) (harg10 : arg10.IsWhole) (arg11 : Memref sig .tc .vmem S8x2880 .i8) (harg11 : arg11.IsWhole) (arg12 : Memref sig .tc .vmem S4x384x256 .fp8e4m3) (harg12 : arg12.IsWhole) (arg13 : Memref sig .tc .vmem S8x4x384 .i8) (harg13 : arg13.IsWhole) (arg14 : Memref sig .tc .vmem S4x384x256 .fp8e4m3) (harg14 : arg14.IsWhole) (arg15 : Memref sig .tc .vmem S12x4x256 .i8) (harg15 : arg15.IsWhole) (arg16 : Memref sig .tc .vmem S1536x2880 .bf16) (harg16 : arg16.IsWhole) (arg17 : Memref sig .tc .vmem S2880x1536 .bf16) (harg17 : arg17.IsWhole) (arg18 : Memref sig .tc .vmem S2880x1536 .f32) (harg18 : arg18.IsWhole) (arg19 : Memref sig .tc .vmem S2x2880x256 .bf16) (harg19 : arg19.IsWhole) (arg20 : Memref sig .tc .vmem S2x1536x256 .bf16) (harg20 : arg20.IsWhole) (arg21 : Memref sig .tc .vmem S2880x256 .bf16) (harg21 : arg21.IsWhole) (arg22 : Memref sig .tc .vmem S2880x256 .bf16) (harg22 : arg22.IsWhole) (arg23 : Memref sig .tc .vmem S1536x256 .bf16) (harg23 : arg23.IsWhole) (arg24 : Memref sig .tc .vmem S1536x256 .bf16) (harg24 : arg24.IsWhole) (arg25 : Memref sig .tc .vmem S1536x256 .bf16) (harg25 : arg25.IsWhole) (arg26 : Memref sig .tc .vmem S90x256 .i32) (harg26 : arg26.IsWhole) (arg27 : Memref sig .tc .vmem S8x2880 .i32) (harg27 : arg27.IsWhole) (arg28 : Memref sig .tc .vmem S8x4x384 .i32) (harg28 : arg28.IsWhole) (arg29 : Memref sig .tc .vmem S12x4x256 .i32) (harg29 : arg29.IsWhole) (arg30 : DmaSems sig S2x2) (arg31 : DmaSems sig S_) (arg32 : DmaSems sig S2) (arg0 : BitVec 32) (v26 : F .bf16) (c0_i32_19 : BitVec 32) (k : Prog (TpuEff nD τ sig (Elt F) Λ₀ .tc) (Σ' (arg0 : BitVec 32) (v1148 : BitVec 32), BitVec 32)) :
    Prog (TpuEff nD τ sig (Elt F) Λ₀ .tc) (Σ' (arg0 : BitVec 32) (v1148 : BitVec 32), BitVec 32) := do
  let ⟨v34, v36, v52, v58⟩ : Σ' (v34 : FVec F S128x128 .bf16) (v36 : FVec F S128x128 .bf16) (v52 : FVec F S16x128 .bf16), IVec S8x128 32 ← k0_part66 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 c0_i32_19
  let ⟨v60, v98, v101⟩ : Σ' (v60 : FVec F S16x128 .bf16) (v98 : FVec F S16x128 .bf16), IVec S16x128 32 ← k0_part67 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 v52 v58
  let ⟨v142, v145⟩ : Σ' (v142 : FVec F S16x128 .bf16), IVec S16x128 32 ← k0_part68 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 v60 v98 v101
  let ⟨v152, v155, v179, v184, v187, v189, cst_80⟩ : Σ' (v152 : FVec F S16x128 .bf16) (v155 : IVec S1x128 32) (v179 : FVec F S16x128 .bf16) (v184 : FVec F S16x128 .bf16) (v187 : IVec S16x128 32) (v189 : FVec F S16x128 .bf16), F .bf16 ← k0_part69 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 v36 v60 v142 v145
  let ⟨v228, v231, v233, cst_96⟩ : Σ' (v228 : FVec F S16x128 .bf16) (v231 : IVec S16x128 32) (v233 : FVec F S16x128 .bf16), F .bf16 ← k0_part70 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 v179 v184 v187 v189 cst_80
  let ⟨v271, v274, v278, v279⟩ : Σ' (v271 : FVec F S16x128 .bf16) (v274 : IVec S1x128 32) (v278 : FVec F S16x128 .bf16), IVec S8x128 32 ← k0_part71 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 v36 v179 v228 v231 v233 cst_96
  let ⟨v298, v314, v317, v322, cst_127⟩ : Σ' (v298 : FVec F S16x128 .bf16) (v314 : FVec F S16x128 .bf16) (v317 : IVec S16x128 32) (v322 : IVec S16x128 1), F .bf16 ← k0_part72 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 v278 v279
  let ⟨v358, v361, v366, cst_143⟩ : Σ' (v358 : FVec F S16x128 .bf16) (v361 : IVec S16x128 32) (v366 : IVec S16x128 1), F .bf16 ← k0_part73 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 v298 v314 v317 v322 cst_127
  let ⟨v390, v393, v409, v410, v412, c16_i32_157⟩ : Σ' (v390 : FVec F S16x128 .bf16) (v393 : IVec S1x128 32) (v409 : FVec F S16x128 .bf16) (v410 : IVec S8x128 32) (v412 : IVec S8x128 32), BitVec 32 ← k0_part74 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 v36 v298 v358 v361 v366 cst_143
  let ⟨v417, v447, v452, v455, c16_i32_174⟩ : Σ' (v417 : FVec F S16x128 .bf16) (v447 : IVec S16x128 32) (v452 : IVec S16x128 1) (v455 : FVec F S16x128 .bf16), BitVec 32 ← k0_part75 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 v409 v410 v412 c16_i32_157
  let ⟨v491, v496, v499, c1_i32_190⟩ : Σ' (v491 : IVec S16x128 32) (v496 : IVec S16x128 1) (v499 : FVec F S16x128 .bf16), BitVec 32 ← k0_part76 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 v417 v447 v452 v455 c16_i32_174
  let v512 : IVec S1x128 32 ← k0_part77 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 v34 v152 v155 v271 v274 v390 v417 v491 v496 v499 c1_i32_190
  let ⟨v556, v558, v566, v568⟩ : Σ' (v556 : FVec F S128x128 .bf16) (v558 : FVec F S128x128 .bf16) (v566 : FVec F S16x128 .bf16), IVec S8x128 32 ← k0_part78 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 v26 v393 v512
  let ⟨v582, v609, v612⟩ : Σ' (v582 : FVec F S16x128 .bf16) (v609 : FVec F S16x128 .bf16), IVec S16x128 32 ← k0_part79 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 v566 v568
  let ⟨v653, v656⟩ : Σ' (v653 : FVec F S16x128 .bf16), IVec S16x128 32 ← k0_part80 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 v582 v609 v612
  let ⟨v674, v677, v701, v702⟩ : Σ' (v674 : FVec F S16x128 .bf16) (v677 : IVec S1x128 32) (v701 : FVec F S16x128 .bf16), FVec F S16x128 .bf16 ← k0_part81 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 v558 v582 v653 v656
  let ⟨v739, v742, v744, cst_291⟩ : Σ' (v739 : FVec F S16x128 .bf16) (v742 : IVec S16x128 32) (v744 : FVec F S16x128 .bf16), F .bf16 ← k0_part82 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 v701 v702
  let ⟨v783, v786, v788, cst_307⟩ : Σ' (v783 : FVec F S16x128 .bf16) (v786 : IVec S16x128 32) (v788 : IVec S16x128 1), F .bf16 ← k0_part83 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 v701 v739 v742 v744 cst_291
  let ⟨v793, v796, v820, v825, v828, v833, cst_322⟩ : Σ' (v793 : FVec F S16x128 .bf16) (v796 : IVec S1x128 32) (v820 : FVec F S16x128 .bf16) (v825 : FVec F S16x128 .bf16) (v828 : IVec S16x128 32) (v833 : IVec S16x128 1), F .bf16 ← k0_part84 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 v558 v701 v783 v786 v788 cst_307
  let ⟨v869, v872, v877, cst_338⟩ : Σ' (v869 : FVec F S16x128 .bf16) (v872 : IVec S16x128 32) (v877 : IVec S16x128 1), F .bf16 ← k0_part85 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 v820 v825 v828 v833 cst_322
  let ⟨v912, v915, v923⟩ : Σ' (v912 : FVec F S16x128 .bf16) (v915 : IVec S1x128 32), FVec F S16x128 .bf16 ← k0_part86 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 v558 v820 v869 v872 v877 cst_338
  let ⟨v939, v958, v963, v966, c32_i32_369⟩ : Σ' (v939 : FVec F S16x128 .bf16) (v958 : IVec S16x128 32) (v963 : IVec S16x128 1) (v966 : FVec F S16x128 .bf16), BitVec 32 ← k0_part87 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 v923
  let ⟨v1002, v1007, v1010, c2_i32_385⟩ : Σ' (v1002 : IVec S16x128 32) (v1007 : IVec S16x128 1) (v1010 : FVec F S16x128 .bf16), BitVec 32 ← k0_part88 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 v939 v958 v963 v966 c32_i32_369
  let ⟨v1034, v1053, v1054⟩ : Σ' (v1034 : IVec S1x128 32) (v1053 : FVec F S64x128 .bf16), Vec F S64x128 .bf16 ← k0_part89 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 v26 v556 v674 v793 v912 v939 v1002 v1007 v1010 c2_i32_385
  k0_part90 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 v677 v796 v915 v1034 v1053 v1054
  let ⟨v1104, v1105⟩ : Σ' (v1104 : Vec F S2880x256 .f32), Vec F S2880x256 .bf16 ← k0_part91 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32
  let v1132 : FVec F S2880x256 .f32 ← k0_part92 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 v1104 v1105
  let v1133 : Vec F S2880x256 .f32 ← Prog.lift (.load arg18 (Rect.unit (s := S2880x1536) ![0, 1024] S2880x256.size inb_S2880x1536_S2880x256_0_1024).toLoadRect (View.loadsAt_vmem h_S2880x256))
  Prog.lift (.store arg18 (Rect.unit (s := S2880x1536) ![0, 1024] S2880x256.size inb_S2880x1536_S2880x256_0_1024) (k0_pay753 v1132) Finset.univ (View.stores_vmem_bits_univ h_S2880x256 rfl) (.inl rfl))
  let v1136 : Vec F S2880x256 .f32 ← Prog.lift (.load arg18 (Rect.unit (s := S2880x1536) ![0, 1280] S2880x256.size inb_S2880x1536_S2880x256_0_1280).toLoadRect (View.loadsAt_vmem h_S2880x256))
  let v1137 : Vec F S2880x256 .bf16 ← Prog.lift (.load arg22 (Rect.unit (s := S2880x256) ![0, 0] S2880x256.size inb_S2880x256_S2880x256_0_0).toLoadRect (View.loadsAt_vmem h_S2880x256))
  let v1138 : Vec F S256x256 .bf16 ← Prog.lift (.load arg23 (Rect.unit (s := S1536x256) ![1280, 0] S256x256.size inb_S1536x256_S256x256_1280_0).toLoadRect (View.loadsAt_vmem h_S256x256))
  let v1141 : Vec F S2880x256 .f32 ← Prog.lift (.load arg18 (Rect.unit (s := S2880x1536) ![0, 1280] S2880x256.size inb_S2880x1536_S2880x256_0_1280).toLoadRect (View.loadsAt_vmem h_S2880x256))
  Prog.lift (.store arg18 (Rect.unit (s := S2880x1536) ![0, 1280] S2880x256.size inb_S2880x1536_S2880x256_0_1280) (k0_pay754 v1136 v1137 v1138) Finset.univ (View.stores_vmem_bits_univ h_S2880x256 rfl) (.inl rfl))
  k

theorem part93_split (i : grid0.Coords) (arg1 : Memref sig .tc .hbm S2880x5760 .bf16) (harg1 : arg1.IsWhole) (arg2 : Memref sig .tc .hbm S1536x5760 .bf16) (harg2 : arg2.IsWhole) (arg3 : Memref sig .tc .hbm S1536x2880 .bf16) (harg3 : arg3.IsWhole) (arg4 : Memref sig .tc .hbm S2880x1536 .bf16) (harg4 : arg4.IsWhole) (arg5 : Memref sig .tc .hbm S1536x5760 .bf16) (harg5 : arg5.IsWhole) (arg6 : Memref sig .tc .hbm S4x2880x384 .bf16) (harg6 : arg6.IsWhole) (arg7 : Memref sig .tc .vmem S2880x256 .f32) (harg7 : arg7.IsWhole) (arg8 : Memref sig .tc .vmem S2880x256 .fp8e4m3) (harg8 : arg8.IsWhole) (arg9 : Memref sig .tc .vmem S90x256 .i8) (harg9 : arg9.IsWhole) (arg10 : Memref sig .tc .vmem S2880x256 .fp8e4m3) (harg10 : arg10.IsWhole) (arg11 : Memref sig .tc .vmem S8x2880 .i8) (harg11 : arg11.IsWhole) (arg12 : Memref sig .tc .vmem S4x384x256 .fp8e4m3) (harg12 : arg12.IsWhole) (arg13 : Memref sig .tc .vmem S8x4x384 .i8) (harg13 : arg13.IsWhole) (arg14 : Memref sig .tc .vmem S4x384x256 .fp8e4m3) (harg14 : arg14.IsWhole) (arg15 : Memref sig .tc .vmem S12x4x256 .i8) (harg15 : arg15.IsWhole) (arg16 : Memref sig .tc .vmem S1536x2880 .bf16) (harg16 : arg16.IsWhole) (arg17 : Memref sig .tc .vmem S2880x1536 .bf16) (harg17 : arg17.IsWhole) (arg18 : Memref sig .tc .vmem S2880x1536 .f32) (harg18 : arg18.IsWhole) (arg19 : Memref sig .tc .vmem S2x2880x256 .bf16) (harg19 : arg19.IsWhole) (arg20 : Memref sig .tc .vmem S2x1536x256 .bf16) (harg20 : arg20.IsWhole) (arg21 : Memref sig .tc .vmem S2880x256 .bf16) (harg21 : arg21.IsWhole) (arg22 : Memref sig .tc .vmem S2880x256 .bf16) (harg22 : arg22.IsWhole) (arg23 : Memref sig .tc .vmem S1536x256 .bf16) (harg23 : arg23.IsWhole) (arg24 : Memref sig .tc .vmem S1536x256 .bf16) (harg24 : arg24.IsWhole) (arg25 : Memref sig .tc .vmem S1536x256 .bf16) (harg25 : arg25.IsWhole) (arg26 : Memref sig .tc .vmem S90x256 .i32) (harg26 : arg26.IsWhole) (arg27 : Memref sig .tc .vmem S8x2880 .i32) (harg27 : arg27.IsWhole) (arg28 : Memref sig .tc .vmem S8x4x384 .i32) (harg28 : arg28.IsWhole) (arg29 : Memref sig .tc .vmem S12x4x256 .i32) (harg29 : arg29.IsWhole) (arg30 : DmaSems sig S2x2) (arg31 : DmaSems sig S_) (arg32 : DmaSems sig S2) : k0_part93 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 = (k0_part65 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 >>= fun r => match r with | ⟨arg0, v26, c0⟩ => rest i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 arg0 v26 c0 (fin i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 arg0)) := by
  rw [k0_part93_eq_skeleton]; rfl

/-- The part of the body that runs at the last point only. -/
def epi (i : grid0.Coords) (arg1 : Memref sig .tc .hbm S2880x5760 .bf16) (harg1 : arg1.IsWhole) (arg2 : Memref sig .tc .hbm S1536x5760 .bf16) (harg2 : arg2.IsWhole) (arg3 : Memref sig .tc .hbm S1536x2880 .bf16) (harg3 : arg3.IsWhole) (arg4 : Memref sig .tc .hbm S2880x1536 .bf16) (harg4 : arg4.IsWhole) (arg5 : Memref sig .tc .hbm S1536x5760 .bf16) (harg5 : arg5.IsWhole) (arg6 : Memref sig .tc .hbm S4x2880x384 .bf16) (harg6 : arg6.IsWhole) (arg7 : Memref sig .tc .vmem S2880x256 .f32) (harg7 : arg7.IsWhole) (arg8 : Memref sig .tc .vmem S2880x256 .fp8e4m3) (harg8 : arg8.IsWhole) (arg9 : Memref sig .tc .vmem S90x256 .i8) (harg9 : arg9.IsWhole) (arg10 : Memref sig .tc .vmem S2880x256 .fp8e4m3) (harg10 : arg10.IsWhole) (arg11 : Memref sig .tc .vmem S8x2880 .i8) (harg11 : arg11.IsWhole) (arg12 : Memref sig .tc .vmem S4x384x256 .fp8e4m3) (harg12 : arg12.IsWhole) (arg13 : Memref sig .tc .vmem S8x4x384 .i8) (harg13 : arg13.IsWhole) (arg14 : Memref sig .tc .vmem S4x384x256 .fp8e4m3) (harg14 : arg14.IsWhole) (arg15 : Memref sig .tc .vmem S12x4x256 .i8) (harg15 : arg15.IsWhole) (arg16 : Memref sig .tc .vmem S1536x2880 .bf16) (harg16 : arg16.IsWhole) (arg17 : Memref sig .tc .vmem S2880x1536 .bf16) (harg17 : arg17.IsWhole) (arg18 : Memref sig .tc .vmem S2880x1536 .f32) (harg18 : arg18.IsWhole) (arg19 : Memref sig .tc .vmem S2x2880x256 .bf16) (harg19 : arg19.IsWhole) (arg20 : Memref sig .tc .vmem S2x1536x256 .bf16) (harg20 : arg20.IsWhole) (arg21 : Memref sig .tc .vmem S2880x256 .bf16) (harg21 : arg21.IsWhole) (arg22 : Memref sig .tc .vmem S2880x256 .bf16) (harg22 : arg22.IsWhole) (arg23 : Memref sig .tc .vmem S1536x256 .bf16) (harg23 : arg23.IsWhole) (arg24 : Memref sig .tc .vmem S1536x256 .bf16) (harg24 : arg24.IsWhole) (arg25 : Memref sig .tc .vmem S1536x256 .bf16) (harg25 : arg25.IsWhole) (arg26 : Memref sig .tc .vmem S90x256 .i32) (harg26 : arg26.IsWhole) (arg27 : Memref sig .tc .vmem S8x2880 .i32) (harg27 : arg27.IsWhole) (arg28 : Memref sig .tc .vmem S8x4x384 .i32) (harg28 : arg28.IsWhole) (arg29 : Memref sig .tc .vmem S12x4x256 .i32) (harg29 : arg29.IsWhole) (arg30 : DmaSems sig S2x2) (arg31 : DmaSems sig S_) (arg32 : DmaSems sig S2) (arg0 : BitVec 32) :
    Prog (TpuEff nD τ sig (Elt F) Λ₀ .tc) PUnit := do
  if k0_h9 : k0_cond9 i = 1#1 then do
    k0_part60 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 arg0 k0_h9
    k0_part61 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32
    k0_part62 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32
    k0_part63 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32
    k0_part64 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32
    let v1268 : Vec F S2880x128 .f32 ← Prog.lift (.load arg18 (Rect.unit (s := S2880x1536) ![0, 1280] S2880x128.size inb_S2880x1536_S2880x128_0_1280).toLoadRect (View.loadsAt_vmem h_S2880x128))
    let v1270 : Vec F S2880x128 .bf16 ← Prog.lift (.load arg21 (Rect.unit (s := S2880x256) ![0, 0] S2880x128.size inb_S2880x256_S2880x128_0_0).toLoadRect (View.loadsAt_vmem h_S2880x128))
    Prog.lift (.store arg21 (Rect.unit (s := S2880x256) ![0, 0] S2880x128.size inb_S2880x256_S2880x128_0_0) (k0_pay1 v1268) Finset.univ (View.stores_vmem h_S2880x128 (harg21.storeExact_slice rfl _ packedbf16_S2880x256_S2880x128_0_0) (fun _ => rfl)) (.inl rfl))
    let v1273 : Memref sig .tc .hbm S1x2880x128 .bf16 := arg6.slice (Rect.unit (s := S4x2880x384) ![3, 0, 128] S1x2880x128.size inb_S4x2880x384_S1x2880x128_3_0_128) (fun _ => rfl)
    let v1274 : Memref sig .tc .hbm S2880x128 .bf16 := v1273.squeeze S2880x128 squeezes_S1x2880x128_S2880x128
    let v1275 : Memref sig .tc .vmem S2880x128 .bf16 := arg21.slice (Rect.unit (s := S2880x256) ![0, 0] S2880x128.size inb_S2880x256_S2880x128_0_0) (fun _ => rfl)
    Prog.lift (.enqueueDma v1275 (.here v1274) (.dma arg31.sem) (harg21.wordExact_slice rfl _ wordsbf16_S2880x256_S2880x128_0_0) ((harg6.wordExact_slice rfl _ wordsbf16_S4x2880x384_S1x2880x128_3_0_128).reshape _ _) ⟨Or.inl rfl, trivial⟩)
    let v1276 : Memref sig .tc .hbm S1x2880x128 .bf16 := arg6.slice (Rect.unit (s := S4x2880x384) ![3, 0, 128] S1x2880x128.size inb_S4x2880x384_S1x2880x128_3_0_128) (fun _ => rfl)
    let v1277 : Memref sig .tc .hbm S2880x128 .bf16 := v1276.squeeze S2880x128 squeezes_S1x2880x128_S2880x128
    let v1278 : Memref sig .tc .vmem S2880x128 .bf16 := arg21.slice (Rect.unit (s := S2880x256) ![0, 0] S2880x128.size inb_S2880x256_S2880x128_0_0) (fun _ => rfl)
    Prog.lift (.waitDma2 arg31.sem v1278 v1277 (harg21.wordExact_slice rfl _ wordsbf16_S2880x256_S2880x128_0_0) ((harg6.wordExact_slice rfl _ wordsbf16_S4x2880x384_S1x2880x128_3_0_128).reshape _ _))
    let v1279 : Vec F S2880x128 .f32 ← Prog.lift (.load arg18 (Rect.unit (s := S2880x1536) ![0, 1408] S2880x128.size inb_S2880x1536_S2880x128_0_1408).toLoadRect (View.loadsAt_vmem h_S2880x128))
    let v1281 : Vec F S2880x128 .bf16 ← Prog.lift (.load arg21 (Rect.unit (s := S2880x256) ![0, 0] S2880x128.size inb_S2880x256_S2880x128_0_0).toLoadRect (View.loadsAt_vmem h_S2880x128))
    Prog.lift (.store arg21 (Rect.unit (s := S2880x256) ![0, 0] S2880x128.size inb_S2880x256_S2880x128_0_0) (k0_pay2 v1279) Finset.univ (View.stores_vmem h_S2880x128 (harg21.storeExact_slice rfl _ packedbf16_S2880x256_S2880x128_0_0) (fun _ => rfl)) (.inl rfl))
    let v1284 : Memref sig .tc .hbm S1x2880x128 .bf16 := arg6.slice (Rect.unit (s := S4x2880x384) ![3, 0, 256] S1x2880x128.size inb_S4x2880x384_S1x2880x128_3_0_256) (fun _ => rfl)
    let v1285 : Memref sig .tc .hbm S2880x128 .bf16 := v1284.squeeze S2880x128 squeezes_S1x2880x128_S2880x128
    let v1286 : Memref sig .tc .vmem S2880x128 .bf16 := arg21.slice (Rect.unit (s := S2880x256) ![0, 0] S2880x128.size inb_S2880x256_S2880x128_0_0) (fun _ => rfl)
    Prog.lift (.enqueueDma v1286 (.here v1285) (.dma arg31.sem) (harg21.wordExact_slice rfl _ wordsbf16_S2880x256_S2880x128_0_0) ((harg6.wordExact_slice rfl _ wordsbf16_S4x2880x384_S1x2880x128_3_0_256).reshape _ _) ⟨Or.inl rfl, trivial⟩)
    let v1287 : Memref sig .tc .hbm S1x2880x128 .bf16 := arg6.slice (Rect.unit (s := S4x2880x384) ![3, 0, 256] S1x2880x128.size inb_S4x2880x384_S1x2880x128_3_0_256) (fun _ => rfl)
    let v1288 : Memref sig .tc .hbm S2880x128 .bf16 := v1287.squeeze S2880x128 squeezes_S1x2880x128_S2880x128
    let v1289 : Memref sig .tc .vmem S2880x128 .bf16 := arg21.slice (Rect.unit (s := S2880x256) ![0, 0] S2880x128.size inb_S2880x256_S2880x128_0_0) (fun _ => rfl)
    Prog.lift (.waitDma2 arg31.sem v1289 v1288 (harg21.wordExact_slice rfl _ wordsbf16_S2880x256_S2880x128_0_0) ((harg6.wordExact_slice rfl _ wordsbf16_S4x2880x384_S1x2880x128_3_0_256).reshape _ _))
    pure ⟨⟩
  else do
    pure ⟨⟩
  pure ⟨⟩

theorem mm_split (i : grid0.Coords) (arg1 : Memref sig .tc .hbm S2880x5760 .bf16) (harg1 : arg1.IsWhole) (arg2 : Memref sig .tc .hbm S1536x5760 .bf16) (harg2 : arg2.IsWhole) (arg3 : Memref sig .tc .hbm S1536x2880 .bf16) (harg3 : arg3.IsWhole) (arg4 : Memref sig .tc .hbm S2880x1536 .bf16) (harg4 : arg4.IsWhole) (arg5 : Memref sig .tc .hbm S1536x5760 .bf16) (harg5 : arg5.IsWhole) (arg6 : Memref sig .tc .hbm S4x2880x384 .bf16) (harg6 : arg6.IsWhole) (arg7 : Memref sig .tc .vmem S2880x256 .f32) (harg7 : arg7.IsWhole) (arg8 : Memref sig .tc .vmem S2880x256 .fp8e4m3) (harg8 : arg8.IsWhole) (arg9 : Memref sig .tc .vmem S90x256 .i8) (harg9 : arg9.IsWhole) (arg10 : Memref sig .tc .vmem S2880x256 .fp8e4m3) (harg10 : arg10.IsWhole) (arg11 : Memref sig .tc .vmem S8x2880 .i8) (harg11 : arg11.IsWhole) (arg12 : Memref sig .tc .vmem S4x384x256 .fp8e4m3) (harg12 : arg12.IsWhole) (arg13 : Memref sig .tc .vmem S8x4x384 .i8) (harg13 : arg13.IsWhole) (arg14 : Memref sig .tc .vmem S4x384x256 .fp8e4m3) (harg14 : arg14.IsWhole) (arg15 : Memref sig .tc .vmem S12x4x256 .i8) (harg15 : arg15.IsWhole) (arg16 : Memref sig .tc .vmem S1536x2880 .bf16) (harg16 : arg16.IsWhole) (arg17 : Memref sig .tc .vmem S2880x1536 .bf16) (harg17 : arg17.IsWhole) (arg18 : Memref sig .tc .vmem S2880x1536 .f32) (harg18 : arg18.IsWhole) (arg19 : Memref sig .tc .vmem S2x2880x256 .bf16) (harg19 : arg19.IsWhole) (arg20 : Memref sig .tc .vmem S2x1536x256 .bf16) (harg20 : arg20.IsWhole) (arg21 : Memref sig .tc .vmem S2880x256 .bf16) (harg21 : arg21.IsWhole) (arg22 : Memref sig .tc .vmem S2880x256 .bf16) (harg22 : arg22.IsWhole) (arg23 : Memref sig .tc .vmem S1536x256 .bf16) (harg23 : arg23.IsWhole) (arg24 : Memref sig .tc .vmem S1536x256 .bf16) (harg24 : arg24.IsWhole) (arg25 : Memref sig .tc .vmem S1536x256 .bf16) (harg25 : arg25.IsWhole) (arg26 : Memref sig .tc .vmem S90x256 .i32) (harg26 : arg26.IsWhole) (arg27 : Memref sig .tc .vmem S8x2880 .i32) (harg27 : arg27.IsWhole) (arg28 : Memref sig .tc .vmem S8x4x384 .i32) (harg28 : arg28.IsWhole) (arg29 : Memref sig .tc .vmem S12x4x256 .i32) (harg29 : arg29.IsWhole) (arg30 : DmaSems sig S2x2) (arg31 : DmaSems sig S_) (arg32 : DmaSems sig S2) : cc0_mm (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 = (k0_part93 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 >>= fun r => match r with | ⟨arg0, _, _⟩ => epi i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 arg0) := by
  rw [cc0_mm_eq_skeleton]; rfl

end Cert.Kernel.Hand

end
-- ==== Proof.Kernel.Mid.lean ====
/-
The work on one tile: the quantising loops over the slots' contents, the three products, the packing
of the scales. It reads the two slots and the two `x` operands, which come back as they were, and writes
the windows and the other scratch buffers.
-/
module

public import proofs.«01_k».proof.Proof.Kernel.Base
public import proofs.«01_k».proof.Proof.Kernel.Loops
public import proofs.«01_k».proof.Proof.Kernel.Split

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

set_option pp.maxSteps 80
set_option maxHeartbeats 4000000 in
theorem mid (c : Dev nD) (t : Fin cfg0.N) (arg7 : Memref sig .tc .vmem S2880x256 .f32) (harg7 : arg7.IsWhole) (arg8 : Memref sig .tc .vmem S2880x256 .fp8e4m3) (harg8 : arg8.IsWhole) (arg9 : Memref sig .tc .vmem S90x256 .i8) (harg9 : arg9.IsWhole) (arg10 : Memref sig .tc .vmem S2880x256 .fp8e4m3) (harg10 : arg10.IsWhole) (arg11 : Memref sig .tc .vmem S8x2880 .i8) (harg11 : arg11.IsWhole) (arg12 : Memref sig .tc .vmem S4x384x256 .fp8e4m3) (harg12 : arg12.IsWhole) (arg13 : Memref sig .tc .vmem S8x4x384 .i8) (harg13 : arg13.IsWhole) (arg14 : Memref sig .tc .vmem S4x384x256 .fp8e4m3) (harg14 : arg14.IsWhole) (arg15 : Memref sig .tc .vmem S12x4x256 .i8) (harg15 : arg15.IsWhole) (arg16 : Memref sig .tc .vmem S1536x2880 .bf16) (harg16 : arg16.IsWhole) (arg17 : Memref sig .tc .vmem S2880x1536 .bf16) (harg17 : arg17.IsWhole) (arg18 : Memref sig .tc .vmem S2880x1536 .f32) (harg18 : arg18.IsWhole) (arg21 : Memref sig .tc .vmem S2880x256 .bf16) (harg21 : arg21.IsWhole) (arg22 : Memref sig .tc .vmem S2880x256 .bf16) (harg22 : arg22.IsWhole) (arg23 : Memref sig .tc .vmem S1536x256 .bf16) (harg23 : arg23.IsWhole) (arg24 : Memref sig .tc .vmem S1536x256 .bf16) (harg24 : arg24.IsWhole) (arg25 : Memref sig .tc .vmem S1536x256 .bf16) (harg25 : arg25.IsWhole) (arg26 : Memref sig .tc .vmem S90x256 .i32) (harg26 : arg26.IsWhole) (arg27 : Memref sig .tc .vmem S8x2880 .i32) (harg27 : arg27.IsWhole) (arg28 : Memref sig .tc .vmem S8x4x384 .i32) (harg28 : arg28.IsWhole) (arg29 : Memref sig .tc .vmem S12x4x256 .i32) (harg29 : arg29.IsWhole)
    (dxr : S1536x2880.Idx → F .bf16) (dxc : S2880x1536.Idx → F .bf16) (f0 : HbBuf0 (F := F) c (rslot0 (Ring.sl 2 t.val))) (f1 : HbBuf0 (F := F) c (rslot1 (Ring.sl 2 t.val))) (arg0 : BitVec 32) (v26 : F .bf16) :
    ∀ (W : Waits sig Unit) (k : Prog (TpuEff nD τ sig (Elt F) Λ₀ .tc) (Σ' (arg0 : BitVec 32) (v1148 : BitVec 32), BitVec 32)) (K : _ → sProp 𝕄),
      iprop((∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg18 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ owns (c : Thread nD τ) arg16 fullShare dxr ∗ owns (c : Thread nD τ) arg17 fullShare dxc ∗ slotP0 c (Ring.sl 2 t.val) f0 ∗ slotP1 c (Ring.sl 2 t.val) f1 ∗ owes (c : Thread nD τ) 0 W
        ∗ (iprop((∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg18 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ owns (c : Thread nD τ) arg16 fullShare dxr ∗ owns (c : Thread nD τ) arg17 fullShare dxc ∗ slotP0 c (Ring.sl 2 t.val) f0 ∗ slotP1 c (Ring.sl 2 t.val) f1 ∗ (∃ W', owes (c : Thread nD τ) 0 W')) -∗ wp frame (wpE (defs₀ (F := F)) Variants.none c none) Set.univ k K))
      ⊢ wp frame (wpE (defs₀ (F := F)) Variants.none c none) Set.univ (rest (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 arg16 harg16 arg17 harg17 arg18 harg18 scM0_3 (Memref.isWhole_whole _) scM0_4 (Memref.isWhole_whole _) arg21 harg21 arg22 harg22 arg23 harg23 arg24 harg24 arg25 harg25 arg26 harg26 arg27 harg27 arg28 harg28 arg29 harg29 cc0_scratch14 cc0_scratch15 cc0_scratch16 arg0 v26 0#32 k) K := by
  intro W k K
  unfold rest
  simp only [k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton]
  have hca0_30 := ca0_30 t
  have hca0_40 := ca0_40 t
  have hca0_46 := ca0_46 t
  have hca0_51 := ca0_51 t
  have hca0_61 := ca0_61 t
  have hca1_26 := ca1_26 t
  have hca1_33 := ca1_33 t
  have hca1_47 := ca1_47 t
  have hca1_54 := ca1_54 t
  unfold owns
  iintro ⟨⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d18, %f18, -, H18⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%fx16, %hx16, H16⟩, ⟨%fx17, %hx17, H17⟩, HS0, HS1, HW, Hk⟩
  sl_exec
  iapply Hk
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H18]
  · iexists _, _; isplitr; swap; · iexact H18
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  isplitl [H28]
  · iexists _, _; isplitr; swap; · iexact H28
    ipureintro; rfl
  isplitl [H29]
  · iexists _, _; isplitr; swap; · iexact H29
    ipureintro; rfl
  isplitl [H16]
  · iexists _; isplitr; swap; · iexact H16
    ipureintro; exact hx16
  isplitl [H17]
  · iexists _; isplitr; swap; · iexact H17
    ipureintro; exact hx17
  isplitl [HS0]; · iexact HS0
  isplitl [HS1]; · iexact HS1
  iexists _; iexact HW

end Cert.Kernel.Hand

end
-- ==== Proof.Kernel.FinA.lean ====
/-
The end of a step: the copy of the tile of `y` is started.
-/
module

public import proofs.«01_k».proof.Proof.Kernel.Base
public import proofs.«01_k».proof.Proof.Kernel.Split

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

set_option pp.maxSteps 3000
set_option maxHeartbeats 4000000 in
theorem finA (c : Dev nD) (t : Fin cfg0.N) (ht : t.val < 22) (arg7 : Memref sig .tc .vmem S2880x256 .f32) (harg7 : arg7.IsWhole) (arg8 : Memref sig .tc .vmem S2880x256 .fp8e4m3) (harg8 : arg8.IsWhole) (arg9 : Memref sig .tc .vmem S90x256 .i8) (harg9 : arg9.IsWhole) (arg10 : Memref sig .tc .vmem S2880x256 .fp8e4m3) (harg10 : arg10.IsWhole) (arg11 : Memref sig .tc .vmem S8x2880 .i8) (harg11 : arg11.IsWhole) (arg12 : Memref sig .tc .vmem S4x384x256 .fp8e4m3) (harg12 : arg12.IsWhole) (arg13 : Memref sig .tc .vmem S8x4x384 .i8) (harg13 : arg13.IsWhole) (arg14 : Memref sig .tc .vmem S4x384x256 .fp8e4m3) (harg14 : arg14.IsWhole) (arg15 : Memref sig .tc .vmem S12x4x256 .i8) (harg15 : arg15.IsWhole) (arg16 : Memref sig .tc .vmem S1536x2880 .bf16) (harg16 : arg16.IsWhole) (arg17 : Memref sig .tc .vmem S2880x1536 .bf16) (harg17 : arg17.IsWhole) (arg18 : Memref sig .tc .vmem S2880x1536 .f32) (harg18 : arg18.IsWhole) (arg21 : Memref sig .tc .vmem S2880x256 .bf16) (harg21 : arg21.IsWhole) (arg22 : Memref sig .tc .vmem S2880x256 .bf16) (harg22 : arg22.IsWhole) (arg23 : Memref sig .tc .vmem S1536x256 .bf16) (harg23 : arg23.IsWhole) (arg24 : Memref sig .tc .vmem S1536x256 .bf16) (harg24 : arg24.IsWhole) (arg26 : Memref sig .tc .vmem S90x256 .i32) (harg26 : arg26.IsWhole) (arg27 : Memref sig .tc .vmem S8x2880 .i32) (harg27 : arg27.IsWhole) (arg28 : Memref sig .tc .vmem S8x4x384 .i32) (harg28 : arg28.IsWhole) (arg29 : Memref sig .tc .vmem S12x4x256 .i32) (harg29 : arg29.IsWhole) :
    ∀ (W : Waits sig Unit) (K : _ → sProp 𝕄),
      iprop(yfree (F := F) c ∗ owes (c : Thread nD τ) 0 W
        ∗ (∀ v : BitVec 32, iprop(yfly (F := F) c (Ring.bk 22 t.val) ∗ (∃ W', owes (c : Thread nD τ) 0 W')) -∗ K ⟨BitVec.ofNat 32 ((grid0.coords t) 0).val, v, 0#32⟩))
      ⊢ wp frame (wpE (defs₀ (F := F)) Variants.none c none) Set.univ (fin (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 arg16 harg16 arg17 harg17 arg18 harg18 scM0_3 (Memref.isWhole_whole _) scM0_4 (Memref.isWhole_whole _) arg21 harg21 arg22 harg22 arg23 harg23 arg24 harg24 scM0_9 (Memref.isWhole_whole _) arg26 harg26 arg27 harg27 arg28 harg28 arg29 harg29 cc0_scratch14 cc0_scratch15 cc0_scratch16 (BitVec.ofNat 32 ((grid0.coords t) 0).val)) K := by
  intro W K
  have h8 : k0_cond8 (grid0.coords t) = 1#1 := by rw [hc8]; omega
  haveI : Fact (k0_cond8 (grid0.coords t) = 1#1) := ⟨h8⟩
  have h9 : ¬ k0_cond9 (grid0.coords t) = 1#1 := by rw [hc9]; omega
  haveI : Fact (¬ k0_cond9 (grid0.coords t) = 1#1) := ⟨h9⟩
  have hcn0 := ca_67 t h8
  unfold fin yfree ydlv owns
  iintro ⟨⟨Hq, ⟨%g, Hg⟩, ⟨%d25, %f25, -, H25⟩⟩, HW, Hk⟩
  ihave Hx := (y_split c (Ring.bk 22 t.val) g) $$ Hg
  icases Hx with ⟨Hg, Hgr⟩
  sl_exec (disch := first | sl_exact h8 | sl_exact h9)
  sl_step
  iapply Hk
  isplitl [Hq Hgr H25]
  · unfold yfly; iexists f25, g
    isplitl [Hq]; · iexact Hq
    isplitl [Hgr]; · iexact Hgr
    iexact H25
  iexists _; iexact HW

end Cert.Kernel.Hand

end
-- ==== Proof.Kernel.FinB.lean ====
/-
The end of the last step: the tail of `y` and the twelve blocks of `dx` are copied out.
-/
module

public import proofs.«01_k».proof.Proof.Kernel.Base
public import proofs.«01_k».proof.Proof.Kernel.Split

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

set_option pp.maxSteps 3000
set_option maxHeartbeats 16000000 in
theorem epiB (c : Dev nD) (t : Fin cfg0.N) (ht : t.val = 22) (arg7 : Memref sig .tc .vmem S2880x256 .f32) (harg7 : arg7.IsWhole) (arg8 : Memref sig .tc .vmem S2880x256 .fp8e4m3) (harg8 : arg8.IsWhole) (arg9 : Memref sig .tc .vmem S90x256 .i8) (harg9 : arg9.IsWhole) (arg10 : Memref sig .tc .vmem S2880x256 .fp8e4m3) (harg10 : arg10.IsWhole) (arg11 : Memref sig .tc .vmem S8x2880 .i8) (harg11 : arg11.IsWhole) (arg12 : Memref sig .tc .vmem S4x384x256 .fp8e4m3) (harg12 : arg12.IsWhole) (arg13 : Memref sig .tc .vmem S8x4x384 .i8) (harg13 : arg13.IsWhole) (arg14 : Memref sig .tc .vmem S4x384x256 .fp8e4m3) (harg14 : arg14.IsWhole) (arg15 : Memref sig .tc .vmem S12x4x256 .i8) (harg15 : arg15.IsWhole) (arg16 : Memref sig .tc .vmem S1536x2880 .bf16) (harg16 : arg16.IsWhole) (arg17 : Memref sig .tc .vmem S2880x1536 .bf16) (harg17 : arg17.IsWhole) (arg18 : Memref sig .tc .vmem S2880x1536 .f32) (harg18 : arg18.IsWhole) (arg21 : Memref sig .tc .vmem S2880x256 .bf16) (harg21 : arg21.IsWhole) (arg22 : Memref sig .tc .vmem S2880x256 .bf16) (harg22 : arg22.IsWhole) (arg23 : Memref sig .tc .vmem S1536x256 .bf16) (harg23 : arg23.IsWhole) (arg24 : Memref sig .tc .vmem S1536x256 .bf16) (harg24 : arg24.IsWhole) (arg26 : Memref sig .tc .vmem S90x256 .i32) (harg26 : arg26.IsWhole) (arg27 : Memref sig .tc .vmem S8x2880 .i32) (harg27 : arg27.IsWhole) (arg28 : Memref sig .tc .vmem S8x4x384 .i32) (harg28 : arg28.IsWhole) (arg29 : Memref sig .tc .vmem S12x4x256 .i32) (harg29 : arg29.IsWhole) :
    ∀ (W : Waits sig Unit) (K : _ → sProp 𝕄),
      iprop((∃ d, owns (c : Thread nD τ) arg18 fullShare d) ∗ (∃ d, owns (c : Thread nD τ) arg21 fullShare d) ∗ yfree (F := F) c ∗ (∃ f, hbPt0 (F := F) c hbM0_5 f) ∗  owes (c : Thread nD τ) 0 W
        ∗ ( iprop((∃ d, owns (c : Thread nD τ) arg18 fullShare d) ∗ (∃ d, owns (c : Thread nD τ) arg21 fullShare d) ∗ yfree (F := F) c ∗ (∃ f, hbPt0 (F := F) c hbM0_5 f) ∗  (∃ W', owes (c : Thread nD τ) 0 W')) -∗ K PUnit.unit))
      ⊢ wp frame (wpE (defs₀ (F := F)) Variants.none c none) Set.univ (epi (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 arg16 harg16 arg17 harg17 arg18 harg18 scM0_3 (Memref.isWhole_whole _) scM0_4 (Memref.isWhole_whole _) arg21 harg21 arg22 harg22 arg23 harg23 arg24 harg24 scM0_9 (Memref.isWhole_whole _) arg26 harg26 arg27 harg27 arg28 harg28 arg29 harg29 cc0_scratch14 cc0_scratch15 cc0_scratch16 (BitVec.ofNat 32 ((grid0.coords t) 0).val)) K := by
  intro W K
  have h8 : ¬ k0_cond8 (grid0.coords t) = 1#1 := by rw [hc8]; omega
  haveI : Fact (¬ k0_cond8 (grid0.coords t) = 1#1) := ⟨h8⟩
  have h9 : k0_cond9 (grid0.coords t) = 1#1 := by rw [hc9]; omega
  haveI : Fact (k0_cond9 (grid0.coords t) = 1#1) := ⟨h9⟩
  unfold epi
  simp only [k0_part60_eq_skeleton, k0_part61_eq_skeleton, k0_part62_eq_skeleton, k0_part63_eq_skeleton, k0_part64_eq_skeleton]
  unfold k0_part60_skel k0_part61_skel k0_part62_skel k0_part63_skel k0_part64_skel
  unfold yfree ydlv owns
  iintro ⟨⟨%d18, %f18, -, H18⟩, ⟨%d21, %f21, -, H21⟩, ⟨Hq, ⟨%g, Hg⟩, ⟨%d25, %f25, -, H25⟩⟩, ⟨%x, Hx⟩, HW, Hk⟩
  sl_exec (disch := first | sl_exact h8 | sl_exact h9)
  sl_step
  iapply Hk
  isplitl [H18]
  · iexists _, _; isplitr; swap; · iexact H18
    ipureintro; rfl
  isplitl [H21]
  · iexists _, _; isplitr; swap; · iexact H21
    ipureintro; rfl
  isplitl [Hq Hg H25]
  · isplitl [Hq]; · iexact Hq
    isplitl [Hg]; · iexists _; iexact Hg
    iexists _, _; isplitr; swap; · iexact H25
    ipureintro; rfl
  isplitl [Hx]; · iexists _; iexact Hx
  iexists _; iexact HW
set_option maxHeartbeats 16000000 in
theorem finB (c : Dev nD) (t : Fin cfg0.N) (ht : t.val = 22) (arg7 : Memref sig .tc .vmem S2880x256 .f32) (harg7 : arg7.IsWhole) (arg8 : Memref sig .tc .vmem S2880x256 .fp8e4m3) (harg8 : arg8.IsWhole) (arg9 : Memref sig .tc .vmem S90x256 .i8) (harg9 : arg9.IsWhole) (arg10 : Memref sig .tc .vmem S2880x256 .fp8e4m3) (harg10 : arg10.IsWhole) (arg11 : Memref sig .tc .vmem S8x2880 .i8) (harg11 : arg11.IsWhole) (arg12 : Memref sig .tc .vmem S4x384x256 .fp8e4m3) (harg12 : arg12.IsWhole) (arg13 : Memref sig .tc .vmem S8x4x384 .i8) (harg13 : arg13.IsWhole) (arg14 : Memref sig .tc .vmem S4x384x256 .fp8e4m3) (harg14 : arg14.IsWhole) (arg15 : Memref sig .tc .vmem S12x4x256 .i8) (harg15 : arg15.IsWhole) (arg16 : Memref sig .tc .vmem S1536x2880 .bf16) (harg16 : arg16.IsWhole) (arg17 : Memref sig .tc .vmem S2880x1536 .bf16) (harg17 : arg17.IsWhole) (arg18 : Memref sig .tc .vmem S2880x1536 .f32) (harg18 : arg18.IsWhole) (arg21 : Memref sig .tc .vmem S2880x256 .bf16) (harg21 : arg21.IsWhole) (arg22 : Memref sig .tc .vmem S2880x256 .bf16) (harg22 : arg22.IsWhole) (arg23 : Memref sig .tc .vmem S1536x256 .bf16) (harg23 : arg23.IsWhole) (arg24 : Memref sig .tc .vmem S1536x256 .bf16) (harg24 : arg24.IsWhole) (arg26 : Memref sig .tc .vmem S90x256 .i32) (harg26 : arg26.IsWhole) (arg27 : Memref sig .tc .vmem S8x2880 .i32) (harg27 : arg27.IsWhole) (arg28 : Memref sig .tc .vmem S8x4x384 .i32) (harg28 : arg28.IsWhole) (arg29 : Memref sig .tc .vmem S12x4x256 .i32) (harg29 : arg29.IsWhole) :
    ∀ (W : Waits sig Unit) (K : _ → sProp 𝕄),
      iprop( owes (c : Thread nD τ) 0 W
        ∗ (∀ v : BitVec 32, iprop( (∃ W', owes (c : Thread nD τ) 0 W')) -∗ K ⟨BitVec.ofNat 32 ((grid0.coords t) 0).val, v, 0#32⟩))
      ⊢ wp frame (wpE (defs₀ (F := F)) Variants.none c none) Set.univ (fin (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 arg16 harg16 arg17 harg17 arg18 harg18 scM0_3 (Memref.isWhole_whole _) scM0_4 (Memref.isWhole_whole _) arg21 harg21 arg22 harg22 arg23 harg23 arg24 harg24 scM0_9 (Memref.isWhole_whole _) arg26 harg26 arg27 harg27 arg28 harg28 arg29 harg29 cc0_scratch14 cc0_scratch15 cc0_scratch16 (BitVec.ofNat 32 ((grid0.coords t) 0).val)) K := by
  intro W K
  have h8 : ¬ k0_cond8 (grid0.coords t) = 1#1 := by rw [hc8]; omega
  haveI : Fact (¬ k0_cond8 (grid0.coords t) = 1#1) := ⟨h8⟩
  have h9 : k0_cond9 (grid0.coords t) = 1#1 := by rw [hc9]; omega
  haveI : Fact (k0_cond9 (grid0.coords t) = 1#1) := ⟨h9⟩
  unfold fin
  iintro ⟨HW, Hk⟩
  sl_exec (disch := first | sl_exact h8 | sl_exact h9)
  sl_step
  iapply Hk
  iexists _; iexact HW
set_option maxHeartbeats 16000000 in
theorem epiA (c : Dev nD) (t : Fin cfg0.N) (ht : t.val < 22) (arg7 : Memref sig .tc .vmem S2880x256 .f32) (harg7 : arg7.IsWhole) (arg8 : Memref sig .tc .vmem S2880x256 .fp8e4m3) (harg8 : arg8.IsWhole) (arg9 : Memref sig .tc .vmem S90x256 .i8) (harg9 : arg9.IsWhole) (arg10 : Memref sig .tc .vmem S2880x256 .fp8e4m3) (harg10 : arg10.IsWhole) (arg11 : Memref sig .tc .vmem S8x2880 .i8) (harg11 : arg11.IsWhole) (arg12 : Memref sig .tc .vmem S4x384x256 .fp8e4m3) (harg12 : arg12.IsWhole) (arg13 : Memref sig .tc .vmem S8x4x384 .i8) (harg13 : arg13.IsWhole) (arg14 : Memref sig .tc .vmem S4x384x256 .fp8e4m3) (harg14 : arg14.IsWhole) (arg15 : Memref sig .tc .vmem S12x4x256 .i8) (harg15 : arg15.IsWhole) (arg16 : Memref sig .tc .vmem S1536x2880 .bf16) (harg16 : arg16.IsWhole) (arg17 : Memref sig .tc .vmem S2880x1536 .bf16) (harg17 : arg17.IsWhole) (arg18 : Memref sig .tc .vmem S2880x1536 .f32) (harg18 : arg18.IsWhole) (arg21 : Memref sig .tc .vmem S2880x256 .bf16) (harg21 : arg21.IsWhole) (arg22 : Memref sig .tc .vmem S2880x256 .bf16) (harg22 : arg22.IsWhole) (arg23 : Memref sig .tc .vmem S1536x256 .bf16) (harg23 : arg23.IsWhole) (arg24 : Memref sig .tc .vmem S1536x256 .bf16) (harg24 : arg24.IsWhole) (arg26 : Memref sig .tc .vmem S90x256 .i32) (harg26 : arg26.IsWhole) (arg27 : Memref sig .tc .vmem S8x2880 .i32) (harg27 : arg27.IsWhole) (arg28 : Memref sig .tc .vmem S8x4x384 .i32) (harg28 : arg28.IsWhole) (arg29 : Memref sig .tc .vmem S12x4x256 .i32) (harg29 : arg29.IsWhole) :
    ∀ (W : Waits sig Unit) (K : _ → sProp 𝕄),
      iprop( owes (c : Thread nD τ) 0 W
        ∗ ( iprop( (∃ W', owes (c : Thread nD τ) 0 W')) -∗ K PUnit.unit))
      ⊢ wp frame (wpE (defs₀ (F := F)) Variants.none c none) Set.univ (epi (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 arg16 harg16 arg17 harg17 arg18 harg18 scM0_3 (Memref.isWhole_whole _) scM0_4 (Memref.isWhole_whole _) arg21 harg21 arg22 harg22 arg23 harg23 arg24 harg24 scM0_9 (Memref.isWhole_whole _) arg26 harg26 arg27 harg27 arg28 harg28 arg29 harg29 cc0_scratch14 cc0_scratch15 cc0_scratch16 (BitVec.ofNat 32 ((grid0.coords t) 0).val)) K := by
  intro W K
  have h8 : k0_cond8 (grid0.coords t) = 1#1 := by rw [hc8]; omega
  haveI : Fact (k0_cond8 (grid0.coords t) = 1#1) := ⟨h8⟩
  have h9 : ¬ k0_cond9 (grid0.coords t) = 1#1 := by rw [hc9]; omega
  haveI : Fact (¬ k0_cond9 (grid0.coords t) = 1#1) := ⟨h9⟩
  unfold epi
  iintro ⟨HW, Hk⟩
  sl_exec (disch := first | sl_exact h8 | sl_exact h9)
  sl_step
  iapply Hk
  iexists _; iexact HW

end Cert.Kernel.Hand

end
-- ==== Proof.Kernel.Step.lean ====
/-
One step of the grid: the head (waits and starts of copies), the work on the tile, the end.
-/
module

public import proofs.«01_k».proof.Proof.Kernel.HeadA
public import proofs.«01_k».proof.Proof.Kernel.HeadB
public import proofs.«01_k».proof.Proof.Kernel.HeadC
public import proofs.«01_k».proof.Proof.Kernel.HeadD
public import proofs.«01_k».proof.Proof.Kernel.Mid
public import proofs.«01_k».proof.Proof.Kernel.FinA
public import proofs.«01_k».proof.Proof.Kernel.FinB

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

/-- The two `x` operands: anything before the first step, the HBM arrays' contents after it. -/
def xsAt (c : Dev nD) (W2 : HbBuf0 (F := F) c hbM0_2) (W3 : HbBuf0 (F := F) c hbM0_3) (k : ℕ) : sProp 𝕄 :=
  if k = 0 then iprop((∃ d, owns (c : Thread nD τ) scM0_0 fullShare d) ∗ (∃ d, owns (c : Thread nD τ) scM0_1 fullShare d))
  else iprop(owns (c : Thread nD τ) scM0_0 fullShare (hbM0_2.view.read (Elt F) W2) ∗ owns (c : Thread nD τ) scM0_1 fullShare (hbM0_3.view.read (Elt F) W3))

set_option maxHeartbeats 4000000 in
theorem headAll (c : Dev nD) (t : Fin cfg0.N) (arg7 : Memref sig .tc .vmem S2880x256 .f32) (harg7 : arg7.IsWhole) (arg8 : Memref sig .tc .vmem S2880x256 .fp8e4m3) (harg8 : arg8.IsWhole) (arg9 : Memref sig .tc .vmem S90x256 .i8) (harg9 : arg9.IsWhole) (arg10 : Memref sig .tc .vmem S2880x256 .fp8e4m3) (harg10 : arg10.IsWhole) (arg11 : Memref sig .tc .vmem S8x2880 .i8) (harg11 : arg11.IsWhole) (arg12 : Memref sig .tc .vmem S4x384x256 .fp8e4m3) (harg12 : arg12.IsWhole) (arg13 : Memref sig .tc .vmem S8x4x384 .i8) (harg13 : arg13.IsWhole) (arg14 : Memref sig .tc .vmem S4x384x256 .fp8e4m3) (harg14 : arg14.IsWhole) (arg15 : Memref sig .tc .vmem S12x4x256 .i8) (harg15 : arg15.IsWhole)
    (W0 : HbBuf0 (F := F) c hbM0_0) (W1 : HbBuf0 (F := F) c hbM0_1) (W2 : HbBuf0 (F := F) c hbM0_2) (W3 : HbBuf0 (F := F) c hbM0_3) (W : Waits sig Unit) (K : _ → sProp 𝕄) (Q : sProp 𝕄) (hK : Q ⊢ K ⟨BitVec.ofNat 32 ((grid0.coords t) 0).val, k0_pay514 (F := F) (grid0.coords t), 0#32⟩) :
    iprop(ringAt0 c W0 t.val ∗ ringAt1 c W1 t.val ∗ yAt (F := F) c t.val ∗ xsAt c W2 W3 t.val ∗ (∃ d, owns (c : Thread nD τ) scM0_2 fullShare d) ∗ semVal ((c : Thread nD τ), SemLoc.dma 23) 0 ∗ semVal ((c : Thread nD τ), SemLoc.dma 24) 0 ∗ hbPt0 c hbM0_2 W2 ∗ hbPt0 c hbM0_3 W3 ∗ owes (c : Thread nD τ) 0 W
        ∗ (iprop(have0 c W0 t.val ∗ next0 c W0 (t.val + 1) ∗ have1 c W1 t.val ∗ next1 c W1 (t.val + 1) ∗ yfree (F := F) c ∗ xsAt c W2 W3 (t.val + 1) ∗ (∃ d, owns (c : Thread nD τ) scM0_2 fullShare d) ∗ semVal ((c : Thread nD τ), SemLoc.dma 23) 0 ∗ semVal ((c : Thread nD τ), SemLoc.dma 24) 0 ∗ hbPt0 c hbM0_2 W2 ∗ hbPt0 c hbM0_3 W3 ∗ (∃ W', owes (c : Thread nD τ) 0 W')) -∗ Q))
      ⊢ wp frame (wpE (defs₀ (F := F)) Variants.none c none) Set.univ (k0_part65 (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) cc0_scratch14 cc0_scratch15 cc0_scratch16) K := by
  have hN : t.val < 23 := lt_of_lt_of_eq t.isLt (show cfg0.N = 23 from N_0)
  unfold ringAt0 ringAt1
  have hx' : xsAt c W2 W3 (t.val + 1) = _ := if_neg (Nat.succ_ne_zero _)
  rw [hx']
  by_cases hA : t.val = 0
  · rw [show next0 c W0 t.val = free0 c W0 (Ring.sl 2 t.val) from if_pos (Or.inl hA)]
    rw [show next0 c W0 (t.val + 1) = fly0 c W0 (Ring.sl 2 (t.val + 1)) (t.val + 1) from (if_neg (by omega)).trans (if_neg (by omega))]
    rw [show next1 c W1 t.val = free1 c W1 (Ring.sl 2 t.val) from if_pos (Or.inl hA)]
    rw [show next1 c W1 (t.val + 1) = fly1 c W1 (Ring.sl 2 (t.val + 1)) (t.val + 1) from (if_neg (by omega)).trans (if_neg (by omega))]
    rw [show yAt (F := F) c t.val = yfree c from if_pos (Or.inl hA), show xsAt c W2 W3 t.val = _ from if_pos hA]
    iintro ⟨⟨Hn0, Hf0⟩, ⟨Hn1, Hf1⟩, Hy, ⟨Hx, Hc⟩, HA, H23, H24, Hh2, Hh3, HW, Hk⟩
    iapply (headA c t hA _ _ _ _ _ _ _ _ _ _ _ _ _ _ _ _ _ _ _ _ _ _ _ _ _ _ _ _ _ _ _ _ _ _ _ _ _ _ _ _ W0 W1 W2 W3 W K)
    isplitl [Hn0]; · iexact Hn0
    isplitl [Hf0]; · iexact Hf0
    isplitl [Hn1]; · iexact Hn1
    isplitl [Hf1]; · iexact Hf1
    isplitl [Hx]; · iexact Hx
    isplitl [Hc]; · iexact Hc
    isplitl [HA]; · iexact HA
    isplitl [H23]; · iexact H23
    isplitl [H24]; · iexact H24
    isplitl [Hh2]; · iexact Hh2
    isplitl [Hh3]; · iexact Hh3
    isplitl [HW]; · iexact HW
    iintro ⟨Ha0, Hn0, Ha1, Hn1, Hx, Hc, HA, H23, H24, Hh2, Hh3, HW⟩
    iapply hK
    iapply Hk
    isplitl [Ha0]; · iexact Ha0
    isplitl [Hn0]; · iexact Hn0
    isplitl [Ha1]; · iexact Ha1
    isplitl [Hn1]; · iexact Hn1
    isplitl [Hy]; · iexact Hy
    isplitl [Hx Hc]
    · isplitl [Hx]; · iexact Hx
      iexact Hc
    isplitl [HA]; · iexact HA
    isplitl [H23]; · iexact H23
    isplitl [H24]; · iexact H24
    isplitl [Hh2]; · iexact Hh2
    isplitl [Hh3]; · iexact Hh3
    iexact HW
  by_cases hB : 0 < t.val ∧ t.val < 21
  · rw [show next0 c W0 t.val = fly0 c W0 (Ring.sl 2 t.val) t.val from (if_neg (by omega)).trans (if_neg (by omega))]
    rw [show next0 c W0 (t.val + 1) = fly0 c W0 (Ring.sl 2 (t.val + 1)) (t.val + 1) from (if_neg (by omega)).trans (if_neg (by omega))]
    rw [show next1 c W1 t.val = fly1 c W1 (Ring.sl 2 t.val) t.val from (if_neg (by omega)).trans (if_neg (by omega))]
    rw [show next1 c W1 (t.val + 1) = fly1 c W1 (Ring.sl 2 (t.val + 1)) (t.val + 1) from (if_neg (by omega)).trans (if_neg (by omega))]
    rw [show yAt (F := F) c t.val = yfly c (Ring.bk 22 (t.val - 1)) from if_neg (by omega), show xsAt c W2 W3 t.val = _ from if_neg (by omega)]
    iintro ⟨⟨Hn0, Hf0⟩, ⟨Hn1, Hf1⟩, Hy, ⟨Hx, Hc⟩, HA, H23, H24, Hh2, Hh3, HW, Hk⟩
    iapply (headB c t hB _ _ _ _ _ _ _ _ _ _ _ _ _ _ _ _ _ _ _ _ _ _ _ _ _ _ _ _ _ _ _ _ _ _ _ _ _ _ _ _ W0 W1 W K)
    isplitl [Hn0]; · iexact Hn0
    isplitl [Hf0]; · iexact Hf0
    isplitl [Hn1]; · iexact Hn1
    isplitl [Hf1]; · iexact Hf1
    isplitl [Hy]; · iexact Hy
    isplitl [HW]; · iexact HW
    iintro ⟨Ha0, Hn0, Ha1, Hn1, Hy, HW⟩
    iapply hK
    iapply Hk
    isplitl [Ha0]; · iexact Ha0
    isplitl [Hn0]; · iexact Hn0
    isplitl [Ha1]; · iexact Ha1
    isplitl [Hn1]; · iexact Hn1
    isplitl [Hy]; · iexact Hy
    isplitl [Hx Hc]
    · isplitl [Hx]; · iexact Hx
      iexact Hc
    isplitl [HA]; · iexact HA
    isplitl [H23]; · iexact H23
    isplitl [H24]; · iexact H24
    isplitl [Hh2]; · iexact Hh2
    isplitl [Hh3]; · iexact Hh3
    iexact HW
  by_cases hC : t.val = 21
  · rw [show next0 c W0 t.val = fly0 c W0 (Ring.sl 2 t.val) t.val from (if_neg (by omega)).trans (if_neg (by omega))]
    rw [show next0 c W0 (t.val + 1) = flyT0 c W0 (Ring.sl 2 (t.val + 1)) from (if_neg (by omega)).trans (if_pos (by omega))]
    rw [show next1 c W1 t.val = fly1 c W1 (Ring.sl 2 t.val) t.val from (if_neg (by omega)).trans (if_neg (by omega))]
    rw [show next1 c W1 (t.val + 1) = flyT1 c W1 (Ring.sl 2 (t.val + 1)) from (if_neg (by omega)).trans (if_pos (by omega))]
    rw [show yAt (F := F) c t.val = yfly c (Ring.bk 22 (t.val - 1)) from if_neg (by omega), show xsAt c W2 W3 t.val = _ from if_neg (by omega)]
    iintro ⟨⟨Hn0, Hf0⟩, ⟨Hn1, Hf1⟩, Hy, ⟨Hx, Hc⟩, HA, H23, H24, Hh2, Hh3, HW, Hk⟩
    iapply (headC c t hC _ _ _ _ _ _ _ _ _ _ _ _ _ _ _ _ _ _ _ _ _ _ _ _ _ _ _ _ _ _ _ _ _ _ _ _ _ _ _ _ W0 W1 W K)
    isplitl [Hn0]; · iexact Hn0
    isplitl [Hf0]; · iexact Hf0
    isplitl [Hn1]; · iexact Hn1
    isplitl [Hf1]; · iexact Hf1
    isplitl [Hy]; · iexact Hy
    isplitl [HW]; · iexact HW
    iintro ⟨Ha0, Hn0, Ha1, Hn1, Hy, HW⟩
    iapply hK
    iapply Hk
    isplitl [Ha0]; · iexact Ha0
    isplitl [Hn0]; · iexact Hn0
    isplitl [Ha1]; · iexact Ha1
    isplitl [Hn1]; · iexact Hn1
    isplitl [Hy]; · iexact Hy
    isplitl [Hx Hc]
    · isplitl [Hx]; · iexact Hx
      iexact Hc
    isplitl [HA]; · iexact HA
    isplitl [H23]; · iexact H23
    isplitl [H24]; · iexact H24
    isplitl [Hh2]; · iexact Hh2
    isplitl [Hh3]; · iexact Hh3
    iexact HW
  have hD : t.val = 22 := by omega
  rw [show next0 c W0 t.val = flyT0 c W0 (Ring.sl 2 t.val) from (if_neg (by omega)).trans (if_pos (by omega))]
  rw [show next0 c W0 (t.val + 1) = free0 c W0 (Ring.sl 2 (t.val + 1)) from if_pos (by omega)]
  rw [show next1 c W1 t.val = flyT1 c W1 (Ring.sl 2 t.val) from (if_neg (by omega)).trans (if_pos (by omega))]
  rw [show next1 c W1 (t.val + 1) = free1 c W1 (Ring.sl 2 (t.val + 1)) from if_pos (by omega)]
  rw [show yAt (F := F) c t.val = yfly c (Ring.bk 22 (t.val - 1)) from if_neg (by omega), show xsAt c W2 W3 t.val = _ from if_neg (by omega)]
  iintro ⟨⟨Hn0, Hf0⟩, ⟨Hn1, Hf1⟩, Hy, ⟨Hx, Hc⟩, HA, H23, H24, Hh2, Hh3, HW, Hk⟩
  iapply (headD c t hD _ _ _ _ _ _ _ _ _ _ _ _ _ _ _ _ _ _ _ _ _ _ _ _ _ _ _ _ _ _ _ _ _ _ _ _ _ _ _ _ W0 W1 W K)
  isplitl [Hn0]; · iexact Hn0
  isplitl [Hn1]; · iexact Hn1
  isplitl [Hy]; · iexact Hy
  isplitl [HW]; · iexact HW
  iintro ⟨Ha0, Ha1, Hy, HW⟩
  iapply hK
  iapply Hk
  isplitl [Ha0]; · iexact Ha0
  isplitl [Hf0]; · iexact Hf0
  isplitl [Ha1]; · iexact Ha1
  isplitl [Hf1]; · iexact Hf1
  isplitl [Hy]; · iexact Hy
  isplitl [Hx Hc]
  · isplitl [Hx]; · iexact Hx
    iexact Hc
  isplitl [HA]; · iexact HA
  isplitl [H23]; · iexact H23
  isplitl [H24]; · iexact H24
  isplitl [Hh2]; · iexact Hh2
  isplitl [Hh3]; · iexact Hh3
  iexact HW

/-- What follows the parts of a step. -/
def contE (t : Fin cfg0.N) (arg7 : Memref sig .tc .vmem S2880x256 .f32) (harg7 : arg7.IsWhole) (arg8 : Memref sig .tc .vmem S2880x256 .fp8e4m3) (harg8 : arg8.IsWhole) (arg9 : Memref sig .tc .vmem S90x256 .i8) (harg9 : arg9.IsWhole) (arg10 : Memref sig .tc .vmem S2880x256 .fp8e4m3) (harg10 : arg10.IsWhole) (arg11 : Memref sig .tc .vmem S8x2880 .i8) (harg11 : arg11.IsWhole) (arg12 : Memref sig .tc .vmem S4x384x256 .fp8e4m3) (harg12 : arg12.IsWhole) (arg13 : Memref sig .tc .vmem S8x4x384 .i8) (harg13 : arg13.IsWhole) (arg14 : Memref sig .tc .vmem S4x384x256 .fp8e4m3) (harg14 : arg14.IsWhole) (arg15 : Memref sig .tc .vmem S12x4x256 .i8) (harg15 : arg15.IsWhole) : (Σ' (arg0 : BitVec 32) (v1148 : BitVec 32), BitVec 32) → Prog (TpuEff nD τ sig (Elt F) Λ₀ .tc) PUnit := fun r => match r with
  | ⟨arg0, _, _⟩ => epi (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) cc0_scratch14 cc0_scratch15 cc0_scratch16 arg0
/-- What follows the head. -/
def contR (t : Fin cfg0.N) (arg7 : Memref sig .tc .vmem S2880x256 .f32) (harg7 : arg7.IsWhole) (arg8 : Memref sig .tc .vmem S2880x256 .fp8e4m3) (harg8 : arg8.IsWhole) (arg9 : Memref sig .tc .vmem S90x256 .i8) (harg9 : arg9.IsWhole) (arg10 : Memref sig .tc .vmem S2880x256 .fp8e4m3) (harg10 : arg10.IsWhole) (arg11 : Memref sig .tc .vmem S8x2880 .i8) (harg11 : arg11.IsWhole) (arg12 : Memref sig .tc .vmem S4x384x256 .fp8e4m3) (harg12 : arg12.IsWhole) (arg13 : Memref sig .tc .vmem S8x4x384 .i8) (harg13 : arg13.IsWhole) (arg14 : Memref sig .tc .vmem S4x384x256 .fp8e4m3) (harg14 : arg14.IsWhole) (arg15 : Memref sig .tc .vmem S12x4x256 .i8) (harg15 : arg15.IsWhole) : (Σ' (arg0 : BitVec 32) (v26 : F .bf16), BitVec 32) → Prog (TpuEff nD τ sig (Elt F) Λ₀ .tc) (Σ' (arg0 : BitVec 32) (v1148 : BitVec 32), BitVec 32) := fun r => match r with
  | ⟨arg0, v26, c0_i32_19⟩ => rest (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) cc0_scratch14 cc0_scratch15 cc0_scratch16 arg0 v26 c0_i32_19 (fin (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) cc0_scratch14 cc0_scratch15 cc0_scratch16 arg0)
theorem mm_cont (t : Fin cfg0.N) (arg7 : Memref sig .tc .vmem S2880x256 .f32) (harg7 : arg7.IsWhole) (arg8 : Memref sig .tc .vmem S2880x256 .fp8e4m3) (harg8 : arg8.IsWhole) (arg9 : Memref sig .tc .vmem S90x256 .i8) (harg9 : arg9.IsWhole) (arg10 : Memref sig .tc .vmem S2880x256 .fp8e4m3) (harg10 : arg10.IsWhole) (arg11 : Memref sig .tc .vmem S8x2880 .i8) (harg11 : arg11.IsWhole) (arg12 : Memref sig .tc .vmem S4x384x256 .fp8e4m3) (harg12 : arg12.IsWhole) (arg13 : Memref sig .tc .vmem S8x4x384 .i8) (harg13 : arg13.IsWhole) (arg14 : Memref sig .tc .vmem S4x384x256 .fp8e4m3) (harg14 : arg14.IsWhole) (arg15 : Memref sig .tc .vmem S12x4x256 .i8) (harg15 : arg15.IsWhole) : cc0_mm (F := F) (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) cc0_scratch14 cc0_scratch15 cc0_scratch16 = k0_part93 (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) cc0_scratch14 cc0_scratch15 cc0_scratch16 >>= contE t arg7 harg7 arg8 harg8 arg9 harg9 arg10 harg10 arg11 harg11 arg12 harg12 arg13 harg13 arg14 harg14 arg15 harg15 := mm_split (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) cc0_scratch14 cc0_scratch15 cc0_scratch16
theorem part_cont (t : Fin cfg0.N) (arg7 : Memref sig .tc .vmem S2880x256 .f32) (harg7 : arg7.IsWhole) (arg8 : Memref sig .tc .vmem S2880x256 .fp8e4m3) (harg8 : arg8.IsWhole) (arg9 : Memref sig .tc .vmem S90x256 .i8) (harg9 : arg9.IsWhole) (arg10 : Memref sig .tc .vmem S2880x256 .fp8e4m3) (harg10 : arg10.IsWhole) (arg11 : Memref sig .tc .vmem S8x2880 .i8) (harg11 : arg11.IsWhole) (arg12 : Memref sig .tc .vmem S4x384x256 .fp8e4m3) (harg12 : arg12.IsWhole) (arg13 : Memref sig .tc .vmem S8x4x384 .i8) (harg13 : arg13.IsWhole) (arg14 : Memref sig .tc .vmem S4x384x256 .fp8e4m3) (harg14 : arg14.IsWhole) (arg15 : Memref sig .tc .vmem S12x4x256 .i8) (harg15 : arg15.IsWhole) : k0_part93 (F := F) (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) cc0_scratch14 cc0_scratch15 cc0_scratch16 = k0_part65 (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) cc0_scratch14 cc0_scratch15 cc0_scratch16 >>= contR t arg7 harg7 arg8 harg8 arg9 harg9 arg10 harg10 arg11 harg11 arg12 harg12 arg13 harg13 arg14 harg14 arg15 harg15 := part93_split (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) cc0_scratch14 cc0_scratch15 cc0_scratch16

set_option maxHeartbeats 4000000 in
theorem finAll (c : Dev nD) (t : Fin cfg0.N) (arg7 : Memref sig .tc .vmem S2880x256 .f32) (harg7 : arg7.IsWhole) (arg8 : Memref sig .tc .vmem S2880x256 .fp8e4m3) (harg8 : arg8.IsWhole) (arg9 : Memref sig .tc .vmem S90x256 .i8) (harg9 : arg9.IsWhole) (arg10 : Memref sig .tc .vmem S2880x256 .fp8e4m3) (harg10 : arg10.IsWhole) (arg11 : Memref sig .tc .vmem S8x2880 .i8) (harg11 : arg11.IsWhole) (arg12 : Memref sig .tc .vmem S4x384x256 .fp8e4m3) (harg12 : arg12.IsWhole) (arg13 : Memref sig .tc .vmem S8x4x384 .i8) (harg13 : arg13.IsWhole) (arg14 : Memref sig .tc .vmem S4x384x256 .fp8e4m3) (harg14 : arg14.IsWhole) (arg15 : Memref sig .tc .vmem S12x4x256 .i8) (harg15 : arg15.IsWhole) (W : Waits sig Unit) (K : PUnit → sProp 𝕄) :
    iprop((∃ d, owns (c : Thread nD τ) scM0_2 fullShare d) ∗ (∃ d, owns (c : Thread nD τ) scM0_5 fullShare d) ∗ (∃ d, owns (c : Thread nD τ) scM0_6 fullShare d) ∗ (∃ d, owns (c : Thread nD τ) scM0_7 fullShare d) ∗ yfree (F := F) c ∗ (∃ f, hbPt0 (F := F) c hbM0_5 f) ∗ owes (c : Thread nD τ) 0 W
      ∗ (iprop((∃ d, owns (c : Thread nD τ) scM0_2 fullShare d) ∗ (∃ d, owns (c : Thread nD τ) scM0_5 fullShare d) ∗ (∃ d, owns (c : Thread nD τ) scM0_6 fullShare d) ∗ (∃ d, owns (c : Thread nD τ) scM0_7 fullShare d) ∗ yAt (F := F) c (t.val + 1) ∗ (∃ f, hbPt0 (F := F) c hbM0_5 f) ∗ (∃ W', owes (c : Thread nD τ) 0 W')) -∗ K PUnit.unit))
    ⊢ wp frame (wpE (defs₀ (F := F)) Variants.none c none) Set.univ (fin (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) cc0_scratch14 cc0_scratch15 cc0_scratch16 (BitVec.ofNat 32 ((grid0.coords t) 0).val)) (fun r => wp frame (wpE (defs₀ (F := F)) Variants.none c none) Set.univ (contE t arg7 harg7 arg8 harg8 arg9 harg9 arg10 harg10 arg11 harg11 arg12 harg12 arg13 harg13 arg14 harg14 arg15 harg15 r) K) := by
  have hN : t.val < 23 := lt_of_lt_of_eq t.isLt (show cfg0.N = 23 from N_0)
  have hE : ∀ v : BitVec 32, (wp frame (wpE (defs₀ (F := F)) Variants.none c none) Set.univ (epi (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) cc0_scratch14 cc0_scratch15 cc0_scratch16 (BitVec.ofNat 32 ((grid0.coords t) 0).val)) K) ⊢ (fun r => wp frame (wpE (defs₀ (F := F)) Variants.none c none) Set.univ (contE t arg7 harg7 arg8 harg8 arg9 harg9 arg10 harg10 arg11 harg11 arg12 harg12 arg13 harg13 arg14 harg14 arg15 harg15 r) K) ⟨BitVec.ofNat 32 ((grid0.coords t) 0).val, v, 0#32⟩ := fun v => BIBase.Entails.rfl
  generalize (fun r => wp frame (wpE (defs₀ (F := F)) Variants.none c none) Set.univ (contE t arg7 harg7 arg8 harg8 arg9 harg9 arg10 harg10 arg11 harg11 arg12 harg12 arg13 harg13 arg14 harg14 arg15 harg15 r) K) = K1 at hE ⊢
  by_cases h : t.val < 22
  · rw [show yAt (F := F) c (t.val + 1) = yfly c (Ring.bk 22 t.val) from if_neg (by omega)]
    iintro ⟨HA, H21, H22, H23, Hy, Hd, HW, Hk⟩
    iapply (finA c t h _ _ _ _ _ _ _ _ _ _ _ _ _ _ _ _ _ _ _ _ _ _ _ _ _ _ _ _ _ _ _ _ _ _ _ _ _ _ _ _ W K1)
    isplitl [Hy]; · iexact Hy
    isplitl [HW]; · iexact HW
    iintro %v ⟨Hy, ⟨%W1, HW⟩⟩
    iapply (hE v)
    iapply (epiA c t h _ _ _ _ _ _ _ _ _ _ _ _ _ _ _ _ _ _ _ _ _ _ _ _ _ _ _ _ _ _ _ _ _ _ _ _ _ _ _ _ W1 K)
    isplitl [HW]; · iexact HW
    iintro HW
    iapply Hk
    isplitl [HA]; · iexact HA
    isplitl [H21]; · iexact H21
    isplitl [H22]; · iexact H22
    isplitl [H23]; · iexact H23
    isplitl [Hy]; · iexact Hy
    isplitl [Hd]; · iexact Hd
    iexact HW
  have h22 : t.val = 22 := by omega
  rw [show yAt (F := F) c (t.val + 1) = yfree c from if_pos (by omega)]
  iintro ⟨HA, H21, H22, H23, Hy, Hd, HW, Hk⟩
  iapply (finB c t h22 _ _ _ _ _ _ _ _ _ _ _ _ _ _ _ _ _ _ _ _ _ _ _ _ _ _ _ _ _ _ _ _ _ _ _ _ _ _ _ _ W K1)
  isplitl [HW]; · iexact HW
  iintro %v ⟨%W1, HW⟩
  iapply (hE v)
  iapply (epiB c t h22 _ _ _ _ _ _ _ _ _ _ _ _ _ _ _ _ _ _ _ _ _ _ _ _ _ _ _ _ _ _ _ _ _ _ _ _ _ _ _ _ W1 K)
  isplitl [HA]; · iexact HA
  isplitl [H21]; · iexact H21
  isplitl [Hy]; · iexact Hy
  isplitl [Hd]; · iexact Hd
  isplitl [HW]; · iexact HW
  iintro ⟨HA, H21, Hy, Hd, HW⟩
  iapply Hk
  isplitl [HA]; · iexact HA
  isplitl [H21]; · iexact H21
  isplitl [H22]; · iexact H22
  isplitl [H23]; · iexact H23
  isplitl [Hy]; · iexact Hy
  isplitl [Hd]; · iexact Hd
  iexact HW

variable (m : (ℓ : Loc nD τ sig) → Buf (Elt F) ℓ)
/-- What holds before step `k`. -/
def PhiR (c : Dev nD) (k : ℕ) : sProp 𝕄 :=
  iprop((∃ d, owns (c : Thread nD τ) scM0_2 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_10 fullShare d) ∗ (∃ d, owns (c : Thread nD τ) scM0_11 fullShare d) ∗ (∃ d, owns (c : Thread nD τ) scM0_12 fullShare d) ∗ (∃ d, owns (c : Thread nD τ) scM0_13 fullShare d) ∗ (∃ r, prngReg c r) ∗ (semVal ((c : Thread nD τ), SemLoc.dma 23) 0 ∗ semVal ((c : Thread nD τ), SemLoc.dma 24) 0 ∗ hbPt0 c hbM0_2 (V m c main_arg2) ∗ hbPt0 c hbM0_3 (V m c main_arg3))
    ∗ xsAt c (V m c main_arg2) (V m c main_arg3) k ∗ ringAt0 c (V m c main_arg0) k ∗ ringAt1 c (V m c main_arg1) k ∗ yAt (F := F) c k ∗ (∃ f, hbPt0 (F := F) c hbM0_5 f))

set_option pp.maxSteps 150 in
set_option maxHeartbeats 8000000 in
theorem step (c : Dev nD) (t : Fin cfg0.N) (arg7 : Memref sig .tc .vmem S2880x256 .f32) (harg7 : arg7.IsWhole) (arg8 : Memref sig .tc .vmem S2880x256 .fp8e4m3) (harg8 : arg8.IsWhole) (arg9 : Memref sig .tc .vmem S90x256 .i8) (harg9 : arg9.IsWhole) (arg10 : Memref sig .tc .vmem S2880x256 .fp8e4m3) (harg10 : arg10.IsWhole) (arg11 : Memref sig .tc .vmem S8x2880 .i8) (harg11 : arg11.IsWhole) (arg12 : Memref sig .tc .vmem S4x384x256 .fp8e4m3) (harg12 : arg12.IsWhole) (arg13 : Memref sig .tc .vmem S8x4x384 .i8) (harg13 : arg13.IsWhole) (arg14 : Memref sig .tc .vmem S4x384x256 .fp8e4m3) (harg14 : arg14.IsWhole) (arg15 : Memref sig .tc .vmem S12x4x256 .i8) (harg15 : arg15.IsWhole) (W : Waits sig Unit) (K : PUnit → sProp 𝕄) :
    iprop(PhiR m c t.val ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owes (c : Thread nD τ) 0 W
      ∗ (iprop(PhiR m c (t.val + 1) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ W', owes (c : Thread nD τ) 0 W')) -∗ K PUnit.unit))
    ⊢ wp frame (wpE (defs₀ (F := F)) Variants.none c none) Set.univ (cc0_mm (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) cc0_scratch14 cc0_scratch15 cc0_scratch16) K := by
  have hN : t.val < 23 := lt_of_lt_of_eq t.isLt (show cfg0.N = 23 from N_0)
  have hx1 : xsAt c (V m c main_arg2) (V m c main_arg3) (t.val + 1) ⊢ iprop(owns (c : Thread nD τ) scM0_0 fullShare (hbM0_2.view.read (Elt F) (V m c main_arg2)) ∗ owns (c : Thread nD τ) scM0_1 fullShare (hbM0_3.view.read (Elt F) (V m c main_arg3))) := BIBase.Entails.of_eq (if_neg (Nat.succ_ne_zero _))
  have hx2 : iprop(owns (c : Thread nD τ) scM0_0 fullShare (hbM0_2.view.read (Elt F) (V m c main_arg2)) ∗ owns (c : Thread nD τ) scM0_1 fullShare (hbM0_3.view.read (Elt F) (V m c main_arg3))) ⊢ xsAt c (V m c main_arg2) (V m c main_arg3) (t.val + 1) := BIBase.Entails.of_eq (if_neg (Nat.succ_ne_zero _)).symm
  have hsl : Ring.sl 2 (t.val + 1 + 1) = Ring.sl 2 t.val := Fin.ext (by simp only [Ring.sl, Fin.ofNat]; omega)
  have hfr0 : free0 c (V m c main_arg0) (Ring.sl 2 t.val) ⊢ free0 c (V m c main_arg0) (Ring.sl 2 (t.val + 1 + 1)) := by rw [hsl]
  have hfr1 : free1 c (V m c main_arg1) (Ring.sl 2 t.val) ⊢ free1 c (V m c main_arg1) (Ring.sl 2 (t.val + 1 + 1)) := by rw [hsl]
  rw [mm_cont, wp_bind, part_cont, wp_bind]
  have hK : (wp frame (wpE (defs₀ (F := F)) Variants.none c none) Set.univ (rest (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) cc0_scratch14 cc0_scratch15 cc0_scratch16 (BitVec.ofNat 32 ((grid0.coords t) 0).val) (k0_pay514 (F := F) (grid0.coords t)) 0#32 (fin (F := F) (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) cc0_scratch14 cc0_scratch15 cc0_scratch16 (BitVec.ofNat 32 ((grid0.coords t) 0).val))) (fun r => wp frame (wpE (defs₀ (F := F)) Variants.none c none) Set.univ (contE t arg7 harg7 arg8 harg8 arg9 harg9 arg10 harg10 arg11 harg11 arg12 harg12 arg13 harg13 arg14 harg14 arg15 harg15 r) K)) ⊢ (fun r => wp frame (wpE (defs₀ (F := F)) Variants.none c none) Set.univ (contR t arg7 harg7 arg8 harg8 arg9 harg9 arg10 harg10 arg11 harg11 arg12 harg12 arg13 harg13 arg14 harg14 arg15 harg15 r) (fun r => wp frame (wpE (defs₀ (F := F)) Variants.none c none) Set.univ (contE t arg7 harg7 arg8 harg8 arg9 harg9 arg10 harg10 arg11 harg11 arg12 harg12 arg13 harg13 arg14 harg14 arg15 harg15 r) K)) ⟨BitVec.ofNat 32 ((grid0.coords t) 0).val, k0_pay514 (F := F) (grid0.coords t), 0#32⟩ := BIBase.Entails.rfl
  have hfin := fun W' => finAll (F := F) c t arg7 harg7 arg8 harg8 arg9 harg9 arg10 harg10 arg11 harg11 arg12 harg12 arg13 harg13 arg14 harg14 arg15 harg15 W' K
  generalize (fun r => wp frame (wpE (defs₀ (F := F)) Variants.none c none) Set.univ (contR t arg7 harg7 arg8 harg8 arg9 harg9 arg10 harg10 arg11 harg11 arg12 harg12 arg13 harg13 arg14 harg14 arg15 harg15 r) (fun r => wp frame (wpE (defs₀ (F := F)) Variants.none c none) Set.univ (contE t arg7 harg7 arg8 harg8 arg9 harg9 arg10 harg10 arg11 harg11 arg12 harg12 arg13 harg13 arg14 harg14 arg15 harg15 r) K)) = K2 at hK ⊢
  generalize (fin (F := F) (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) cc0_scratch14 cc0_scratch15 cc0_scratch16 (BitVec.ofNat 32 ((grid0.coords t) 0).val)) = pf at hK hfin ⊢
  generalize (fun r => wp frame (wpE (defs₀ (F := F)) Variants.none c none) Set.univ (contE t arg7 harg7 arg8 harg8 arg9 harg9 arg10 harg10 arg11 harg11 arg12 harg12 arg13 harg13 arg14 harg14 arg15 harg15 r) K) = K1 at hK hfin ⊢
  unfold PhiR
  iintro ⟨⟨HA, H21, H22, H23, H24, H26, H27, H28, H29, Hg, ⟨Hs23, Hs24, Hh2, Hh3⟩, Hx, Hr0, Hr1, Hy, Hd⟩, Hw0, Hw1, Hw2, Hw3, Hw4, Hw5, Hw6, Hw7, Hw8, HW, Hk⟩
  iapply (headAll c t arg7 harg7 arg8 harg8 arg9 harg9 arg10 harg10 arg11 harg11 arg12 harg12 arg13 harg13 arg14 harg14 arg15 harg15 (V m c main_arg0) (V m c main_arg1) (V m c main_arg2) (V m c main_arg3) W K2 _ hK)
  isplitl [Hr0]; · iexact Hr0
  isplitl [Hr1]; · iexact Hr1
  isplitl [Hy]; · iexact Hy
  isplitl [Hx]; · iexact Hx
  isplitl [HA]; · iexact HA
  isplitl [Hs23]; · iexact Hs23
  isplitl [Hs24]; · iexact Hs24
  isplitl [Hh2]; · iexact Hh2
  isplitl [Hh3]; · iexact Hh3
  isplitl [HW]; · iexact HW
  iintro ⟨Ha0, Hn0, Ha1, Hn1, Hy, Hx, HA, Hs23, Hs24, Hh2, Hh3, ⟨%W1, HW⟩⟩
  unfold have0 have1 yfree ydlv
  icases Ha0 with ⟨Hc0, ⟨%f0, %hf0, HS0⟩, Hv0⟩
  icases Ha1 with ⟨Hc1, ⟨%f1, %hf1, HS1⟩, Hv1⟩
  icases Hy with ⟨Hq, Hgy, H25⟩
  ihave Hx := hx1 $$ Hx
  icases Hx with ⟨Hx, Hxc⟩
  iapply (mid c t _ _ _ _ _ _ _ _ _ _ _ _ _ _ _ _ _ _ _ _ _ _ _ _ _ _ _ _ _ _ _ _ _ _ _ _ _ _ _ _ _ _ _ _ f0 f1 (BitVec.ofNat 32 ((grid0.coords t) 0).val) _ W1 pf K1)
  isplitl [Hw0]; · iexact Hw0
  isplitl [Hw1]; · iexact Hw1
  isplitl [Hw2]; · iexact Hw2
  isplitl [Hw3]; · iexact Hw3
  isplitl [Hw4]; · iexact Hw4
  isplitl [Hw5]; · iexact Hw5
  isplitl [Hw6]; · iexact Hw6
  isplitl [Hw7]; · iexact Hw7
  isplitl [Hw8]; · iexact Hw8
  isplitl [HA]; · iexact HA
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [Hx]; · iexact Hx
  isplitl [Hxc]; · iexact Hxc
  isplitl [HS0]; · iexact HS0
  isplitl [HS1]; · iexact HS1
  isplitl [HW]; · iexact HW
  iintro ⟨Hw0, Hw1, Hw2, Hw3, Hw4, Hw5, Hw6, Hw7, Hw8, HA, H21, H22, H23, H24, H25, H26, H27, H28, H29, Hx, Hxc, HS0, HS1, ⟨%W2, HW⟩⟩
  iapply (hfin W2)
  isplitl [HA]; · iexact HA
  isplitl [H21]; · iexact H21
  isplitl [H22]; · iexact H22
  isplitl [H23]; · iexact H23
  isplitl [Hq Hgy H25]
  · unfold yfree ydlv
    isplitl [Hq]; · iexact Hq
    isplitl [Hgy]; · iexact Hgy
    iexact H25
  isplitl [Hd]; · iexact Hd
  isplitl [HW]; · iexact HW
  iintro ⟨HA, H21, H22, H23, Hy, Hd, HW⟩
  iapply Hk
  isplitl [HA H21 H22 H23 H24 H26 H27 H28 H29 Hg Hs23 Hs24 Hh2 Hh3 Hx Hxc Hc0 HS0 Hv0 Hc1 HS1 Hv1 Hn0 Hn1 Hy Hd]
  · isplitl [HA]; · iexact HA
    isplitl [H21]; · iexact H21
    isplitl [H22]; · iexact H22
    isplitl [H23]; · iexact H23
    isplitl [H24]; · iexact H24
    isplitl [H26]; · iexact H26
    isplitl [H27]; · iexact H27
    isplitl [H28]; · iexact H28
    isplitl [H29]; · iexact H29
    isplitl [Hg]; · iexact Hg
    isplitl [Hs23 Hs24 Hh2 Hh3]
    · isplitl [Hs23]; · iexact Hs23
      isplitl [Hs24]; · iexact Hs24
      isplitl [Hh2]; · iexact Hh2
      iexact Hh3
    isplitl [Hx Hxc]
    · iapply hx2
      isplitl [Hx]; · iexact Hx
      iexact Hxc
    isplitl [Hc0 HS0 Hv0 Hn0]
    · unfold ringAt0
      isplitl [Hn0]; · iexact Hn0
      iapply hfr0
      unfold free0
      isplitl [Hc0]; · iexact Hc0
      isplitl [HS0]; · iexists f0; iexact HS0
      iexact Hv0
    isplitl [Hc1 HS1 Hv1 Hn1]
    · unfold ringAt1
      isplitl [Hn1]; · iexact Hn1
      iapply hfr1
      unfold free1
      isplitl [Hc1]; · iexact Hc1
      isplitl [HS1]; · iexists f1; iexact HS1
      iexact Hv1
    isplitl [Hy]; · iexact Hy
    iexact Hd
  isplitl [Hw0]; · iexact Hw0
  isplitl [Hw1]; · iexact Hw1
  isplitl [Hw2]; · iexact Hw2
  isplitl [Hw3]; · iexact Hw3
  isplitl [Hw4]; · iexact Hw4
  isplitl [Hw5]; · iexact Hw5
  isplitl [Hw6]; · iexact Hw6
  isplitl [Hw7]; · iexact Hw7
  isplitl [Hw8]; · iexact Hw8
  iexact HW

end Cert.Kernel.Hand

end
-- ==== Proof.Kernel.Frame.lean ====
/-
The frame of the call: the invariant between grid points, the body obligation, the run.
The results' contents are stated nowhere here.
-/
module

public import proofs.«01_k».proof.Proof.Kernel.Step
public import Idealize.ShloMosaic.Lib.Claim

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)

/-- The nine windows are outputs whose contents are not named. -/
def forgets0 : Fin 9 → Bool := fun w => w.val == 0 || w.val == 1 || w.val == 2 || w.val == 3 || w.val == 4 || w.val == 5 || w.val == 6 || w.val == 7 || w.val == 8
/-- The proof data of the pipeline on core `c`. -/
def dats (_ : Fin 1) (c : Dev nD) : Dat τ (Elt F) Unit ℕ (Pipeline.UD sig nD τ) ℕ cfg0 c where
  A w := V m c (Pipeline.arrRef spec0 w)
  after w t := match w with
    | ⟨0, h⟩ => Pipeline.Dat.unnamed (cfg := cfg0) ⟨0, h⟩ t
    | ⟨1, h⟩ => Pipeline.Dat.unnamed (cfg := cfg0) ⟨1, h⟩ t
    | ⟨2, h⟩ => Pipeline.Dat.unnamed (cfg := cfg0) ⟨2, h⟩ t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ t := PhiR m c t.val
  q _ := fullShare
  owed _ := 0
theorem A_eq (c : Dev nD) (w : Fin cfg0.W) : (dats m 0 c).A w = V m c (Pipeline.arrRef spec0 w) := by
  dsimp only [dats]
theorem PhiR_castSucc (c : Dev nD) (t : Fin cfg0.N) : (dats m 0 c).Φ t.castSucc = PhiR m c t.val := by
  dsimp only [dats]; simp only [Fin.val_castSucc]
theorem PhiR_succ (c : Dev nD) (t : Fin cfg0.N) : (dats m 0 c).Φ t.succ = PhiR m c (t.val + 1) := by
  dsimp only [dats]; simp only [Fin.val_succ]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare d)
    ∗ (∃ d, owns (c : Thread nD τ) (ms0_1 t) fullShare d)
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d))
/-- and what it returns. -/
def bodyPost (c : Dev nD) (t : Fin cfg0.N) : sProp 𝕄 :=
  iprop((dats m 0 c).Φ t.succ ∗ (dats m 0 c).owesAt () t.succ
    ∗ (∃ d, owns (c : Thread nD τ) (ms0_0 t) fullShare d)
    ∗ (∃ d, owns (c : Thread nD τ) (ms0_1 t) fullShare d)
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [PhiR_castSucc m c t, PhiR_succ m c t]
  unfold Dat.owesAt Pipeline.owesWithin
  rw [show (dats m 0 c).owed t.castSucc = 0 from rfl, show (dats m 0 c).owed t.succ = 0 from rfl]
  iintro ⟨HP, ⟨%W, -, HW⟩, H0, H1, H2, H3, H4, H5, H6, H7, H8⟩
  iapply (step m c t _ _ _ _ _ _ _ _ _ _ _ _ _ _ _ _ _ _ W _)
  isplitl [HP]; · iexact HP
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HW]; · iexact HW
  iintro ⟨HP, H0, H1, H2, H3, H4, H5, H6, H7, H8, ⟨%W', HW'⟩⟩
  isplitl [HP]; · iexact HP
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

theorem hin (c : Dev nD) : Pipeline.ΦDR osem0 spec0 H0 R0 (V m) c ⊢ (dats m 0 c).Φ 0 := by
  rw [PhiDR0_eq, show (dats m 0 c).Φ 0 = PhiR m c 0 from rfl]
  have hx : iprop((∃ d, owns (c : Thread nD τ) scM0_0 fullShare d) ∗ (∃ d, owns (c : Thread nD τ) scM0_1 fullShare d)) ⊢ (xsAt (F := F) c (V m c main_arg2) (V m c main_arg3) 0 : sProp 𝕄) := BIBase.Entails.of_eq (if_pos rfl).symm
  have hy : yfree (F := F) c ⊢ yAt c 0 := BIBase.Entails.of_eq (if_pos (Or.inl rfl)).symm
  unfold PhiR
  iintro ⟨⟨HS0, HS1, HS2, HS3, HS4, HS5, HS6, HS7, HS8, HS9, HS10, HS11, HS12, HS13⟩, Hg, ⟨Hq0, Hq1, Hq2, Hq3, Hq4, Hq5, Hq6⟩, ⟨Hh0, Hh1, Hh2, Hh3⟩, ⟨Hy, Hd⟩⟩
  isplitl [HS2]; · iexact HS2
  isplitl [HS5]; · iexact HS5
  isplitl [HS6]; · iexact HS6
  isplitl [HS7]; · iexact HS7
  isplitl [HS8]; · iexact HS8
  isplitl [HS10]; · iexact HS10
  isplitl [HS11]; · iexact HS11
  isplitl [HS12]; · iexact HS12
  isplitl [HS13]; · iexact HS13
  isplitl [Hg]; · iexact Hg
  isplitl [Hq5 Hq6 Hh2 Hh3]
  · isplitl [Hq5]; · iexact Hq5
    isplitl [Hq6]; · iexact Hq6
    isplitl [Hh2]; · iexact Hh2
    iexact Hh3
  isplitl [HS0 HS1]
  · iapply hx
    isplitl [HS0]; · iexact HS0
    iexact HS1
  isplitl [HS3 Hq0 Hq1 Hh0]
  · iapply (ring0_in (F := F) c (V m c main_arg0))
    isplitl [HS3]; · iexact HS3
    isplitl [Hq0 Hq1]
    · isplitl [Hq0]; · iexact Hq0
      iexact Hq1
    iexact Hh0
  isplitl [HS4 Hq2 Hq3 Hh1]
  · iapply (ring1_in (F := F) c (V m c main_arg1))
    isplitl [HS4]; · iexact HS4
    isplitl [Hq2 Hq3]
    · isplitl [Hq2]; · iexact Hq2
      iexact Hq3
    iexact Hh1
  isplitl [Hq4 Hy HS9]
  · iapply hy
    unfold yfree ydlv
    isplitl [Hq4]; · iexact Hq4
    isplitl [Hy]; · iexact Hy
    iexact HS9
  iexact Hd

theorem hout (c : Dev nD) : (dats m 0 c).Φ (Fin.last cfg0.N) ⊢ Pipeline.ΦDR osem0 spec0 H0 R0 (V m) c := by
  rw [PhiDR0_eq, show (dats m 0 c).Φ (Fin.last cfg0.N) = PhiR m c grid0.N from rfl]
  have hx : (xsAt (F := F) c (V m c main_arg2) (V m c main_arg3) 23 : sProp 𝕄) ⊢ iprop(owns (c : Thread nD τ) scM0_0 fullShare (hbM0_2.view.read (Elt F) (V m c main_arg2)) ∗ owns (c : Thread nD τ) scM0_1 fullShare (hbM0_3.view.read (Elt F) (V m c main_arg3))) := BIBase.Entails.of_eq (if_neg (by decide))
  have hy : yAt (F := F) c 23 ⊢ yfree c := BIBase.Entails.of_eq (if_pos (Or.inr rfl))
  unfold PhiR
  rw [show grid0.N = 23 by rw [N_0]]
  iintro ⟨HS2, HS5, HS6, HS7, HS8, HS10, HS11, HS12, HS13, Hg, ⟨Hq5, Hq6, Hh2, Hh3⟩, Hx, Hr0, Hr1, Hy, Hd⟩
  ihave Hx := hx $$ Hx
  icases Hx with ⟨HS0, HS1⟩
  ihave Hr0 := (ring0_out (F := F) c (V m c main_arg0)) $$ Hr0
  icases Hr0 with ⟨HS3, ⟨Hq0, Hq1⟩, Hh0⟩
  ihave Hr1 := (ring1_out (F := F) c (V m c main_arg1)) $$ Hr1
  icases Hr1 with ⟨HS4, ⟨Hq2, Hq3⟩, Hh1⟩
  ihave Hy := hy $$ Hy
  unfold yfree ydlv
  icases Hy with ⟨Hq4, Hy, HS9⟩
  isplitl [HS0 HS1 HS2 HS3 HS4 HS5 HS6 HS7 HS8 HS9 HS10 HS11 HS12 HS13]
  · isplitl [HS0]; · iexists _; iexact HS0
    isplitl [HS1]; · iexists _; iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    iexact HS13
  isplitl [Hg]; · iexact Hg
  isplitl [Hq0 Hq1 Hq2 Hq3 Hq4 Hq5 Hq6]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    iexact Hq6
  isplitl [Hh0 Hh1 Hh2 Hh3]
  · isplitl [Hh0]; · iexact Hh0
    isplitl [Hh1]; · iexact Hh1
    isplitl [Hh2]; · iexact Hh2
    iexact Hh3
  isplitl [Hy]; · iexact Hy
  iexact Hd

set_option backward.isDefEq.respectTransparency.types false in
/-- The run of the call from any memory. -/
theorem run_main_quiescent : θ_run defs (onTc (τ := τ) (main (F := F))) (s₀ m ρ) (fun r => (Pipeline.RDat.FramePostR (cfgs 0) (fun c => (dats m 0 c).toRForget forgets0) R0 (V m)) r ∧ r.2.sem = fun _ => 0) :=
  Pipeline.θ_run_frame_dmaR_forget (Q' := _) cfgs (dats m) (0 : Fin 1) launch0 osem0 defs₀ Variants.none forgets0 ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- THE FRAME of the call: the arguments end unchanged and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)),
      ((h.1 c).2 main_arg1 (Finset.mem_sdiff.mpr ⟨Pipeline.mem_restRefs_of main_arg1 (by decide) (by decide), by decide⟩)),
      ((h.1 c).2 main_arg2 (Finset.mem_sdiff.mpr ⟨Pipeline.mem_restRefs_of main_arg2 (by decide) (by decide), by decide⟩)),
      ((h.1 c).2 main_arg3 (Finset.mem_sdiff.mpr ⟨Pipeline.mem_restRefs_of main_arg3 (by decide) (by decide), by decide⟩))⟩, h.2⟩) (run_main_quiescent m ρ)

end Cert.Kernel.Hand

end
-- ==== Proof.KernelIdeal.Base.lean ====
/-
What the pieces of the kernel's proof share: the launch, the branch conditions over the grid's
points, the names of the buffers, and the two rings that bring the tiles of `w` and `dy` in.

Each operand is streamed through two slots: at point `t` the copy of tile `t + 1` is started into the
other slot and the copy of tile `t` is waited for. The last tile is only 128 columns wide and is copied
into the first 128 columns of its slot; the other columns keep what an earlier tile left there.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.WritesUnit
public import Idealize.ShloMosaic.Lib.SparseCore.Scatter
public import Idealize.ShloMosaic.Lib.Exec.Geometry
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Core `c`'s buffers when the region is entered: as launched. -/
abbrev V (c : Dev nD) (b : Ref sig .tc) : Buf (Elt F) ((c : Thread nD τ).loc b) := m ((c : Thread nD τ).loc b)

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-! ## The branch conditions -/

theorem hc1 : ∀ t : Fin grid0.N, k0_cond1 (grid0.coords t) = 1#1 ↔ t.val = 0 := by decide +kernel
theorem hc2 : ∀ t : Fin grid0.N, k0_cond2 (grid0.coords t) = 1#1 ↔ t.val + 1 < 22 := by decide +kernel
theorem hc3 : ∀ t : Fin grid0.N, k0_cond3 (grid0.coords t) = 1#1 ↔ t.val + 1 = 22 := by decide +kernel
theorem hc4 : ∀ t : Fin grid0.N, k0_cond4 (grid0.coords t) = 1#1 ↔ t.val < 22 := by decide +kernel
theorem hc5 : ∀ t : Fin grid0.N, k0_cond5 (grid0.coords t) = 1#1 ↔ t.val = 22 := by decide +kernel
theorem hc7 : ∀ t : Fin grid0.N, k0_cond7 (grid0.coords t) = 1#1 ↔ 0 < t.val := by decide +kernel
theorem hc8 : ∀ t : Fin grid0.N, k0_cond8 (grid0.coords t) = 1#1 ↔ t.val < 22 := by decide +kernel
theorem hc9 : ∀ t : Fin grid0.N, k0_cond9 (grid0.coords t) = 1#1 ↔ t.val = 22 := by decide +kernel
/-- The condition under which the copies of the two `x` operands are waited for. -/
abbrev cond6 (i : grid0.Coords) : Prop := (Scalar.cmpi .ne (Scalar.extui (Scalar.cmpi .eq (BitVec.ofNat 32 (i 0).val) 0#32)) 0#32) = 1#1
theorem hc6 : ∀ t : Fin grid0.N, cond6 (grid0.coords t) ↔ t.val = 0 := by decide +kernel

/-! ## The buffers -/

abbrev ms0_0 (t : Fin cfg0.N) : Memref sig .tc .vmem S2880x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2880x256 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S90x256 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2880x256 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x2880 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x384x256 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x4x384 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4x384x256 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S12x4x256 .i8 := win0_8.stage (cfg0.slots t 8)
abbrev hs0_8 (t : Fin cfg0.N) : (ms0_8 t).IsWhole := hstage0_8 ((cfg0.slots t 8).cast nbuf0_8)
abbrev scM0_0 : Memref sig .tc .vmem S1536x2880 .bf16 := Memref.whole cc0_scratch0
abbrev scM0_1 : Memref sig .tc .vmem S2880x1536 .bf16 := Memref.whole cc0_scratch1
abbrev scM0_2 : Memref sig .tc .vmem S2880x1536 .f32 := Memref.whole cc0_scratch2
abbrev scM0_3 : Memref sig .tc .vmem S2x2880x256 .bf16 := Memref.whole cc0_scratch3
abbrev scM0_4 : Memref sig .tc .vmem S2x1536x256 .bf16 := Memref.whole cc0_scratch4
abbrev scM0_5 : Memref sig .tc .vmem S2880x256 .bf16 := Memref.whole cc0_scratch5
abbrev scM0_6 : Memref sig .tc .vmem S2880x256 .bf16 := Memref.whole cc0_scratch6
abbrev scM0_7 : Memref sig .tc .vmem S1536x256 .bf16 := Memref.whole cc0_scratch7
abbrev scM0_8 : Memref sig .tc .vmem S1536x256 .bf16 := Memref.whole cc0_scratch8
abbrev scM0_9 : Memref sig .tc .vmem S1536x256 .bf16 := Memref.whole cc0_scratch9
abbrev scM0_10 : Memref sig .tc .vmem S90x256 .i32 := Memref.whole cc0_scratch10
abbrev scM0_11 : Memref sig .tc .vmem S8x2880 .i32 := Memref.whole cc0_scratch11
abbrev scM0_12 : Memref sig .tc .vmem S8x4x384 .i32 := Memref.whole cc0_scratch12
abbrev scM0_13 : Memref sig .tc .vmem S12x4x256 .i32 := Memref.whole cc0_scratch13
abbrev hbM0_0 : Memref sig .tc .hbm S2880x5760 .bf16 := Memref.whole main_arg0
abbrev hbM0_1 : Memref sig .tc .hbm S1536x5760 .bf16 := Memref.whole main_arg1
abbrev hbM0_2 : Memref sig .tc .hbm S1536x2880 .bf16 := Memref.whole main_arg2
abbrev hbM0_3 : Memref sig .tc .hbm S2880x1536 .bf16 := Memref.whole main_arg3
abbrev hbM0_4 : Memref sig .tc .hbm S1536x5760 .bf16 := Memref.whole main_v0_0
abbrev hbM0_5 : Memref sig .tc .hbm S4x2880x384 .bf16 := Memref.whole main_v0_1
/-- A buffer's contents on core `c`, and the buffer held whole. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own cells. -/
abbrev osem0 : Fin 7 → SemLoc sig := fun j => (![SemLoc.dma 18, SemLoc.dma 19, SemLoc.dma 20, SemLoc.dma 21, SemLoc.dma 22, SemLoc.dma 23, SemLoc.dma 24] : Fin 7 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0) := by
  rw [Pipeline.ownSems0_eq_of_list c osem0 [0, 1, 2, 3, 4, 5, 6] (by decide) (by decide)]; rfl
/-- The operands read in HBM, and the two results the body writes there itself. -/
def H0 : Finset (Ref sig .tc) := {main_arg0, main_arg1, main_arg2, main_arg3}
def R0 : Finset (Ref sig .tc) := {main_v0_0, main_v0_1}
theorem H0_sub : H0 ⊆ Pipeline.restRefs sig spec0 := by decide
theorem R0_sub : R0 ⊆ Pipeline.restRefs sig spec0 \ H0 := by decide
theorem hbmPts0_eq (c : Dev nD) :
    (bigSep H0 (fun b => ((c : Thread nD τ).loc b) ↦{fullShare} V m c b) : sProp 𝕄) = iprop(hbPt0 c hbM0_0 (V m c main_arg0) ∗ hbPt0 c hbM0_1 (V m c main_arg1) ∗ hbPt0 c hbM0_2 (V m c main_arg2) ∗ hbPt0 c hbM0_3 (V m c main_arg3)) := by
  rw [BI.bigSep_eq_bigSepL_of_eq [main_arg0, main_arg1, main_arg2, main_arg3] (by decide) (by decide)]; rfl
theorem ownedPts0_eq (c : Dev nD) :
    (Pipeline.owned R0 c : sProp 𝕄) = iprop((∃ f, hbPt0 c hbM0_4 f) ∗ (∃ f, hbPt0 c hbM0_5 f)) := by
  unfold Pipeline.owned; rw [BI.bigSep_eq_bigSepL_of_eq [main_v0_0, main_v0_1] (by decide) (by decide)]; rfl
/-- What the launch hands the body and takes back, conjunct by conjunct. -/
theorem PhiDR0_eq (c : Dev nD) :
    (Pipeline.ΦDR osem0 spec0 H0 R0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d) ∗ (∃ d, owns (c : Thread nD τ) scM0_13 fullShare d)) ∗ (∃ r, prngReg c r) ∗ iprop(semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0) ∗ iprop(hbPt0 c hbM0_0 (V m c main_arg0) ∗ hbPt0 c hbM0_1 (V m c main_arg1) ∗ hbPt0 c hbM0_2 (V m c main_arg2) ∗ hbPt0 c hbM0_3 (V m c main_arg3)) ∗ iprop((∃ f, hbPt0 c hbM0_4 f) ∗ (∃ f, hbPt0 c hbM0_5 f))) := by
  rw [Pipeline.ΦDR_eq, scopedRest0_eq, ownSems00_eq, hbmPts0_eq, ownedPts0_eq]; simp only [scM0_0, scM0_1, scM0_2, scM0_3, scM0_4, scM0_5, scM0_6, scM0_7, scM0_8, scM0_9, scM0_10, scM0_11, scM0_12, scM0_13, owns_whole]; try rfl

omit [FloatOps F] in
/-- Off a view's cells its writes change nothing. -/
theorem writes_off {κ : Kind} {sp : Space} {S : Shape} {e : EltTy} (v : View sig κ sp S e) (f : v.ty.Contents (Elt F)) (p : View.Piece (Elt F) S e) (i : v.ty.Idx) (h : i ∉ v.set) :
    v.writes (Elt F) f [p] i = f i :=
  View.write_of_not_mem _ _ _ fun h' => h (View.set_slice_subset _ _ h')

theorem pt_writes_off (c : Dev nD) {sp : Space} {S : Shape} {e : EltTy} (v : View sig .tc sp S e) (f : v.ty.Contents (Elt F)) (p : View.Piece (Elt F) S e) (I : Finset v.ty.Idx) (h : ∀ i ∈ I, i ∉ v.set) :
    (v.loc (c : Thread nD τ) ↦[I]{fullShare} f : sProp 𝕄) ⊢ (v.loc (c : Thread nD τ) ↦[I]{fullShare} (v.writes (Elt F) f [p])) :=
  BIBase.Entails.of_eq (pointsTo_congr fun i hi => (writes_off v f p i (h i hi)).symm)

instance : NeZero grid0.N := ⟨by rw [N_0]; decide⟩

/-! ## Ring 0: `main_arg0` streamed tile by tile through the two slots of `cc0_scratch3` -/

theorem inb_slot0 (s : Fin 2) : ∀ a, (![s.val, 0, 0] : Fin 3 → Nat) a + S1x2880x256.size a ≤ S2x2880x256.size a := by
  have := s.isLt; intro a; fin_cases a <;> simp <;> omega
theorem inb_nslot0 (s : Fin 2) : ∀ a, (![s.val, 0, 0] : Fin 3 → Nat) a + S1x2880x128.size a ≤ S2x2880x256.size a := by
  have := s.isLt; intro a; fin_cases a <;> simp <;> omega
theorem inb_src0 (b : Fin 22) : ∀ a, (![0, 256 * b.val] : Fin 2 → Nat) a + S2880x256.size a ≤ S2880x5760.size a := by
  have := b.isLt; intro a; fin_cases a <;> simp <;> omega
theorem inb_tail0 : ∀ a, (![0, 5632] : Fin 2 → Nat) a + S2880x128.size a ≤ S2880x5760.size a := by
  intro a; fin_cases a <;> simp
theorem inb_cell0 (s : Fin 2) : ∀ a, (![0, s.val] : Fin 2 → Nat) a + S1x1.size a ≤ S2x2.size a := by
  have := s.isLt; intro a; fin_cases a <;> simp <;> omega
/-- Slot `s` of the ring, spelt as the body spells it. -/
def rslot0 (s : Fin 2) : Memref sig .tc .vmem S2880x256 .bf16 :=
  (scM0_3.slice (Rect.unit (s := S2x2880x256) ![s.val, 0, 0] S1x2880x256.size (inb_slot0 s)) (fun _ => rfl)).squeeze S2880x256 squeezes_S1x2880x256_S2880x256
/-- The first 128 columns of slot `s`: what the last, narrow tile is copied into. -/
def nslot0 (s : Fin 2) : Memref sig .tc .vmem S2880x128 .bf16 :=
  (scM0_3.slice (Rect.unit (s := S2x2880x256) ![s.val, 0, 0] S1x2880x128.size (inb_nslot0 s)) (fun _ => rfl)).squeeze S2880x128 squeezes_S1x2880x128_S2880x128
/-- Tile `b` of the operand, `b < 22`. -/
def srcB0 (b : Fin 22) : Memref sig .tc .hbm S2880x256 .bf16 :=
  hbM0_0.slice (Rect.unit (s := S2880x5760) ![0, 256 * b.val] S2880x256.size (inb_src0 b)) (fun _ => rfl)
/-- The last tile, 128 columns wide. -/
def srcT0 : Memref sig .tc .hbm S2880x128 .bf16 :=
  hbM0_0.slice (Rect.unit (s := S2880x5760) ![0, 5632] S2880x128.size inb_tail0) (fun _ => rfl)
/-- The cell of slot `s`. -/
def cellA0 (s : Fin 2) : DmaSems sig S_ := (cc0_scratch14.slice (Rect.unit (s := S2x2) ![0, s.val] S1x1.size (inb_cell0 s))).squeeze S_ squeezes_S1x1_S_
abbrev cellR0 (s : Fin 2) : SemLoc sig := SemLoc.dma (cellA0 s).sem
theorem cellR0_0 : cellR0 0 = SemLoc.dma 18 := by decide
theorem cellR0_1 : cellR0 1 = SemLoc.dma 19 := by decide

section Ring0
variable (c : Dev nD) (W : HbBuf0 (F := F) c hbM0_0)
/-- The operand is lent by share, one read-share copy of it per slot. -/
abbrev qs0 (s : Fin 2) : PosShare TreeShare := if s.val = 0 then fullShare.left else fullShare.right
abbrev slotP0 (s : Fin 2) (f : HbBuf0 (F := F) c (rslot0 s)) : sProp 𝕄 := (rslot0 s).view.loc (c : Thread nD τ) ↦[(rslot0 s).view.set]{fullShare} f
abbrev nslotP0 (s : Fin 2) (f : HbBuf0 (F := F) c (nslot0 s)) : sProp 𝕄 := (nslot0 s).view.loc (c : Thread nD τ) ↦[(nslot0 s).view.set]{fullShare} f
abbrev cellP0 (s : Fin 2) : sProp 𝕄 := semVal ((c : Thread nD τ), cellR0 s) 0
abbrev srcP0 (s : Fin 2) (b : Fin 22) : sProp 𝕄 := (srcB0 b).view.loc (c : Thread nD τ) ↦[(srcB0 b).view.set]{qs0 s} W
abbrev srcTP0 (s : Fin 2) : sProp 𝕄 := (srcT0).view.loc (c : Thread nD τ) ↦[(srcT0).view.set]{qs0 s} W
/-- What a transfer leaves of its slot's copy of the operand, and of the slot (definitions, so that no run reads them). -/
def restP0 (s : Fin 2) (b : Fin 22) : sProp 𝕄 := ((c : Thread nD τ).loc main_arg0) ↦[Finset.univ \ (srcB0 b).view.set]{qs0 s} W
def restT0 (s : Fin 2) : sProp 𝕄 := ((c : Thread nD τ).loc main_arg0) ↦[Finset.univ \ (srcT0).view.set]{qs0 s} W
def nrest0 (s : Fin 2) (f : HbBuf0 (F := F) c (nslot0 s)) : sProp 𝕄 := (nslot0 s).view.loc (c : Thread nD τ) ↦[(rslot0 s).view.set \ (nslot0 s).view.set]{fullShare} f
abbrev wholeP0 (s : Fin 2) : sProp 𝕄 := ((c : Thread nD τ).loc main_arg0) ↦[Finset.univ]{qs0 s} W
abbrev landed0 (s : Fin 2) (b : Fin 22) (f : HbBuf0 (F := F) c (rslot0 s)) : HbBuf0 (F := F) c (rslot0 s) :=
  (rslot0 s).view.writes (Elt F) f [⟨Rect.whole S2880x256, ReadAs.same.apply ((srcB0 b).view.read (Elt F) W)⟩]
abbrev nlanded0 (s : Fin 2) (f : HbBuf0 (F := F) c (nslot0 s)) : HbBuf0 (F := F) c (nslot0 s) :=
  (nslot0 s).view.writes (Elt F) f [⟨Rect.whole S2880x128, ReadAs.same.apply ((srcT0).view.read (Elt F) W)⟩]
/-- Slot `s` holds tile `k`. -/
def Ok0 (s : Fin 2) (k : ℕ) (f : HbBuf0 (F := F) c (rslot0 s)) : Prop :=
  (∀ h : k < 22, (rslot0 s).view.read (Elt F) f = (srcB0 ⟨k, h⟩).view.read (Elt F) W)
  ∧ (k = 22 → (nslot0 s).view.read (Elt F) f = (srcT0).view.read (Elt F) W)
/-- Tile `k` on its way into slot `s`, with what is left of the operand's copy meanwhile. -/
def fly0 (s : Fin 2) (k : ℕ) : sProp 𝕄 := iprop(∃ f, Transfers.Flight countersEmb (c : Thread nD τ) (cellR0 s) default ((rslot0 s).view.amount (cellR0 s))
    iprop(slotP0 c s (landed0 c W s (Ring.bk 22 k) f) ∗ srcP0 c W s (Ring.bk 22 k)) ∗ restP0 c W s (Ring.bk 22 k))
/-- The narrow tile on its way into slot `s`. -/
def flyT0 (s : Fin 2) : sProp 𝕄 := iprop(∃ f, Transfers.Flight countersEmb (c : Thread nD τ) (cellR0 s) default ((nslot0 s).view.amount (cellR0 s))
    iprop(nslotP0 c s (nlanded0 c W s f) ∗ srcTP0 c W s) ∗ restT0 c W s ∗ nrest0 c s f)
def free0 (s : Fin 2) : sProp 𝕄 := iprop(cellP0 c s ∗ (∃ f, slotP0 c s f) ∗ wholeP0 c W s)
/-- The slot of tile `k` before point `k`: tile `k` in flight, or, before the first point and after the last, free. -/
def next0 (k : ℕ) : sProp 𝕄 :=
  if k = 0 ∨ k = 23 then free0 c W (Ring.sl 2 k) else if k = 22 then flyT0 c W (Ring.sl 2 k) else fly0 c W (Ring.sl 2 k) k
def ringAt0 (k : ℕ) : sProp 𝕄 := iprop(next0 c W k ∗ free0 c W (Ring.sl 2 (k + 1)))
/-- The slot of tile `k` once it landed. -/
def have0 (k : ℕ) : sProp 𝕄 := iprop(cellP0 c (Ring.sl 2 k) ∗ (∃ f, ⌜Ok0 c W (Ring.sl 2 k) k f⌝ ∗ slotP0 c (Ring.sl 2 k) f) ∗ wholeP0 c W (Ring.sl 2 k))
omit [FloatOps F] in
theorem cellP0_0 : cellP0 (F := F) c 0 = semVal ((c : Thread nD τ), SemLoc.dma 18) 0 := congrArg (fun x => (semVal ((c : Thread nD τ), x) 0 : sProp 𝕄)) cellR0_0
omit [FloatOps F] in
theorem cellP0_1 : cellP0 (F := F) c 1 = semVal ((c : Thread nD τ), SemLoc.dma 19) 0 := congrArg (fun x => (semVal ((c : Thread nD τ), x) 0 : sProp 𝕄)) cellR0_1
end Ring0

abbrev slotSet0 (s : Fin 2) : Finset S2x2880x256.Idx := (Rect.unit (s := S2x2880x256) ![s.val, 0, 0] S1x2880x256.size (inb_slot0 s)).set
theorem slotSet0_eq (s : Fin 2) : (rslot0 s).view.set = slotSet0 s := by
  simp only [rslot0, Memref.view_squeeze, View.set_reshape]; exact View.set_slice_whole _ _
theorem nslotSet0_eq (s : Fin 2) : (nslot0 s).view.set = (Rect.unit (s := S2x2880x256) ![s.val, 0, 0] S1x2880x128.size (inb_nslot0 s)).set := by
  simp only [nslot0, Memref.view_squeeze, View.set_reshape]; exact View.set_slice_whole _ _
theorem nslot0_sub (s : Fin 2) : (nslot0 s).view.set ⊆ (rslot0 s).view.set := by
  rw [slotSet0_eq, nslotSet0_eq]
  refine fun (i : S2x2880x256.Idx) hi => ?_
  refine Rect.mem_set_unit.mpr fun a => ?_
  have := Rect.mem_set_unit.mp hi a
  fin_cases a <;> simp [S1x2880x128, S1x2880x256] at this ⊢ <;> omega
theorem slots0_disjoint (s s' : Fin 2) (h : s ≠ s') : Disjoint (slotSet0 s) (slotSet0 s') :=
  Ring.lead_disjoint (s := S2x2880x256) (0 : Fin 3) 1 (fun s : Fin 2 => (![s.val, 0, 0] : Fin 3 → Nat)) S1x2880x256.size inb_slot0 (fun s => by simp) rfl s s' h
theorem slots0_cover : Finset.univ.biUnion slotSet0 = Finset.univ :=
  Ring.lead_cover (s := S2x2880x256) (0 : Fin 3) 1 (fun s : Fin 2 => (![s.val, 0, 0] : Fin 3 → Nat)) S1x2880x256.size inb_slot0 (fun s => by simp)
    (fun s a ha => by fin_cases a <;> first | exact absurd rfl ha | rfl) rfl (fun a ha => by fin_cases a <;> first | exact absurd rfl ha | rfl) rfl

section InOut0
variable (c : Dev nD) (W : HbBuf0 (F := F) c hbM0_0)
theorem slotP0_eq (s : Fin 2) (f) : slotP0 (F := F) c s f = (((c : Thread nD τ).loc cc0_scratch3) ↦[slotSet0 s]{fullShare} f : sProp 𝕄) := by
  unfold slotP0; rw [slotSet0_eq]; rfl
theorem src0_split (s : Fin 2) (b : Fin 22) : wholeP0 (F := F) c W s ⊣⊢ iprop(srcP0 c W s b ∗ restP0 c W s b) := by
  unfold restP0; exact pointsTo_split_subset (Finset.subset_univ _)
theorem srcT0_split (s : Fin 2) : wholeP0 (F := F) c W s ⊣⊢ iprop(srcTP0 c W s ∗ restT0 c W s) := by
  unfold restT0; exact pointsTo_split_subset (Finset.subset_univ _)
theorem nslot0_split (s : Fin 2) (f : HbBuf0 (F := F) c (rslot0 s)) : slotP0 (F := F) c s f ⊢ iprop(nslotP0 c s f ∗ nrest0 c s f) := by
  unfold nrest0; exact (pointsTo_split_subset (nslot0_sub s)).1
theorem whole0_split : (hbPt0 c hbM0_0 W : sProp 𝕄) ⊣⊢ iprop(wholeP0 c W 0 ∗ wholeP0 c W 1) :=
  pointsTo_share (PosShare.mem_left_op_right fullShare)
set_option maxHeartbeats 1000000 in
theorem slots0_in : iprop(∃ d, owns (c : Thread nD τ) scM0_3 fullShare d) ⊢ (iprop((∃ f, slotP0 (F := F) c 0 f) ∗ ∃ f, slotP0 (F := F) c 1 f) : sProp 𝕄) := by
  simp only [scM0_3, owns_whole]
  exact Ring.slots2_split (U := Pipeline.UD sig nD τ) (ℓ := (c : Thread nD τ).loc cc0_scratch3) (q := fullShare) slotSet0 slots0_disjoint slots0_cover
    (slotP0 c 0) (slotP0 c 1) (slotP0_eq c 0) (slotP0_eq c 1)
set_option maxHeartbeats 1000000 in
theorem slots0_out : (iprop((∃ f, slotP0 (F := F) c 0 f) ∗ ∃ f, slotP0 (F := F) c 1 f) : sProp 𝕄) ⊢ iprop(∃ d, owns (c : Thread nD τ) scM0_3 fullShare d) := by
  simp only [scM0_3, owns_whole]
  exact Ring.slots2_join (U := Pipeline.UD sig nD τ) (ℓ := (c : Thread nD τ).loc cc0_scratch3) (q := fullShare) slotSet0 slots0_disjoint slots0_cover
    (slotP0 c 0) (slotP0 c 1) (slotP0_eq c 0) (slotP0_eq c 1)
/-- Into the ring, out of it. -/
theorem ring0_in :
    iprop((∃ d, owns (c : Thread nD τ) scM0_3 fullShare d) ∗ (semVal ((c : Thread nD τ), SemLoc.dma 18) 0 ∗ semVal ((c : Thread nD τ), SemLoc.dma 19) 0) ∗ hbPt0 c hbM0_0 W)
      ⊢ ringAt0 c W 0 := by
  unfold ringAt0 next0; rw [if_pos (Or.inl rfl)]
  rw [show Ring.sl 2 0 = 0 from rfl, show Ring.sl 2 (0 + 1) = 1 from rfl]
  unfold free0
  rw [cellP0_0, cellP0_1]
  iintro ⟨HS, ⟨H0, H1⟩, HW⟩
  ihave HS' := (slots0_in (F := F) c) $$ HS
  icases HS' with ⟨⟨%d0, HS0⟩, ⟨%d1, HS1⟩⟩
  ihave HW' := (whole0_split (F := F) c W).1 $$ HW
  icases HW' with ⟨HW0, HW1⟩
  isplitl [H0 HS0 HW0]
  · isplitl [H0]; · iexact H0
    isplitl [HS0]; · iexists d0; iexact HS0
    iexact HW0
  · isplitl [H1]; · iexact H1
    isplitl [HS1]; · iexists d1; iexact HS1
    iexact HW1
theorem ring0_out :
    ringAt0 c W 23
      ⊢ iprop((∃ d, owns (c : Thread nD τ) scM0_3 fullShare d) ∗ (semVal ((c : Thread nD τ), SemLoc.dma 18) 0 ∗ semVal ((c : Thread nD τ), SemLoc.dma 19) 0) ∗ hbPt0 c hbM0_0 W) := by
  unfold ringAt0 next0; rw [if_pos (Or.inr rfl)]
  rw [show Ring.sl 2 23 = 1 from rfl, show Ring.sl 2 (23 + 1) = 0 from rfl]
  unfold free0
  rw [cellP0_0, cellP0_1]
  iintro ⟨⟨H1, ⟨%f1, HS1⟩, HW1⟩, ⟨H0, ⟨%f0, HS0⟩, HW0⟩⟩
  isplitl [HS0 HS1]
  · iapply (slots0_out (F := F) c); isplitl [HS0]; · iexists f0; iexact HS0
    iexists f1; iexact HS1
  isplitl [H0 H1]
  · isplitl [H0]; · iexact H0
    iexact H1
  · iapply (whole0_split (F := F) c W).2; isplitl [HW0]; · iexact HW0
    iexact HW1
theorem have0_free (k : ℕ) : have0 c W k ⊢ free0 c W (Ring.sl 2 k) := by
  unfold have0 free0
  iintro ⟨Hc, ⟨%f, -, HS⟩, HW⟩
  isplitl [Hc]; · iexact Hc
  isplitl [HS]; · iexists f; iexact HS
  iexact HW
theorem ok0_of (s : Fin 2) (k : ℕ) (hk : k < 22) (f : HbBuf0 (F := F) c (rslot0 s)) : Ok0 c W s k (landed0 c W s (Ring.bk 22 k) f) := by
  refine ⟨fun h => ?_, fun h => absurd h (by omega)⟩
  have e : Ring.bk 22 k = ⟨k, hk⟩ := Fin.ext (Nat.mod_eq_of_lt hk)
  rw [e]
  exact View.read_writes_whole _ _ _
/-- A tile landed: the slot holds it, and the operand's copy is whole again. -/
theorem land0 (s : Fin 2) (k : ℕ) (hk : k < 22) (f : HbBuf0 (F := F) c (rslot0 s)) :
    iprop(slotP0 c s (landed0 c W s (Ring.bk 22 k) f) ∗ srcP0 c W s (Ring.bk 22 k) ∗ restP0 c W s (Ring.bk 22 k)) ⊢ iprop((∃ f, ⌜Ok0 c W s k f⌝ ∗ slotP0 c s f) ∗ wholeP0 c W s) := by
  iintro ⟨HS, HW, HR⟩
  isplitl [HS]
  · iexists _; isplitr; swap; · iexact HS
    ipureintro; exact ok0_of c W s k hk f
  · iapply (src0_split c W s (Ring.bk 22 k)).2; isplitl [HW]; · iexact HW
    iexact HR
/-- The narrow landing leaves the rest of its slot as it was. -/
theorem nrest0_congr (s : Fin 2) (f : HbBuf0 (F := F) c (nslot0 s)) : nrest0 c s f ⊢ nrest0 c s (nlanded0 c W s f) := by
  unfold nrest0 nlanded0
  exact pt_writes_off c (nslot0 s).view f _ _ (fun i hi => (Finset.mem_sdiff.mp hi).2)
theorem flyT0_of (s : Fin 2) (f : HbBuf0 (F := F) c (nslot0 s)) :
    iprop(nslotP0 c s (nlanded0 c W s f) ∗ srcTP0 c W s ∗ restT0 c W s ∗ nrest0 c s f) ⊢ iprop((∃ f, ⌜Ok0 c W s 22 f⌝ ∗ slotP0 c s f) ∗ wholeP0 c W s) := by
  iintro ⟨HS, HW, HR, HN⟩
  isplitl [HS HN]
  · iexists (nlanded0 c W s f); isplitr
    · ipureintro
      refine ⟨fun h => absurd h (by omega), fun _ => ?_⟩
      exact View.read_writes_whole _ _ _
    · iapply (pointsTo_split_subset (nslot0_sub s)).2
      isplitl [HS]; · iexact HS
      ihave HN' := (nrest0_congr c W s f) $$ HN
      unfold nrest0
      iexact HN'
  · iapply (srcT0_split c W s).2; isplitl [HW]; · iexact HW
    iexact HR
end InOut0

/-! ## Ring 1: `main_arg1` streamed tile by tile through the two slots of `cc0_scratch4` -/

theorem inb_slot1 (s : Fin 2) : ∀ a, (![s.val, 0, 0] : Fin 3 → Nat) a + S1x1536x256.size a ≤ S2x1536x256.size a := by
  have := s.isLt; intro a; fin_cases a <;> simp <;> omega
theorem inb_nslot1 (s : Fin 2) : ∀ a, (![s.val, 0, 0] : Fin 3 → Nat) a + S1x1536x128.size a ≤ S2x1536x256.size a := by
  have := s.isLt; intro a; fin_cases a <;> simp <;> omega
theorem inb_src1 (b : Fin 22) : ∀ a, (![0, 256 * b.val] : Fin 2 → Nat) a + S1536x256.size a ≤ S1536x5760.size a := by
  have := b.isLt; intro a; fin_cases a <;> simp <;> omega
theorem inb_tail1 : ∀ a, (![0, 5632] : Fin 2 → Nat) a + S1536x128.size a ≤ S1536x5760.size a := by
  intro a; fin_cases a <;> simp
theorem inb_cell1 (s : Fin 2) : ∀ a, (![1, s.val] : Fin 2 → Nat) a + S1x1.size a ≤ S2x2.size a := by
  have := s.isLt; intro a; fin_cases a <;> simp <;> omega
/-- Slot `s` of the ring, spelt as the body spells it. -/
def rslot1 (s : Fin 2) : Memref sig .tc .vmem S1536x256 .bf16 :=
  (scM0_4.slice (Rect.unit (s := S2x1536x256) ![s.val, 0, 0] S1x1536x256.size (inb_slot1 s)) (fun _ => rfl)).squeeze S1536x256 squeezes_S1x1536x256_S1536x256
/-- The first 128 columns of slot `s`: what the last, narrow tile is copied into. -/
def nslot1 (s : Fin 2) : Memref sig .tc .vmem S1536x128 .bf16 :=
  (scM0_4.slice (Rect.unit (s := S2x1536x256) ![s.val, 0, 0] S1x1536x128.size (inb_nslot1 s)) (fun _ => rfl)).squeeze S1536x128 squeezes_S1x1536x128_S1536x128
/-- Tile `b` of the operand, `b < 22`. -/
def srcB1 (b : Fin 22) : Memref sig .tc .hbm S1536x256 .bf16 :=
  hbM0_1.slice (Rect.unit (s := S1536x5760) ![0, 256 * b.val] S1536x256.size (inb_src1 b)) (fun _ => rfl)
/-- The last tile, 128 columns wide. -/
def srcT1 : Memref sig .tc .hbm S1536x128 .bf16 :=
  hbM0_1.slice (Rect.unit (s := S1536x5760) ![0, 5632] S1536x128.size inb_tail1) (fun _ => rfl)
/-- The cell of slot `s`. -/
def cellA1 (s : Fin 2) : DmaSems sig S_ := (cc0_scratch14.slice (Rect.unit (s := S2x2) ![1, s.val] S1x1.size (inb_cell1 s))).squeeze S_ squeezes_S1x1_S_
abbrev cellR1 (s : Fin 2) : SemLoc sig := SemLoc.dma (cellA1 s).sem
theorem cellR1_0 : cellR1 0 = SemLoc.dma 20 := by decide
theorem cellR1_1 : cellR1 1 = SemLoc.dma 21 := by decide

section Ring1
variable (c : Dev nD) (W : HbBuf0 (F := F) c hbM0_1)
/-- The operand is lent by share, one read-share copy of it per slot. -/
abbrev qs1 (s : Fin 2) : PosShare TreeShare := if s.val = 0 then fullShare.left else fullShare.right
abbrev slotP1 (s : Fin 2) (f : HbBuf0 (F := F) c (rslot1 s)) : sProp 𝕄 := (rslot1 s).view.loc (c : Thread nD τ) ↦[(rslot1 s).view.set]{fullShare} f
abbrev nslotP1 (s : Fin 2) (f : HbBuf0 (F := F) c (nslot1 s)) : sProp 𝕄 := (nslot1 s).view.loc (c : Thread nD τ) ↦[(nslot1 s).view.set]{fullShare} f
abbrev cellP1 (s : Fin 2) : sProp 𝕄 := semVal ((c : Thread nD τ), cellR1 s) 0
abbrev srcP1 (s : Fin 2) (b : Fin 22) : sProp 𝕄 := (srcB1 b).view.loc (c : Thread nD τ) ↦[(srcB1 b).view.set]{qs1 s} W
abbrev srcTP1 (s : Fin 2) : sProp 𝕄 := (srcT1).view.loc (c : Thread nD τ) ↦[(srcT1).view.set]{qs1 s} W
/-- What a transfer leaves of its slot's copy of the operand, and of the slot (definitions, so that no run reads them). -/
def restP1 (s : Fin 2) (b : Fin 22) : sProp 𝕄 := ((c : Thread nD τ).loc main_arg1) ↦[Finset.univ \ (srcB1 b).view.set]{qs1 s} W
def restT1 (s : Fin 2) : sProp 𝕄 := ((c : Thread nD τ).loc main_arg1) ↦[Finset.univ \ (srcT1).view.set]{qs1 s} W
def nrest1 (s : Fin 2) (f : HbBuf0 (F := F) c (nslot1 s)) : sProp 𝕄 := (nslot1 s).view.loc (c : Thread nD τ) ↦[(rslot1 s).view.set \ (nslot1 s).view.set]{fullShare} f
abbrev wholeP1 (s : Fin 2) : sProp 𝕄 := ((c : Thread nD τ).loc main_arg1) ↦[Finset.univ]{qs1 s} W
abbrev landed1 (s : Fin 2) (b : Fin 22) (f : HbBuf0 (F := F) c (rslot1 s)) : HbBuf0 (F := F) c (rslot1 s) :=
  (rslot1 s).view.writes (Elt F) f [⟨Rect.whole S1536x256, ReadAs.same.apply ((srcB1 b).view.read (Elt F) W)⟩]
abbrev nlanded1 (s : Fin 2) (f : HbBuf0 (F := F) c (nslot1 s)) : HbBuf0 (F := F) c (nslot1 s) :=
  (nslot1 s).view.writes (Elt F) f [⟨Rect.whole S1536x128, ReadAs.same.apply ((srcT1).view.read (Elt F) W)⟩]
/-- Slot `s` holds tile `k`. -/
def Ok1 (s : Fin 2) (k : ℕ) (f : HbBuf0 (F := F) c (rslot1 s)) : Prop :=
  (∀ h : k < 22, (rslot1 s).view.read (Elt F) f = (srcB1 ⟨k, h⟩).view.read (Elt F) W)
  ∧ (k = 22 → (nslot1 s).view.read (Elt F) f = (srcT1).view.read (Elt F) W)
/-- Tile `k` on its way into slot `s`, with what is left of the operand's copy meanwhile. -/
def fly1 (s : Fin 2) (k : ℕ) : sProp 𝕄 := iprop(∃ f, Transfers.Flight countersEmb (c : Thread nD τ) (cellR1 s) default ((rslot1 s).view.amount (cellR1 s))
    iprop(slotP1 c s (landed1 c W s (Ring.bk 22 k) f) ∗ srcP1 c W s (Ring.bk 22 k)) ∗ restP1 c W s (Ring.bk 22 k))
/-- The narrow tile on its way into slot `s`. -/
def flyT1 (s : Fin 2) : sProp 𝕄 := iprop(∃ f, Transfers.Flight countersEmb (c : Thread nD τ) (cellR1 s) default ((nslot1 s).view.amount (cellR1 s))
    iprop(nslotP1 c s (nlanded1 c W s f) ∗ srcTP1 c W s) ∗ restT1 c W s ∗ nrest1 c s f)
def free1 (s : Fin 2) : sProp 𝕄 := iprop(cellP1 c s ∗ (∃ f, slotP1 c s f) ∗ wholeP1 c W s)
/-- The slot of tile `k` before point `k`: tile `k` in flight, or, before the first point and after the last, free. -/
def next1 (k : ℕ) : sProp 𝕄 :=
  if k = 0 ∨ k = 23 then free1 c W (Ring.sl 2 k) else if k = 22 then flyT1 c W (Ring.sl 2 k) else fly1 c W (Ring.sl 2 k) k
def ringAt1 (k : ℕ) : sProp 𝕄 := iprop(next1 c W k ∗ free1 c W (Ring.sl 2 (k + 1)))
/-- The slot of tile `k` once it landed. -/
def have1 (k : ℕ) : sProp 𝕄 := iprop(cellP1 c (Ring.sl 2 k) ∗ (∃ f, ⌜Ok1 c W (Ring.sl 2 k) k f⌝ ∗ slotP1 c (Ring.sl 2 k) f) ∗ wholeP1 c W (Ring.sl 2 k))
omit [FloatOps F] in
theorem cellP1_0 : cellP1 (F := F) c 0 = semVal ((c : Thread nD τ), SemLoc.dma 20) 0 := congrArg (fun x => (semVal ((c : Thread nD τ), x) 0 : sProp 𝕄)) cellR1_0
omit [FloatOps F] in
theorem cellP1_1 : cellP1 (F := F) c 1 = semVal ((c : Thread nD τ), SemLoc.dma 21) 0 := congrArg (fun x => (semVal ((c : Thread nD τ), x) 0 : sProp 𝕄)) cellR1_1
end Ring1

abbrev slotSet1 (s : Fin 2) : Finset S2x1536x256.Idx := (Rect.unit (s := S2x1536x256) ![s.val, 0, 0] S1x1536x256.size (inb_slot1 s)).set
theorem slotSet1_eq (s : Fin 2) : (rslot1 s).view.set = slotSet1 s := by
  simp only [rslot1, Memref.view_squeeze, View.set_reshape]; exact View.set_slice_whole _ _
theorem nslotSet1_eq (s : Fin 2) : (nslot1 s).view.set = (Rect.unit (s := S2x1536x256) ![s.val, 0, 0] S1x1536x128.size (inb_nslot1 s)).set := by
  simp only [nslot1, Memref.view_squeeze, View.set_reshape]; exact View.set_slice_whole _ _
theorem nslot1_sub (s : Fin 2) : (nslot1 s).view.set ⊆ (rslot1 s).view.set := by
  rw [slotSet1_eq, nslotSet1_eq]
  refine fun (i : S2x1536x256.Idx) hi => ?_
  refine Rect.mem_set_unit.mpr fun a => ?_
  have := Rect.mem_set_unit.mp hi a
  fin_cases a <;> simp [S1x1536x128, S1x1536x256] at this ⊢ <;> omega
theorem slots1_disjoint (s s' : Fin 2) (h : s ≠ s') : Disjoint (slotSet1 s) (slotSet1 s') :=
  Ring.lead_disjoint (s := S2x1536x256) (0 : Fin 3) 1 (fun s : Fin 2 => (![s.val, 0, 0] : Fin 3 → Nat)) S1x1536x256.size inb_slot1 (fun s => by simp) rfl s s' h
theorem slots1_cover : Finset.univ.biUnion slotSet1 = Finset.univ :=
  Ring.lead_cover (s := S2x1536x256) (0 : Fin 3) 1 (fun s : Fin 2 => (![s.val, 0, 0] : Fin 3 → Nat)) S1x1536x256.size inb_slot1 (fun s => by simp)
    (fun s a ha => by fin_cases a <;> first | exact absurd rfl ha | rfl) rfl (fun a ha => by fin_cases a <;> first | exact absurd rfl ha | rfl) rfl

section InOut1
variable (c : Dev nD) (W : HbBuf0 (F := F) c hbM0_1)
theorem slotP1_eq (s : Fin 2) (f) : slotP1 (F := F) c s f = (((c : Thread nD τ).loc cc0_scratch4) ↦[slotSet1 s]{fullShare} f : sProp 𝕄) := by
  unfold slotP1; rw [slotSet1_eq]; rfl
theorem src1_split (s : Fin 2) (b : Fin 22) : wholeP1 (F := F) c W s ⊣⊢ iprop(srcP1 c W s b ∗ restP1 c W s b) := by
  unfold restP1; exact pointsTo_split_subset (Finset.subset_univ _)
theorem srcT1_split (s : Fin 2) : wholeP1 (F := F) c W s ⊣⊢ iprop(srcTP1 c W s ∗ restT1 c W s) := by
  unfold restT1; exact pointsTo_split_subset (Finset.subset_univ _)
theorem nslot1_split (s : Fin 2) (f : HbBuf0 (F := F) c (rslot1 s)) : slotP1 (F := F) c s f ⊢ iprop(nslotP1 c s f ∗ nrest1 c s f) := by
  unfold nrest1; exact (pointsTo_split_subset (nslot1_sub s)).1
theorem whole1_split : (hbPt0 c hbM0_1 W : sProp 𝕄) ⊣⊢ iprop(wholeP1 c W 0 ∗ wholeP1 c W 1) :=
  pointsTo_share (PosShare.mem_left_op_right fullShare)
set_option maxHeartbeats 1000000 in
theorem slots1_in : iprop(∃ d, owns (c : Thread nD τ) scM0_4 fullShare d) ⊢ (iprop((∃ f, slotP1 (F := F) c 0 f) ∗ ∃ f, slotP1 (F := F) c 1 f) : sProp 𝕄) := by
  simp only [scM0_4, owns_whole]
  exact Ring.slots2_split (U := Pipeline.UD sig nD τ) (ℓ := (c : Thread nD τ).loc cc0_scratch4) (q := fullShare) slotSet1 slots1_disjoint slots1_cover
    (slotP1 c 0) (slotP1 c 1) (slotP1_eq c 0) (slotP1_eq c 1)
set_option maxHeartbeats 1000000 in
theorem slots1_out : (iprop((∃ f, slotP1 (F := F) c 0 f) ∗ ∃ f, slotP1 (F := F) c 1 f) : sProp 𝕄) ⊢ iprop(∃ d, owns (c : Thread nD τ) scM0_4 fullShare d) := by
  simp only [scM0_4, owns_whole]
  exact Ring.slots2_join (U := Pipeline.UD sig nD τ) (ℓ := (c : Thread nD τ).loc cc0_scratch4) (q := fullShare) slotSet1 slots1_disjoint slots1_cover
    (slotP1 c 0) (slotP1 c 1) (slotP1_eq c 0) (slotP1_eq c 1)
/-- Into the ring, out of it. -/
theorem ring1_in :
    iprop((∃ d, owns (c : Thread nD τ) scM0_4 fullShare d) ∗ (semVal ((c : Thread nD τ), SemLoc.dma 20) 0 ∗ semVal ((c : Thread nD τ), SemLoc.dma 21) 0) ∗ hbPt0 c hbM0_1 W)
      ⊢ ringAt1 c W 0 := by
  unfold ringAt1 next1; rw [if_pos (Or.inl rfl)]
  rw [show Ring.sl 2 0 = 0 from rfl, show Ring.sl 2 (0 + 1) = 1 from rfl]
  unfold free1
  rw [cellP1_0, cellP1_1]
  iintro ⟨HS, ⟨H0, H1⟩, HW⟩
  ihave HS' := (slots1_in (F := F) c) $$ HS
  icases HS' with ⟨⟨%d0, HS0⟩, ⟨%d1, HS1⟩⟩
  ihave HW' := (whole1_split (F := F) c W).1 $$ HW
  icases HW' with ⟨HW0, HW1⟩
  isplitl [H0 HS0 HW0]
  · isplitl [H0]; · iexact H0
    isplitl [HS0]; · iexists d0; iexact HS0
    iexact HW0
  · isplitl [H1]; · iexact H1
    isplitl [HS1]; · iexists d1; iexact HS1
    iexact HW1
theorem ring1_out :
    ringAt1 c W 23
      ⊢ iprop((∃ d, owns (c : Thread nD τ) scM0_4 fullShare d) ∗ (semVal ((c : Thread nD τ), SemLoc.dma 20) 0 ∗ semVal ((c : Thread nD τ), SemLoc.dma 21) 0) ∗ hbPt0 c hbM0_1 W) := by
  unfold ringAt1 next1; rw [if_pos (Or.inr rfl)]
  rw [show Ring.sl 2 23 = 1 from rfl, show Ring.sl 2 (23 + 1) = 0 from rfl]
  unfold free1
  rw [cellP1_0, cellP1_1]
  iintro ⟨⟨H1, ⟨%f1, HS1⟩, HW1⟩, ⟨H0, ⟨%f0, HS0⟩, HW0⟩⟩
  isplitl [HS0 HS1]
  · iapply (slots1_out (F := F) c); isplitl [HS0]; · iexists f0; iexact HS0
    iexists f1; iexact HS1
  isplitl [H0 H1]
  · isplitl [H0]; · iexact H0
    iexact H1
  · iapply (whole1_split (F := F) c W).2; isplitl [HW0]; · iexact HW0
    iexact HW1
theorem have1_free (k : ℕ) : have1 c W k ⊢ free1 c W (Ring.sl 2 k) := by
  unfold have1 free1
  iintro ⟨Hc, ⟨%f, -, HS⟩, HW⟩
  isplitl [Hc]; · iexact Hc
  isplitl [HS]; · iexists f; iexact HS
  iexact HW
theorem ok1_of (s : Fin 2) (k : ℕ) (hk : k < 22) (f : HbBuf0 (F := F) c (rslot1 s)) : Ok1 c W s k (landed1 c W s (Ring.bk 22 k) f) := by
  refine ⟨fun h => ?_, fun h => absurd h (by omega)⟩
  have e : Ring.bk 22 k = ⟨k, hk⟩ := Fin.ext (Nat.mod_eq_of_lt hk)
  rw [e]
  exact View.read_writes_whole _ _ _
/-- A tile landed: the slot holds it, and the operand's copy is whole again. -/
theorem land1 (s : Fin 2) (k : ℕ) (hk : k < 22) (f : HbBuf0 (F := F) c (rslot1 s)) :
    iprop(slotP1 c s (landed1 c W s (Ring.bk 22 k) f) ∗ srcP1 c W s (Ring.bk 22 k) ∗ restP1 c W s (Ring.bk 22 k)) ⊢ iprop((∃ f, ⌜Ok1 c W s k f⌝ ∗ slotP1 c s f) ∗ wholeP1 c W s) := by
  iintro ⟨HS, HW, HR⟩
  isplitl [HS]
  · iexists _; isplitr; swap; · iexact HS
    ipureintro; exact ok1_of c W s k hk f
  · iapply (src1_split c W s (Ring.bk 22 k)).2; isplitl [HW]; · iexact HW
    iexact HR
/-- The narrow landing leaves the rest of its slot as it was. -/
theorem nrest1_congr (s : Fin 2) (f : HbBuf0 (F := F) c (nslot1 s)) : nrest1 c s f ⊢ nrest1 c s (nlanded1 c W s f) := by
  unfold nrest1 nlanded1
  exact pt_writes_off c (nslot1 s).view f _ _ (fun i hi => (Finset.mem_sdiff.mp hi).2)
theorem flyT1_of (s : Fin 2) (f : HbBuf0 (F := F) c (nslot1 s)) :
    iprop(nslotP1 c s (nlanded1 c W s f) ∗ srcTP1 c W s ∗ restT1 c W s ∗ nrest1 c s f) ⊢ iprop((∃ f, ⌜Ok1 c W s 22 f⌝ ∗ slotP1 c s f) ∗ wholeP1 c W s) := by
  iintro ⟨HS, HW, HR, HN⟩
  isplitl [HS HN]
  · iexists (nlanded1 c W s f); isplitr
    · ipureintro
      refine ⟨fun h => absurd h (by omega), fun _ => ?_⟩
      exact View.read_writes_whole _ _ _
    · iapply (pointsTo_split_subset (nslot1_sub s)).2
      isplitl [HS]; · iexact HS
      ihave HN' := (nrest1_congr c W s f) $$ HN
      unfold nrest1
      iexact HN'
  · iapply (srcT1_split c W s).2; isplitl [HW]; · iexact HW
    iexact HR
end InOut1

/-! ## Ring 0: what the body names is the ring's slots, tiles and cells -/

section Canon0
omit [FloatOps F]
set_option synthInstance.maxSize 4096 in
theorem co0_1 : ∀ t : Fin grid0.N, k0_cond2 (grid0.coords t) = 1#1 → k0_off1 (grid0.coords t) = ![0, (Ring.sl 2 (t.val + 1)).val] := by decide +kernel
@[sl_canon] theorem ca0_1 (t : Fin grid0.N) (h : k0_cond2 (grid0.coords t) = 1#1) :
    (cc0_scratch14.slice (Rect.unit (s := S2x2) (k0_off1 (grid0.coords t)) S1x1.size (k0_off1_inb (grid0.coords t) h))).squeeze S_ squeezes_S1x1_S_ = cellA0 (Ring.sl 2 (t.val + 1)) :=
  congrArg (fun A : DmaSems sig S1x1 => A.squeeze S_ squeezes_S1x1_S_) (SemArray.slice_unit_congr _ (co0_1 t h) _ _)
set_option synthInstance.maxSize 4096 in
theorem co0_2 : ∀ t : Fin grid0.N, k0_cond2 (grid0.coords t) = 1#1 → k0_off2 (grid0.coords t) = ![(Ring.sl 2 (t.val + 1)).val, 0, 0] := by decide +kernel
@[sl_canon] theorem ca0_2 (t : Fin grid0.N) (h : k0_cond2 (grid0.coords t) = 1#1) :
    (scM0_3.slice (Rect.unit (s := S2x2880x256) (k0_off2 (grid0.coords t)) S1x2880x256.size (k0_off2_inb (grid0.coords t) h)) (fun _ => rfl)).squeeze S2880x256 squeezes_S1x2880x256_S2880x256 = rslot0 (Ring.sl 2 (t.val + 1)) :=
  congrArg (fun M : Memref sig .tc .vmem S1x2880x256 .bf16 => M.squeeze S2880x256 squeezes_S1x2880x256_S2880x256) (Memref.slice_unit_congr _ (co0_2 t h) _ _ (fun _ => rfl) (fun _ => rfl))
set_option synthInstance.maxSize 4096 in
theorem co0_3 : ∀ t : Fin grid0.N, k0_cond2 (grid0.coords t) = 1#1 → k0_off3 (grid0.coords t) = ![0, 256 * (Ring.bk 22 (t.val + 1)).val] := by decide +kernel
@[sl_canon] theorem ca0_3 (t : Fin grid0.N) (h : k0_cond2 (grid0.coords t) = 1#1) :
    hbM0_0.slice (Rect.unit (s := S2880x5760) (k0_off3 (grid0.coords t)) S2880x256.size (k0_off3_inb (grid0.coords t) h)) (fun _ => rfl) = srcB0 (Ring.bk 22 (t.val + 1)) :=
  Memref.slice_unit_congr _ (co0_3 t h) _ _ (fun _ => rfl) (fun _ => rfl)
set_option synthInstance.maxSize 4096 in
theorem co0_7 : ∀ t : Fin grid0.N, k0_cond3 (grid0.coords t) = 1#1 → k0_off7 (grid0.coords t) = ![0, (Ring.sl 2 (t.val + 1)).val] := by decide +kernel
@[sl_canon] theorem ca0_7 (t : Fin grid0.N) (h : k0_cond3 (grid0.coords t) = 1#1) :
    (cc0_scratch14.slice (Rect.unit (s := S2x2) (k0_off7 (grid0.coords t)) S1x1.size (k0_off7_inb (grid0.coords t) h))).squeeze S_ squeezes_S1x1_S_ = cellA0 (Ring.sl 2 (t.val + 1)) :=
  congrArg (fun A : DmaSems sig S1x1 => A.squeeze S_ squeezes_S1x1_S_) (SemArray.slice_unit_congr _ (co0_7 t h) _ _)
set_option synthInstance.maxSize 4096 in
theorem co0_8 : ∀ t : Fin grid0.N, k0_cond3 (grid0.coords t) = 1#1 → k0_off8 (grid0.coords t) = ![(Ring.sl 2 (t.val + 1)).val, 0, 0] := by decide +kernel
@[sl_canon] theorem ca0_8 (t : Fin grid0.N) (h : k0_cond3 (grid0.coords t) = 1#1) :
    (scM0_3.slice (Rect.unit (s := S2x2880x256) (k0_off8 (grid0.coords t)) S1x2880x128.size (k0_off8_inb (grid0.coords t) h)) (fun _ => rfl)).squeeze S2880x128 squeezes_S1x2880x128_S2880x128 = nslot0 (Ring.sl 2 (t.val + 1)) :=
  congrArg (fun M : Memref sig .tc .vmem S1x2880x128 .bf16 => M.squeeze S2880x128 squeezes_S1x2880x128_S2880x128) (Memref.slice_unit_congr _ (co0_8 t h) _ _ (fun _ => rfl) (fun _ => rfl))
set_option synthInstance.maxSize 4096 in
theorem co0_9 : ∀ t : Fin grid0.N, k0_cond3 (grid0.coords t) = 1#1 → k0_off9 (grid0.coords t) = ![0, 5632] := by decide +kernel
@[sl_canon] theorem ca0_9 (t : Fin grid0.N) (h : k0_cond3 (grid0.coords t) = 1#1) :
    hbM0_0.slice (Rect.unit (s := S2880x5760) (k0_off9 (grid0.coords t)) S2880x128.size (k0_off9_inb (grid0.coords t) h)) (fun _ => rfl) = srcT0 :=
  Memref.slice_unit_congr _ (co0_9 t h) _ _ (fun _ => rfl) (fun _ => rfl)
set_option synthInstance.maxSize 4096 in
theorem co0_13 : ∀ t : Fin grid0.N, k0_cond4 (grid0.coords t) = 1#1 → k0_off13 (grid0.coords t) = ![0, (Ring.sl 2 t.val).val] := by decide +kernel
@[sl_canon] theorem ca0_13 (t : Fin grid0.N) (h : k0_cond4 (grid0.coords t) = 1#1) :
    (cc0_scratch14.slice (Rect.unit (s := S2x2) (k0_off13 (grid0.coords t)) S1x1.size (k0_off13_inb (grid0.coords t) h))).squeeze S_ squeezes_S1x1_S_ = cellA0 (Ring.sl 2 t.val) :=
  congrArg (fun A : DmaSems sig S1x1 => A.squeeze S_ squeezes_S1x1_S_) (SemArray.slice_unit_congr _ (co0_13 t h) _ _)
set_option synthInstance.maxSize 4096 in
theorem co0_14 : ∀ t : Fin grid0.N, k0_cond4 (grid0.coords t) = 1#1 → k0_off14 (grid0.coords t) = ![(Ring.sl 2 t.val).val, 0, 0] := by decide +kernel
@[sl_canon] theorem ca0_14 (t : Fin grid0.N) (h : k0_cond4 (grid0.coords t) = 1#1) :
    (scM0_3.slice (Rect.unit (s := S2x2880x256) (k0_off14 (grid0.coords t)) S1x2880x256.size (k0_off14_inb (grid0.coords t) h)) (fun _ => rfl)).squeeze S2880x256 squeezes_S1x2880x256_S2880x256 = rslot0 (Ring.sl 2 t.val) :=
  congrArg (fun M : Memref sig .tc .vmem S1x2880x256 .bf16 => M.squeeze S2880x256 squeezes_S1x2880x256_S2880x256) (Memref.slice_unit_congr _ (co0_14 t h) _ _ (fun _ => rfl) (fun _ => rfl))
set_option synthInstance.maxSize 4096 in
theorem co0_15 : ∀ t : Fin grid0.N, k0_cond4 (grid0.coords t) = 1#1 → k0_off15 (grid0.coords t) = ![0, 256 * (Ring.bk 22 t.val).val] := by decide +kernel
@[sl_canon] theorem ca0_15 (t : Fin grid0.N) (h : k0_cond4 (grid0.coords t) = 1#1) :
    hbM0_0.slice (Rect.unit (s := S2880x5760) (k0_off15 (grid0.coords t)) S2880x256.size (k0_off15_inb (grid0.coords t) h)) (fun _ => rfl) = srcB0 (Ring.bk 22 t.val) :=
  Memref.slice_unit_congr _ (co0_15 t h) _ _ (fun _ => rfl) (fun _ => rfl)
set_option synthInstance.maxSize 4096 in
theorem co0_19 : ∀ t : Fin grid0.N, k0_cond5 (grid0.coords t) = 1#1 → k0_off19 (grid0.coords t) = ![0, (Ring.sl 2 t.val).val] := by decide +kernel
@[sl_canon] theorem ca0_19 (t : Fin grid0.N) (h : k0_cond5 (grid0.coords t) = 1#1) :
    (cc0_scratch14.slice (Rect.unit (s := S2x2) (k0_off19 (grid0.coords t)) S1x1.size (k0_off19_inb (grid0.coords t) h))).squeeze S_ squeezes_S1x1_S_ = cellA0 (Ring.sl 2 t.val) :=
  congrArg (fun A : DmaSems sig S1x1 => A.squeeze S_ squeezes_S1x1_S_) (SemArray.slice_unit_congr _ (co0_19 t h) _ _)
set_option synthInstance.maxSize 4096 in
theorem co0_20 : ∀ t : Fin grid0.N, k0_cond5 (grid0.coords t) = 1#1 → k0_off20 (grid0.coords t) = ![(Ring.sl 2 t.val).val, 0, 0] := by decide +kernel
@[sl_canon] theorem ca0_20 (t : Fin grid0.N) (h : k0_cond5 (grid0.coords t) = 1#1) :
    (scM0_3.slice (Rect.unit (s := S2x2880x256) (k0_off20 (grid0.coords t)) S1x2880x128.size (k0_off20_inb (grid0.coords t) h)) (fun _ => rfl)).squeeze S2880x128 squeezes_S1x2880x128_S2880x128 = nslot0 (Ring.sl 2 t.val) :=
  congrArg (fun M : Memref sig .tc .vmem S1x2880x128 .bf16 => M.squeeze S2880x128 squeezes_S1x2880x128_S2880x128) (Memref.slice_unit_congr _ (co0_20 t h) _ _ (fun _ => rfl) (fun _ => rfl))
set_option synthInstance.maxSize 4096 in
theorem co0_21 : ∀ t : Fin grid0.N, k0_cond5 (grid0.coords t) = 1#1 → k0_off21 (grid0.coords t) = ![0, 5632] := by decide +kernel
@[sl_canon] theorem ca0_21 (t : Fin grid0.N) (h : k0_cond5 (grid0.coords t) = 1#1) :
    hbM0_0.slice (Rect.unit (s := S2880x5760) (k0_off21 (grid0.coords t)) S2880x128.size (k0_off21_inb (grid0.coords t) h)) (fun _ => rfl) = srcT0 :=
  Memref.slice_unit_congr _ (co0_21 t h) _ _ (fun _ => rfl) (fun _ => rfl)
theorem lit0_s : ∀ t : Fin grid0.N, t.val = 0 → (![0, 0, 0] : Fin 3 → Nat) = ![(Ring.sl 2 t.val).val, 0, 0] := by decide +kernel
theorem lit0_b : ∀ t : Fin grid0.N, t.val = 0 → (![0, 0] : Fin 2 → Nat) = ![0, 256 * (Ring.bk 22 t.val).val] := by decide +kernel
theorem lit0_c : ∀ t : Fin grid0.N, t.val = 0 → (![0, 0] : Fin 2 → Nat) = ![0, (Ring.sl 2 t.val).val] := by decide +kernel
@[sl_canon] theorem cl0_s (t : Fin grid0.N) (h : k0_cond1 (grid0.coords t) = 1#1) :
    (scM0_3.slice (Rect.unit (s := S2x2880x256) ![0, 0, 0] S1x2880x256.size inb_S2x2880x256_S1x2880x256_0_0_0) (fun _ => rfl)).squeeze S2880x256 squeezes_S1x2880x256_S2880x256 = rslot0 (Ring.sl 2 t.val) :=
  congrArg (fun M : Memref sig .tc .vmem S1x2880x256 .bf16 => M.squeeze S2880x256 squeezes_S1x2880x256_S2880x256) (Memref.slice_unit_congr _ (lit0_s t ((hc1 t).mp h)) _ _ (fun _ => rfl) (fun _ => rfl))
@[sl_canon] theorem cl0_b (t : Fin grid0.N) (h : k0_cond1 (grid0.coords t) = 1#1) :
    hbM0_0.slice (Rect.unit (s := S2880x5760) ![0, 0] S2880x256.size inb_S2880x5760_S2880x256_0_0) (fun _ => rfl) = srcB0 (Ring.bk 22 t.val) :=
  Memref.slice_unit_congr _ (lit0_b t ((hc1 t).mp h)) _ _ (fun _ => rfl) (fun _ => rfl)
@[sl_canon] theorem cl0_c (t : Fin grid0.N) (h : k0_cond1 (grid0.coords t) = 1#1) :
    (cc0_scratch14.slice (Rect.unit (s := S2x2) ![0, 0] S1x1.size inb_S2x2_S1x1_0_0)).squeeze S_ squeezes_S1x1_S_ = cellA0 (Ring.sl 2 t.val) :=
  congrArg (fun A : DmaSems sig S1x1 => A.squeeze S_ squeezes_S1x1_S_) (SemArray.slice_unit_congr _ (lit0_c t ((hc1 t).mp h)) _ _)
set_option synthInstance.maxSize 4096 in
theorem co0_30 : ∀ t : Fin grid0.N, k0_off30 (grid0.coords t) = ![(Ring.sl 2 t.val).val, 0, 0] := by decide +kernel
@[sl_canon] theorem ca0_30 (t : Fin grid0.N) :
    (scM0_3.slice (Rect.unit (s := S2x2880x256) (k0_off30 (grid0.coords t)) S1x2880x256.size (k0_off30_inb (grid0.coords t))) (fun _ => rfl)).squeeze S2880x256 squeezes_S1x2880x256_S2880x256 = rslot0 (Ring.sl 2 t.val) :=
  congrArg (fun M : Memref sig .tc .vmem S1x2880x256 .bf16 => M.squeeze S2880x256 squeezes_S1x2880x256_S2880x256) (Memref.slice_unit_congr _ (co0_30 t) _ _ (fun _ => rfl) (fun _ => rfl))
instance (priority := high) closed0_30 (t : Fin grid0.N) : ClosedOff (k0_off30 (grid0.coords t)) := ⟨![(Ring.sl 2 t.val).val, 0, 0], co0_30 t⟩
set_option synthInstance.maxSize 4096 in
theorem co0_40 : ∀ t : Fin grid0.N, k0_off40 (grid0.coords t) = ![(Ring.sl 2 t.val).val, 0, 0] := by decide +kernel
@[sl_canon] theorem ca0_40 (t : Fin grid0.N) :
    (scM0_3.slice (Rect.unit (s := S2x2880x256) (k0_off40 (grid0.coords t)) S1x2880x256.size (k0_off40_inb (grid0.coords t))) (fun _ => rfl)).squeeze S2880x256 squeezes_S1x2880x256_S2880x256 = rslot0 (Ring.sl 2 t.val) :=
  congrArg (fun M : Memref sig .tc .vmem S1x2880x256 .bf16 => M.squeeze S2880x256 squeezes_S1x2880x256_S2880x256) (Memref.slice_unit_congr _ (co0_40 t) _ _ (fun _ => rfl) (fun _ => rfl))
instance (priority := high) closed0_40 (t : Fin grid0.N) : ClosedOff (k0_off40 (grid0.coords t)) := ⟨![(Ring.sl 2 t.val).val, 0, 0], co0_40 t⟩
set_option synthInstance.maxSize 4096 in
theorem co0_46 : ∀ t : Fin grid0.N, k0_off46 (grid0.coords t) = ![(Ring.sl 2 t.val).val, 0, 0] := by decide +kernel
@[sl_canon] theorem ca0_46 (t : Fin grid0.N) :
    (scM0_3.slice (Rect.unit (s := S2x2880x256) (k0_off46 (grid0.coords t)) S1x2880x256.size (k0_off46_inb (grid0.coords t))) (fun _ => rfl)).squeeze S2880x256 squeezes_S1x2880x256_S2880x256 = rslot0 (Ring.sl 2 t.val) :=
  congrArg (fun M : Memref sig .tc .vmem S1x2880x256 .bf16 => M.squeeze S2880x256 squeezes_S1x2880x256_S2880x256) (Memref.slice_unit_congr _ (co0_46 t) _ _ (fun _ => rfl) (fun _ => rfl))
instance (priority := high) closed0_46 (t : Fin grid0.N) : ClosedOff (k0_off46 (grid0.coords t)) := ⟨![(Ring.sl 2 t.val).val, 0, 0], co0_46 t⟩
set_option synthInstance.maxSize 4096 in
theorem co0_51 : ∀ t : Fin grid0.N, k0_off51 (grid0.coords t) = ![(Ring.sl 2 t.val).val, 0, 0] := by decide +kernel
@[sl_canon] theorem ca0_51 (t : Fin grid0.N) :
    (scM0_3.slice (Rect.unit (s := S2x2880x256) (k0_off51 (grid0.coords t)) S1x2880x256.size (k0_off51_inb (grid0.coords t))) (fun _ => rfl)).squeeze S2880x256 squeezes_S1x2880x256_S2880x256 = rslot0 (Ring.sl 2 t.val) :=
  congrArg (fun M : Memref sig .tc .vmem S1x2880x256 .bf16 => M.squeeze S2880x256 squeezes_S1x2880x256_S2880x256) (Memref.slice_unit_congr _ (co0_51 t) _ _ (fun _ => rfl) (fun _ => rfl))
instance (priority := high) closed0_51 (t : Fin grid0.N) : ClosedOff (k0_off51 (grid0.coords t)) := ⟨![(Ring.sl 2 t.val).val, 0, 0], co0_51 t⟩
set_option synthInstance.maxSize 4096 in
theorem co0_61 : ∀ t : Fin grid0.N, k0_off61 (grid0.coords t) = ![(Ring.sl 2 t.val).val, 0, 0] := by decide +kernel
@[sl_canon] theorem ca0_61 (t : Fin grid0.N) :
    (scM0_3.slice (Rect.unit (s := S2x2880x256) (k0_off61 (grid0.coords t)) S1x2880x256.size (k0_off61_inb (grid0.coords t))) (fun _ => rfl)).squeeze S2880x256 squeezes_S1x2880x256_S2880x256 = rslot0 (Ring.sl 2 t.val) :=
  congrArg (fun M : Memref sig .tc .vmem S1x2880x256 .bf16 => M.squeeze S2880x256 squeezes_S1x2880x256_S2880x256) (Memref.slice_unit_congr _ (co0_61 t) _ _ (fun _ => rfl) (fun _ => rfl))
instance (priority := high) closed0_61 (t : Fin grid0.N) : ClosedOff (k0_off61 (grid0.coords t)) := ⟨![(Ring.sl 2 t.val).val, 0, 0], co0_61 t⟩
end Canon0

/-! ## Ring 1: what the body names is the ring's slots, tiles and cells -/

section Canon1
omit [FloatOps F]
set_option synthInstance.maxSize 4096 in
theorem co1_4 : ∀ t : Fin grid0.N, k0_cond2 (grid0.coords t) = 1#1 → k0_off4 (grid0.coords t) = ![1, (Ring.sl 2 (t.val + 1)).val] := by decide +kernel
@[sl_canon] theorem ca1_4 (t : Fin grid0.N) (h : k0_cond2 (grid0.coords t) = 1#1) :
    (cc0_scratch14.slice (Rect.unit (s := S2x2) (k0_off4 (grid0.coords t)) S1x1.size (k0_off4_inb (grid0.coords t) h))).squeeze S_ squeezes_S1x1_S_ = cellA1 (Ring.sl 2 (t.val + 1)) :=
  congrArg (fun A : DmaSems sig S1x1 => A.squeeze S_ squeezes_S1x1_S_) (SemArray.slice_unit_congr _ (co1_4 t h) _ _)
set_option synthInstance.maxSize 4096 in
theorem co1_5 : ∀ t : Fin grid0.N, k0_cond2 (grid0.coords t) = 1#1 → k0_off5 (grid0.coords t) = ![(Ring.sl 2 (t.val + 1)).val, 0, 0] := by decide +kernel
@[sl_canon] theorem ca1_5 (t : Fin grid0.N) (h : k0_cond2 (grid0.coords t) = 1#1) :
    (scM0_4.slice (Rect.unit (s := S2x1536x256) (k0_off5 (grid0.coords t)) S1x1536x256.size (k0_off5_inb (grid0.coords t) h)) (fun _ => rfl)).squeeze S1536x256 squeezes_S1x1536x256_S1536x256 = rslot1 (Ring.sl 2 (t.val + 1)) :=
  congrArg (fun M : Memref sig .tc .vmem S1x1536x256 .bf16 => M.squeeze S1536x256 squeezes_S1x1536x256_S1536x256) (Memref.slice_unit_congr _ (co1_5 t h) _ _ (fun _ => rfl) (fun _ => rfl))
set_option synthInstance.maxSize 4096 in
theorem co1_6 : ∀ t : Fin grid0.N, k0_cond2 (grid0.coords t) = 1#1 → k0_off6 (grid0.coords t) = ![0, 256 * (Ring.bk 22 (t.val + 1)).val] := by decide +kernel
@[sl_canon] theorem ca1_6 (t : Fin grid0.N) (h : k0_cond2 (grid0.coords t) = 1#1) :
    hbM0_1.slice (Rect.unit (s := S1536x5760) (k0_off6 (grid0.coords t)) S1536x256.size (k0_off6_inb (grid0.coords t) h)) (fun _ => rfl) = srcB1 (Ring.bk 22 (t.val + 1)) :=
  Memref.slice_unit_congr _ (co1_6 t h) _ _ (fun _ => rfl) (fun _ => rfl)
set_option synthInstance.maxSize 4096 in
theorem co1_10 : ∀ t : Fin grid0.N, k0_cond3 (grid0.coords t) = 1#1 → k0_off10 (grid0.coords t) = ![1, (Ring.sl 2 (t.val + 1)).val] := by decide +kernel
@[sl_canon] theorem ca1_10 (t : Fin grid0.N) (h : k0_cond3 (grid0.coords t) = 1#1) :
    (cc0_scratch14.slice (Rect.unit (s := S2x2) (k0_off10 (grid0.coords t)) S1x1.size (k0_off10_inb (grid0.coords t) h))).squeeze S_ squeezes_S1x1_S_ = cellA1 (Ring.sl 2 (t.val + 1)) :=
  congrArg (fun A : DmaSems sig S1x1 => A.squeeze S_ squeezes_S1x1_S_) (SemArray.slice_unit_congr _ (co1_10 t h) _ _)
set_option synthInstance.maxSize 4096 in
theorem co1_11 : ∀ t : Fin grid0.N, k0_cond3 (grid0.coords t) = 1#1 → k0_off11 (grid0.coords t) = ![(Ring.sl 2 (t.val + 1)).val, 0, 0] := by decide +kernel
@[sl_canon] theorem ca1_11 (t : Fin grid0.N) (h : k0_cond3 (grid0.coords t) = 1#1) :
    (scM0_4.slice (Rect.unit (s := S2x1536x256) (k0_off11 (grid0.coords t)) S1x1536x128.size (k0_off11_inb (grid0.coords t) h)) (fun _ => rfl)).squeeze S1536x128 squeezes_S1x1536x128_S1536x128 = nslot1 (Ring.sl 2 (t.val + 1)) :=
  congrArg (fun M : Memref sig .tc .vmem S1x1536x128 .bf16 => M.squeeze S1536x128 squeezes_S1x1536x128_S1536x128) (Memref.slice_unit_congr _ (co1_11 t h) _ _ (fun _ => rfl) (fun _ => rfl))
set_option synthInstance.maxSize 4096 in
theorem co1_12 : ∀ t : Fin grid0.N, k0_cond3 (grid0.coords t) = 1#1 → k0_off12 (grid0.coords t) = ![0, 5632] := by decide +kernel
@[sl_canon] theorem ca1_12 (t : Fin grid0.N) (h : k0_cond3 (grid0.coords t) = 1#1) :
    hbM0_1.slice (Rect.unit (s := S1536x5760) (k0_off12 (grid0.coords t)) S1536x128.size (k0_off12_inb (grid0.coords t) h)) (fun _ => rfl) = srcT1 :=
  Memref.slice_unit_congr _ (co1_12 t h) _ _ (fun _ => rfl) (fun _ => rfl)
set_option synthInstance.maxSize 4096 in
theorem co1_16 : ∀ t : Fin grid0.N, k0_cond4 (grid0.coords t) = 1#1 → k0_off16 (grid0.coords t) = ![1, (Ring.sl 2 t.val).val] := by decide +kernel
@[sl_canon] theorem ca1_16 (t : Fin grid0.N) (h : k0_cond4 (grid0.coords t) = 1#1) :
    (cc0_scratch14.slice (Rect.unit (s := S2x2) (k0_off16 (grid0.coords t)) S1x1.size (k0_off16_inb (grid0.coords t) h))).squeeze S_ squeezes_S1x1_S_ = cellA1 (Ring.sl 2 t.val) :=
  congrArg (fun A : DmaSems sig S1x1 => A.squeeze S_ squeezes_S1x1_S_) (SemArray.slice_unit_congr _ (co1_16 t h) _ _)
set_option synthInstance.maxSize 4096 in
theorem co1_17 : ∀ t : Fin grid0.N, k0_cond4 (grid0.coords t) = 1#1 → k0_off17 (grid0.coords t) = ![(Ring.sl 2 t.val).val, 0, 0] := by decide +kernel
@[sl_canon] theorem ca1_17 (t : Fin grid0.N) (h : k0_cond4 (grid0.coords t) = 1#1) :
    (scM0_4.slice (Rect.unit (s := S2x1536x256) (k0_off17 (grid0.coords t)) S1x1536x256.size (k0_off17_inb (grid0.coords t) h)) (fun _ => rfl)).squeeze S1536x256 squeezes_S1x1536x256_S1536x256 = rslot1 (Ring.sl 2 t.val) :=
  congrArg (fun M : Memref sig .tc .vmem S1x1536x256 .bf16 => M.squeeze S1536x256 squeezes_S1x1536x256_S1536x256) (Memref.slice_unit_congr _ (co1_17 t h) _ _ (fun _ => rfl) (fun _ => rfl))
set_option synthInstance.maxSize 4096 in
theorem co1_18 : ∀ t : Fin grid0.N, k0_cond4 (grid0.coords t) = 1#1 → k0_off18 (grid0.coords t) = ![0, 256 * (Ring.bk 22 t.val).val] := by decide +kernel
@[sl_canon] theorem ca1_18 (t : Fin grid0.N) (h : k0_cond4 (grid0.coords t) = 1#1) :
    hbM0_1.slice (Rect.unit (s := S1536x5760) (k0_off18 (grid0.coords t)) S1536x256.size (k0_off18_inb (grid0.coords t) h)) (fun _ => rfl) = srcB1 (Ring.bk 22 t.val) :=
  Memref.slice_unit_congr _ (co1_18 t h) _ _ (fun _ => rfl) (fun _ => rfl)
set_option synthInstance.maxSize 4096 in
theorem co1_22 : ∀ t : Fin grid0.N, k0_cond5 (grid0.coords t) = 1#1 → k0_off22 (grid0.coords t) = ![1, (Ring.sl 2 t.val).val] := by decide +kernel
@[sl_canon] theorem ca1_22 (t : Fin grid0.N) (h : k0_cond5 (grid0.coords t) = 1#1) :
    (cc0_scratch14.slice (Rect.unit (s := S2x2) (k0_off22 (grid0.coords t)) S1x1.size (k0_off22_inb (grid0.coords t) h))).squeeze S_ squeezes_S1x1_S_ = cellA1 (Ring.sl 2 t.val) :=
  congrArg (fun A : DmaSems sig S1x1 => A.squeeze S_ squeezes_S1x1_S_) (SemArray.slice_unit_congr _ (co1_22 t h) _ _)
set_option synthInstance.maxSize 4096 in
theorem co1_23 : ∀ t : Fin grid0.N, k0_cond5 (grid0.coords t) = 1#1 → k0_off23 (grid0.coords t) = ![(Ring.sl 2 t.val).val, 0, 0] := by decide +kernel
@[sl_canon] theorem ca1_23 (t : Fin grid0.N) (h : k0_cond5 (grid0.coords t) = 1#1) :
    (scM0_4.slice (Rect.unit (s := S2x1536x256) (k0_off23 (grid0.coords t)) S1x1536x128.size (k0_off23_inb (grid0.coords t) h)) (fun _ => rfl)).squeeze S1536x128 squeezes_S1x1536x128_S1536x128 = nslot1 (Ring.sl 2 t.val) :=
  congrArg (fun M : Memref sig .tc .vmem S1x1536x128 .bf16 => M.squeeze S1536x128 squeezes_S1x1536x128_S1536x128) (Memref.slice_unit_congr _ (co1_23 t h) _ _ (fun _ => rfl) (fun _ => rfl))
set_option synthInstance.maxSize 4096 in
theorem co1_24 : ∀ t : Fin grid0.N, k0_cond5 (grid0.coords t) = 1#1 → k0_off24 (grid0.coords t) = ![0, 5632] := by decide +kernel
@[sl_canon] theorem ca1_24 (t : Fin grid0.N) (h : k0_cond5 (grid0.coords t) = 1#1) :
    hbM0_1.slice (Rect.unit (s := S1536x5760) (k0_off24 (grid0.coords t)) S1536x128.size (k0_off24_inb (grid0.coords t) h)) (fun _ => rfl) = srcT1 :=
  Memref.slice_unit_congr _ (co1_24 t h) _ _ (fun _ => rfl) (fun _ => rfl)
theorem lit1_s : ∀ t : Fin grid0.N, t.val = 0 → (![0, 0, 0] : Fin 3 → Nat) = ![(Ring.sl 2 t.val).val, 0, 0] := by decide +kernel
theorem lit1_b : ∀ t : Fin grid0.N, t.val = 0 → (![0, 0] : Fin 2 → Nat) = ![0, 256 * (Ring.bk 22 t.val).val] := by decide +kernel
theorem lit1_c : ∀ t : Fin grid0.N, t.val = 0 → (![1, 0] : Fin 2 → Nat) = ![1, (Ring.sl 2 t.val).val] := by decide +kernel
@[sl_canon] theorem cl1_s (t : Fin grid0.N) (h : k0_cond1 (grid0.coords t) = 1#1) :
    (scM0_4.slice (Rect.unit (s := S2x1536x256) ![0, 0, 0] S1x1536x256.size inb_S2x1536x256_S1x1536x256_0_0_0) (fun _ => rfl)).squeeze S1536x256 squeezes_S1x1536x256_S1536x256 = rslot1 (Ring.sl 2 t.val) :=
  congrArg (fun M : Memref sig .tc .vmem S1x1536x256 .bf16 => M.squeeze S1536x256 squeezes_S1x1536x256_S1536x256) (Memref.slice_unit_congr _ (lit1_s t ((hc1 t).mp h)) _ _ (fun _ => rfl) (fun _ => rfl))
@[sl_canon] theorem cl1_b (t : Fin grid0.N) (h : k0_cond1 (grid0.coords t) = 1#1) :
    hbM0_1.slice (Rect.unit (s := S1536x5760) ![0, 0] S1536x256.size inb_S1536x5760_S1536x256_0_0) (fun _ => rfl) = srcB1 (Ring.bk 22 t.val) :=
  Memref.slice_unit_congr _ (lit1_b t ((hc1 t).mp h)) _ _ (fun _ => rfl) (fun _ => rfl)
@[sl_canon] theorem cl1_c (t : Fin grid0.N) (h : k0_cond1 (grid0.coords t) = 1#1) :
    (cc0_scratch14.slice (Rect.unit (s := S2x2) ![1, 0] S1x1.size inb_S2x2_S1x1_1_0)).squeeze S_ squeezes_S1x1_S_ = cellA1 (Ring.sl 2 t.val) :=
  congrArg (fun A : DmaSems sig S1x1 => A.squeeze S_ squeezes_S1x1_S_) (SemArray.slice_unit_congr _ (lit1_c t ((hc1 t).mp h)) _ _)
set_option synthInstance.maxSize 4096 in
theorem co1_26 : ∀ t : Fin grid0.N, k0_off26 (grid0.coords t) = ![(Ring.sl 2 t.val).val, 0, 0] := by decide +kernel
@[sl_canon] theorem ca1_26 (t : Fin grid0.N) :
    (scM0_4.slice (Rect.unit (s := S2x1536x256) (k0_off26 (grid0.coords t)) S1x1536x256.size (k0_off26_inb (grid0.coords t))) (fun _ => rfl)).squeeze S1536x256 squeezes_S1x1536x256_S1536x256 = rslot1 (Ring.sl 2 t.val) :=
  congrArg (fun M : Memref sig .tc .vmem S1x1536x256 .bf16 => M.squeeze S1536x256 squeezes_S1x1536x256_S1536x256) (Memref.slice_unit_congr _ (co1_26 t) _ _ (fun _ => rfl) (fun _ => rfl))
instance (priority := high) closed1_26 (t : Fin grid0.N) : ClosedOff (k0_off26 (grid0.coords t)) := ⟨![(Ring.sl 2 t.val).val, 0, 0], co1_26 t⟩
set_option synthInstance.maxSize 4096 in
theorem co1_33 : ∀ t : Fin grid0.N, k0_off33 (grid0.coords t) = ![(Ring.sl 2 t.val).val, 0, 0] := by decide +kernel
@[sl_canon] theorem ca1_33 (t : Fin grid0.N) :
    (scM0_4.slice (Rect.unit (s := S2x1536x256) (k0_off33 (grid0.coords t)) S1x1536x256.size (k0_off33_inb (grid0.coords t))) (fun _ => rfl)).squeeze S1536x256 squeezes_S1x1536x256_S1536x256 = rslot1 (Ring.sl 2 t.val) :=
  congrArg (fun M : Memref sig .tc .vmem S1x1536x256 .bf16 => M.squeeze S1536x256 squeezes_S1x1536x256_S1536x256) (Memref.slice_unit_congr _ (co1_33 t) _ _ (fun _ => rfl) (fun _ => rfl))
instance (priority := high) closed1_33 (t : Fin grid0.N) : ClosedOff (k0_off33 (grid0.coords t)) := ⟨![(Ring.sl 2 t.val).val, 0, 0], co1_33 t⟩
set_option synthInstance.maxSize 4096 in
theorem co1_47 : ∀ t : Fin grid0.N, k0_off47 (grid0.coords t) = ![(Ring.sl 2 t.val).val, 0, 0] := by decide +kernel
@[sl_canon] theorem ca1_47 (t : Fin grid0.N) :
    (scM0_4.slice (Rect.unit (s := S2x1536x256) (k0_off47 (grid0.coords t)) S1x1536x256.size (k0_off47_inb (grid0.coords t))) (fun _ => rfl)).squeeze S1536x256 squeezes_S1x1536x256_S1536x256 = rslot1 (Ring.sl 2 t.val) :=
  congrArg (fun M : Memref sig .tc .vmem S1x1536x256 .bf16 => M.squeeze S1536x256 squeezes_S1x1536x256_S1536x256) (Memref.slice_unit_congr _ (co1_47 t) _ _ (fun _ => rfl) (fun _ => rfl))
instance (priority := high) closed1_47 (t : Fin grid0.N) : ClosedOff (k0_off47 (grid0.coords t)) := ⟨![(Ring.sl 2 t.val).val, 0, 0], co1_47 t⟩
set_option synthInstance.maxSize 4096 in
theorem co1_54 : ∀ t : Fin grid0.N, k0_off54 (grid0.coords t) = ![(Ring.sl 2 t.val).val, 0, 0] := by decide +kernel
@[sl_canon] theorem ca1_54 (t : Fin grid0.N) :
    (scM0_4.slice (Rect.unit (s := S2x1536x256) (k0_off54 (grid0.coords t)) S1x1536x256.size (k0_off54_inb (grid0.coords t))) (fun _ => rfl)).squeeze S1536x256 squeezes_S1x1536x256_S1536x256 = rslot1 (Ring.sl 2 t.val) :=
  congrArg (fun M : Memref sig .tc .vmem S1x1536x256 .bf16 => M.squeeze S1536x256 squeezes_S1x1536x256_S1536x256) (Memref.slice_unit_congr _ (co1_54 t) _ _ (fun _ => rfl) (fun _ => rfl))
instance (priority := high) closed1_54 (t : Fin grid0.N) : ClosedOff (k0_off54 (grid0.coords t)) := ⟨![(Ring.sl 2 t.val).val, 0, 0], co1_54 t⟩
end Canon1

/-! ## The copy of `y` out of its scratch -/

theorem inb_y (b : Fin 22) : ∀ a, (![0, 256 * b.val] : Fin 2 → Nat) a + S1536x256.size a ≤ S1536x5760.size a := by
  have := b.isLt; intro a; fin_cases a <;> simp <;> omega
/-- Tile `b` of the result `y`. -/
def ydst (b : Fin 22) : Memref sig .tc .hbm S1536x256 .bf16 :=
  hbM0_4.slice (Rect.unit (s := S1536x5760) ![0, 256 * b.val] S1536x256.size (inb_y b)) (fun _ => rfl)
section CanonY
omit [FloatOps F]
theorem co_67 : ∀ t : Fin grid0.N, k0_cond8 (grid0.coords t) = 1#1 → k0_off67 (grid0.coords t) = ![0, 256 * (Ring.bk 22 t.val).val] := by decide +kernel
theorem co_25 : ∀ t : Fin grid0.N, k0_cond7 (grid0.coords t) = 1#1 → k0_off25 (grid0.coords t) = ![0, 256 * (Ring.bk 22 (t.val - 1)).val] := by decide +kernel
@[sl_canon] theorem ca_67 (t : Fin grid0.N) (h : k0_cond8 (grid0.coords t) = 1#1) :
    hbM0_4.slice (Rect.unit (s := S1536x5760) (k0_off67 (grid0.coords t)) S1536x256.size (k0_off67_inb (grid0.coords t) h)) (fun _ => rfl) = ydst (Ring.bk 22 t.val) :=
  Memref.slice_unit_congr _ (co_67 t h) _ _ (fun _ => rfl) (fun _ => rfl)
@[sl_canon] theorem ca_25 (t : Fin grid0.N) (h : k0_cond7 (grid0.coords t) = 1#1) :
    hbM0_4.slice (Rect.unit (s := S1536x5760) (k0_off25 (grid0.coords t)) S1536x256.size (k0_off25_inb (grid0.coords t) h)) (fun _ => rfl) = ydst (Ring.bk 22 (t.val - 1)) :=
  Memref.slice_unit_congr _ (co_25 t h) _ _ (fun _ => rfl) (fun _ => rfl)
end CanonY
section Y
variable (c : Dev nD)
def yrest (b : Fin 22) (g : HbBuf0 (F := F) c hbM0_4) : sProp 𝕄 := hbM0_4.view.loc (c : Thread nD τ) ↦[Finset.univ \ (ydst b).view.set]{fullShare} g
theorem y_split (b : Fin 22) (g : HbBuf0 (F := F) c hbM0_4) : (hbPt0 c hbM0_4 g : sProp 𝕄) ⊢ iprop(((ydst b).view.loc (c : Thread nD τ) ↦[(ydst b).view.set]{fullShare} g) ∗ yrest c b g) := by
  unfold yrest; exact (pointsTo_split_subset (Finset.subset_univ _)).1
variable (Q : ℕ → (S1536x256.Idx → F .bf16) → Prop)
/-- An index of a box of 1536 rows. -/
def yix {n : ℕ} (r : Fin 1536) (j : Fin n) : (⟨2, ![1536, n]⟩ : Shape).Idx := fun a => match a with | ⟨0, _⟩ => r | ⟨1, _⟩ => j
/-- The first `k` tiles of the result `y` are what `Q` says a tile is. -/
def YDone (k : ℕ) (g : HbBuf0 (F := F) c hbM0_4) : Prop :=
  ∀ b < k, ∃ d, Q b d ∧ ∀ (r : Fin 1536) (j : Fin 256) (h : 256 * b + j.val < 5760),
    hbM0_4.view.read (Elt F) g (yix r ⟨256 * b + j.val, h⟩) = d (yix r j)
/-- What the copy of a tile of `y` delivers: the result with the first `k` tiles in it, and the scratch, at something. -/
def ydlv (k : ℕ) : sProp 𝕄 := iprop((∃ g, ⌜YDone c Q k g⌝ ∗ hbPt0 (F := F) c hbM0_4 g) ∗ (∃ d, owns (c : Thread nD τ) scM0_9 fullShare d))
/-- The scratch `y` is copied from, as the copies name it. -/
abbrev ysrc : Memref sig .tc .vmem S1536x256 .bf16 := scM0_9.slice (Rect.unit (s := S1536x256) ![0, 0] S1536x256.size inb_S1536x256_S1536x256_0_0) (fun _ => rfl)
abbrev ylanded (b : Fin 22) (f : HbBuf0 (F := F) c scM0_9) (g : HbBuf0 (F := F) c (ydst b)) : HbBuf0 (F := F) c (ydst b) :=
  (ydst b).view.writes (Elt F) g [⟨Rect.whole S1536x256, ReadAs.same.apply ((scM0_9.slice (Rect.unit (s := S1536x256) ![0, 0] S1536x256.size inb_S1536x256_S1536x256_0_0) (fun _ => rfl)).view.read (Elt F) f)⟩]
abbrev ydstP (b : Fin 22) (g : HbBuf0 (F := F) c (ydst b)) : sProp 𝕄 := (ydst b).view.loc (c : Thread nD τ) ↦[(ydst b).view.set]{fullShare} g
abbrev ysrcP (f : HbBuf0 (F := F) c scM0_9) : sProp 𝕄 := scM0_9.view.loc (c : Thread nD τ) ↦[(scM0_9.slice (Rect.unit (s := S1536x256) ![0, 0] S1536x256.size inb_S1536x256_S1536x256_0_0) (fun _ => rfl)).view.set]{fullShare} f
abbrev ysrcR (f : HbBuf0 (F := F) c scM0_9) : sProp 𝕄 := scM0_9.view.loc (c : Thread nD τ) ↦[scM0_9.view.set \ (scM0_9.slice (Rect.unit (s := S1536x256) ![0, 0] S1536x256.size inb_S1536x256_S1536x256_0_0) (fun _ => rfl)).view.set]{fullShare} f
/-- Tile `b` of `y` on its way out, with what is left of the result and of the scratch meanwhile. -/
def yfly (b : Fin 22) : sProp 𝕄 := iprop(∃ (f : HbBuf0 (F := F) c scM0_9) (g : HbBuf0 (F := F) c (ydst b)), ⌜YDone c Q b.val g ∧ Q b.val (scM0_9.view.read (Elt F) f)⌝ ∗ Transfers.Flight countersEmb (c : Thread nD τ) (SemLoc.dma 22) default ((ydst b).view.amount (SemLoc.dma 22))
    iprop(ydstP c b (ylanded c b f g) ∗ ysrcP c f) ∗ yrest c b g ∗ ysrcR c f)
theorem yrest_congr (b : Fin 22) (f : HbBuf0 (F := F) c scM0_9) (g : HbBuf0 (F := F) c (ydst b)) : yrest (F := F) c b g ⊢ yrest c b (ylanded c b f g) := by
  unfold yrest ylanded
  exact pt_writes_off c (ydst b).view g _ _ (fun i hi => (Finset.mem_sdiff.mp hi).2)
theorem ysrc_sub : ysrc.view.set ⊆ scM0_9.view.set := View.set_slice_subset _ _
/-- A box of columns of the result read after one write over a box of columns. -/
theorem ywrite_read {w : ℕ} (o : ℕ) (inb : ∀ a, (![0, o] : Fin 2 → ℕ) a + (![1536, w] : Fin 2 → ℕ) a ≤ S1536x5760.size a) (g : HbBuf0 (F := F) c hbM0_4)
    (x : (Rect.unit (s := S1536x5760) ![0, o] ![1536, w] inb).shape.Idx → Elt F .bf16) (r : Fin 1536) (j : Fin 5760) :
    hbM0_4.view.read (Elt F) (hbM0_4.view.writes (Elt F) g [⟨Rect.unit (s := S1536x5760) ![0, o] ![1536, w] inb, x⟩]) (yix r j)
      = if h : o ≤ j.val ∧ j.val < o + w then x (yix r (⟨j.val - o, by omega⟩ : Fin w))
        else hbM0_4.view.read (Elt F) g (yix r j) := by
  by_cases h : o ≤ j.val ∧ j.val < o + w
  · rw [dif_pos h]
    refine View.read_writes_cons_unit_of_mem hbM0_4.view g inb x [] _ _ rfl ?_
    intro a
    match a with
    | ⟨0, _⟩ => exact (Nat.zero_add _).symm
    | ⟨1, _⟩ => exact (show j.val = o + (j.val - o) by omega)
  · rw [dif_neg h]
    refine (View.read_writes_cons_unit_of_not_mem hbM0_4.view g inb x [] _ rfl ⟨1, by decide⟩ ?_)
    show j.val < o ∨ o + w ≤ j.val
    omega
/-- The tile landed is the write of the scratch over the tile's columns. -/
theorem ylanded_eq (b : Fin 22) (f : HbBuf0 (F := F) c scM0_9) (g : HbBuf0 (F := F) c (ydst b)) :
    ylanded c b f g = hbM0_4.view.writes (Elt F) g [⟨Rect.unit (s := S1536x5760) ![0, 256 * b.val] ![1536, 256] (inb_y b), ysrc.view.read (Elt F) f⟩] :=
  (View.write_univ_eq_writes_whole (ydst b).view g [] (ysrc.view.read (Elt F) f)).symm
theorem ysrc_read (f : HbBuf0 (F := F) c scM0_9) : ysrc.view.read (Elt F) f = scM0_9.view.read (Elt F) f := by
  funext i
  refine congrArg (scM0_9.view.read (Elt F) f) (funext fun a => Fin.ext ?_)
  match a with
  | ⟨0, _⟩ => exact (show 0 + 1 * (i ⟨0, by decide⟩).val = _ by omega)
  | ⟨1, _⟩ => exact (show 0 + 1 * (i ⟨1, by decide⟩).val = _ by omega)
/-- A result read after a tile landed. -/
theorem ylanded_read (b : Fin 22) (f : HbBuf0 (F := F) c scM0_9) (g : HbBuf0 (F := F) c (ydst b)) (r : Fin 1536) (j : Fin 5760) :
    hbM0_4.view.read (Elt F) (ylanded c b f g) (yix r j)
      = if h : 256 * b.val ≤ j.val ∧ j.val < 256 * b.val + 256 then scM0_9.view.read (Elt F) f (yix r ⟨j.val - 256 * b.val, by omega⟩)
        else hbM0_4.view.read (Elt F) g (yix r j) := by
  refine (congrArg (fun z => hbM0_4.view.read (Elt F) z (yix r j)) (ylanded_eq c b f g)).trans ?_
  refine (ywrite_read c (w := 256) (256 * b.val) (inb_y b) g (ysrc.view.read (Elt F) f) r j).trans ?_
  by_cases h : 256 * b.val ≤ j.val ∧ j.val < 256 * b.val + 256
  · rw [dif_pos h, dif_pos h]; exact congrFun (ysrc_read c f) _
  · rw [dif_neg h, dif_neg h]
/-- One more tile of the result is in place once it has landed. -/
theorem ydone_land (b : Fin 22) (f : HbBuf0 (F := F) c scM0_9) (g : HbBuf0 (F := F) c (ydst b))
    (hg : YDone c Q b.val g) (hf : Q b.val (scM0_9.view.read (Elt F) f)) : YDone c Q (b.val + 1) (ylanded c b f g) := by
  intro b' hb'
  by_cases e : b' = b.val
  · subst e
    refine ⟨_, hf, fun r j h => ?_⟩
    refine (ylanded_read c b f g r _).trans ((dif_pos ⟨Nat.le_add_right _ _, by have := j.isLt; show 256 * b.val + j.val < _; omega⟩).trans ?_)
    exact congrArg (fun z => scM0_9.view.read (Elt F) f (yix r z)) (Fin.ext (show 256 * b.val + j.val - 256 * b.val = j.val by omega))
  · obtain ⟨d, hd, hr⟩ := hg b' (by omega)
    refine ⟨d, hd, fun r j h => ?_⟩
    exact (ylanded_read c b f g r _).trans ((dif_neg (by have := j.isLt; show ¬ (_ ≤ 256 * b' + j.val ∧ 256 * b' + j.val < _); omega)).trans (hr r j h))
/-- The narrow last tile completes the result. -/
theorem ydone_tail (inb : ∀ a, (![0, 5632] : Fin 2 → ℕ) a + (![1536, 128] : Fin 2 → ℕ) a ≤ S1536x5760.size a) (f : HbBuf0 (F := F) c scM0_9) (g : HbBuf0 (F := F) c hbM0_4)
    (x : (Rect.unit (s := S1536x5760) ![0, 5632] ![1536, 128] inb).shape.Idx → Elt F .bf16)
    (hx : ∀ (r : Fin 1536) (j : Fin 128), x (yix r j) = scM0_9.view.read (Elt F) f (yix r (⟨j.val, by omega⟩ : Fin 256)))
    (hg : YDone c Q 22 g) (hf : Q 22 (scM0_9.view.read (Elt F) f)) :
    YDone c Q 23 (hbM0_4.view.writes (Elt F) g [⟨Rect.unit (s := S1536x5760) ![0, 5632] ![1536, 128] inb, x⟩]) := by
  intro b' hb'
  by_cases e : b' = 22
  · subst e
    refine ⟨_, hf, fun r j h => ?_⟩
    refine (ywrite_read c 5632 inb g x r _).trans ((dif_pos (show 5632 ≤ 256 * 22 + j.val ∧ 256 * 22 + j.val < 5632 + 128 by omega)).trans ?_)
    refine (hx r _).trans ?_
    exact congrArg (fun z => scM0_9.view.read (Elt F) f (yix r z)) (Fin.ext (show 256 * 22 + j.val - 5632 = j.val by omega))
  · obtain ⟨d, hd, hr⟩ := hg b' (by omega)
    refine ⟨d, hd, fun r j h => ?_⟩
    exact (ywrite_read c 5632 inb g x r _).trans ((dif_neg (by have := j.isLt; show ¬ (_ ≤ 256 * b' + j.val ∧ 256 * b' + j.val < _); omega)).trans (hr r j h))
/-- A tile of `y` landed. -/
theorem yland (b : Fin 22) (f : HbBuf0 (F := F) c scM0_9) (g : HbBuf0 (F := F) c (ydst b)) (f' : HbBuf0 (F := F) c scM0_9)
    (k : ℕ) (hk : k = b.val + 1) (hg : YDone c Q b.val g ∧ Q b.val (scM0_9.view.read (Elt F) f)) :
    iprop(ydstP c b (ylanded c b f g) ∗ yrest c b g ∗ (scM0_9.view.loc (c : Thread nD τ) ↦[scM0_9.view.set]{fullShare} f')) ⊢ ydlv (F := F) c Q k := by
  subst hk
  unfold ydlv
  iintro ⟨HD, HR, HQ⟩
  isplitl [HD HR]
  · iexists (ylanded c b f g)
    isplitr
    · ipureintro; exact ydone_land c Q b f g hg.1 hg.2
    ihave HR' := (yrest_congr c b f g) $$ HR
    unfold yrest
    iapply (pointsTo_split_subset (Finset.subset_univ _)).2
    isplitl [HD]; · iexact HD
    iexact HR'
  · unfold owns
    iexists _, _; isplitr; swap; · iexact HQ
    ipureintro; rfl
def yfree (k : ℕ) : sProp 𝕄 := iprop(semVal ((c : Thread nD τ), SemLoc.dma 22) 0 ∗ ydlv (F := F) c Q k)
/-- The scratch holds tile `k`, and its copy has not started. -/
def yready (k : ℕ) : sProp 𝕄 := iprop(semVal ((c : Thread nD τ), SemLoc.dma 22) 0 ∗ (∃ g, ⌜YDone c Q k g⌝ ∗ hbPt0 (F := F) c hbM0_4 g) ∗ (∃ d, ⌜Q k d⌝ ∗ owns (c : Thread nD τ) scM0_9 fullShare d))
/-- The copy of `y` before point `k`: that of tile `k - 1` in flight, or none. -/
def yAt (k : ℕ) : sProp 𝕄 := if k = 0 ∨ k = 23 then yfree (F := F) c Q k else yfly (F := F) c Q (Ring.bk 22 (k - 1))
end Y

end Cert.KernelIdeal.Hand

end
-- ==== Proof.KernelIdeal.HeadA.lean ====
/-
The head of a step: the copies it starts and those it waits for. Point 0 starts its own tile, the next
one and the two `x` operands; the points up to 20 start the next tile; point 21 starts the narrow one;
point 22 only waits.
-/
module

public import proofs.«01_k».proof.Proof.KernelIdeal.Base

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option pp.maxSteps 3000
set_option maxHeartbeats 4000000 in
theorem headA (c : Dev nD) (t : Fin cfg0.N) (ht : t.val = 0) (arg7 : Memref sig .tc .vmem S2880x256 .f32) (harg7 : arg7.IsWhole) (arg8 : Memref sig .tc .vmem S2880x256 .fp8e4m3) (harg8 : arg8.IsWhole) (arg9 : Memref sig .tc .vmem S90x256 .i8) (harg9 : arg9.IsWhole) (arg10 : Memref sig .tc .vmem S2880x256 .fp8e4m3) (harg10 : arg10.IsWhole) (arg11 : Memref sig .tc .vmem S8x2880 .i8) (harg11 : arg11.IsWhole) (arg12 : Memref sig .tc .vmem S4x384x256 .fp8e4m3) (harg12 : arg12.IsWhole) (arg13 : Memref sig .tc .vmem S8x4x384 .i8) (harg13 : arg13.IsWhole) (arg14 : Memref sig .tc .vmem S4x384x256 .fp8e4m3) (harg14 : arg14.IsWhole) (arg15 : Memref sig .tc .vmem S12x4x256 .i8) (harg15 : arg15.IsWhole) (arg16 : Memref sig .tc .vmem S1536x2880 .bf16) (harg16 : arg16.IsWhole) (arg17 : Memref sig .tc .vmem S2880x1536 .bf16) (harg17 : arg17.IsWhole) (arg18 : Memref sig .tc .vmem S2880x1536 .f32) (harg18 : arg18.IsWhole) (arg21 : Memref sig .tc .vmem S2880x256 .bf16) (harg21 : arg21.IsWhole) (arg22 : Memref sig .tc .vmem S2880x256 .bf16) (harg22 : arg22.IsWhole) (arg23 : Memref sig .tc .vmem S1536x256 .bf16) (harg23 : arg23.IsWhole) (arg24 : Memref sig .tc .vmem S1536x256 .bf16) (harg24 : arg24.IsWhole) (arg26 : Memref sig .tc .vmem S90x256 .i32) (harg26 : arg26.IsWhole) (arg27 : Memref sig .tc .vmem S8x2880 .i32) (harg27 : arg27.IsWhole) (arg28 : Memref sig .tc .vmem S8x4x384 .i32) (harg28 : arg28.IsWhole) (arg29 : Memref sig .tc .vmem S12x4x256 .i32) (harg29 : arg29.IsWhole)
    (W0 : HbBuf0 (F := F) c hbM0_0) (W1 : HbBuf0 (F := F) c hbM0_1) (W2 : HbBuf0 (F := F) c hbM0_2) (W3 : HbBuf0 (F := F) c hbM0_3) :
    ∀ (W : Waits sig Unit) (K : _ → sProp 𝕄),
      iprop(free0 c W0 (Ring.sl 2 t.val) ∗ free0 c W0 (Ring.sl 2 (t.val + 1)) ∗ free1 c W1 (Ring.sl 2 t.val) ∗ free1 c W1 (Ring.sl 2 (t.val + 1)) ∗ (∃ d, owns (c : Thread nD τ) arg16 fullShare d) ∗ (∃ d, owns (c : Thread nD τ) arg17 fullShare d) ∗ (∃ d, owns (c : Thread nD τ) arg18 fullShare d) ∗ semVal ((c : Thread nD τ), SemLoc.dma 23) 0 ∗ semVal ((c : Thread nD τ), SemLoc.dma 24) 0 ∗ hbPt0 c hbM0_2 W2 ∗ hbPt0 c hbM0_3 W3 ∗ owes (c : Thread nD τ) 0 W
        ∗ (iprop(have0 c W0 t.val ∗ fly0 c W0 (Ring.sl 2 (t.val + 1)) (t.val + 1) ∗ have1 c W1 t.val ∗ fly1 c W1 (Ring.sl 2 (t.val + 1)) (t.val + 1) ∗ owns (c : Thread nD τ) arg16 fullShare (hbM0_2.view.read (Elt F) W2) ∗ owns (c : Thread nD τ) arg17 fullShare (hbM0_3.view.read (Elt F) W3) ∗ (∃ d, owns (c : Thread nD τ) arg18 fullShare d) ∗ semVal ((c : Thread nD τ), SemLoc.dma 23) 0 ∗ semVal ((c : Thread nD τ), SemLoc.dma 24) 0 ∗ hbPt0 c hbM0_2 W2 ∗ hbPt0 c hbM0_3 W3 ∗ (∃ W', owes (c : Thread nD τ) 0 W')) -∗ K ⟨BitVec.ofNat 32 ((grid0.coords t) 0).val, k0_pay502 (F := F) (grid0.coords t), 0#32⟩))
      ⊢ wp frame (wpE (defs₀ (F := F)) Variants.none c none) Set.univ (k0_part66 (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 arg16 harg16 arg17 harg17 arg18 harg18 scM0_3 (Memref.isWhole_whole _) scM0_4 (Memref.isWhole_whole _) arg21 harg21 arg22 harg22 arg23 harg23 arg24 harg24 scM0_9 (Memref.isWhole_whole _) arg26 harg26 arg27 harg27 arg28 harg28 arg29 harg29 cc0_scratch14 cc0_scratch15 cc0_scratch16) K := by
  intro W K
  have h1 : k0_cond1 (grid0.coords t) = 1#1 := by rw [hc1]; omega
  haveI : Fact (k0_cond1 (grid0.coords t) = 1#1) := ⟨h1⟩
  have h2 : k0_cond2 (grid0.coords t) = 1#1 := by rw [hc2]; omega
  haveI : Fact (k0_cond2 (grid0.coords t) = 1#1) := ⟨h2⟩
  have h3 : ¬ k0_cond3 (grid0.coords t) = 1#1 := by rw [hc3]; omega
  haveI : Fact (¬ k0_cond3 (grid0.coords t) = 1#1) := ⟨h3⟩
  have h4 : k0_cond4 (grid0.coords t) = 1#1 := by rw [hc4]; omega
  haveI : Fact (k0_cond4 (grid0.coords t) = 1#1) := ⟨h4⟩
  have h5 : ¬ k0_cond5 (grid0.coords t) = 1#1 := by rw [hc5]; omega
  haveI : Fact (¬ k0_cond5 (grid0.coords t) = 1#1) := ⟨h5⟩
  have h6 : cond6 (grid0.coords t) := by rw [hc6]; omega
  haveI : Fact (cond6 (grid0.coords t)) := ⟨h6⟩
  have h7 : ¬ k0_cond7 (grid0.coords t) = 1#1 := by rw [hc7]; omega
  haveI : Fact (¬ k0_cond7 (grid0.coords t) = 1#1) := ⟨h7⟩
  simp only [k0_part66_eq_skeleton]; unfold k0_part66_skel
  have hcn0 := cl0_s t h1
  have hcn1 := cl0_b t h1
  have hcn2 := cl0_c t h1
  have hcn3 := ca0_1 t h2
  have hcn4 := ca0_2 t h2
  have hcn5 := ca0_3 t h2
  have hcn6 := ca0_13 t h4
  have hcn7 := ca0_14 t h4
  have hcn8 := ca0_15 t h4
  have hcn9 := cl1_s t h1
  have hcn10 := cl1_b t h1
  have hcn11 := cl1_c t h1
  have hcn12 := ca1_4 t h2
  have hcn13 := ca1_5 t h2
  have hcn14 := ca1_6 t h2
  have hcn15 := ca1_16 t h4
  have hcn16 := ca1_17 t h4
  have hcn17 := ca1_18 t h4
  unfold owns
  unfold free0 free1
  iintro ⟨⟨Hca0, ⟨%fa0, Hsa0⟩, Hwa0⟩, ⟨Hcb0, ⟨%fb0, Hsb0⟩, Hwb0⟩, ⟨Hca1, ⟨%fa1, Hsa1⟩, Hwa1⟩, ⟨Hcb1, ⟨%fb1, Hsb1⟩, Hwb1⟩, ⟨%d16, %f16, -, H16⟩, ⟨%d17, %f17, -, H17⟩, ⟨%d18, %f18, -, H18⟩, Hq1, Hq2, Hh2, Hh3, HW, Hk⟩
  ihave Hx := (src0_split c W0 (Ring.sl 2 t.val) (Ring.bk 22 t.val)).1 $$ Hwa0
  icases Hx with ⟨Hha0, Hra0⟩
  ihave Hx := (src0_split c W0 (Ring.sl 2 (t.val + 1)) (Ring.bk 22 (t.val + 1))).1 $$ Hwb0
  icases Hx with ⟨Hhb0, Hrb0⟩
  ihave Hx := (src1_split c W1 (Ring.sl 2 t.val) (Ring.bk 22 t.val)).1 $$ Hwa1
  icases Hx with ⟨Hha1, Hra1⟩
  ihave Hx := (src1_split c W1 (Ring.sl 2 (t.val + 1)) (Ring.bk 22 (t.val + 1))).1 $$ Hwb1
  icases Hx with ⟨Hhb1, Hrb1⟩
  sl_exec (disch := first | sl_exact h1 | sl_exact h2 | sl_exact h3 | sl_exact h4 | sl_exact h5 | sl_exact h6 | sl_exact h7)
  sl_step
  iapply Hk
  isplitl [Hca0 Hsa0 Hha0 Hra0]
  · unfold have0
    isplitl [Hca0]; · iexact Hca0
    iapply (land0 c W0 (Ring.sl 2 t.val) t.val (by omega) fa0)
    isplitl [Hsa0]; · iexact Hsa0
    isplitl [Hha0]; · iexact Hha0
    iexact Hra0
  isplitl [Hcb0 Hrb0]
  · try unfold fly0
    iexists fb0
    isplitl [Hcb0]; · iexact Hcb0
    iexact Hrb0
  isplitl [Hca1 Hsa1 Hha1 Hra1]
  · unfold have1
    isplitl [Hca1]; · iexact Hca1
    iapply (land1 c W1 (Ring.sl 2 t.val) t.val (by omega) fa1)
    isplitl [Hsa1]; · iexact Hsa1
    isplitl [Hha1]; · iexact Hha1
    iexact Hra1
  isplitl [Hcb1 Hrb1]
  · try unfold fly1
    iexists fb1
    isplitl [Hcb1]; · iexact Hcb1
    iexact Hrb1
  isplitl [H16]
  · iexists _; isplitr; swap; · iexact H16
    ipureintro; exact View.read_writes_whole _ _ _
  isplitl [H17]
  · iexists _; isplitr; swap; · iexact H17
    ipureintro; exact View.read_writes_whole _ _ _
  isplitl [H18]
  · iexists _, _; isplitr; swap; · iexact H18
    ipureintro; rfl
  isplitl [Hq1]; · iexact Hq1
  isplitl [Hq2]; · iexact Hq2
  isplitl [Hh2]; · iexact Hh2
  isplitl [Hh3]; · iexact Hh3
  iexists _; iexact HW

end Cert.KernelIdeal.Hand

end
-- ==== Proof.KernelIdeal.HeadB.lean ====
/-
The head of a step: the copies it starts and those it waits for. Point 0 starts its own tile, the next
one and the two `x` operands; the points up to 20 start the next tile; point 21 starts the narrow one;
point 22 only waits.
-/
module

public import proofs.«01_k».proof.Proof.KernelIdeal.Base

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option pp.maxSteps 3000
set_option maxHeartbeats 1600000 in
theorem headB (c : Dev nD) (t : Fin cfg0.N) (ht : 0 < t.val ∧ t.val < 21) (arg7 : Memref sig .tc .vmem S2880x256 .f32) (harg7 : arg7.IsWhole) (arg8 : Memref sig .tc .vmem S2880x256 .fp8e4m3) (harg8 : arg8.IsWhole) (arg9 : Memref sig .tc .vmem S90x256 .i8) (harg9 : arg9.IsWhole) (arg10 : Memref sig .tc .vmem S2880x256 .fp8e4m3) (harg10 : arg10.IsWhole) (arg11 : Memref sig .tc .vmem S8x2880 .i8) (harg11 : arg11.IsWhole) (arg12 : Memref sig .tc .vmem S4x384x256 .fp8e4m3) (harg12 : arg12.IsWhole) (arg13 : Memref sig .tc .vmem S8x4x384 .i8) (harg13 : arg13.IsWhole) (arg14 : Memref sig .tc .vmem S4x384x256 .fp8e4m3) (harg14 : arg14.IsWhole) (arg15 : Memref sig .tc .vmem S12x4x256 .i8) (harg15 : arg15.IsWhole) (arg16 : Memref sig .tc .vmem S1536x2880 .bf16) (harg16 : arg16.IsWhole) (arg17 : Memref sig .tc .vmem S2880x1536 .bf16) (harg17 : arg17.IsWhole) (arg18 : Memref sig .tc .vmem S2880x1536 .f32) (harg18 : arg18.IsWhole) (arg21 : Memref sig .tc .vmem S2880x256 .bf16) (harg21 : arg21.IsWhole) (arg22 : Memref sig .tc .vmem S2880x256 .bf16) (harg22 : arg22.IsWhole) (arg23 : Memref sig .tc .vmem S1536x256 .bf16) (harg23 : arg23.IsWhole) (arg24 : Memref sig .tc .vmem S1536x256 .bf16) (harg24 : arg24.IsWhole) (arg26 : Memref sig .tc .vmem S90x256 .i32) (harg26 : arg26.IsWhole) (arg27 : Memref sig .tc .vmem S8x2880 .i32) (harg27 : arg27.IsWhole) (arg28 : Memref sig .tc .vmem S8x4x384 .i32) (harg28 : arg28.IsWhole) (arg29 : Memref sig .tc .vmem S12x4x256 .i32) (harg29 : arg29.IsWhole)
    (W0 : HbBuf0 (F := F) c hbM0_0) (W1 : HbBuf0 (F := F) c hbM0_1) :
    ∀ (Q : ℕ → (S1536x256.Idx → F .bf16) → Prop) (W : Waits sig Unit) (K : _ → sProp 𝕄),
      iprop(fly0 c W0 (Ring.sl 2 t.val) t.val ∗ free0 c W0 (Ring.sl 2 (t.val + 1)) ∗ fly1 c W1 (Ring.sl 2 t.val) t.val ∗ free1 c W1 (Ring.sl 2 (t.val + 1)) ∗ yfly (F := F) c Q (Ring.bk 22 (t.val - 1)) ∗ owes (c : Thread nD τ) 0 W
        ∗ (iprop(have0 c W0 t.val ∗ fly0 c W0 (Ring.sl 2 (t.val + 1)) (t.val + 1) ∗ have1 c W1 t.val ∗ fly1 c W1 (Ring.sl 2 (t.val + 1)) (t.val + 1) ∗ yfree (F := F) c Q t.val ∗ (∃ W', owes (c : Thread nD τ) 0 W')) -∗ K ⟨BitVec.ofNat 32 ((grid0.coords t) 0).val, k0_pay502 (F := F) (grid0.coords t), 0#32⟩))
      ⊢ wp frame (wpE (defs₀ (F := F)) Variants.none c none) Set.univ (k0_part66 (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 arg16 harg16 arg17 harg17 arg18 harg18 scM0_3 (Memref.isWhole_whole _) scM0_4 (Memref.isWhole_whole _) arg21 harg21 arg22 harg22 arg23 harg23 arg24 harg24 scM0_9 (Memref.isWhole_whole _) arg26 harg26 arg27 harg27 arg28 harg28 arg29 harg29 cc0_scratch14 cc0_scratch15 cc0_scratch16) K := by
  intro Q W K
  have hkt : t.val = (Ring.bk 22 (t.val - 1)).val + 1 := (show t.val = (t.val - 1) % 22 + 1 by have h23 : t.val < 23 := t.isLt; omega)
  have h1 : ¬ k0_cond1 (grid0.coords t) = 1#1 := by rw [hc1]; omega
  haveI : Fact (¬ k0_cond1 (grid0.coords t) = 1#1) := ⟨h1⟩
  have h2 : k0_cond2 (grid0.coords t) = 1#1 := by rw [hc2]; omega
  haveI : Fact (k0_cond2 (grid0.coords t) = 1#1) := ⟨h2⟩
  have h3 : ¬ k0_cond3 (grid0.coords t) = 1#1 := by rw [hc3]; omega
  haveI : Fact (¬ k0_cond3 (grid0.coords t) = 1#1) := ⟨h3⟩
  have h4 : k0_cond4 (grid0.coords t) = 1#1 := by rw [hc4]; omega
  haveI : Fact (k0_cond4 (grid0.coords t) = 1#1) := ⟨h4⟩
  have h5 : ¬ k0_cond5 (grid0.coords t) = 1#1 := by rw [hc5]; omega
  haveI : Fact (¬ k0_cond5 (grid0.coords t) = 1#1) := ⟨h5⟩
  have h6 : ¬ cond6 (grid0.coords t) := by rw [hc6]; omega
  haveI : Fact (¬ cond6 (grid0.coords t)) := ⟨h6⟩
  have h7 : k0_cond7 (grid0.coords t) = 1#1 := by rw [hc7]; omega
  haveI : Fact (k0_cond7 (grid0.coords t) = 1#1) := ⟨h7⟩
  simp only [k0_part66_eq_skeleton]; unfold k0_part66_skel
  have hcn0 := ca0_1 t h2
  have hcn1 := ca0_2 t h2
  have hcn2 := ca0_3 t h2
  have hcn3 := ca0_13 t h4
  have hcn4 := ca0_14 t h4
  have hcn5 := ca0_15 t h4
  have hcn6 := ca1_4 t h2
  have hcn7 := ca1_5 t h2
  have hcn8 := ca1_6 t h2
  have hcn9 := ca1_16 t h4
  have hcn10 := ca1_17 t h4
  have hcn11 := ca1_18 t h4
  have hcn12 := ca_25 t h7
  unfold yfly fly0 fly1 free0 free1
  iintro ⟨⟨%fa0, Hfa0, Hra0⟩, ⟨Hcb0, ⟨%fb0, Hsb0⟩, Hwb0⟩, ⟨%fa1, Hfa1, Hra1⟩, ⟨Hcb1, ⟨%fb1, Hsb1⟩, Hwb1⟩, ⟨%fy, %gy, %hy, Hy, Hyr, Hyq⟩, HW, Hk⟩
  ihave Hx := (src0_split c W0 (Ring.sl 2 (t.val + 1)) (Ring.bk 22 (t.val + 1))).1 $$ Hwb0
  icases Hx with ⟨Hhb0, Hrb0⟩
  ihave Hx := (src1_split c W1 (Ring.sl 2 (t.val + 1)) (Ring.bk 22 (t.val + 1))).1 $$ Hwb1
  icases Hx with ⟨Hhb1, Hrb1⟩
  sl_exec (disch := first | sl_exact h1 | sl_exact h2 | sl_exact h3 | sl_exact h4 | sl_exact h5 | sl_exact h6 | sl_exact h7)
  sl_step
  iapply Hk
  isplitl [Hfa0 Hfa0_dst Hfa0_src Hra0]
  · unfold have0
    isplitl [Hfa0]; · iexact Hfa0
    iapply (land0 c W0 (Ring.sl 2 t.val) t.val (by omega) fa0)
    isplitl [Hfa0_dst]; · iexact Hfa0_dst
    isplitl [Hfa0_src]; · iexact Hfa0_src
    iexact Hra0
  isplitl [Hcb0 Hrb0]
  · try unfold fly0
    iexists fb0
    isplitl [Hcb0]; · iexact Hcb0
    iexact Hrb0
  isplitl [Hfa1 Hfa1_dst Hfa1_src Hra1]
  · unfold have1
    isplitl [Hfa1]; · iexact Hfa1
    iapply (land1 c W1 (Ring.sl 2 t.val) t.val (by omega) fa1)
    isplitl [Hfa1_dst]; · iexact Hfa1_dst
    isplitl [Hfa1_src]; · iexact Hfa1_src
    iexact Hra1
  isplitl [Hcb1 Hrb1]
  · try unfold fly1
    iexists fb1
    isplitl [Hcb1]; · iexact Hcb1
    iexact Hrb1
  isplitl [Hy Hy_dst Hyr Hyq]
  · unfold yfree
    isplitl [Hy]; · iexact Hy
    iapply (yland c Q (Ring.bk 22 (t.val - 1)) fy gy _ t.val hkt hy)
    isplitl [Hy_dst]; · iexact Hy_dst
    isplitl [Hyr]; · iexact Hyr
    iexact Hyq
  iexists _; iexact HW

end Cert.KernelIdeal.Hand

end
-- ==== Proof.KernelIdeal.HeadC.lean ====
/-
The head of a step: the copies it starts and those it waits for. Point 0 starts its own tile, the next
one and the two `x` operands; the points up to 20 start the next tile; point 21 starts the narrow one;
point 22 only waits.
-/
module

public import proofs.«01_k».proof.Proof.KernelIdeal.Base

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option pp.maxSteps 3000
set_option maxHeartbeats 1600000 in
theorem headC (c : Dev nD) (t : Fin cfg0.N) (ht : t.val = 21) (arg7 : Memref sig .tc .vmem S2880x256 .f32) (harg7 : arg7.IsWhole) (arg8 : Memref sig .tc .vmem S2880x256 .fp8e4m3) (harg8 : arg8.IsWhole) (arg9 : Memref sig .tc .vmem S90x256 .i8) (harg9 : arg9.IsWhole) (arg10 : Memref sig .tc .vmem S2880x256 .fp8e4m3) (harg10 : arg10.IsWhole) (arg11 : Memref sig .tc .vmem S8x2880 .i8) (harg11 : arg11.IsWhole) (arg12 : Memref sig .tc .vmem S4x384x256 .fp8e4m3) (harg12 : arg12.IsWhole) (arg13 : Memref sig .tc .vmem S8x4x384 .i8) (harg13 : arg13.IsWhole) (arg14 : Memref sig .tc .vmem S4x384x256 .fp8e4m3) (harg14 : arg14.IsWhole) (arg15 : Memref sig .tc .vmem S12x4x256 .i8) (harg15 : arg15.IsWhole) (arg16 : Memref sig .tc .vmem S1536x2880 .bf16) (harg16 : arg16.IsWhole) (arg17 : Memref sig .tc .vmem S2880x1536 .bf16) (harg17 : arg17.IsWhole) (arg18 : Memref sig .tc .vmem S2880x1536 .f32) (harg18 : arg18.IsWhole) (arg21 : Memref sig .tc .vmem S2880x256 .bf16) (harg21 : arg21.IsWhole) (arg22 : Memref sig .tc .vmem S2880x256 .bf16) (harg22 : arg22.IsWhole) (arg23 : Memref sig .tc .vmem S1536x256 .bf16) (harg23 : arg23.IsWhole) (arg24 : Memref sig .tc .vmem S1536x256 .bf16) (harg24 : arg24.IsWhole) (arg26 : Memref sig .tc .vmem S90x256 .i32) (harg26 : arg26.IsWhole) (arg27 : Memref sig .tc .vmem S8x2880 .i32) (harg27 : arg27.IsWhole) (arg28 : Memref sig .tc .vmem S8x4x384 .i32) (harg28 : arg28.IsWhole) (arg29 : Memref sig .tc .vmem S12x4x256 .i32) (harg29 : arg29.IsWhole)
    (W0 : HbBuf0 (F := F) c hbM0_0) (W1 : HbBuf0 (F := F) c hbM0_1) :
    ∀ (Q : ℕ → (S1536x256.Idx → F .bf16) → Prop) (W : Waits sig Unit) (K : _ → sProp 𝕄),
      iprop(fly0 c W0 (Ring.sl 2 t.val) t.val ∗ free0 c W0 (Ring.sl 2 (t.val + 1)) ∗ fly1 c W1 (Ring.sl 2 t.val) t.val ∗ free1 c W1 (Ring.sl 2 (t.val + 1)) ∗ yfly (F := F) c Q (Ring.bk 22 (t.val - 1)) ∗ owes (c : Thread nD τ) 0 W
        ∗ (iprop(have0 c W0 t.val ∗ flyT0 c W0 (Ring.sl 2 (t.val + 1)) ∗ have1 c W1 t.val ∗ flyT1 c W1 (Ring.sl 2 (t.val + 1)) ∗ yfree (F := F) c Q t.val ∗ (∃ W', owes (c : Thread nD τ) 0 W')) -∗ K ⟨BitVec.ofNat 32 ((grid0.coords t) 0).val, k0_pay502 (F := F) (grid0.coords t), 0#32⟩))
      ⊢ wp frame (wpE (defs₀ (F := F)) Variants.none c none) Set.univ (k0_part66 (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 arg16 harg16 arg17 harg17 arg18 harg18 scM0_3 (Memref.isWhole_whole _) scM0_4 (Memref.isWhole_whole _) arg21 harg21 arg22 harg22 arg23 harg23 arg24 harg24 scM0_9 (Memref.isWhole_whole _) arg26 harg26 arg27 harg27 arg28 harg28 arg29 harg29 cc0_scratch14 cc0_scratch15 cc0_scratch16) K := by
  intro Q W K
  have hkt : t.val = (Ring.bk 22 (t.val - 1)).val + 1 := (show t.val = (t.val - 1) % 22 + 1 by have h23 : t.val < 23 := t.isLt; omega)
  have h1 : ¬ k0_cond1 (grid0.coords t) = 1#1 := by rw [hc1]; omega
  haveI : Fact (¬ k0_cond1 (grid0.coords t) = 1#1) := ⟨h1⟩
  have h2 : ¬ k0_cond2 (grid0.coords t) = 1#1 := by rw [hc2]; omega
  haveI : Fact (¬ k0_cond2 (grid0.coords t) = 1#1) := ⟨h2⟩
  have h3 : k0_cond3 (grid0.coords t) = 1#1 := by rw [hc3]; omega
  haveI : Fact (k0_cond3 (grid0.coords t) = 1#1) := ⟨h3⟩
  have h4 : k0_cond4 (grid0.coords t) = 1#1 := by rw [hc4]; omega
  haveI : Fact (k0_cond4 (grid0.coords t) = 1#1) := ⟨h4⟩
  have h5 : ¬ k0_cond5 (grid0.coords t) = 1#1 := by rw [hc5]; omega
  haveI : Fact (¬ k0_cond5 (grid0.coords t) = 1#1) := ⟨h5⟩
  have h6 : ¬ cond6 (grid0.coords t) := by rw [hc6]; omega
  haveI : Fact (¬ cond6 (grid0.coords t)) := ⟨h6⟩
  have h7 : k0_cond7 (grid0.coords t) = 1#1 := by rw [hc7]; omega
  haveI : Fact (k0_cond7 (grid0.coords t) = 1#1) := ⟨h7⟩
  simp only [k0_part66_eq_skeleton]; unfold k0_part66_skel
  have hcn0 := ca0_7 t h3
  have hcn1 := ca0_8 t h3
  have hcn2 := ca0_9 t h3
  have hcn3 := ca0_13 t h4
  have hcn4 := ca0_14 t h4
  have hcn5 := ca0_15 t h4
  have hcn6 := ca1_10 t h3
  have hcn7 := ca1_11 t h3
  have hcn8 := ca1_12 t h3
  have hcn9 := ca1_16 t h4
  have hcn10 := ca1_17 t h4
  have hcn11 := ca1_18 t h4
  have hcn12 := ca_25 t h7
  unfold yfly fly0 fly1 free0 free1
  iintro ⟨⟨%fa0, Hfa0, Hra0⟩, ⟨Hcb0, ⟨%fb0, Hsb0⟩, Hwb0⟩, ⟨%fa1, Hfa1, Hra1⟩, ⟨Hcb1, ⟨%fb1, Hsb1⟩, Hwb1⟩, ⟨%fy, %gy, %hy, Hy, Hyr, Hyq⟩, HW, Hk⟩
  ihave Hx := (srcT0_split c W0 (Ring.sl 2 (t.val + 1))).1 $$ Hwb0
  icases Hx with ⟨Hhb0, Hrb0⟩
  ihave Hx := (nslot0_split c (Ring.sl 2 (t.val + 1)) fb0) $$ Hsb0
  icases Hx with ⟨Hsb0, Hnb0⟩
  ihave Hx := (srcT1_split c W1 (Ring.sl 2 (t.val + 1))).1 $$ Hwb1
  icases Hx with ⟨Hhb1, Hrb1⟩
  ihave Hx := (nslot1_split c (Ring.sl 2 (t.val + 1)) fb1) $$ Hsb1
  icases Hx with ⟨Hsb1, Hnb1⟩
  sl_exec (disch := first | sl_exact h1 | sl_exact h2 | sl_exact h3 | sl_exact h4 | sl_exact h5 | sl_exact h6 | sl_exact h7)
  sl_step
  iapply Hk
  isplitl [Hfa0 Hfa0_dst Hfa0_src Hra0]
  · unfold have0
    isplitl [Hfa0]; · iexact Hfa0
    iapply (land0 c W0 (Ring.sl 2 t.val) t.val (by omega) fa0)
    isplitl [Hfa0_dst]; · iexact Hfa0_dst
    isplitl [Hfa0_src]; · iexact Hfa0_src
    iexact Hra0
  isplitl [Hcb0 Hrb0 Hnb0]
  · try unfold flyT0
    iexists fb0
    isplitl [Hcb0]; · iexact Hcb0
    isplitl [Hrb0]; · iexact Hrb0
    iexact Hnb0
  isplitl [Hfa1 Hfa1_dst Hfa1_src Hra1]
  · unfold have1
    isplitl [Hfa1]; · iexact Hfa1
    iapply (land1 c W1 (Ring.sl 2 t.val) t.val (by omega) fa1)
    isplitl [Hfa1_dst]; · iexact Hfa1_dst
    isplitl [Hfa1_src]; · iexact Hfa1_src
    iexact Hra1
  isplitl [Hcb1 Hrb1 Hnb1]
  · try unfold flyT1
    iexists fb1
    isplitl [Hcb1]; · iexact Hcb1
    isplitl [Hrb1]; · iexact Hrb1
    iexact Hnb1
  isplitl [Hy Hy_dst Hyr Hyq]
  · unfold yfree
    isplitl [Hy]; · iexact Hy
    iapply (yland c Q (Ring.bk 22 (t.val - 1)) fy gy _ t.val hkt hy)
    isplitl [Hy_dst]; · iexact Hy_dst
    isplitl [Hyr]; · iexact Hyr
    iexact Hyq
  iexists _; iexact HW

end Cert.KernelIdeal.Hand

end
-- ==== Proof.KernelIdeal.HeadD.lean ====
/-
The head of a step: the copies it starts and those it waits for. Point 0 starts its own tile, the next
one and the two `x` operands; the points up to 20 start the next tile; point 21 starts the narrow one;
point 22 only waits.
-/
module

public import proofs.«01_k».proof.Proof.KernelIdeal.Base

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option pp.maxSteps 3000
set_option maxHeartbeats 1600000 in
theorem headD (c : Dev nD) (t : Fin cfg0.N) (ht : t.val = 22) (arg7 : Memref sig .tc .vmem S2880x256 .f32) (harg7 : arg7.IsWhole) (arg8 : Memref sig .tc .vmem S2880x256 .fp8e4m3) (harg8 : arg8.IsWhole) (arg9 : Memref sig .tc .vmem S90x256 .i8) (harg9 : arg9.IsWhole) (arg10 : Memref sig .tc .vmem S2880x256 .fp8e4m3) (harg10 : arg10.IsWhole) (arg11 : Memref sig .tc .vmem S8x2880 .i8) (harg11 : arg11.IsWhole) (arg12 : Memref sig .tc .vmem S4x384x256 .fp8e4m3) (harg12 : arg12.IsWhole) (arg13 : Memref sig .tc .vmem S8x4x384 .i8) (harg13 : arg13.IsWhole) (arg14 : Memref sig .tc .vmem S4x384x256 .fp8e4m3) (harg14 : arg14.IsWhole) (arg15 : Memref sig .tc .vmem S12x4x256 .i8) (harg15 : arg15.IsWhole) (arg16 : Memref sig .tc .vmem S1536x2880 .bf16) (harg16 : arg16.IsWhole) (arg17 : Memref sig .tc .vmem S2880x1536 .bf16) (harg17 : arg17.IsWhole) (arg18 : Memref sig .tc .vmem S2880x1536 .f32) (harg18 : arg18.IsWhole) (arg21 : Memref sig .tc .vmem S2880x256 .bf16) (harg21 : arg21.IsWhole) (arg22 : Memref sig .tc .vmem S2880x256 .bf16) (harg22 : arg22.IsWhole) (arg23 : Memref sig .tc .vmem S1536x256 .bf16) (harg23 : arg23.IsWhole) (arg24 : Memref sig .tc .vmem S1536x256 .bf16) (harg24 : arg24.IsWhole) (arg26 : Memref sig .tc .vmem S90x256 .i32) (harg26 : arg26.IsWhole) (arg27 : Memref sig .tc .vmem S8x2880 .i32) (harg27 : arg27.IsWhole) (arg28 : Memref sig .tc .vmem S8x4x384 .i32) (harg28 : arg28.IsWhole) (arg29 : Memref sig .tc .vmem S12x4x256 .i32) (harg29 : arg29.IsWhole)
    (W0 : HbBuf0 (F := F) c hbM0_0) (W1 : HbBuf0 (F := F) c hbM0_1) :
    ∀ (Q : ℕ → (S1536x256.Idx → F .bf16) → Prop) (W : Waits sig Unit) (K : _ → sProp 𝕄),
      iprop(flyT0 c W0 (Ring.sl 2 t.val) ∗ flyT1 c W1 (Ring.sl 2 t.val) ∗ yfly (F := F) c Q (Ring.bk 22 (t.val - 1)) ∗ owes (c : Thread nD τ) 0 W
        ∗ (iprop(have0 c W0 t.val ∗ have1 c W1 t.val ∗ yfree (F := F) c Q t.val ∗ (∃ W', owes (c : Thread nD τ) 0 W')) -∗ K ⟨BitVec.ofNat 32 ((grid0.coords t) 0).val, k0_pay502 (F := F) (grid0.coords t), 0#32⟩))
      ⊢ wp frame (wpE (defs₀ (F := F)) Variants.none c none) Set.univ (k0_part66 (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 arg16 harg16 arg17 harg17 arg18 harg18 scM0_3 (Memref.isWhole_whole _) scM0_4 (Memref.isWhole_whole _) arg21 harg21 arg22 harg22 arg23 harg23 arg24 harg24 scM0_9 (Memref.isWhole_whole _) arg26 harg26 arg27 harg27 arg28 harg28 arg29 harg29 cc0_scratch14 cc0_scratch15 cc0_scratch16) K := by
  intro Q W K
  have hkt : t.val = (Ring.bk 22 (t.val - 1)).val + 1 := (show t.val = (t.val - 1) % 22 + 1 by have h23 : t.val < 23 := t.isLt; omega)
  have h1 : ¬ k0_cond1 (grid0.coords t) = 1#1 := by rw [hc1]; omega
  haveI : Fact (¬ k0_cond1 (grid0.coords t) = 1#1) := ⟨h1⟩
  have h2 : ¬ k0_cond2 (grid0.coords t) = 1#1 := by rw [hc2]; omega
  haveI : Fact (¬ k0_cond2 (grid0.coords t) = 1#1) := ⟨h2⟩
  have h3 : ¬ k0_cond3 (grid0.coords t) = 1#1 := by rw [hc3]; omega
  haveI : Fact (¬ k0_cond3 (grid0.coords t) = 1#1) := ⟨h3⟩
  have h4 : ¬ k0_cond4 (grid0.coords t) = 1#1 := by rw [hc4]; omega
  haveI : Fact (¬ k0_cond4 (grid0.coords t) = 1#1) := ⟨h4⟩
  have h5 : k0_cond5 (grid0.coords t) = 1#1 := by rw [hc5]; omega
  haveI : Fact (k0_cond5 (grid0.coords t) = 1#1) := ⟨h5⟩
  have h6 : ¬ cond6 (grid0.coords t) := by rw [hc6]; omega
  haveI : Fact (¬ cond6 (grid0.coords t)) := ⟨h6⟩
  have h7 : k0_cond7 (grid0.coords t) = 1#1 := by rw [hc7]; omega
  haveI : Fact (k0_cond7 (grid0.coords t) = 1#1) := ⟨h7⟩
  simp only [k0_part66_eq_skeleton]; unfold k0_part66_skel
  have hcn0 := ca0_19 t h5
  have hcn1 := ca0_20 t h5
  have hcn2 := ca0_21 t h5
  have hcn3 := ca1_22 t h5
  have hcn4 := ca1_23 t h5
  have hcn5 := ca1_24 t h5
  have hcn6 := ca_25 t h7
  unfold yfly flyT0 flyT1
  iintro ⟨⟨%fa0, Hfa0, Hra0, Hna0⟩, ⟨%fa1, Hfa1, Hra1, Hna1⟩, ⟨%fy, %gy, %hy, Hy, Hyr, Hyq⟩, HW, Hk⟩
  sl_exec (disch := first | sl_exact h1 | sl_exact h2 | sl_exact h3 | sl_exact h4 | sl_exact h5 | sl_exact h6 | sl_exact h7)
  sl_step
  iapply Hk
  isplitl [Hfa0 Hfa0_dst Hfa0_src Hra0 Hna0]
  · unfold have0
    isplitl [Hfa0]; · iexact Hfa0
    have h := flyT0_of c W0 (Ring.sl 2 t.val) fa0
    rw [show (22 : ℕ) = t.val from ht.symm] at h
    iapply h
    isplitl [Hfa0_dst]; · iexact Hfa0_dst
    isplitl [Hfa0_src]; · iexact Hfa0_src
    isplitl [Hra0]; · iexact Hra0
    iexact Hna0
  isplitl [Hfa1 Hfa1_dst Hfa1_src Hra1 Hna1]
  · unfold have1
    isplitl [Hfa1]; · iexact Hfa1
    have h := flyT1_of c W1 (Ring.sl 2 t.val) fa1
    rw [show (22 : ℕ) = t.val from ht.symm] at h
    iapply h
    isplitl [Hfa1_dst]; · iexact Hfa1_dst
    isplitl [Hfa1_src]; · iexact Hfa1_src
    isplitl [Hra1]; · iexact Hra1
    iexact Hna1
  isplitl [Hy Hy_dst Hyr Hyq]
  · unfold yfree
    isplitl [Hy]; · iexact Hy
    iapply (yland c Q (Ring.bk 22 (t.val - 1)) fy gy _ t.val hkt hy)
    isplitl [Hy_dst]; · iexact Hy_dst
    isplitl [Hyr]; · iexact Hyr
    iexact Hyq
  iexists _; iexact HW

end Cert.KernelIdeal.Hand

end
-- ==== Proof.KernelIdeal.Loops.lean ====
/-
The counted loops of the body, each gone through by what it keeps: the slot it reads stays as it is, and
each buffer it writes stays held, at some contents.
-/
module

public import proofs.«01_k».proof.Proof.KernelIdeal.Base

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- One block of 32 rows of `dy`, quantised along the rows and widened again (first half of the columns). -/
def dqA (x : Vec F S32x128 .bf16) : FVec F S32x128 .bf16 := k0_pay506 x (k0_pay22 (k0_pay3 x) (k0_pay14 (k0_pay3 x) (k0_pay5 x)))

/-- The same block function as the second half of the columns writes it. -/
def dqB (x : Vec F S32x128 .bf16) : FVec F S32x128 .bf16 := k0_pay618 x (k0_pay266 (k0_pay247 x) (k0_pay258 (k0_pay247 x) (k0_pay249 x)))

/-- The widened `dy` columns after `k` trips of loop 1: each trip writes the 32 rows it has quantised and widened. -/
def dcF1 (c : Dev nD) (t : Fin grid0.N) (arg24 : Memref sig .tc .vmem S1536x256 .bf16) (X : HbBuf0 (F := F) c (rslot1 (Ring.sl 2 t.val))) (G : arg24.view.ty.Contents (Elt F)) : ℕ → arg24.view.ty.Contents (Elt F)
  | 0 => G
  | k + 1 => if h : k < k0_t1_loop.trips then
      arg24.view.writes (Elt F) (dcF1 c t arg24 X G k) [⟨Rect.unit (s := S1536x256) (k0_off27 ⟨k, h⟩) S32x128.size (k0_off27_inb ⟨k, h⟩),
        dqA (View.readAt (Elt F) (rslot1 (Ring.sl 2 t.val)).view (Rect.unit (s := S1536x256) (k0_off27 ⟨k, h⟩) S32x128.size (k0_off27_inb ⟨k, h⟩)).toLoadRect X)⟩]
    else dcF1 c t arg24 X G k

theorem dcF1_succ (c : Dev nD) (t : Fin grid0.N) (arg24 : Memref sig .tc .vmem S1536x256 .bf16) (X : HbBuf0 (F := F) c (rslot1 (Ring.sl 2 t.val))) (G : arg24.view.ty.Contents (Elt F)) (k : Fin k0_t1_loop.trips) :
    dcF1 c t arg24 X G (k.val + 1) = arg24.view.writes (Elt F) (dcF1 c t arg24 X G k.val) [⟨Rect.unit (s := S1536x256) (k0_off27 k) S32x128.size (k0_off27_inb k),
        dqA (View.readAt (Elt F) (rslot1 (Ring.sl 2 t.val)).view (Rect.unit (s := S1536x256) (k0_off27 k) S32x128.size (k0_off27_inb k)).toLoadRect X)⟩] := by
  rw [dcF1, dif_pos k.isLt]

/-- The widened `dy` columns after `k` trips of loop 5: each trip writes the 32 rows it has quantised and widened. -/
def dcF5 (c : Dev nD) (t : Fin grid0.N) (arg24 : Memref sig .tc .vmem S1536x256 .bf16) (X : HbBuf0 (F := F) c (rslot1 (Ring.sl 2 t.val))) (G : arg24.view.ty.Contents (Elt F)) : ℕ → arg24.view.ty.Contents (Elt F)
  | 0 => G
  | k + 1 => if h : k < k0_t5_loop.trips then
      arg24.view.writes (Elt F) (dcF5 c t arg24 X G k) [⟨Rect.unit (s := S1536x256) (k0_off48 ⟨k, h⟩) S32x128.size (k0_off48_inb ⟨k, h⟩),
        dqB (View.readAt (Elt F) (rslot1 (Ring.sl 2 t.val)).view (Rect.unit (s := S1536x256) (k0_off48 ⟨k, h⟩) S32x128.size (k0_off48_inb ⟨k, h⟩)).toLoadRect X)⟩]
    else dcF5 c t arg24 X G k

theorem dcF5_succ (c : Dev nD) (t : Fin grid0.N) (arg24 : Memref sig .tc .vmem S1536x256 .bf16) (X : HbBuf0 (F := F) c (rslot1 (Ring.sl 2 t.val))) (G : arg24.view.ty.Contents (Elt F)) (k : Fin k0_t5_loop.trips) :
    dcF5 c t arg24 X G (k.val + 1) = arg24.view.writes (Elt F) (dcF5 c t arg24 X G k.val) [⟨Rect.unit (s := S1536x256) (k0_off48 k) S32x128.size (k0_off48_inb k),
        dqB (View.readAt (Elt F) (rslot1 (Ring.sl 2 t.val)).view (Rect.unit (s := S1536x256) (k0_off48 k) S32x128.size (k0_off48_inb k)).toLoadRect X)⟩] := by
  rw [dcF5, dif_pos k.isLt]

/-- One block of 32 rows of `w`, quantised along the rows and widened again (first half of the columns). -/
def wqA (x : Vec F S32x128 .bf16) : FVec F S32x128 .bf16 :=
  k0_pay509 (k0_pay45 (k0_pay23 x) (k0_pay35 (k0_pay23 x) (k0_pay25 x) (k0_pay27 x)) (k0_pay37 (k0_pay23 x) (k0_pay25 x) (k0_pay27 x)))
    (k0_pay46 x (k0_pay23 x) (k0_pay35 (k0_pay23 x) (k0_pay25 x) (k0_pay27 x)) (k0_pay37 (k0_pay23 x) (k0_pay25 x) (k0_pay27 x)))

/-- The same block function as the second half of the columns writes it. -/
def wqB (x : Vec F S32x128 .bf16) : FVec F S32x128 .bf16 :=
  k0_pay621 (k0_pay289 (k0_pay267 x) (k0_pay279 (k0_pay267 x) (k0_pay269 x) (k0_pay271 x)) (k0_pay281 (k0_pay267 x) (k0_pay269 x) (k0_pay271 x)))
    (k0_pay290 x (k0_pay267 x) (k0_pay279 (k0_pay267 x) (k0_pay269 x) (k0_pay271 x)) (k0_pay281 (k0_pay267 x) (k0_pay269 x) (k0_pay271 x)))

/-- The widened `w` columns after `k` trips of loop 2: each trip writes the 32 rows it has quantised and widened. -/
def wrF2 (c : Dev nD) (t : Fin grid0.N) (arg21 : Memref sig .tc .vmem S2880x256 .bf16) (X : HbBuf0 (F := F) c (rslot0 (Ring.sl 2 t.val))) (G : arg21.view.ty.Contents (Elt F)) : ℕ → arg21.view.ty.Contents (Elt F)
  | 0 => G
  | k + 1 => if h : k < k0_t2_loop.trips then
      arg21.view.writes (Elt F) (wrF2 c t arg21 X G k) [⟨Rect.unit (s := S2880x256) (k0_off31 ⟨k, h⟩) S32x128.size (k0_off31_inb ⟨k, h⟩),
        wqA (View.readAt (Elt F) (rslot0 (Ring.sl 2 t.val)).view (Rect.unit (s := S2880x256) (k0_off31 ⟨k, h⟩) S32x128.size (k0_off31_inb ⟨k, h⟩)).toLoadRect X)⟩]
    else wrF2 c t arg21 X G k

theorem wrF2_succ (c : Dev nD) (t : Fin grid0.N) (arg21 : Memref sig .tc .vmem S2880x256 .bf16) (X : HbBuf0 (F := F) c (rslot0 (Ring.sl 2 t.val))) (G : arg21.view.ty.Contents (Elt F)) (k : Fin k0_t2_loop.trips) :
    wrF2 c t arg21 X G (k.val + 1) = arg21.view.writes (Elt F) (wrF2 c t arg21 X G k.val) [⟨Rect.unit (s := S2880x256) (k0_off31 k) S32x128.size (k0_off31_inb k),
        wqA (View.readAt (Elt F) (rslot0 (Ring.sl 2 t.val)).view (Rect.unit (s := S2880x256) (k0_off31 k) S32x128.size (k0_off31_inb k)).toLoadRect X)⟩] := by
  rw [wrF2, dif_pos k.isLt]

/-- The widened `w` columns after `k` trips of loop 6: each trip writes the 32 rows it has quantised and widened. -/
def wrF6 (c : Dev nD) (t : Fin grid0.N) (arg21 : Memref sig .tc .vmem S2880x256 .bf16) (X : HbBuf0 (F := F) c (rslot0 (Ring.sl 2 t.val))) (G : arg21.view.ty.Contents (Elt F)) : ℕ → arg21.view.ty.Contents (Elt F)
  | 0 => G
  | k + 1 => if h : k < k0_t6_loop.trips then
      arg21.view.writes (Elt F) (wrF6 c t arg21 X G k) [⟨Rect.unit (s := S2880x256) (k0_off52 ⟨k, h⟩) S32x128.size (k0_off52_inb ⟨k, h⟩),
        wqB (View.readAt (Elt F) (rslot0 (Ring.sl 2 t.val)).view (Rect.unit (s := S2880x256) (k0_off52 ⟨k, h⟩) S32x128.size (k0_off52_inb ⟨k, h⟩)).toLoadRect X)⟩]
    else wrF6 c t arg21 X G k

theorem wrF6_succ (c : Dev nD) (t : Fin grid0.N) (arg21 : Memref sig .tc .vmem S2880x256 .bf16) (X : HbBuf0 (F := F) c (rslot0 (Ring.sl 2 t.val))) (G : arg21.view.ty.Contents (Elt F)) (k : Fin k0_t6_loop.trips) :
    wrF6 c t arg21 X G (k.val + 1) = arg21.view.writes (Elt F) (wrF6 c t arg21 X G k.val) [⟨Rect.unit (s := S2880x256) (k0_off52 k) S32x128.size (k0_off52_inb k),
        wqB (View.readAt (Elt F) (rslot0 (Ring.sl 2 t.val)).view (Rect.unit (s := S2880x256) (k0_off52 k) S32x128.size (k0_off52_inb k)).toLoadRect X)⟩] := by
  rw [wrF6, dif_pos k.isLt]

set_option warn.classDefReducibility false in
@[sl_loop] def loop_t1 (𝒱 : Variants) (c : Dev nD) (bd : Option 𝒱.V) (E : Set ℕ) (t : Fin grid0.N) (arg7 : Memref sig .tc .vmem S2880x256 .f32) (harg7 : arg7.IsWhole) (arg8 : Memref sig .tc .vmem S2880x256 .fp8e4m3) (harg8 : arg8.IsWhole) (arg9 : Memref sig .tc .vmem S90x256 .i8) (harg9 : arg9.IsWhole) (arg10 : Memref sig .tc .vmem S2880x256 .fp8e4m3) (harg10 : arg10.IsWhole) (arg11 : Memref sig .tc .vmem S8x2880 .i8) (harg11 : arg11.IsWhole) (arg12 : Memref sig .tc .vmem S4x384x256 .fp8e4m3) (harg12 : arg12.IsWhole) (arg13 : Memref sig .tc .vmem S8x4x384 .i8) (harg13 : arg13.IsWhole) (arg14 : Memref sig .tc .vmem S4x384x256 .fp8e4m3) (harg14 : arg14.IsWhole) (arg15 : Memref sig .tc .vmem S12x4x256 .i8) (harg15 : arg15.IsWhole) (arg16 : Memref sig .tc .vmem S1536x2880 .bf16) (harg16 : arg16.IsWhole) (arg17 : Memref sig .tc .vmem S2880x1536 .bf16) (harg17 : arg17.IsWhole) (arg18 : Memref sig .tc .vmem S2880x1536 .f32) (harg18 : arg18.IsWhole) (arg21 : Memref sig .tc .vmem S2880x256 .bf16) (harg21 : arg21.IsWhole) (arg22 : Memref sig .tc .vmem S2880x256 .bf16) (harg22 : arg22.IsWhole) (arg23 : Memref sig .tc .vmem S1536x256 .bf16) (harg23 : arg23.IsWhole) (arg24 : Memref sig .tc .vmem S1536x256 .bf16) (harg24 : arg24.IsWhole) (arg25 : Memref sig .tc .vmem S1536x256 .bf16) (harg25 : arg25.IsWhole) (arg26 : Memref sig .tc .vmem S90x256 .i32) (harg26 : arg26.IsWhole) (arg27 : Memref sig .tc .vmem S8x2880 .i32) (harg27 : arg27.IsWhole) (arg28 : Memref sig .tc .vmem S8x4x384 .i32) (harg28 : arg28.IsWhole) (arg29 : Memref sig .tc .vmem S12x4x256 .i32) (harg29 : arg29.IsWhole) (c0_i32_19 : BitVec 32) (X_v1157 : HbBuf0 (F := F) c (rslot1 (Ring.sl 2 t.val))) (G_arg24 : arg24.view.ty.Contents (Elt F)) :
    LoopInvTy_k0_t1 (F := F) Unit ℕ (Pipeline.UD sig nD τ) ℕ 𝒱 c bd E (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 arg16 harg16 arg17 harg17 arg18 harg18 scM0_3 (Memref.isWhole_whole _) scM0_4 (Memref.isWhole_whole _) arg21 harg21 arg22 harg22 arg23 harg23 arg24 harg24 arg25 harg25 arg26 harg26 arg27 harg27 arg28 harg28 arg29 harg29 cc0_scratch14 cc0_scratch15 cc0_scratch16 c0_i32_19 where
  inv k _ := iprop(((rslot1 (Ring.sl 2 t.val)).view.loc (c : Thread nD τ) ↦[(rslot1 (Ring.sl 2 t.val)).view.set]{fullShare} X_v1157) ∗ (∃ f, (arg14.view.loc (c : Thread nD τ) ↦[arg14.view.set]{fullShare} f)) ∗ (arg24.view.loc (c : Thread nD τ) ↦[arg24.view.set]{fullShare} dcF1 c t arg24 X_v1157 G_arg24 k) ∗ (∃ f, (arg29.view.loc (c : Thread nD τ) ↦[arg29.view.set]{fullShare} f)))
  step k acc := by
    unfold k0_t1_body
    have hk : k.val < 48 := Nat.lt_of_lt_of_le k.isLt k0_t1_abs.2.1
    have hca1_26 := ca1_26 t
    rw [dcF1_succ c t arg24 X_v1157 G_arg24 k]
    generalize dcF1 c t arg24 X_v1157 G_arg24 k.val = f_arg24
    iintro ⟨HR_v1157, ⟨%f_arg14, HW_arg14⟩, HW_arg24, ⟨%f_arg29, HW_arg29⟩⟩
    sl_exec
    sl_step
    isplitl [HR_v1157]; · iexact HR_v1157
    isplitl [HW_arg14]; · iexists _; iexact HW_arg14
    isplitl [HW_arg24]; · iexact HW_arg24
    iexists _; iexact HW_arg29

set_option warn.classDefReducibility false in
@[sl_loop] def loop_t2 (𝒱 : Variants) (c : Dev nD) (bd : Option 𝒱.V) (E : Set ℕ) (t : Fin grid0.N) (arg7 : Memref sig .tc .vmem S2880x256 .f32) (harg7 : arg7.IsWhole) (arg8 : Memref sig .tc .vmem S2880x256 .fp8e4m3) (harg8 : arg8.IsWhole) (arg9 : Memref sig .tc .vmem S90x256 .i8) (harg9 : arg9.IsWhole) (arg10 : Memref sig .tc .vmem S2880x256 .fp8e4m3) (harg10 : arg10.IsWhole) (arg11 : Memref sig .tc .vmem S8x2880 .i8) (harg11 : arg11.IsWhole) (arg12 : Memref sig .tc .vmem S4x384x256 .fp8e4m3) (harg12 : arg12.IsWhole) (arg13 : Memref sig .tc .vmem S8x4x384 .i8) (harg13 : arg13.IsWhole) (arg14 : Memref sig .tc .vmem S4x384x256 .fp8e4m3) (harg14 : arg14.IsWhole) (arg15 : Memref sig .tc .vmem S12x4x256 .i8) (harg15 : arg15.IsWhole) (arg16 : Memref sig .tc .vmem S1536x2880 .bf16) (harg16 : arg16.IsWhole) (arg17 : Memref sig .tc .vmem S2880x1536 .bf16) (harg17 : arg17.IsWhole) (arg18 : Memref sig .tc .vmem S2880x1536 .f32) (harg18 : arg18.IsWhole) (arg21 : Memref sig .tc .vmem S2880x256 .bf16) (harg21 : arg21.IsWhole) (arg22 : Memref sig .tc .vmem S2880x256 .bf16) (harg22 : arg22.IsWhole) (arg23 : Memref sig .tc .vmem S1536x256 .bf16) (harg23 : arg23.IsWhole) (arg24 : Memref sig .tc .vmem S1536x256 .bf16) (harg24 : arg24.IsWhole) (arg25 : Memref sig .tc .vmem S1536x256 .bf16) (harg25 : arg25.IsWhole) (arg26 : Memref sig .tc .vmem S90x256 .i32) (harg26 : arg26.IsWhole) (arg27 : Memref sig .tc .vmem S8x2880 .i32) (harg27 : arg27.IsWhole) (arg28 : Memref sig .tc .vmem S8x4x384 .i32) (harg28 : arg28.IsWhole) (arg29 : Memref sig .tc .vmem S12x4x256 .i32) (harg29 : arg29.IsWhole) (c0_i32_19 : BitVec 32) (X_v1153 : HbBuf0 (F := F) c (rslot0 (Ring.sl 2 t.val))) (G_arg21 : arg21.view.ty.Contents (Elt F)) :
    LoopInvTy_k0_t2 (F := F) Unit ℕ (Pipeline.UD sig nD τ) ℕ 𝒱 c bd E (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 arg16 harg16 arg17 harg17 arg18 harg18 scM0_3 (Memref.isWhole_whole _) scM0_4 (Memref.isWhole_whole _) arg21 harg21 arg22 harg22 arg23 harg23 arg24 harg24 arg25 harg25 arg26 harg26 arg27 harg27 arg28 harg28 arg29 harg29 cc0_scratch14 cc0_scratch15 cc0_scratch16 c0_i32_19 where
  inv k _ := iprop(((rslot0 (Ring.sl 2 t.val)).view.loc (c : Thread nD τ) ↦[(rslot0 (Ring.sl 2 t.val)).view.set]{fullShare} X_v1153) ∗ (∃ f, (arg8.view.loc (c : Thread nD τ) ↦[arg8.view.set]{fullShare} f)) ∗ (arg21.view.loc (c : Thread nD τ) ↦[arg21.view.set]{fullShare} wrF2 c t arg21 X_v1153 G_arg21 k) ∗ (∃ f, (arg26.view.loc (c : Thread nD τ) ↦[arg26.view.set]{fullShare} f)))
  step k acc := by
    unfold k0_t2_body
    have hk : k.val < 90 := Nat.lt_of_lt_of_le k.isLt k0_t2_abs.2.1
    have hca0_30 := ca0_30 t
    rw [wrF2_succ c t arg21 X_v1153 G_arg21 k]
    generalize wrF2 c t arg21 X_v1153 G_arg21 k.val = f_arg21
    iintro ⟨HR_v1153, ⟨%f_arg8, HW_arg8⟩, HW_arg21, ⟨%f_arg26, HW_arg26⟩⟩
    sl_exec
    sl_step
    isplitl [HR_v1153]; · iexact HR_v1153
    isplitl [HW_arg8]; · iexists _; iexact HW_arg8
    isplitl [HW_arg21]; · iexact HW_arg21
    iexists _; iexact HW_arg26

set_option warn.classDefReducibility false in
@[sl_loop] def loop_t3 (𝒱 : Variants) (c : Dev nD) (bd : Option 𝒱.V) (E : Set ℕ) (t : Fin grid0.N) (arg7 : Memref sig .tc .vmem S2880x256 .f32) (harg7 : arg7.IsWhole) (arg8 : Memref sig .tc .vmem S2880x256 .fp8e4m3) (harg8 : arg8.IsWhole) (arg9 : Memref sig .tc .vmem S90x256 .i8) (harg9 : arg9.IsWhole) (arg10 : Memref sig .tc .vmem S2880x256 .fp8e4m3) (harg10 : arg10.IsWhole) (arg11 : Memref sig .tc .vmem S8x2880 .i8) (harg11 : arg11.IsWhole) (arg12 : Memref sig .tc .vmem S4x384x256 .fp8e4m3) (harg12 : arg12.IsWhole) (arg13 : Memref sig .tc .vmem S8x4x384 .i8) (harg13 : arg13.IsWhole) (arg14 : Memref sig .tc .vmem S4x384x256 .fp8e4m3) (harg14 : arg14.IsWhole) (arg15 : Memref sig .tc .vmem S12x4x256 .i8) (harg15 : arg15.IsWhole) (arg16 : Memref sig .tc .vmem S1536x2880 .bf16) (harg16 : arg16.IsWhole) (arg17 : Memref sig .tc .vmem S2880x1536 .bf16) (harg17 : arg17.IsWhole) (arg18 : Memref sig .tc .vmem S2880x1536 .f32) (harg18 : arg18.IsWhole) (arg21 : Memref sig .tc .vmem S2880x256 .bf16) (harg21 : arg21.IsWhole) (arg22 : Memref sig .tc .vmem S2880x256 .bf16) (harg22 : arg22.IsWhole) (arg23 : Memref sig .tc .vmem S1536x256 .bf16) (harg23 : arg23.IsWhole) (arg24 : Memref sig .tc .vmem S1536x256 .bf16) (harg24 : arg24.IsWhole) (arg25 : Memref sig .tc .vmem S1536x256 .bf16) (harg25 : arg25.IsWhole) (arg26 : Memref sig .tc .vmem S90x256 .i32) (harg26 : arg26.IsWhole) (arg27 : Memref sig .tc .vmem S8x2880 .i32) (harg27 : arg27.IsWhole) (arg28 : Memref sig .tc .vmem S8x4x384 .i32) (harg28 : arg28.IsWhole) (arg29 : Memref sig .tc .vmem S12x4x256 .i32) (harg29 : arg29.IsWhole) (c0_i32_19 : BitVec 32) (X_v1157 : HbBuf0 (F := F) c (rslot1 (Ring.sl 2 t.val))) :
    LoopInvTy_k0_t3 (F := F) Unit ℕ (Pipeline.UD sig nD τ) ℕ 𝒱 c bd E (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 arg16 harg16 arg17 harg17 arg18 harg18 scM0_3 (Memref.isWhole_whole _) scM0_4 (Memref.isWhole_whole _) arg21 harg21 arg22 harg22 arg23 harg23 arg24 harg24 arg25 harg25 arg26 harg26 arg27 harg27 arg28 harg28 arg29 harg29 cc0_scratch14 cc0_scratch15 cc0_scratch16 c0_i32_19 where
  inv k _ := iprop(((rslot1 (Ring.sl 2 t.val)).view.loc (c : Thread nD τ) ↦[(rslot1 (Ring.sl 2 t.val)).view.set]{fullShare} X_v1157) ∗ (∃ f, (arg12.view.loc (c : Thread nD τ) ↦[arg12.view.set]{fullShare} f)) ∗ (∃ f, (arg23.view.loc (c : Thread nD τ) ↦[arg23.view.set]{fullShare} f)) ∗ (∃ f, (arg28.view.loc (c : Thread nD τ) ↦[arg28.view.set]{fullShare} f)))
  step k acc := by
    unfold k0_t3_body
    have hk : k.val < 12 := Nat.lt_of_lt_of_le k.isLt k0_t3_abs.2.1
    have hca1_33 := ca1_33 t
    iintro ⟨HR_v1157, ⟨%f_arg12, HW_arg12⟩, ⟨%f_arg23, HW_arg23⟩, ⟨%f_arg28, HW_arg28⟩⟩
    sl_exec
    sl_step
    isplitl [HR_v1157]; · iexact HR_v1157
    isplitl [HW_arg12]; · iexists _; iexact HW_arg12
    isplitl [HW_arg23]; · iexists _; iexact HW_arg23
    iexists _; iexact HW_arg28

set_option warn.classDefReducibility false in
@[sl_loop] def loop_t4 (𝒱 : Variants) (c : Dev nD) (bd : Option 𝒱.V) (E : Set ℕ) (t : Fin grid0.N) (arg7 : Memref sig .tc .vmem S2880x256 .f32) (harg7 : arg7.IsWhole) (arg8 : Memref sig .tc .vmem S2880x256 .fp8e4m3) (harg8 : arg8.IsWhole) (arg9 : Memref sig .tc .vmem S90x256 .i8) (harg9 : arg9.IsWhole) (arg10 : Memref sig .tc .vmem S2880x256 .fp8e4m3) (harg10 : arg10.IsWhole) (arg11 : Memref sig .tc .vmem S8x2880 .i8) (harg11 : arg11.IsWhole) (arg12 : Memref sig .tc .vmem S4x384x256 .fp8e4m3) (harg12 : arg12.IsWhole) (arg13 : Memref sig .tc .vmem S8x4x384 .i8) (harg13 : arg13.IsWhole) (arg14 : Memref sig .tc .vmem S4x384x256 .fp8e4m3) (harg14 : arg14.IsWhole) (arg15 : Memref sig .tc .vmem S12x4x256 .i8) (harg15 : arg15.IsWhole) (arg16 : Memref sig .tc .vmem S1536x2880 .bf16) (harg16 : arg16.IsWhole) (arg17 : Memref sig .tc .vmem S2880x1536 .bf16) (harg17 : arg17.IsWhole) (arg18 : Memref sig .tc .vmem S2880x1536 .f32) (harg18 : arg18.IsWhole) (arg21 : Memref sig .tc .vmem S2880x256 .bf16) (harg21 : arg21.IsWhole) (arg22 : Memref sig .tc .vmem S2880x256 .bf16) (harg22 : arg22.IsWhole) (arg23 : Memref sig .tc .vmem S1536x256 .bf16) (harg23 : arg23.IsWhole) (arg24 : Memref sig .tc .vmem S1536x256 .bf16) (harg24 : arg24.IsWhole) (arg25 : Memref sig .tc .vmem S1536x256 .bf16) (harg25 : arg25.IsWhole) (arg26 : Memref sig .tc .vmem S90x256 .i32) (harg26 : arg26.IsWhole) (arg27 : Memref sig .tc .vmem S8x2880 .i32) (harg27 : arg27.IsWhole) (arg28 : Memref sig .tc .vmem S8x4x384 .i32) (harg28 : arg28.IsWhole) (arg29 : Memref sig .tc .vmem S12x4x256 .i32) (harg29 : arg29.IsWhole) (c0_i32_19 : BitVec 32) (X_v1153 : HbBuf0 (F := F) c (rslot0 (Ring.sl 2 t.val))) :
    LoopInvTy_k0_t4 (F := F) Unit ℕ (Pipeline.UD sig nD τ) ℕ 𝒱 c bd E (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 arg16 harg16 arg17 harg17 arg18 harg18 scM0_3 (Memref.isWhole_whole _) scM0_4 (Memref.isWhole_whole _) arg21 harg21 arg22 harg22 arg23 harg23 arg24 harg24 arg25 harg25 arg26 harg26 arg27 harg27 arg28 harg28 arg29 harg29 cc0_scratch14 cc0_scratch15 cc0_scratch16 c0_i32_19 where
  inv k _ := iprop(((rslot0 (Ring.sl 2 t.val)).view.loc (c : Thread nD τ) ↦[(rslot0 (Ring.sl 2 t.val)).view.set]{fullShare} X_v1153) ∗ (∃ f, (arg10.view.loc (c : Thread nD τ) ↦[arg10.view.set]{fullShare} f)) ∗ (∃ f, (arg22.view.loc (c : Thread nD τ) ↦[arg22.view.set]{fullShare} f)) ∗ (∃ f, (arg27.view.loc (c : Thread nD τ) ↦[arg27.view.set]{fullShare} f)))
  step k acc := by
    unfold k0_t4_body
    have hk : k.val < 22 := Nat.lt_of_lt_of_le k.isLt k0_t4_abs.2.1
    have hca0_40 := ca0_40 t
    iintro ⟨HR_v1153, ⟨%f_arg10, HW_arg10⟩, ⟨%f_arg22, HW_arg22⟩, ⟨%f_arg27, HW_arg27⟩⟩
    sl_exec
    sl_step
    isplitl [HR_v1153]; · iexact HR_v1153
    isplitl [HW_arg10]; · iexists _; iexact HW_arg10
    isplitl [HW_arg22]; · iexists _; iexact HW_arg22
    iexists _; iexact HW_arg27

set_option warn.classDefReducibility false in
@[sl_loop] def loop_t5 (𝒱 : Variants) (c : Dev nD) (bd : Option 𝒱.V) (E : Set ℕ) (t : Fin grid0.N) (arg7 : Memref sig .tc .vmem S2880x256 .f32) (harg7 : arg7.IsWhole) (arg8 : Memref sig .tc .vmem S2880x256 .fp8e4m3) (harg8 : arg8.IsWhole) (arg9 : Memref sig .tc .vmem S90x256 .i8) (harg9 : arg9.IsWhole) (arg10 : Memref sig .tc .vmem S2880x256 .fp8e4m3) (harg10 : arg10.IsWhole) (arg11 : Memref sig .tc .vmem S8x2880 .i8) (harg11 : arg11.IsWhole) (arg12 : Memref sig .tc .vmem S4x384x256 .fp8e4m3) (harg12 : arg12.IsWhole) (arg13 : Memref sig .tc .vmem S8x4x384 .i8) (harg13 : arg13.IsWhole) (arg14 : Memref sig .tc .vmem S4x384x256 .fp8e4m3) (harg14 : arg14.IsWhole) (arg15 : Memref sig .tc .vmem S12x4x256 .i8) (harg15 : arg15.IsWhole) (arg16 : Memref sig .tc .vmem S1536x2880 .bf16) (harg16 : arg16.IsWhole) (arg17 : Memref sig .tc .vmem S2880x1536 .bf16) (harg17 : arg17.IsWhole) (arg18 : Memref sig .tc .vmem S2880x1536 .f32) (harg18 : arg18.IsWhole) (arg21 : Memref sig .tc .vmem S2880x256 .bf16) (harg21 : arg21.IsWhole) (arg22 : Memref sig .tc .vmem S2880x256 .bf16) (harg22 : arg22.IsWhole) (arg23 : Memref sig .tc .vmem S1536x256 .bf16) (harg23 : arg23.IsWhole) (arg24 : Memref sig .tc .vmem S1536x256 .bf16) (harg24 : arg24.IsWhole) (arg25 : Memref sig .tc .vmem S1536x256 .bf16) (harg25 : arg25.IsWhole) (arg26 : Memref sig .tc .vmem S90x256 .i32) (harg26 : arg26.IsWhole) (arg27 : Memref sig .tc .vmem S8x2880 .i32) (harg27 : arg27.IsWhole) (arg28 : Memref sig .tc .vmem S8x4x384 .i32) (harg28 : arg28.IsWhole) (arg29 : Memref sig .tc .vmem S12x4x256 .i32) (harg29 : arg29.IsWhole) (v26 : F .bf16) (v155 : IVec S1x128 32) (v274 : IVec S1x128 32) (v393 : IVec S1x128 32) (v512 : IVec S1x128 32) (v529 : FVec F S64x128 .bf16) (X_v1157 : HbBuf0 (F := F) c (rslot1 (Ring.sl 2 t.val))) (G_arg24 : arg24.view.ty.Contents (Elt F)) :
    LoopInvTy_k0_t5 (F := F) Unit ℕ (Pipeline.UD sig nD τ) ℕ 𝒱 c bd E (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 arg16 harg16 arg17 harg17 arg18 harg18 scM0_3 (Memref.isWhole_whole _) scM0_4 (Memref.isWhole_whole _) arg21 harg21 arg22 harg22 arg23 harg23 arg24 harg24 arg25 harg25 arg26 harg26 arg27 harg27 arg28 harg28 arg29 harg29 cc0_scratch14 cc0_scratch15 cc0_scratch16 v26 v155 v274 v393 v512 v529 where
  inv k _ := iprop(((rslot1 (Ring.sl 2 t.val)).view.loc (c : Thread nD τ) ↦[(rslot1 (Ring.sl 2 t.val)).view.set]{fullShare} X_v1157) ∗ (∃ f, (arg14.view.loc (c : Thread nD τ) ↦[arg14.view.set]{fullShare} f)) ∗ (arg24.view.loc (c : Thread nD τ) ↦[arg24.view.set]{fullShare} dcF5 c t arg24 X_v1157 G_arg24 k) ∗ (∃ f, (arg29.view.loc (c : Thread nD τ) ↦[arg29.view.set]{fullShare} f)))
  step k acc := by
    unfold k0_t5_body
    have hk : k.val < 48 := Nat.lt_of_lt_of_le k.isLt k0_t5_abs.2.1
    have hca1_47 := ca1_47 t
    rw [dcF5_succ c t arg24 X_v1157 G_arg24 k]
    generalize dcF5 c t arg24 X_v1157 G_arg24 k.val = f_arg24
    iintro ⟨HR_v1157, ⟨%f_arg14, HW_arg14⟩, HW_arg24, ⟨%f_arg29, HW_arg29⟩⟩
    sl_exec
    sl_step
    isplitl [HR_v1157]; · iexact HR_v1157
    isplitl [HW_arg14]; · iexists _; iexact HW_arg14
    isplitl [HW_arg24]; · iexact HW_arg24
    iexists _; iexact HW_arg29

set_option warn.classDefReducibility false in
@[sl_loop] def loop_t6 (𝒱 : Variants) (c : Dev nD) (bd : Option 𝒱.V) (E : Set ℕ) (t : Fin grid0.N) (arg7 : Memref sig .tc .vmem S2880x256 .f32) (harg7 : arg7.IsWhole) (arg8 : Memref sig .tc .vmem S2880x256 .fp8e4m3) (harg8 : arg8.IsWhole) (arg9 : Memref sig .tc .vmem S90x256 .i8) (harg9 : arg9.IsWhole) (arg10 : Memref sig .tc .vmem S2880x256 .fp8e4m3) (harg10 : arg10.IsWhole) (arg11 : Memref sig .tc .vmem S8x2880 .i8) (harg11 : arg11.IsWhole) (arg12 : Memref sig .tc .vmem S4x384x256 .fp8e4m3) (harg12 : arg12.IsWhole) (arg13 : Memref sig .tc .vmem S8x4x384 .i8) (harg13 : arg13.IsWhole) (arg14 : Memref sig .tc .vmem S4x384x256 .fp8e4m3) (harg14 : arg14.IsWhole) (arg15 : Memref sig .tc .vmem S12x4x256 .i8) (harg15 : arg15.IsWhole) (arg16 : Memref sig .tc .vmem S1536x2880 .bf16) (harg16 : arg16.IsWhole) (arg17 : Memref sig .tc .vmem S2880x1536 .bf16) (harg17 : arg17.IsWhole) (arg18 : Memref sig .tc .vmem S2880x1536 .f32) (harg18 : arg18.IsWhole) (arg21 : Memref sig .tc .vmem S2880x256 .bf16) (harg21 : arg21.IsWhole) (arg22 : Memref sig .tc .vmem S2880x256 .bf16) (harg22 : arg22.IsWhole) (arg23 : Memref sig .tc .vmem S1536x256 .bf16) (harg23 : arg23.IsWhole) (arg24 : Memref sig .tc .vmem S1536x256 .bf16) (harg24 : arg24.IsWhole) (arg25 : Memref sig .tc .vmem S1536x256 .bf16) (harg25 : arg25.IsWhole) (arg26 : Memref sig .tc .vmem S90x256 .i32) (harg26 : arg26.IsWhole) (arg27 : Memref sig .tc .vmem S8x2880 .i32) (harg27 : arg27.IsWhole) (arg28 : Memref sig .tc .vmem S8x4x384 .i32) (harg28 : arg28.IsWhole) (arg29 : Memref sig .tc .vmem S12x4x256 .i32) (harg29 : arg29.IsWhole) (v26 : F .bf16) (v155 : IVec S1x128 32) (v274 : IVec S1x128 32) (v393 : IVec S1x128 32) (v512 : IVec S1x128 32) (v529 : FVec F S64x128 .bf16) (X_v1153 : HbBuf0 (F := F) c (rslot0 (Ring.sl 2 t.val))) (G_arg21 : arg21.view.ty.Contents (Elt F)) :
    LoopInvTy_k0_t6 (F := F) Unit ℕ (Pipeline.UD sig nD τ) ℕ 𝒱 c bd E (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 arg16 harg16 arg17 harg17 arg18 harg18 scM0_3 (Memref.isWhole_whole _) scM0_4 (Memref.isWhole_whole _) arg21 harg21 arg22 harg22 arg23 harg23 arg24 harg24 arg25 harg25 arg26 harg26 arg27 harg27 arg28 harg28 arg29 harg29 cc0_scratch14 cc0_scratch15 cc0_scratch16 v26 v155 v274 v393 v512 v529 where
  inv k _ := iprop(((rslot0 (Ring.sl 2 t.val)).view.loc (c : Thread nD τ) ↦[(rslot0 (Ring.sl 2 t.val)).view.set]{fullShare} X_v1153) ∗ (∃ f, (arg8.view.loc (c : Thread nD τ) ↦[arg8.view.set]{fullShare} f)) ∗ (arg21.view.loc (c : Thread nD τ) ↦[arg21.view.set]{fullShare} wrF6 c t arg21 X_v1153 G_arg21 k) ∗ (∃ f, (arg26.view.loc (c : Thread nD τ) ↦[arg26.view.set]{fullShare} f)))
  step k acc := by
    unfold k0_t6_body
    have hk : k.val < 90 := Nat.lt_of_lt_of_le k.isLt k0_t6_abs.2.1
    have hca0_51 := ca0_51 t
    rw [wrF6_succ c t arg21 X_v1153 G_arg21 k]
    generalize wrF6 c t arg21 X_v1153 G_arg21 k.val = f_arg21
    iintro ⟨HR_v1153, ⟨%f_arg8, HW_arg8⟩, HW_arg21, ⟨%f_arg26, HW_arg26⟩⟩
    sl_exec
    sl_step
    isplitl [HR_v1153]; · iexact HR_v1153
    isplitl [HW_arg8]; · iexists _; iexact HW_arg8
    isplitl [HW_arg21]; · iexact HW_arg21
    iexists _; iexact HW_arg26

set_option warn.classDefReducibility false in
@[sl_loop] def loop_t7 (𝒱 : Variants) (c : Dev nD) (bd : Option 𝒱.V) (E : Set ℕ) (t : Fin grid0.N) (arg7 : Memref sig .tc .vmem S2880x256 .f32) (harg7 : arg7.IsWhole) (arg8 : Memref sig .tc .vmem S2880x256 .fp8e4m3) (harg8 : arg8.IsWhole) (arg9 : Memref sig .tc .vmem S90x256 .i8) (harg9 : arg9.IsWhole) (arg10 : Memref sig .tc .vmem S2880x256 .fp8e4m3) (harg10 : arg10.IsWhole) (arg11 : Memref sig .tc .vmem S8x2880 .i8) (harg11 : arg11.IsWhole) (arg12 : Memref sig .tc .vmem S4x384x256 .fp8e4m3) (harg12 : arg12.IsWhole) (arg13 : Memref sig .tc .vmem S8x4x384 .i8) (harg13 : arg13.IsWhole) (arg14 : Memref sig .tc .vmem S4x384x256 .fp8e4m3) (harg14 : arg14.IsWhole) (arg15 : Memref sig .tc .vmem S12x4x256 .i8) (harg15 : arg15.IsWhole) (arg16 : Memref sig .tc .vmem S1536x2880 .bf16) (harg16 : arg16.IsWhole) (arg17 : Memref sig .tc .vmem S2880x1536 .bf16) (harg17 : arg17.IsWhole) (arg18 : Memref sig .tc .vmem S2880x1536 .f32) (harg18 : arg18.IsWhole) (arg21 : Memref sig .tc .vmem S2880x256 .bf16) (harg21 : arg21.IsWhole) (arg22 : Memref sig .tc .vmem S2880x256 .bf16) (harg22 : arg22.IsWhole) (arg23 : Memref sig .tc .vmem S1536x256 .bf16) (harg23 : arg23.IsWhole) (arg24 : Memref sig .tc .vmem S1536x256 .bf16) (harg24 : arg24.IsWhole) (arg25 : Memref sig .tc .vmem S1536x256 .bf16) (harg25 : arg25.IsWhole) (arg26 : Memref sig .tc .vmem S90x256 .i32) (harg26 : arg26.IsWhole) (arg27 : Memref sig .tc .vmem S8x2880 .i32) (harg27 : arg27.IsWhole) (arg28 : Memref sig .tc .vmem S8x4x384 .i32) (harg28 : arg28.IsWhole) (arg29 : Memref sig .tc .vmem S12x4x256 .i32) (harg29 : arg29.IsWhole) (v26 : F .bf16) (v155 : IVec S1x128 32) (v274 : IVec S1x128 32) (v393 : IVec S1x128 32) (v512 : IVec S1x128 32) (v529 : FVec F S64x128 .bf16) (X_v1157 : HbBuf0 (F := F) c (rslot1 (Ring.sl 2 t.val))) :
    LoopInvTy_k0_t7 (F := F) Unit ℕ (Pipeline.UD sig nD τ) ℕ 𝒱 c bd E (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 arg16 harg16 arg17 harg17 arg18 harg18 scM0_3 (Memref.isWhole_whole _) scM0_4 (Memref.isWhole_whole _) arg21 harg21 arg22 harg22 arg23 harg23 arg24 harg24 arg25 harg25 arg26 harg26 arg27 harg27 arg28 harg28 arg29 harg29 cc0_scratch14 cc0_scratch15 cc0_scratch16 v26 v155 v274 v393 v512 v529 where
  inv k _ := iprop(((rslot1 (Ring.sl 2 t.val)).view.loc (c : Thread nD τ) ↦[(rslot1 (Ring.sl 2 t.val)).view.set]{fullShare} X_v1157) ∗ (∃ f, (arg12.view.loc (c : Thread nD τ) ↦[arg12.view.set]{fullShare} f)) ∗ (∃ f, (arg23.view.loc (c : Thread nD τ) ↦[arg23.view.set]{fullShare} f)) ∗ (∃ f, (arg28.view.loc (c : Thread nD τ) ↦[arg28.view.set]{fullShare} f)))
  step k acc := by
    unfold k0_t7_body
    have hk : k.val < 12 := Nat.lt_of_lt_of_le k.isLt k0_t7_abs.2.1
    have hca1_54 := ca1_54 t
    iintro ⟨HR_v1157, ⟨%f_arg12, HW_arg12⟩, ⟨%f_arg23, HW_arg23⟩, ⟨%f_arg28, HW_arg28⟩⟩
    sl_exec
    sl_step
    isplitl [HR_v1157]; · iexact HR_v1157
    isplitl [HW_arg12]; · iexists _; iexact HW_arg12
    isplitl [HW_arg23]; · iexists _; iexact HW_arg23
    iexists _; iexact HW_arg28

set_option warn.classDefReducibility false in
@[sl_loop] def loop_t8 (𝒱 : Variants) (c : Dev nD) (bd : Option 𝒱.V) (E : Set ℕ) (t : Fin grid0.N) (arg7 : Memref sig .tc .vmem S2880x256 .f32) (harg7 : arg7.IsWhole) (arg8 : Memref sig .tc .vmem S2880x256 .fp8e4m3) (harg8 : arg8.IsWhole) (arg9 : Memref sig .tc .vmem S90x256 .i8) (harg9 : arg9.IsWhole) (arg10 : Memref sig .tc .vmem S2880x256 .fp8e4m3) (harg10 : arg10.IsWhole) (arg11 : Memref sig .tc .vmem S8x2880 .i8) (harg11 : arg11.IsWhole) (arg12 : Memref sig .tc .vmem S4x384x256 .fp8e4m3) (harg12 : arg12.IsWhole) (arg13 : Memref sig .tc .vmem S8x4x384 .i8) (harg13 : arg13.IsWhole) (arg14 : Memref sig .tc .vmem S4x384x256 .fp8e4m3) (harg14 : arg14.IsWhole) (arg15 : Memref sig .tc .vmem S12x4x256 .i8) (harg15 : arg15.IsWhole) (arg16 : Memref sig .tc .vmem S1536x2880 .bf16) (harg16 : arg16.IsWhole) (arg17 : Memref sig .tc .vmem S2880x1536 .bf16) (harg17 : arg17.IsWhole) (arg18 : Memref sig .tc .vmem S2880x1536 .f32) (harg18 : arg18.IsWhole) (arg21 : Memref sig .tc .vmem S2880x256 .bf16) (harg21 : arg21.IsWhole) (arg22 : Memref sig .tc .vmem S2880x256 .bf16) (harg22 : arg22.IsWhole) (arg23 : Memref sig .tc .vmem S1536x256 .bf16) (harg23 : arg23.IsWhole) (arg24 : Memref sig .tc .vmem S1536x256 .bf16) (harg24 : arg24.IsWhole) (arg25 : Memref sig .tc .vmem S1536x256 .bf16) (harg25 : arg25.IsWhole) (arg26 : Memref sig .tc .vmem S90x256 .i32) (harg26 : arg26.IsWhole) (arg27 : Memref sig .tc .vmem S8x2880 .i32) (harg27 : arg27.IsWhole) (arg28 : Memref sig .tc .vmem S8x4x384 .i32) (harg28 : arg28.IsWhole) (arg29 : Memref sig .tc .vmem S12x4x256 .i32) (harg29 : arg29.IsWhole) (v26 : F .bf16) (v155 : IVec S1x128 32) (v274 : IVec S1x128 32) (v393 : IVec S1x128 32) (v512 : IVec S1x128 32) (v529 : FVec F S64x128 .bf16) (X_v1153 : HbBuf0 (F := F) c (rslot0 (Ring.sl 2 t.val))) :
    LoopInvTy_k0_t8 (F := F) Unit ℕ (Pipeline.UD sig nD τ) ℕ 𝒱 c bd E (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 arg16 harg16 arg17 harg17 arg18 harg18 scM0_3 (Memref.isWhole_whole _) scM0_4 (Memref.isWhole_whole _) arg21 harg21 arg22 harg22 arg23 harg23 arg24 harg24 arg25 harg25 arg26 harg26 arg27 harg27 arg28 harg28 arg29 harg29 cc0_scratch14 cc0_scratch15 cc0_scratch16 v26 v155 v274 v393 v512 v529 where
  inv k _ := iprop(((rslot0 (Ring.sl 2 t.val)).view.loc (c : Thread nD τ) ↦[(rslot0 (Ring.sl 2 t.val)).view.set]{fullShare} X_v1153) ∗ (∃ f, (arg10.view.loc (c : Thread nD τ) ↦[arg10.view.set]{fullShare} f)) ∗ (∃ f, (arg22.view.loc (c : Thread nD τ) ↦[arg22.view.set]{fullShare} f)) ∗ (∃ f, (arg27.view.loc (c : Thread nD τ) ↦[arg27.view.set]{fullShare} f)))
  step k acc := by
    unfold k0_t8_body
    have hk : k.val < 22 := Nat.lt_of_lt_of_le k.isLt k0_t8_abs.2.1
    have hca0_61 := ca0_61 t
    iintro ⟨HR_v1153, ⟨%f_arg10, HW_arg10⟩, ⟨%f_arg22, HW_arg22⟩, ⟨%f_arg27, HW_arg27⟩⟩
    sl_exec
    sl_step
    isplitl [HR_v1153]; · iexact HR_v1153
    isplitl [HW_arg10]; · iexists _; iexact HW_arg10
    isplitl [HW_arg22]; · iexists _; iexact HW_arg22
    iexists _; iexact HW_arg27

end Cert.KernelIdeal.Hand

end
-- ==== Proof.KernelIdeal.DwTile.lean ====
/-
What the two loops leave in the widened `dy` buffer, and what the `dw` store writes from it.
-/
module

public import proofs.«01_k».proof.Proof.KernelIdeal.Loops
public import Idealize.ShloMosaic.Lib.VecWindow
public import Idealize.ShloMosaic.Lib.WritesUnit
public import Idealize.ShloMosaic.Lib.Pointwise.Index

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The 32 rows of block `b` and the 128 columns from `o` of a tile. -/
def blk (Y : S1536x256.Idx → F .bf16) (b : ℕ) (hb : b < 48) (o : ℕ) (ho : o ≤ 128) : Vec F S32x128 .bf16 :=
  fun x => Y (ix2 (⟨32 * b + (x 0).val, by have h : (x 0).val < 32 := (x 0).isLt; omega⟩ : Fin 1536) (⟨o + (x 1).val, by have h : (x 1).val < 128 := (x 1).isLt; omega⟩ : Fin 256))

/-- The whole widened tile: each half of the columns, block by block of 32 rows. -/
def dwD (Y : S1536x256.Idx → F .bf16) : S1536x256.Idx → F .bf16 := fun i =>
  have h0 : (i 0).val < 1536 := (i 0).isLt
  have h1 : (i 1).val < 256 := (i 1).isLt
  if h : (i 1).val < 128 then
    dqA (blk Y ((i 0).val / 32) (by omega) 0 (by omega)) (ix2 (⟨(i 0).val % 32, Nat.mod_lt _ (by decide)⟩ : Fin 32) (⟨(i 1).val, h⟩ : Fin 128))
  else dqB (blk Y ((i 0).val / 32) (by omega) 128 (by omega)) (ix2 (⟨(i 0).val % 32, Nat.mod_lt _ (by decide)⟩ : Fin 32) (⟨(i 1).val - 128, by omega⟩ : Fin 128))

theorem off27_eq (k : Fin k0_t1_loop.trips) : k0_off27 k = ![32 * k.val, 0] := by
  have h : ∀ k : Fin k0_t1_loop.trips, k0_off27 k 0 = 32 * k.val ∧ k0_off27 k 1 = 0 := by decide +kernel
  funext a
  match a with
  | ⟨0, _⟩ => exact (h k).1
  | ⟨1, _⟩ => exact (h k).2
theorem off48_eq (k : Fin k0_t5_loop.trips) : k0_off48 k = ![32 * k.val, 128] := by
  have h : ∀ k : Fin k0_t5_loop.trips, k0_off48 k 0 = 32 * k.val ∧ k0_off48 k 1 = 128 := by decide +kernel
  funext a
  match a with
  | ⟨0, _⟩ => exact (h k).1
  | ⟨1, _⟩ => exact (h k).2

theorem dcF1_read (c : Dev nD) (t : Fin grid0.N) (arg24 : Memref sig .tc .vmem S1536x256 .bf16) (X : HbBuf0 (F := F) c (rslot1 (Ring.sl 2 t.val))) (G : arg24.view.ty.Contents (Elt F)) (k : ℕ) (hk : k ≤ 48) (i : S1536x256.Idx) :
    arg24.view.read (Elt F) (dcF1 c t arg24 X G k) i
      = if (i 0).val < 32 * k ∧ (i 1).val < 128 then dwD ((rslot1 (Ring.sl 2 t.val)).view.read (Elt F) X) i else arg24.view.read (Elt F) G i := by
  induction k with
  | zero => simp [dcF1]
  | succ k ih =>
    have ht : k < k0_t1_loop.trips := by rw [show k0_t1_loop.trips = 48 from rfl]; omega
    have h0 : (i 0).val < 1536 := (i 0).isLt
    have h1 : (i 1).val < 256 := (i 1).isLt
    have e := dcF1_succ c t arg24 X G ⟨k, ht⟩
    rw [show dcF1 c t arg24 X G (k + 1) = _ from e]
    rw [View.read_writes_cons_unit arg24.view _ _ _ _ _ (off27_eq ⟨k, ht⟩)]
    split
    · rename_i h
      have a0 : 32 * k ≤ (i 0).val ∧ (i 0).val < 32 * k + 32 := h 0
      have a1 : 0 ≤ (i 1).val ∧ (i 1).val < 0 + 128 := h 1
      have hdiv : (i 0).val / 32 = k := by omega
      rw [if_pos ⟨by omega, by omega⟩]
      unfold dwD
      rw [dif_pos (by omega)]
      have eb : View.readAt (Elt F) (rslot1 (Ring.sl 2 t.val)).view (Rect.unit (s := S1536x256) (k0_off27 ⟨k, ht⟩) S32x128.size (k0_off27_inb ⟨k, ht⟩)).toLoadRect X
          = blk ((rslot1 (Ring.sl 2 t.val)).view.read (Elt F) X) ((i 0).val / 32) (by omega) 0 (by omega) := by
        rw [View.readAt_unit (rslot1 (Ring.sl 2 t.val)).view X _ (off27_eq ⟨k, ht⟩) (by rw [← off27_eq ⟨k, ht⟩]; exact k0_off27_inb ⟨k, ht⟩)]
        funext x
        unfold blk VecWindow.window
        refine congrArg ((rslot1 (Ring.sl 2 t.val)).view.read (Elt F) X) ?_
        funext a
        refine Fin.ext ?_
        fin_cases a
        · simp [ix2, hdiv]
        · simp [ix2]
      refine congr (congrArg dqA eb) ?_
      funext a
      refine Fin.ext ?_
      rw [Rect.unitLocal_val]
      fin_cases a
      · simp [ix2]; omega
      · simp [ix2]
    · rename_i h
      rw [show arg24.view.writes (Elt F) (dcF1 c t arg24 X G k) [] = dcF1 c t arg24 X G k from rfl, ih (by omega)]
      have hn : ¬ (32 * k ≤ (i 0).val ∧ (i 0).val < 32 * k + 32 ∧ (i 1).val < 128) := by
        intro hh
        refine h ?_
        intro a
        match a with
        | ⟨0, _⟩ => exact ⟨hh.1, hh.2.1⟩
        | ⟨1, _⟩ => exact (show 0 ≤ (i 1).val ∧ (i 1).val < 0 + 128 from by omega)
      by_cases hc : (i 1).val < 128
      · by_cases h2 : (i 0).val < 32 * k
        · rw [if_pos ⟨h2, hc⟩, if_pos ⟨by omega, hc⟩]
        · rw [if_neg (fun x => h2 x.1), if_neg (by intro x; omega)]
      · rw [if_neg (fun x => hc x.2), if_neg (fun x => hc x.2)]

theorem dcF5_read (c : Dev nD) (t : Fin grid0.N) (arg24 : Memref sig .tc .vmem S1536x256 .bf16) (X : HbBuf0 (F := F) c (rslot1 (Ring.sl 2 t.val))) (G : arg24.view.ty.Contents (Elt F)) (k : ℕ) (hk : k ≤ 48) (i : S1536x256.Idx) :
    arg24.view.read (Elt F) (dcF5 c t arg24 X G k) i
      = if (i 0).val < 32 * k ∧ 128 ≤ (i 1).val then dwD ((rslot1 (Ring.sl 2 t.val)).view.read (Elt F) X) i else arg24.view.read (Elt F) G i := by
  induction k with
  | zero => simp [dcF5]
  | succ k ih =>
    have ht : k < k0_t5_loop.trips := by rw [show k0_t5_loop.trips = 48 from rfl]; omega
    have h0 : (i 0).val < 1536 := (i 0).isLt
    have h1 : (i 1).val < 256 := (i 1).isLt
    have e := dcF5_succ c t arg24 X G ⟨k, ht⟩
    rw [show dcF5 c t arg24 X G (k + 1) = _ from e]
    rw [View.read_writes_cons_unit arg24.view _ _ _ _ _ (off48_eq ⟨k, ht⟩)]
    split
    · rename_i h
      have a0 : 32 * k ≤ (i 0).val ∧ (i 0).val < 32 * k + 32 := h 0
      have a1 : 128 ≤ (i 1).val ∧ (i 1).val < 128 + 128 := h 1
      have hdiv : (i 0).val / 32 = k := by omega
      rw [if_pos ⟨by omega, by omega⟩]
      unfold dwD
      rw [dif_neg (by omega)]
      have eb : View.readAt (Elt F) (rslot1 (Ring.sl 2 t.val)).view (Rect.unit (s := S1536x256) (k0_off48 ⟨k, ht⟩) S32x128.size (k0_off48_inb ⟨k, ht⟩)).toLoadRect X
          = blk ((rslot1 (Ring.sl 2 t.val)).view.read (Elt F) X) ((i 0).val / 32) (by omega) 128 (by omega) := by
        rw [View.readAt_unit (rslot1 (Ring.sl 2 t.val)).view X _ (off48_eq ⟨k, ht⟩) (by rw [← off48_eq ⟨k, ht⟩]; exact k0_off48_inb ⟨k, ht⟩)]
        funext x
        unfold blk VecWindow.window
        refine congrArg ((rslot1 (Ring.sl 2 t.val)).view.read (Elt F) X) ?_
        funext a
        refine Fin.ext ?_
        fin_cases a
        · simp [ix2, hdiv]
        · simp [ix2]
      refine congr (congrArg dqB eb) ?_
      funext a
      refine Fin.ext ?_
      rw [Rect.unitLocal_val]
      fin_cases a
      · simp [ix2]; omega
      · simp [ix2]
    · rename_i h
      rw [show arg24.view.writes (Elt F) (dcF5 c t arg24 X G k) [] = dcF5 c t arg24 X G k from rfl, ih (by omega)]
      have hn : ¬ (32 * k ≤ (i 0).val ∧ (i 0).val < 32 * k + 32 ∧ 128 ≤ (i 1).val) := by
        intro hh
        refine h ?_
        intro a
        match a with
        | ⟨0, _⟩ => exact ⟨hh.1, hh.2.1⟩
        | ⟨1, _⟩ => exact (show 128 ≤ (i 1).val ∧ (i 1).val < 128 + 128 from by omega)
      by_cases hc : 128 ≤ (i 1).val
      · by_cases h2 : (i 0).val < 32 * k
        · rw [if_pos ⟨h2, hc⟩, if_pos ⟨by omega, hc⟩]
        · rw [if_neg (fun x => h2 x.1), if_neg (by intro x; omega)]
      · rw [if_neg (fun x => hc x.2), if_neg (fun x => hc x.2)]

/-- After both loops the buffer reads the whole widened tile, whatever it held before. -/
theorem dc_read (c : Dev nD) (t : Fin grid0.N) (arg24 : Memref sig .tc .vmem S1536x256 .bf16) (X : HbBuf0 (F := F) c (rslot1 (Ring.sl 2 t.val))) (G : arg24.view.ty.Contents (Elt F)) :
    arg24.view.read (Elt F) (dcF5 c t arg24 X (dcF1 c t arg24 X G 48) 48) = dwD ((rslot1 (Ring.sl 2 t.val)).view.read (Elt F) X) := by
  funext i
  have h0 : (i 0).val < 1536 := (i 0).isLt
  rw [dcF5_read c t arg24 X _ 48 le_rfl i]
  split
  · rfl
  · rename_i h
    rw [dcF1_read c t arg24 X _ 48 le_rfl i, if_pos ⟨by omega, by omega⟩]

/-- What the store into the `dw` window leaves. -/
theorem dw_read (c : Dev nD) (t : Fin grid0.N) (arg7 : Memref sig .tc .vmem S2880x256 .f32) (arg17 : Memref sig .tc .vmem S2880x1536 .bf16) (arg24 : Memref sig .tc .vmem S1536x256 .bf16)
    (X : HbBuf0 (F := F) c (rslot1 (Ring.sl 2 t.val))) (G : arg24.view.ty.Contents (Elt F)) (f7 : arg7.view.ty.Contents (Elt F)) (f17 : arg17.view.ty.Contents (Elt F))
    (dxc : S2880x1536.Idx → F .bf16) (h : arg17.view.read (Elt F) f17 = dxc) :
    arg7.view.read (Elt F) (arg7.view.writes (Elt F) f7 [⟨Rect.unit (s := S2880x256) ![0, 0] S2880x256.size inb_S2880x256_S2880x256_0_0,
      k0_pay736 (View.readAt (Elt F) arg17.view (Rect.unit (s := S2880x1536) ![0, 0] S2880x1536.size inb_S2880x1536_S2880x1536_0_0).toLoadRect f17)
        (View.readAt (Elt F) arg24.view (Rect.unit (s := S1536x256) ![0, 0] S1536x256.size inb_S1536x256_S1536x256_0_0).toLoadRect (dcF5 c t arg24 X (dcF1 c t arg24 X G 48) 48))⟩])
    = k0_pay736 dxc (dwD ((rslot1 (Ring.sl 2 t.val)).view.read (Elt F) X)) := by
  have e1 := View.read_writes_full arg7.view f7 inb_S2880x256_S2880x256_0_0
  have e2 := View.readAt_full arg17.view f17 inb_S2880x1536_S2880x1536_0_0
  have e3 := View.readAt_full arg24.view (dcF5 c t arg24 X (dcF1 c t arg24 X G 48) 48) inb_S1536x256_S1536x256_0_0
  refine (e1 _ _).trans ?_
  rw [← dc_read c t arg24 X G, ← h]
  exact congrArg₂ k0_pay736 e2 e3

end Cert.KernelIdeal.Hand
-- ==== Proof.KernelIdeal.WrTile.lean ====
/-
What the two loops leave in the widened `w` buffer, and what the `y` store writes from it.
-/
module

public import proofs.«01_k».proof.Proof.KernelIdeal.Loops
public import Idealize.ShloMosaic.Lib.VecWindow
public import Idealize.ShloMosaic.Lib.WritesUnit
public import Idealize.ShloMosaic.Lib.Pointwise.Index

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The 32 rows of block `b` and the 128 columns from `o` of a tile. -/
def blkW (Y : S2880x256.Idx → F .bf16) (b : ℕ) (hb : b < 90) (o : ℕ) (ho : o ≤ 128) : Vec F S32x128 .bf16 :=
  fun x => Y (ix2 (⟨32 * b + (x 0).val, by have h : (x 0).val < 32 := (x 0).isLt; omega⟩ : Fin 2880) (⟨o + (x 1).val, by have h : (x 1).val < 128 := (x 1).isLt; omega⟩ : Fin 256))

/-- The whole widened tile: each half of the columns, block by block of 32 rows. -/
def wrD (Y : S2880x256.Idx → F .bf16) : S2880x256.Idx → F .bf16 := fun i =>
  have h0 : (i 0).val < 2880 := (i 0).isLt
  have h1 : (i 1).val < 256 := (i 1).isLt
  if h : (i 1).val < 128 then
    wqA (blkW Y ((i 0).val / 32) (by omega) 0 (by omega)) (ix2 (⟨(i 0).val % 32, Nat.mod_lt _ (by decide)⟩ : Fin 32) (⟨(i 1).val, h⟩ : Fin 128))
  else wqB (blkW Y ((i 0).val / 32) (by omega) 128 (by omega)) (ix2 (⟨(i 0).val % 32, Nat.mod_lt _ (by decide)⟩ : Fin 32) (⟨(i 1).val - 128, by omega⟩ : Fin 128))

theorem off31_eq (k : Fin k0_t2_loop.trips) : k0_off31 k = ![32 * k.val, 0] := by
  have h : ∀ k : Fin k0_t2_loop.trips, k0_off31 k 0 = 32 * k.val ∧ k0_off31 k 1 = 0 := by decide +kernel
  funext a
  match a with
  | ⟨0, _⟩ => exact (h k).1
  | ⟨1, _⟩ => exact (h k).2
theorem off52_eq (k : Fin k0_t6_loop.trips) : k0_off52 k = ![32 * k.val, 128] := by
  have h : ∀ k : Fin k0_t6_loop.trips, k0_off52 k 0 = 32 * k.val ∧ k0_off52 k 1 = 128 := by decide +kernel
  funext a
  match a with
  | ⟨0, _⟩ => exact (h k).1
  | ⟨1, _⟩ => exact (h k).2

theorem wrF2_read (c : Dev nD) (t : Fin grid0.N) (arg21 : Memref sig .tc .vmem S2880x256 .bf16) (X : HbBuf0 (F := F) c (rslot0 (Ring.sl 2 t.val))) (G : arg21.view.ty.Contents (Elt F)) (k : ℕ) (hk : k ≤ 90) (i : S2880x256.Idx) :
    arg21.view.read (Elt F) (wrF2 c t arg21 X G k) i
      = if (i 0).val < 32 * k ∧ (i 1).val < 128 then wrD ((rslot0 (Ring.sl 2 t.val)).view.read (Elt F) X) i else arg21.view.read (Elt F) G i := by
  induction k with
  | zero => simp [wrF2]
  | succ k ih =>
    have ht : k < k0_t2_loop.trips := by rw [show k0_t2_loop.trips = 90 from rfl]; omega
    have h0 : (i 0).val < 2880 := (i 0).isLt
    have h1 : (i 1).val < 256 := (i 1).isLt
    have e := wrF2_succ c t arg21 X G ⟨k, ht⟩
    rw [show wrF2 c t arg21 X G (k + 1) = _ from e]
    rw [View.read_writes_cons_unit arg21.view _ _ _ _ _ (off31_eq ⟨k, ht⟩)]
    split
    · rename_i h
      have a0 : 32 * k ≤ (i 0).val ∧ (i 0).val < 32 * k + 32 := h 0
      have a1 : 0 ≤ (i 1).val ∧ (i 1).val < 0 + 128 := h 1
      have hdiv : (i 0).val / 32 = k := by omega
      rw [if_pos ⟨by omega, by omega⟩]
      unfold wrD
      rw [dif_pos (by omega)]
      have eb : View.readAt (Elt F) (rslot0 (Ring.sl 2 t.val)).view (Rect.unit (s := S2880x256) (k0_off31 ⟨k, ht⟩) S32x128.size (k0_off31_inb ⟨k, ht⟩)).toLoadRect X
          = blkW ((rslot0 (Ring.sl 2 t.val)).view.read (Elt F) X) ((i 0).val / 32) (by omega) 0 (by omega) := by
        rw [View.readAt_unit (rslot0 (Ring.sl 2 t.val)).view X _ (off31_eq ⟨k, ht⟩) (by rw [← off31_eq ⟨k, ht⟩]; exact k0_off31_inb ⟨k, ht⟩)]
        funext x
        unfold blkW VecWindow.window
        refine congrArg ((rslot0 (Ring.sl 2 t.val)).view.read (Elt F) X) ?_
        funext a
        refine Fin.ext ?_
        fin_cases a
        · simp [ix2, hdiv]
        · simp [ix2]
      refine congr (congrArg wqA eb) ?_
      funext a
      refine Fin.ext ?_
      rw [Rect.unitLocal_val]
      fin_cases a
      · simp [ix2]; omega
      · simp [ix2]
    · rename_i h
      rw [show arg21.view.writes (Elt F) (wrF2 c t arg21 X G k) [] = wrF2 c t arg21 X G k from rfl, ih (by omega)]
      have hn : ¬ (32 * k ≤ (i 0).val ∧ (i 0).val < 32 * k + 32 ∧ (i 1).val < 128) := by
        intro hh
        refine h ?_
        intro a
        match a with
        | ⟨0, _⟩ => exact ⟨hh.1, hh.2.1⟩
        | ⟨1, _⟩ => exact (show 0 ≤ (i 1).val ∧ (i 1).val < 0 + 128 from by omega)
      by_cases hc : (i 1).val < 128
      · by_cases h2 : (i 0).val < 32 * k
        · rw [if_pos ⟨h2, hc⟩, if_pos ⟨by omega, hc⟩]
        · rw [if_neg (fun x => h2 x.1), if_neg (by intro x; omega)]
      · rw [if_neg (fun x => hc x.2), if_neg (fun x => hc x.2)]

theorem wrF6_read (c : Dev nD) (t : Fin grid0.N) (arg21 : Memref sig .tc .vmem S2880x256 .bf16) (X : HbBuf0 (F := F) c (rslot0 (Ring.sl 2 t.val))) (G : arg21.view.ty.Contents (Elt F)) (k : ℕ) (hk : k ≤ 90) (i : S2880x256.Idx) :
    arg21.view.read (Elt F) (wrF6 c t arg21 X G k) i
      = if (i 0).val < 32 * k ∧ 128 ≤ (i 1).val then wrD ((rslot0 (Ring.sl 2 t.val)).view.read (Elt F) X) i else arg21.view.read (Elt F) G i := by
  induction k with
  | zero => simp [wrF6]
  | succ k ih =>
    have ht : k < k0_t6_loop.trips := by rw [show k0_t6_loop.trips = 90 from rfl]; omega
    have h0 : (i 0).val < 2880 := (i 0).isLt
    have h1 : (i 1).val < 256 := (i 1).isLt
    have e := wrF6_succ c t arg21 X G ⟨k, ht⟩
    rw [show wrF6 c t arg21 X G (k + 1) = _ from e]
    rw [View.read_writes_cons_unit arg21.view _ _ _ _ _ (off52_eq ⟨k, ht⟩)]
    split
    · rename_i h
      have a0 : 32 * k ≤ (i 0).val ∧ (i 0).val < 32 * k + 32 := h 0
      have a1 : 128 ≤ (i 1).val ∧ (i 1).val < 128 + 128 := h 1
      have hdiv : (i 0).val / 32 = k := by omega
      rw [if_pos ⟨by omega, by omega⟩]
      unfold wrD
      rw [dif_neg (by omega)]
      have eb : View.readAt (Elt F) (rslot0 (Ring.sl 2 t.val)).view (Rect.unit (s := S2880x256) (k0_off52 ⟨k, ht⟩) S32x128.size (k0_off52_inb ⟨k, ht⟩)).toLoadRect X
          = blkW ((rslot0 (Ring.sl 2 t.val)).view.read (Elt F) X) ((i 0).val / 32) (by omega) 128 (by omega) := by
        rw [View.readAt_unit (rslot0 (Ring.sl 2 t.val)).view X _ (off52_eq ⟨k, ht⟩) (by rw [← off52_eq ⟨k, ht⟩]; exact k0_off52_inb ⟨k, ht⟩)]
        funext x
        unfold blkW VecWindow.window
        refine congrArg ((rslot0 (Ring.sl 2 t.val)).view.read (Elt F) X) ?_
        funext a
        refine Fin.ext ?_
        fin_cases a
        · simp [ix2, hdiv]
        · simp [ix2]
      refine congr (congrArg wqB eb) ?_
      funext a
      refine Fin.ext ?_
      rw [Rect.unitLocal_val]
      fin_cases a
      · simp [ix2]; omega
      · simp [ix2]
    · rename_i h
      rw [show arg21.view.writes (Elt F) (wrF6 c t arg21 X G k) [] = wrF6 c t arg21 X G k from rfl, ih (by omega)]
      have hn : ¬ (32 * k ≤ (i 0).val ∧ (i 0).val < 32 * k + 32 ∧ 128 ≤ (i 1).val) := by
        intro hh
        refine h ?_
        intro a
        match a with
        | ⟨0, _⟩ => exact ⟨hh.1, hh.2.1⟩
        | ⟨1, _⟩ => exact (show 128 ≤ (i 1).val ∧ (i 1).val < 128 + 128 from by omega)
      by_cases hc : 128 ≤ (i 1).val
      · by_cases h2 : (i 0).val < 32 * k
        · rw [if_pos ⟨h2, hc⟩, if_pos ⟨by omega, hc⟩]
        · rw [if_neg (fun x => h2 x.1), if_neg (by intro x; omega)]
      · rw [if_neg (fun x => hc x.2), if_neg (fun x => hc x.2)]

/-- After both loops the buffer reads the whole widened tile, whatever it held before. -/
theorem wr_read (c : Dev nD) (t : Fin grid0.N) (arg21 : Memref sig .tc .vmem S2880x256 .bf16) (X : HbBuf0 (F := F) c (rslot0 (Ring.sl 2 t.val))) (G : arg21.view.ty.Contents (Elt F)) :
    arg21.view.read (Elt F) (wrF6 c t arg21 X (wrF2 c t arg21 X G 90) 90) = wrD ((rslot0 (Ring.sl 2 t.val)).view.read (Elt F) X) := by
  funext i
  have h0 : (i 0).val < 2880 := (i 0).isLt
  rw [wrF6_read c t arg21 X _ 90 le_rfl i]
  split
  · rfl
  · rename_i h
    rw [wrF2_read c t arg21 X _ 90 le_rfl i, if_pos ⟨by omega, by omega⟩]

/-- What the store into the `y` scratch leaves. -/
theorem y_read (c : Dev nD) (t : Fin grid0.N) (arg25 : Memref sig .tc .vmem S1536x256 .bf16) (arg16 : Memref sig .tc .vmem S1536x2880 .bf16) (arg21 : Memref sig .tc .vmem S2880x256 .bf16)
    (X : HbBuf0 (F := F) c (rslot0 (Ring.sl 2 t.val))) (G : arg21.view.ty.Contents (Elt F)) (f25 : arg25.view.ty.Contents (Elt F)) (f16 : arg16.view.ty.Contents (Elt F))
    (dxr : S1536x2880.Idx → F .bf16) (h : arg16.view.read (Elt F) f16 = dxr) :
    arg25.view.read (Elt F) (arg25.view.writes (Elt F) f25 [⟨Rect.unit (s := S1536x256) ![0, 0] S1536x256.size inb_S1536x256_S1536x256_0_0,
      k0_pay735 (View.readAt (Elt F) arg16.view (Rect.unit (s := S1536x2880) ![0, 0] S1536x2880.size inb_S1536x2880_S1536x2880_0_0).toLoadRect f16)
        (View.readAt (Elt F) arg21.view (Rect.unit (s := S2880x256) ![0, 0] S2880x256.size inb_S2880x256_S2880x256_0_0).toLoadRect (wrF6 c t arg21 X (wrF2 c t arg21 X G 90) 90))⟩])
    = k0_pay735 dxr (wrD ((rslot0 (Ring.sl 2 t.val)).view.read (Elt F) X)) := by
  have e1 := View.read_writes_full arg25.view f25 inb_S1536x256_S1536x256_0_0
  have e2 := View.readAt_full arg16.view f16 inb_S1536x2880_S1536x2880_0_0
  have e3 := View.readAt_full arg21.view (wrF6 c t arg21 X (wrF2 c t arg21 X G 90) 90) inb_S2880x256_S2880x256_0_0
  refine (e1 _ _).trans ?_
  rw [← wr_read c t arg21 X G, ← h]
  exact congrArg₂ k0_pay735 e2 e3

end Cert.KernelIdeal.Hand
-- ==== Proof.KernelIdeal.Split.lean ====
/-
The kernel's body in three pieces: the head (the transfers of the step and their waits), the work on
the tile (`rest`), and what follows it (`fin`: the end of the products, the copy of the product `y` out
of its scratch, and, at the last point, the copies of `dx`). The texts are the printed skeleton's own,
cut so that each piece is proved once.
-/
module

public import proofs.«01_k».proof.Proof.Gen.KernelIdeal.Skeleton

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- What follows the work on the tile. -/
def fin (i : grid0.Coords) (arg1 : Memref sig .tc .hbm S2880x5760 .bf16) (harg1 : arg1.IsWhole) (arg2 : Memref sig .tc .hbm S1536x5760 .bf16) (harg2 : arg2.IsWhole) (arg3 : Memref sig .tc .hbm S1536x2880 .bf16) (harg3 : arg3.IsWhole) (arg4 : Memref sig .tc .hbm S2880x1536 .bf16) (harg4 : arg4.IsWhole) (arg5 : Memref sig .tc .hbm S1536x5760 .bf16) (harg5 : arg5.IsWhole) (arg6 : Memref sig .tc .hbm S4x2880x384 .bf16) (harg6 : arg6.IsWhole) (arg7 : Memref sig .tc .vmem S2880x256 .f32) (harg7 : arg7.IsWhole) (arg8 : Memref sig .tc .vmem S2880x256 .fp8e4m3) (harg8 : arg8.IsWhole) (arg9 : Memref sig .tc .vmem S90x256 .i8) (harg9 : arg9.IsWhole) (arg10 : Memref sig .tc .vmem S2880x256 .fp8e4m3) (harg10 : arg10.IsWhole) (arg11 : Memref sig .tc .vmem S8x2880 .i8) (harg11 : arg11.IsWhole) (arg12 : Memref sig .tc .vmem S4x384x256 .fp8e4m3) (harg12 : arg12.IsWhole) (arg13 : Memref sig .tc .vmem S8x4x384 .i8) (harg13 : arg13.IsWhole) (arg14 : Memref sig .tc .vmem S4x384x256 .fp8e4m3) (harg14 : arg14.IsWhole) (arg15 : Memref sig .tc .vmem S12x4x256 .i8) (harg15 : arg15.IsWhole) (arg16 : Memref sig .tc .vmem S1536x2880 .bf16) (harg16 : arg16.IsWhole) (arg17 : Memref sig .tc .vmem S2880x1536 .bf16) (harg17 : arg17.IsWhole) (arg18 : Memref sig .tc .vmem S2880x1536 .f32) (harg18 : arg18.IsWhole) (arg19 : Memref sig .tc .vmem S2x2880x256 .bf16) (harg19 : arg19.IsWhole) (arg20 : Memref sig .tc .vmem S2x1536x256 .bf16) (harg20 : arg20.IsWhole) (arg21 : Memref sig .tc .vmem S2880x256 .bf16) (harg21 : arg21.IsWhole) (arg22 : Memref sig .tc .vmem S2880x256 .bf16) (harg22 : arg22.IsWhole) (arg23 : Memref sig .tc .vmem S1536x256 .bf16) (harg23 : arg23.IsWhole) (arg24 : Memref sig .tc .vmem S1536x256 .bf16) (harg24 : arg24.IsWhole) (arg25 : Memref sig .tc .vmem S1536x256 .bf16) (harg25 : arg25.IsWhole) (arg26 : Memref sig .tc .vmem S90x256 .i32) (harg26 : arg26.IsWhole) (arg27 : Memref sig .tc .vmem S8x2880 .i32) (harg27 : arg27.IsWhole) (arg28 : Memref sig .tc .vmem S8x4x384 .i32) (harg28 : arg28.IsWhole) (arg29 : Memref sig .tc .vmem S12x4x256 .i32) (harg29 : arg29.IsWhole) (arg30 : DmaSems sig S2x2) (arg31 : DmaSems sig S_) (arg32 : DmaSems sig S2) (arg0 : BitVec 32) :
    Prog (TpuEff nD τ sig (Elt F) Λ₀ .tc) PUnit := do
  k0_part94 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 arg0
  if k0_h9 : k0_cond9 i = 1#1 then do
    k0_part61 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 arg0 k0_h9
    k0_part62 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32
    k0_part63 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32
    k0_part64 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32
    k0_part65 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32
    let v1268 : Vec F S2880x128 .f32 ← Prog.lift (.load arg18 (Rect.unit (s := S2880x1536) ![0, 1280] S2880x128.size inb_S2880x1536_S2880x128_0_1280).toLoadRect (View.loadsAt_vmem h_S2880x128))
    let v1270 : Vec F S2880x128 .bf16 ← Prog.lift (.load arg21 (Rect.unit (s := S2880x256) ![0, 0] S2880x128.size inb_S2880x256_S2880x128_0_0).toLoadRect (View.loadsAt_vmem h_S2880x128))
    Prog.lift (.store arg21 (Rect.unit (s := S2880x256) ![0, 0] S2880x128.size inb_S2880x256_S2880x128_0_0) (k0_pay1 v1268) Finset.univ (View.stores_vmem h_S2880x128 (harg21.storeExact_slice rfl _ packedbf16_S2880x256_S2880x128_0_0) (fun _ => rfl)) (.inl rfl))
    let v1273 : Memref sig .tc .hbm S1x2880x128 .bf16 := arg6.slice (Rect.unit (s := S4x2880x384) ![3, 0, 128] S1x2880x128.size inb_S4x2880x384_S1x2880x128_3_0_128) (fun _ => rfl)
    let v1274 : Memref sig .tc .hbm S2880x128 .bf16 := v1273.squeeze S2880x128 squeezes_S1x2880x128_S2880x128
    let v1275 : Memref sig .tc .vmem S2880x128 .bf16 := arg21.slice (Rect.unit (s := S2880x256) ![0, 0] S2880x128.size inb_S2880x256_S2880x128_0_0) (fun _ => rfl)
    Prog.lift (.enqueueDma v1275 (.here v1274) (.dma arg31.sem) (harg21.wordExact_slice rfl _ wordsbf16_S2880x256_S2880x128_0_0) ((harg6.wordExact_slice rfl _ wordsbf16_S4x2880x384_S1x2880x128_3_0_128).reshape _ _) ⟨Or.inl rfl, trivial⟩)
    let v1276 : Memref sig .tc .hbm S1x2880x128 .bf16 := arg6.slice (Rect.unit (s := S4x2880x384) ![3, 0, 128] S1x2880x128.size inb_S4x2880x384_S1x2880x128_3_0_128) (fun _ => rfl)
    let v1277 : Memref sig .tc .hbm S2880x128 .bf16 := v1276.squeeze S2880x128 squeezes_S1x2880x128_S2880x128
    let v1278 : Memref sig .tc .vmem S2880x128 .bf16 := arg21.slice (Rect.unit (s := S2880x256) ![0, 0] S2880x128.size inb_S2880x256_S2880x128_0_0) (fun _ => rfl)
    Prog.lift (.waitDma2 arg31.sem v1278 v1277 (harg21.wordExact_slice rfl _ wordsbf16_S2880x256_S2880x128_0_0) ((harg6.wordExact_slice rfl _ wordsbf16_S4x2880x384_S1x2880x128_3_0_128).reshape _ _))
    let v1279 : Vec F S2880x128 .f32 ← Prog.lift (.load arg18 (Rect.unit (s := S2880x1536) ![0, 1408] S2880x128.size inb_S2880x1536_S2880x128_0_1408).toLoadRect (View.loadsAt_vmem h_S2880x128))
    let v1281 : Vec F S2880x128 .bf16 ← Prog.lift (.load arg21 (Rect.unit (s := S2880x256) ![0, 0] S2880x128.size inb_S2880x256_S2880x128_0_0).toLoadRect (View.loadsAt_vmem h_S2880x128))
    Prog.lift (.store arg21 (Rect.unit (s := S2880x256) ![0, 0] S2880x128.size inb_S2880x256_S2880x128_0_0) (k0_pay2 v1279) Finset.univ (View.stores_vmem h_S2880x128 (harg21.storeExact_slice rfl _ packedbf16_S2880x256_S2880x128_0_0) (fun _ => rfl)) (.inl rfl))
    let v1284 : Memref sig .tc .hbm S1x2880x128 .bf16 := arg6.slice (Rect.unit (s := S4x2880x384) ![3, 0, 256] S1x2880x128.size inb_S4x2880x384_S1x2880x128_3_0_256) (fun _ => rfl)
    let v1285 : Memref sig .tc .hbm S2880x128 .bf16 := v1284.squeeze S2880x128 squeezes_S1x2880x128_S2880x128
    let v1286 : Memref sig .tc .vmem S2880x128 .bf16 := arg21.slice (Rect.unit (s := S2880x256) ![0, 0] S2880x128.size inb_S2880x256_S2880x128_0_0) (fun _ => rfl)
    Prog.lift (.enqueueDma v1286 (.here v1285) (.dma arg31.sem) (harg21.wordExact_slice rfl _ wordsbf16_S2880x256_S2880x128_0_0) ((harg6.wordExact_slice rfl _ wordsbf16_S4x2880x384_S1x2880x128_3_0_256).reshape _ _) ⟨Or.inl rfl, trivial⟩)
    let v1287 : Memref sig .tc .hbm S1x2880x128 .bf16 := arg6.slice (Rect.unit (s := S4x2880x384) ![3, 0, 256] S1x2880x128.size inb_S4x2880x384_S1x2880x128_3_0_256) (fun _ => rfl)
    let v1288 : Memref sig .tc .hbm S2880x128 .bf16 := v1287.squeeze S2880x128 squeezes_S1x2880x128_S2880x128
    let v1289 : Memref sig .tc .vmem S2880x128 .bf16 := arg21.slice (Rect.unit (s := S2880x256) ![0, 0] S2880x128.size inb_S2880x256_S2880x128_0_0) (fun _ => rfl)
    Prog.lift (.waitDma2 arg31.sem v1289 v1288 (harg21.wordExact_slice rfl _ wordsbf16_S2880x256_S2880x128_0_0) ((harg6.wordExact_slice rfl _ wordsbf16_S4x2880x384_S1x2880x128_3_0_256).reshape _ _))
    pure ⟨⟩
  else do
    pure ⟨⟩
  pure ⟨⟩

/-- The work on the tile: the eight quantising loops, the products, the packing of the scales. -/
def rest (i : grid0.Coords) (arg1 : Memref sig .tc .hbm S2880x5760 .bf16) (harg1 : arg1.IsWhole) (arg2 : Memref sig .tc .hbm S1536x5760 .bf16) (harg2 : arg2.IsWhole) (arg3 : Memref sig .tc .hbm S1536x2880 .bf16) (harg3 : arg3.IsWhole) (arg4 : Memref sig .tc .hbm S2880x1536 .bf16) (harg4 : arg4.IsWhole) (arg5 : Memref sig .tc .hbm S1536x5760 .bf16) (harg5 : arg5.IsWhole) (arg6 : Memref sig .tc .hbm S4x2880x384 .bf16) (harg6 : arg6.IsWhole) (arg7 : Memref sig .tc .vmem S2880x256 .f32) (harg7 : arg7.IsWhole) (arg8 : Memref sig .tc .vmem S2880x256 .fp8e4m3) (harg8 : arg8.IsWhole) (arg9 : Memref sig .tc .vmem S90x256 .i8) (harg9 : arg9.IsWhole) (arg10 : Memref sig .tc .vmem S2880x256 .fp8e4m3) (harg10 : arg10.IsWhole) (arg11 : Memref sig .tc .vmem S8x2880 .i8) (harg11 : arg11.IsWhole) (arg12 : Memref sig .tc .vmem S4x384x256 .fp8e4m3) (harg12 : arg12.IsWhole) (arg13 : Memref sig .tc .vmem S8x4x384 .i8) (harg13 : arg13.IsWhole) (arg14 : Memref sig .tc .vmem S4x384x256 .fp8e4m3) (harg14 : arg14.IsWhole) (arg15 : Memref sig .tc .vmem S12x4x256 .i8) (harg15 : arg15.IsWhole) (arg16 : Memref sig .tc .vmem S1536x2880 .bf16) (harg16 : arg16.IsWhole) (arg17 : Memref sig .tc .vmem S2880x1536 .bf16) (harg17 : arg17.IsWhole) (arg18 : Memref sig .tc .vmem S2880x1536 .f32) (harg18 : arg18.IsWhole) (arg19 : Memref sig .tc .vmem S2x2880x256 .bf16) (harg19 : arg19.IsWhole) (arg20 : Memref sig .tc .vmem S2x1536x256 .bf16) (harg20 : arg20.IsWhole) (arg21 : Memref sig .tc .vmem S2880x256 .bf16) (harg21 : arg21.IsWhole) (arg22 : Memref sig .tc .vmem S2880x256 .bf16) (harg22 : arg22.IsWhole) (arg23 : Memref sig .tc .vmem S1536x256 .bf16) (harg23 : arg23.IsWhole) (arg24 : Memref sig .tc .vmem S1536x256 .bf16) (harg24 : arg24.IsWhole) (arg25 : Memref sig .tc .vmem S1536x256 .bf16) (harg25 : arg25.IsWhole) (arg26 : Memref sig .tc .vmem S90x256 .i32) (harg26 : arg26.IsWhole) (arg27 : Memref sig .tc .vmem S8x2880 .i32) (harg27 : arg27.IsWhole) (arg28 : Memref sig .tc .vmem S8x4x384 .i32) (harg28 : arg28.IsWhole) (arg29 : Memref sig .tc .vmem S12x4x256 .i32) (harg29 : arg29.IsWhole) (arg30 : DmaSems sig S2x2) (arg31 : DmaSems sig S_) (arg32 : DmaSems sig S2) (arg0 : BitVec 32) (v26 : F .bf16) (c0_i32_19 : BitVec 32) (k : Prog (TpuEff nD τ sig (Elt F) Λ₀ .tc) PUnit) :
    Prog (TpuEff nD τ sig (Elt F) Λ₀ .tc) PUnit := do
  let ⟨v34, v36, v52, v53_lo, v53_hi⟩ : Σ' (v34 : FVec F S128x128 .bf16) (v36 : FVec F S128x128 .bf16) (v52 : FVec F S16x128 .bf16) (v53_lo : FVec F S8x128 .bf16), FVec F S8x128 .bf16 ← k0_part67 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 c0_i32_19
  let ⟨v60, v90, v95, v98⟩ : Σ' (v60 : FVec F S16x128 .bf16) (v90 : IVec S16x128 32) (v95 : IVec S16x128 1), FVec F S16x128 .bf16 ← k0_part68 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 v52 v53_lo v53_hi
  let ⟨v134, v139, v142⟩ : Σ' (v134 : IVec S16x128 32) (v139 : IVec S16x128 1), FVec F S16x128 .bf16 ← k0_part69 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 v60 v90 v95 v98
  let ⟨v152, v155, v179, v181, v184, c129_i32_77⟩ : Σ' (v152 : FVec F S16x128 .bf16) (v155 : IVec S1x128 32) (v179 : FVec F S16x128 .bf16) (v181 : IVec S16x128 1) (v184 : FVec F S16x128 .bf16), BitVec 32 ← k0_part70 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 v36 v60 v134 v139 v142
  let ⟨v220, v225, v228⟩ : Σ' (v220 : IVec S16x128 32) (v225 : IVec S16x128 1), FVec F S16x128 .bf16 ← k0_part71 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 v179 v181 v184 c129_i32_77
  let ⟨v264, v269, v271, c127_i32_110⟩ : Σ' (v264 : IVec S16x128 32) (v269 : IVec S16x128 1) (v271 : FVec F S16x128 .bf16), BitVec 32 ← k0_part72 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 v179 v220 v225 v228
  let ⟨v274, v298, v306, v311, v314⟩ : Σ' (v274 : IVec S1x128 32) (v298 : FVec F S16x128 .bf16) (v306 : IVec S16x128 32) (v311 : IVec S16x128 1), FVec F S16x128 .bf16 ← k0_part73 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 v36 v264 v269 c127_i32_110
  let ⟨v350, v355, v358⟩ : Σ' (v350 : IVec S16x128 32) (v355 : IVec S16x128 1), FVec F S16x128 .bf16 ← k0_part74 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 v298 v306 v311 v314
  let ⟨v390, v393, v401, v402_lo⟩ : Σ' (v390 : FVec F S16x128 .bf16) (v393 : IVec S1x128 32) (v401 : FVec F S16x128 .bf16), FVec F S8x128 .bf16 ← k0_part75 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 v36 v298 v350 v355 v358
  let ⟨v417, v436, v441, v444⟩ : Σ' (v417 : FVec F S16x128 .bf16) (v436 : IVec S16x128 32) (v441 : IVec S16x128 1), FVec F S16x128 .bf16 ← k0_part76 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 v401 v402_lo
  let ⟨v480, v485, v488⟩ : Σ' (v480 : IVec S16x128 32) (v485 : IVec S16x128 1), FVec F S16x128 .bf16 ← k0_part77 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 v417 v436 v441 v444
  let ⟨v512, v529⟩ : Σ' (v512 : IVec S1x128 32), FVec F S64x128 .bf16 ← k0_part78 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 v34 v152 v271 v390 v417 v480 v485 v488
  k0_part79 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 v26 v155 v274 v393 v512 v529
  let ⟨v556, v558, v582, v587, v590, v595, v597⟩ : Σ' (v556 : FVec F S128x128 .bf16) (v558 : FVec F S128x128 .bf16) (v582 : FVec F S16x128 .bf16) (v587 : FVec F S16x128 .bf16) (v590 : IVec S16x128 32) (v595 : IVec S16x128 1), FVec F S16x128 .bf16 ← k0_part80 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32
  let ⟨v631, v634, v639, v641⟩ : Σ' (v631 : FVec F S16x128 .bf16) (v634 : IVec S16x128 32) (v639 : IVec S16x128 1), FVec F S16x128 .bf16 ← k0_part81 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 v582 v587 v590 v595 v597
  let ⟨v674, v677, v685⟩ : Σ' (v674 : FVec F S16x128 .bf16) (v677 : IVec S1x128 32), FVec F S16x128 .bf16 ← k0_part82 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 v558 v582 v631 v634 v639 v641
  let ⟨v701, v717, v720, v725, v727⟩ : Σ' (v701 : FVec F S16x128 .bf16) (v717 : FVec F S16x128 .bf16) (v720 : IVec S16x128 32) (v725 : IVec S16x128 1), FVec F S16x128 .bf16 ← k0_part83 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 v685
  let ⟨v761, v764, v769, v771⟩ : Σ' (v761 : FVec F S16x128 .bf16) (v764 : IVec S16x128 32) (v769 : IVec S16x128 1), FVec F S16x128 .bf16 ← k0_part84 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 v701 v717 v720 v725 v727
  let ⟨v793, v796, v812, v813_lo⟩ : Σ' (v793 : FVec F S16x128 .bf16) (v796 : IVec S1x128 32) (v812 : FVec F S16x128 .bf16), FVec F S8x128 .bf16 ← k0_part85 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 v558 v701 v761 v764 v769 v771
  let ⟨v820, v847, v850, v855, v857⟩ : Σ' (v820 : FVec F S16x128 .bf16) (v847 : FVec F S16x128 .bf16) (v850 : IVec S16x128 32) (v855 : IVec S16x128 1), FVec F S16x128 .bf16 ← k0_part86 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 v812 v813_lo
  let ⟨v891, v894, v899, v901⟩ : Σ' (v891 : FVec F S16x128 .bf16) (v894 : IVec S16x128 32) (v899 : IVec S16x128 1), FVec F S16x128 .bf16 ← k0_part87 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 v820 v847 v850 v855 v857
  let ⟨v912, v915, v939, v941, v944⟩ : Σ' (v912 : FVec F S16x128 .bf16) (v915 : IVec S1x128 32) (v939 : FVec F S16x128 .bf16) (v941 : IVec S16x128 1), FVec F S16x128 .bf16 ← k0_part88 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 v558 v820 v891 v894 v899 v901
  let ⟨v977, v980, v985, v987⟩ : Σ' (v977 : FVec F S16x128 .bf16) (v980 : IVec S16x128 32) (v985 : IVec S16x128 1), FVec F S16x128 .bf16 ← k0_part89 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 v939 v941 v944
  let ⟨v1024, v1029, v1031⟩ : Σ' (v1024 : IVec S16x128 32) (v1029 : IVec S16x128 1), FVec F S16x128 .bf16 ← k0_part90 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 v939 v977 v980 v985 v987
  let ⟨v1069, v1070⟩ : Σ' (v1069 : IVec S1x64 32), Vec F S1x64 .i32 ← k0_part91 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 v26 v556 v674 v677 v793 v796 v912 v915 v1024 v1029 v1031
  let ⟨v1092, v1093⟩ : Σ' (v1092 : Vec F S2880x1536 .bf16), Vec F S1536x256 .bf16 ← k0_part92 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 v1069 v1070
  k0_part93 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 v1092 v1093
  k

theorem mm_split (i : grid0.Coords) (arg1 : Memref sig .tc .hbm S2880x5760 .bf16) (harg1 : arg1.IsWhole) (arg2 : Memref sig .tc .hbm S1536x5760 .bf16) (harg2 : arg2.IsWhole) (arg3 : Memref sig .tc .hbm S1536x2880 .bf16) (harg3 : arg3.IsWhole) (arg4 : Memref sig .tc .hbm S2880x1536 .bf16) (harg4 : arg4.IsWhole) (arg5 : Memref sig .tc .hbm S1536x5760 .bf16) (harg5 : arg5.IsWhole) (arg6 : Memref sig .tc .hbm S4x2880x384 .bf16) (harg6 : arg6.IsWhole) (arg7 : Memref sig .tc .vmem S2880x256 .f32) (harg7 : arg7.IsWhole) (arg8 : Memref sig .tc .vmem S2880x256 .fp8e4m3) (harg8 : arg8.IsWhole) (arg9 : Memref sig .tc .vmem S90x256 .i8) (harg9 : arg9.IsWhole) (arg10 : Memref sig .tc .vmem S2880x256 .fp8e4m3) (harg10 : arg10.IsWhole) (arg11 : Memref sig .tc .vmem S8x2880 .i8) (harg11 : arg11.IsWhole) (arg12 : Memref sig .tc .vmem S4x384x256 .fp8e4m3) (harg12 : arg12.IsWhole) (arg13 : Memref sig .tc .vmem S8x4x384 .i8) (harg13 : arg13.IsWhole) (arg14 : Memref sig .tc .vmem S4x384x256 .fp8e4m3) (harg14 : arg14.IsWhole) (arg15 : Memref sig .tc .vmem S12x4x256 .i8) (harg15 : arg15.IsWhole) (arg16 : Memref sig .tc .vmem S1536x2880 .bf16) (harg16 : arg16.IsWhole) (arg17 : Memref sig .tc .vmem S2880x1536 .bf16) (harg17 : arg17.IsWhole) (arg18 : Memref sig .tc .vmem S2880x1536 .f32) (harg18 : arg18.IsWhole) (arg19 : Memref sig .tc .vmem S2x2880x256 .bf16) (harg19 : arg19.IsWhole) (arg20 : Memref sig .tc .vmem S2x1536x256 .bf16) (harg20 : arg20.IsWhole) (arg21 : Memref sig .tc .vmem S2880x256 .bf16) (harg21 : arg21.IsWhole) (arg22 : Memref sig .tc .vmem S2880x256 .bf16) (harg22 : arg22.IsWhole) (arg23 : Memref sig .tc .vmem S1536x256 .bf16) (harg23 : arg23.IsWhole) (arg24 : Memref sig .tc .vmem S1536x256 .bf16) (harg24 : arg24.IsWhole) (arg25 : Memref sig .tc .vmem S1536x256 .bf16) (harg25 : arg25.IsWhole) (arg26 : Memref sig .tc .vmem S90x256 .i32) (harg26 : arg26.IsWhole) (arg27 : Memref sig .tc .vmem S8x2880 .i32) (harg27 : arg27.IsWhole) (arg28 : Memref sig .tc .vmem S8x4x384 .i32) (harg28 : arg28.IsWhole) (arg29 : Memref sig .tc .vmem S12x4x256 .i32) (harg29 : arg29.IsWhole) (arg30 : DmaSems sig S2x2) (arg31 : DmaSems sig S_) (arg32 : DmaSems sig S2) : cc0_mm (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 = (k0_part66 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 >>= fun r => match r with | ⟨arg0, v26, c0⟩ => rest i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 arg0 v26 c0 (fin i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 arg31 arg32 arg0)) := by
  rw [cc0_mm_eq_skeleton]; rfl

end Cert.KernelIdeal.Hand

end
-- ==== Proof.KernelIdeal.Mid.lean ====
/-
The work on one tile: the quantising loops over the slots' contents, the three products, the packing
of the scales. It reads the two slots and the two `x` operands, which come back as they were, and writes
the windows and the other scratch buffers.
-/
module

public import proofs.«01_k».proof.Proof.KernelIdeal.Base
public import proofs.«01_k».proof.Proof.KernelIdeal.Loops
public import proofs.«01_k».proof.Proof.KernelIdeal.DwTile
public import proofs.«01_k».proof.Proof.KernelIdeal.WrTile
public import proofs.«01_k».proof.Proof.KernelIdeal.Split

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option pp.maxSteps 80
set_option maxHeartbeats 4000000 in
theorem mid (c : Dev nD) (t : Fin cfg0.N) (arg7 : Memref sig .tc .vmem S2880x256 .f32) (harg7 : arg7.IsWhole) (arg8 : Memref sig .tc .vmem S2880x256 .fp8e4m3) (harg8 : arg8.IsWhole) (arg9 : Memref sig .tc .vmem S90x256 .i8) (harg9 : arg9.IsWhole) (arg10 : Memref sig .tc .vmem S2880x256 .fp8e4m3) (harg10 : arg10.IsWhole) (arg11 : Memref sig .tc .vmem S8x2880 .i8) (harg11 : arg11.IsWhole) (arg12 : Memref sig .tc .vmem S4x384x256 .fp8e4m3) (harg12 : arg12.IsWhole) (arg13 : Memref sig .tc .vmem S8x4x384 .i8) (harg13 : arg13.IsWhole) (arg14 : Memref sig .tc .vmem S4x384x256 .fp8e4m3) (harg14 : arg14.IsWhole) (arg15 : Memref sig .tc .vmem S12x4x256 .i8) (harg15 : arg15.IsWhole) (arg16 : Memref sig .tc .vmem S1536x2880 .bf16) (harg16 : arg16.IsWhole) (arg17 : Memref sig .tc .vmem S2880x1536 .bf16) (harg17 : arg17.IsWhole) (arg18 : Memref sig .tc .vmem S2880x1536 .f32) (harg18 : arg18.IsWhole) (arg21 : Memref sig .tc .vmem S2880x256 .bf16) (harg21 : arg21.IsWhole) (arg22 : Memref sig .tc .vmem S2880x256 .bf16) (harg22 : arg22.IsWhole) (arg23 : Memref sig .tc .vmem S1536x256 .bf16) (harg23 : arg23.IsWhole) (arg24 : Memref sig .tc .vmem S1536x256 .bf16) (harg24 : arg24.IsWhole) (arg25 : Memref sig .tc .vmem S1536x256 .bf16) (harg25 : arg25.IsWhole) (arg26 : Memref sig .tc .vmem S90x256 .i32) (harg26 : arg26.IsWhole) (arg27 : Memref sig .tc .vmem S8x2880 .i32) (harg27 : arg27.IsWhole) (arg28 : Memref sig .tc .vmem S8x4x384 .i32) (harg28 : arg28.IsWhole) (arg29 : Memref sig .tc .vmem S12x4x256 .i32) (harg29 : arg29.IsWhole)
    (dxr : S1536x2880.Idx → F .bf16) (dxc : S2880x1536.Idx → F .bf16) (f0 : HbBuf0 (F := F) c (rslot0 (Ring.sl 2 t.val))) (f1 : HbBuf0 (F := F) c (rslot1 (Ring.sl 2 t.val))) (arg0 : BitVec 32) (v26 : F .bf16) :
    ∀ (W : Waits sig Unit) (k : Prog (TpuEff nD τ sig (Elt F) Λ₀ .tc) PUnit) (K : _ → sProp 𝕄),
      iprop((∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg18 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ owns (c : Thread nD τ) arg16 fullShare dxr ∗ owns (c : Thread nD τ) arg17 fullShare dxc ∗ slotP0 c (Ring.sl 2 t.val) f0 ∗ slotP1 c (Ring.sl 2 t.val) f1 ∗ owes (c : Thread nD τ) 0 W
        ∗ (iprop(owns (c : Thread nD τ) arg7 fullShare (k0_pay736 dxc (dwD ((rslot1 (Ring.sl 2 t.val)).view.read (Elt F) f1))) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg18 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ owns (c : Thread nD τ) arg25 fullShare (k0_pay735 dxr (wrD ((rslot0 (Ring.sl 2 t.val)).view.read (Elt F) f0))) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ owns (c : Thread nD τ) arg16 fullShare dxr ∗ owns (c : Thread nD τ) arg17 fullShare dxc ∗ slotP0 c (Ring.sl 2 t.val) f0 ∗ slotP1 c (Ring.sl 2 t.val) f1 ∗ (∃ W', owes (c : Thread nD τ) 0 W')) -∗ wp frame (wpE (defs₀ (F := F)) Variants.none c none) Set.univ k K))
      ⊢ wp frame (wpE (defs₀ (F := F)) Variants.none c none) Set.univ (rest (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 arg16 harg16 arg17 harg17 arg18 harg18 scM0_3 (Memref.isWhole_whole _) scM0_4 (Memref.isWhole_whole _) arg21 harg21 arg22 harg22 arg23 harg23 arg24 harg24 arg25 harg25 arg26 harg26 arg27 harg27 arg28 harg28 arg29 harg29 cc0_scratch14 cc0_scratch15 cc0_scratch16 arg0 v26 0#32 k) K := by
  intro W k K
  unfold rest
  simp only [k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton]
  have hca0_30 := ca0_30 t
  have hca0_40 := ca0_40 t
  have hca0_46 := ca0_46 t
  have hca0_51 := ca0_51 t
  have hca0_61 := ca0_61 t
  have hca1_26 := ca1_26 t
  have hca1_33 := ca1_33 t
  have hca1_47 := ca1_47 t
  have hca1_54 := ca1_54 t
  unfold owns
  iintro ⟨⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d18, %f18, -, H18⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%fx16, %hx16, H16⟩, ⟨%fx17, %hx17, H17⟩, HS0, HS1, HW, Hk⟩
  sl_exec
  iapply Hk
  isplitl [H7]
  · iexists _; isplitr; swap; · iexact H7
    ipureintro; exact dw_read c t arg7 arg17 arg24 f1 f24 f7 fx17 dxc hx17
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H18]
  · iexists _, _; isplitr; swap; · iexact H18
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _; isplitr; swap; · iexact H25
    ipureintro; exact y_read c t arg25 arg16 arg21 f0 f21 f25 fx16 dxr hx16
  isplitl [H26]
  · iexists _, _; isplitr; swap; · iexact H26
    ipureintro; rfl
  isplitl [H27]
  · iexists _, _; isplitr; swap; · iexact H27
    ipureintro; rfl
  isplitl [H28]
  · iexists _, _; isplitr; swap; · iexact H28
    ipureintro; rfl
  isplitl [H29]
  · iexists _, _; isplitr; swap; · iexact H29
    ipureintro; rfl
  isplitl [H16]
  · iexists _; isplitr; swap; · iexact H16
    ipureintro; exact hx16
  isplitl [H17]
  · iexists _; isplitr; swap; · iexact H17
    ipureintro; exact hx17
  isplitl [HS0]; · iexact HS0
  isplitl [HS1]; · iexact HS1
  iexists _; iexact HW

end Cert.KernelIdeal.Hand

end
-- ==== Proof.KernelIdeal.FinA.lean ====
/-
The end of a step: the copy of the tile of `y` is started.
-/
module

public import proofs.«01_k».proof.Proof.KernelIdeal.Base
public import proofs.«01_k».proof.Proof.KernelIdeal.Split

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option pp.maxSteps 3000
set_option maxHeartbeats 4000000 in
theorem finA (c : Dev nD) (t : Fin cfg0.N) (ht : t.val < 22) (arg7 : Memref sig .tc .vmem S2880x256 .f32) (harg7 : arg7.IsWhole) (arg8 : Memref sig .tc .vmem S2880x256 .fp8e4m3) (harg8 : arg8.IsWhole) (arg9 : Memref sig .tc .vmem S90x256 .i8) (harg9 : arg9.IsWhole) (arg10 : Memref sig .tc .vmem S2880x256 .fp8e4m3) (harg10 : arg10.IsWhole) (arg11 : Memref sig .tc .vmem S8x2880 .i8) (harg11 : arg11.IsWhole) (arg12 : Memref sig .tc .vmem S4x384x256 .fp8e4m3) (harg12 : arg12.IsWhole) (arg13 : Memref sig .tc .vmem S8x4x384 .i8) (harg13 : arg13.IsWhole) (arg14 : Memref sig .tc .vmem S4x384x256 .fp8e4m3) (harg14 : arg14.IsWhole) (arg15 : Memref sig .tc .vmem S12x4x256 .i8) (harg15 : arg15.IsWhole) (arg16 : Memref sig .tc .vmem S1536x2880 .bf16) (harg16 : arg16.IsWhole) (arg17 : Memref sig .tc .vmem S2880x1536 .bf16) (harg17 : arg17.IsWhole) (arg18 : Memref sig .tc .vmem S2880x1536 .f32) (harg18 : arg18.IsWhole) (arg21 : Memref sig .tc .vmem S2880x256 .bf16) (harg21 : arg21.IsWhole) (arg22 : Memref sig .tc .vmem S2880x256 .bf16) (harg22 : arg22.IsWhole) (arg23 : Memref sig .tc .vmem S1536x256 .bf16) (harg23 : arg23.IsWhole) (arg24 : Memref sig .tc .vmem S1536x256 .bf16) (harg24 : arg24.IsWhole) (arg26 : Memref sig .tc .vmem S90x256 .i32) (harg26 : arg26.IsWhole) (arg27 : Memref sig .tc .vmem S8x2880 .i32) (harg27 : arg27.IsWhole) (arg28 : Memref sig .tc .vmem S8x4x384 .i32) (harg28 : arg28.IsWhole) (arg29 : Memref sig .tc .vmem S12x4x256 .i32) (harg29 : arg29.IsWhole) :
    ∀ (Q : ℕ → (S1536x256.Idx → F .bf16) → Prop) (W : Waits sig Unit) (K : _ → sProp 𝕄),
      iprop((∃ d, owns (c : Thread nD τ) arg18 fullShare d) ∗ (∃ d, owns (c : Thread nD τ) arg22 fullShare d) ∗ (∃ d, owns (c : Thread nD τ) arg23 fullShare d) ∗ yready (F := F) c Q t.val ∗ owes (c : Thread nD τ) 0 W
        ∗ ( iprop((∃ d, owns (c : Thread nD τ) arg18 fullShare d) ∗ (∃ d, owns (c : Thread nD τ) arg22 fullShare d) ∗ (∃ d, owns (c : Thread nD τ) arg23 fullShare d) ∗ yfly (F := F) c Q (Ring.bk 22 t.val) ∗ (∃ W', owes (c : Thread nD τ) 0 W')) -∗ K PUnit.unit))
      ⊢ wp frame (wpE (defs₀ (F := F)) Variants.none c none) Set.univ (fin (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 arg16 harg16 arg17 harg17 arg18 harg18 scM0_3 (Memref.isWhole_whole _) scM0_4 (Memref.isWhole_whole _) arg21 harg21 arg22 harg22 arg23 harg23 arg24 harg24 scM0_9 (Memref.isWhole_whole _) arg26 harg26 arg27 harg27 arg28 harg28 arg29 harg29 cc0_scratch14 cc0_scratch15 cc0_scratch16 (BitVec.ofNat 32 ((grid0.coords t) 0).val)) K := by
  intro Q W K
  have h8 : k0_cond8 (grid0.coords t) = 1#1 := by rw [hc8]; omega
  haveI : Fact (k0_cond8 (grid0.coords t) = 1#1) := ⟨h8⟩
  have h9 : ¬ k0_cond9 (grid0.coords t) = 1#1 := by rw [hc9]; omega
  haveI : Fact (¬ k0_cond9 (grid0.coords t) = 1#1) := ⟨h9⟩
  have hcn0 := ca_67 t h8
  unfold fin
  simp only [k0_part94_eq_skeleton]
  unfold yready owns
  iintro ⟨⟨%d18, %f18, -, H18⟩, ⟨%d22, %f22, -, H22⟩, ⟨%d23, %f23, -, H23⟩, ⟨Hq, ⟨%g, %hg, Hg⟩, ⟨%d25, %hq, %f25, %hf, H25⟩⟩, HW, Hk⟩
  ihave Hx := (y_split c (Ring.bk 22 t.val) g) $$ Hg
  icases Hx with ⟨Hg, Hgr⟩
  sl_exec (disch := first | sl_exact h8 | sl_exact h9)
  sl_step
  iapply Hk
  isplitl [H18]
  · iexists _, _; isplitr; swap; · iexact H18
    ipureintro; rfl
  isplitl [H22]
  · iexists _, _; isplitr; swap; · iexact H22
    ipureintro; rfl
  isplitl [H23]
  · iexists _, _; isplitr; swap; · iexact H23
    ipureintro; rfl
  isplitl [Hq Hgr H25]
  · unfold yfly; iexists f25, g
    isplitr
    · ipureintro; rw [show (Ring.bk 22 t.val).val = t.val from Nat.mod_eq_of_lt ht]; exact ⟨hg, hf ▸ hq⟩
    isplitl [Hq]; · iexact Hq
    isplitl [Hgr]; · iexact Hgr
    iexact H25
  iexists _; iexact HW

end Cert.KernelIdeal.Hand

end
-- ==== Proof.KernelIdeal.FinB.lean ====
/-
The end of the last step: the tail of `y` and the twelve blocks of `dx` are copied out.
-/
module

public import proofs.«01_k».proof.Proof.KernelIdeal.Base
public import proofs.«01_k».proof.Proof.KernelIdeal.Split

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option pp.maxSteps 3000
/-- The half of the scratch the last copy reads. -/
theorem ytail_read (c : Dev nD) (f : HbBuf0 (F := F) c scM0_9) (inb : ∀ a, (![0, 0] : Fin 2 → ℕ) a + S1536x128.size a ≤ S1536x256.size a) (r : Fin 1536) (j : Fin 128) :
    (scM0_9.slice (Rect.unit (s := S1536x256) ![0, 0] S1536x128.size inb) (fun _ => rfl)).view.read (Elt F) f (yix r j) = scM0_9.view.read (Elt F) f (yix r (⟨j.val, by omega⟩ : Fin 256)) := by
  refine congrArg (scM0_9.view.read (Elt F) f) (funext fun a => Fin.ext ?_)
  match a with
  | ⟨0, _⟩ => exact (show 0 + 1 * r.val = r.val by omega)
  | ⟨1, _⟩ => exact (show 0 + 1 * j.val = j.val by omega)

theorem co_68 : ∀ t : Fin grid0.N, t.val = 22 → k0_off68 (grid0.coords t) = ![0, 5632] := by decide +kernel

/-- `ydone_tail` for the last copy as the program names its destination. -/
theorem ytail_write (c : Dev nD) (Q : ℕ → (S1536x256.Idx → F .bf16) → Prop) (off : Fin 2 → ℕ) (inb : ∀ a, off a + S1536x128.size a ≤ S1536x5760.size a) (ho : off = ![0, 5632])
    (f : HbBuf0 (F := F) c scM0_9) (g : HbBuf0 (F := F) c hbM0_4) (x : S1536x128.Idx → F .bf16)
    (hx : ∀ (r : Fin 1536) (j : Fin 128), x (yix r j) = scM0_9.view.read (Elt F) f (yix r (⟨j.val, by omega⟩ : Fin 256)))
    (hg : YDone c Q 22 g) (hf : Q 22 (scM0_9.view.read (Elt F) f)) :
    YDone c Q 23 ((hbM0_4.slice (Rect.unit (s := S1536x5760) off S1536x128.size inb) (fun _ => rfl)).view.write (Elt F) g x Finset.univ) := by
  subst ho
  exact ydone_tail c Q inb f g x hx hg hf

set_option maxHeartbeats 16000000 in
theorem epiB (c : Dev nD) (t : Fin cfg0.N) (ht : t.val = 22) (arg7 : Memref sig .tc .vmem S2880x256 .f32) (harg7 : arg7.IsWhole) (arg8 : Memref sig .tc .vmem S2880x256 .fp8e4m3) (harg8 : arg8.IsWhole) (arg9 : Memref sig .tc .vmem S90x256 .i8) (harg9 : arg9.IsWhole) (arg10 : Memref sig .tc .vmem S2880x256 .fp8e4m3) (harg10 : arg10.IsWhole) (arg11 : Memref sig .tc .vmem S8x2880 .i8) (harg11 : arg11.IsWhole) (arg12 : Memref sig .tc .vmem S4x384x256 .fp8e4m3) (harg12 : arg12.IsWhole) (arg13 : Memref sig .tc .vmem S8x4x384 .i8) (harg13 : arg13.IsWhole) (arg14 : Memref sig .tc .vmem S4x384x256 .fp8e4m3) (harg14 : arg14.IsWhole) (arg15 : Memref sig .tc .vmem S12x4x256 .i8) (harg15 : arg15.IsWhole) (arg16 : Memref sig .tc .vmem S1536x2880 .bf16) (harg16 : arg16.IsWhole) (arg17 : Memref sig .tc .vmem S2880x1536 .bf16) (harg17 : arg17.IsWhole) (arg18 : Memref sig .tc .vmem S2880x1536 .f32) (harg18 : arg18.IsWhole) (arg21 : Memref sig .tc .vmem S2880x256 .bf16) (harg21 : arg21.IsWhole) (arg22 : Memref sig .tc .vmem S2880x256 .bf16) (harg22 : arg22.IsWhole) (arg23 : Memref sig .tc .vmem S1536x256 .bf16) (harg23 : arg23.IsWhole) (arg24 : Memref sig .tc .vmem S1536x256 .bf16) (harg24 : arg24.IsWhole) (arg26 : Memref sig .tc .vmem S90x256 .i32) (harg26 : arg26.IsWhole) (arg27 : Memref sig .tc .vmem S8x2880 .i32) (harg27 : arg27.IsWhole) (arg28 : Memref sig .tc .vmem S8x4x384 .i32) (harg28 : arg28.IsWhole) (arg29 : Memref sig .tc .vmem S12x4x256 .i32) (harg29 : arg29.IsWhole) :
    ∀ (Q : ℕ → (S1536x256.Idx → F .bf16) → Prop) (W : Waits sig Unit) (K : _ → sProp 𝕄),
      iprop((∃ d, owns (c : Thread nD τ) arg18 fullShare d) ∗ (∃ d, owns (c : Thread nD τ) arg21 fullShare d) ∗ (∃ d, owns (c : Thread nD τ) arg22 fullShare d) ∗ (∃ d, owns (c : Thread nD τ) arg23 fullShare d) ∗ yready (F := F) c Q t.val ∗ (∃ f, hbPt0 (F := F) c hbM0_5 f) ∗  owes (c : Thread nD τ) 0 W
        ∗ ( iprop((∃ d, owns (c : Thread nD τ) arg18 fullShare d) ∗ (∃ d, owns (c : Thread nD τ) arg21 fullShare d) ∗ (∃ d, owns (c : Thread nD τ) arg22 fullShare d) ∗ (∃ d, owns (c : Thread nD τ) arg23 fullShare d) ∗ yfree (F := F) c Q 23 ∗ (∃ f, hbPt0 (F := F) c hbM0_5 f) ∗  (∃ W', owes (c : Thread nD τ) 0 W')) -∗ K PUnit.unit))
      ⊢ wp frame (wpE (defs₀ (F := F)) Variants.none c none) Set.univ (fin (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 arg16 harg16 arg17 harg17 arg18 harg18 scM0_3 (Memref.isWhole_whole _) scM0_4 (Memref.isWhole_whole _) arg21 harg21 arg22 harg22 arg23 harg23 arg24 harg24 scM0_9 (Memref.isWhole_whole _) arg26 harg26 arg27 harg27 arg28 harg28 arg29 harg29 cc0_scratch14 cc0_scratch15 cc0_scratch16 (BitVec.ofNat 32 ((grid0.coords t) 0).val)) K := by
  intro Q W K
  have h8 : ¬ k0_cond8 (grid0.coords t) = 1#1 := by rw [hc8]; omega
  haveI : Fact (¬ k0_cond8 (grid0.coords t) = 1#1) := ⟨h8⟩
  have h9 : k0_cond9 (grid0.coords t) = 1#1 := by rw [hc9]; omega
  haveI : Fact (k0_cond9 (grid0.coords t) = 1#1) := ⟨h9⟩
  unfold fin
  simp only [k0_part61_eq_skeleton, k0_part62_eq_skeleton, k0_part63_eq_skeleton, k0_part64_eq_skeleton, k0_part65_eq_skeleton, k0_part94_eq_skeleton]
  unfold k0_part61_skel k0_part62_skel k0_part63_skel k0_part64_skel k0_part65_skel
  unfold yready yfree ydlv owns
  iintro ⟨⟨%d18, %f18, -, H18⟩, ⟨%d21, %f21, -, H21⟩, ⟨%d22, %f22, -, H22⟩, ⟨%d23, %f23, -, H23⟩, ⟨Hq, ⟨%g, %hg, Hg⟩, ⟨%d25, %hq, %f25, %hf, H25⟩⟩, ⟨%x, Hx⟩, HW, Hk⟩
  sl_exec (disch := first | sl_exact h8 | sl_exact h9)
  sl_step
  iapply Hk
  isplitl [H18]
  · iexists _, _; isplitr; swap; · iexact H18
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [Hq Hg H25]
  · isplitl [Hq]; · iexact Hq
    isplitl [Hg]
    · iexists _; isplitr; swap; · iexact Hg
      ipureintro
      rw [ht] at hg hq
      unfold epiB.sl.Hg_w0
      refine ytail_write c Q _ _ (co_68 t ht) f25 g _ ?_ hg (hf ▸ hq)
      unfold epiB.sl.dma15
      exact ytail_read c f25 _
    iexists _, _; isplitr; swap; · iexact H25
    ipureintro; rfl
  isplitl [Hx]; · iexists _; iexact Hx
  iexists _; iexact HW

end Cert.KernelIdeal.Hand

end
-- ==== Proof.KernelIdeal.Step.lean ====
/-
One step of the grid: the head (waits and starts of copies), the work on the tile, the end.
-/
module

public import proofs.«01_k».proof.Proof.KernelIdeal.HeadA
public import proofs.«01_k».proof.Proof.KernelIdeal.HeadB
public import proofs.«01_k».proof.Proof.KernelIdeal.HeadC
public import proofs.«01_k».proof.Proof.KernelIdeal.HeadD
public import proofs.«01_k».proof.Proof.KernelIdeal.Mid
public import proofs.«01_k».proof.Proof.KernelIdeal.FinA
public import proofs.«01_k».proof.Proof.KernelIdeal.FinB

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The two `x` operands: anything before the first step, the HBM arrays' contents after it. -/
def xsAt (c : Dev nD) (W2 : HbBuf0 (F := F) c hbM0_2) (W3 : HbBuf0 (F := F) c hbM0_3) (k : ℕ) : sProp 𝕄 :=
  if k = 0 then iprop((∃ d, owns (c : Thread nD τ) scM0_0 fullShare d) ∗ (∃ d, owns (c : Thread nD τ) scM0_1 fullShare d))
  else iprop(owns (c : Thread nD τ) scM0_0 fullShare (hbM0_2.view.read (Elt F) W2) ∗ owns (c : Thread nD τ) scM0_1 fullShare (hbM0_3.view.read (Elt F) W3))

set_option maxHeartbeats 4000000 in
theorem headAll (c : Dev nD) (t : Fin cfg0.N) (arg7 : Memref sig .tc .vmem S2880x256 .f32) (harg7 : arg7.IsWhole) (arg8 : Memref sig .tc .vmem S2880x256 .fp8e4m3) (harg8 : arg8.IsWhole) (arg9 : Memref sig .tc .vmem S90x256 .i8) (harg9 : arg9.IsWhole) (arg10 : Memref sig .tc .vmem S2880x256 .fp8e4m3) (harg10 : arg10.IsWhole) (arg11 : Memref sig .tc .vmem S8x2880 .i8) (harg11 : arg11.IsWhole) (arg12 : Memref sig .tc .vmem S4x384x256 .fp8e4m3) (harg12 : arg12.IsWhole) (arg13 : Memref sig .tc .vmem S8x4x384 .i8) (harg13 : arg13.IsWhole) (arg14 : Memref sig .tc .vmem S4x384x256 .fp8e4m3) (harg14 : arg14.IsWhole) (arg15 : Memref sig .tc .vmem S12x4x256 .i8) (harg15 : arg15.IsWhole)
    (W0 : HbBuf0 (F := F) c hbM0_0) (W1 : HbBuf0 (F := F) c hbM0_1) (W2 : HbBuf0 (F := F) c hbM0_2) (W3 : HbBuf0 (F := F) c hbM0_3) (W : Waits sig Unit) (K : _ → sProp 𝕄) (QY : ℕ → (S1536x256.Idx → F .bf16) → Prop) (Q : sProp 𝕄) (hK : Q ⊢ K ⟨BitVec.ofNat 32 ((grid0.coords t) 0).val, k0_pay502 (F := F) (grid0.coords t), 0#32⟩) :
    iprop(ringAt0 c W0 t.val ∗ ringAt1 c W1 t.val ∗ yAt (F := F) c QY t.val ∗ xsAt c W2 W3 t.val ∗ (∃ d, owns (c : Thread nD τ) scM0_2 fullShare d) ∗ semVal ((c : Thread nD τ), SemLoc.dma 23) 0 ∗ semVal ((c : Thread nD τ), SemLoc.dma 24) 0 ∗ hbPt0 c hbM0_2 W2 ∗ hbPt0 c hbM0_3 W3 ∗ owes (c : Thread nD τ) 0 W
        ∗ (iprop(have0 c W0 t.val ∗ next0 c W0 (t.val + 1) ∗ have1 c W1 t.val ∗ next1 c W1 (t.val + 1) ∗ yfree (F := F) c QY t.val ∗ xsAt c W2 W3 (t.val + 1) ∗ (∃ d, owns (c : Thread nD τ) scM0_2 fullShare d) ∗ semVal ((c : Thread nD τ), SemLoc.dma 23) 0 ∗ semVal ((c : Thread nD τ), SemLoc.dma 24) 0 ∗ hbPt0 c hbM0_2 W2 ∗ hbPt0 c hbM0_3 W3 ∗ (∃ W', owes (c : Thread nD τ) 0 W')) -∗ Q))
      ⊢ wp frame (wpE (defs₀ (F := F)) Variants.none c none) Set.univ (k0_part66 (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) cc0_scratch14 cc0_scratch15 cc0_scratch16) K := by
  have hN : t.val < 23 := lt_of_lt_of_eq t.isLt (show cfg0.N = 23 from N_0)
  unfold ringAt0 ringAt1
  have hx' : xsAt c W2 W3 (t.val + 1) = _ := if_neg (Nat.succ_ne_zero _)
  rw [hx']
  by_cases hA : t.val = 0
  · rw [show next0 c W0 t.val = free0 c W0 (Ring.sl 2 t.val) from if_pos (Or.inl hA)]
    rw [show next0 c W0 (t.val + 1) = fly0 c W0 (Ring.sl 2 (t.val + 1)) (t.val + 1) from (if_neg (by omega)).trans (if_neg (by omega))]
    rw [show next1 c W1 t.val = free1 c W1 (Ring.sl 2 t.val) from if_pos (Or.inl hA)]
    rw [show next1 c W1 (t.val + 1) = fly1 c W1 (Ring.sl 2 (t.val + 1)) (t.val + 1) from (if_neg (by omega)).trans (if_neg (by omega))]
    rw [show yAt (F := F) c QY t.val = yfree c QY t.val from if_pos (Or.inl hA), show xsAt c W2 W3 t.val = _ from if_pos hA]
    iintro ⟨⟨Hn0, Hf0⟩, ⟨Hn1, Hf1⟩, Hy, ⟨Hx, Hc⟩, HA, H23, H24, Hh2, Hh3, HW, Hk⟩
    iapply (headA c t hA _ _ _ _ _ _ _ _ _ _ _ _ _ _ _ _ _ _ _ _ _ _ _ _ _ _ _ _ _ _ _ _ _ _ _ _ _ _ _ _ W0 W1 W2 W3 W K)
    isplitl [Hn0]; · iexact Hn0
    isplitl [Hf0]; · iexact Hf0
    isplitl [Hn1]; · iexact Hn1
    isplitl [Hf1]; · iexact Hf1
    isplitl [Hx]; · iexact Hx
    isplitl [Hc]; · iexact Hc
    isplitl [HA]; · iexact HA
    isplitl [H23]; · iexact H23
    isplitl [H24]; · iexact H24
    isplitl [Hh2]; · iexact Hh2
    isplitl [Hh3]; · iexact Hh3
    isplitl [HW]; · iexact HW
    iintro ⟨Ha0, Hn0, Ha1, Hn1, Hx, Hc, HA, H23, H24, Hh2, Hh3, HW⟩
    iapply hK
    iapply Hk
    isplitl [Ha0]; · iexact Ha0
    isplitl [Hn0]; · iexact Hn0
    isplitl [Ha1]; · iexact Ha1
    isplitl [Hn1]; · iexact Hn1
    isplitl [Hy]; · iexact Hy
    isplitl [Hx Hc]
    · isplitl [Hx]; · iexact Hx
      iexact Hc
    isplitl [HA]; · iexact HA
    isplitl [H23]; · iexact H23
    isplitl [H24]; · iexact H24
    isplitl [Hh2]; · iexact Hh2
    isplitl [Hh3]; · iexact Hh3
    iexact HW
  by_cases hB : 0 < t.val ∧ t.val < 21
  · rw [show next0 c W0 t.val = fly0 c W0 (Ring.sl 2 t.val) t.val from (if_neg (by omega)).trans (if_neg (by omega))]
    rw [show next0 c W0 (t.val + 1) = fly0 c W0 (Ring.sl 2 (t.val + 1)) (t.val + 1) from (if_neg (by omega)).trans (if_neg (by omega))]
    rw [show next1 c W1 t.val = fly1 c W1 (Ring.sl 2 t.val) t.val from (if_neg (by omega)).trans (if_neg (by omega))]
    rw [show next1 c W1 (t.val + 1) = fly1 c W1 (Ring.sl 2 (t.val + 1)) (t.val + 1) from (if_neg (by omega)).trans (if_neg (by omega))]
    rw [show yAt (F := F) c QY t.val = yfly c QY (Ring.bk 22 (t.val - 1)) from if_neg (by omega), show xsAt c W2 W3 t.val = _ from if_neg (by omega)]
    iintro ⟨⟨Hn0, Hf0⟩, ⟨Hn1, Hf1⟩, Hy, ⟨Hx, Hc⟩, HA, H23, H24, Hh2, Hh3, HW, Hk⟩
    iapply (headB c t hB _ _ _ _ _ _ _ _ _ _ _ _ _ _ _ _ _ _ _ _ _ _ _ _ _ _ _ _ _ _ _ _ _ _ _ _ _ _ _ _ W0 W1 QY W K)
    isplitl [Hn0]; · iexact Hn0
    isplitl [Hf0]; · iexact Hf0
    isplitl [Hn1]; · iexact Hn1
    isplitl [Hf1]; · iexact Hf1
    isplitl [Hy]; · iexact Hy
    isplitl [HW]; · iexact HW
    iintro ⟨Ha0, Hn0, Ha1, Hn1, Hy, HW⟩
    iapply hK
    iapply Hk
    isplitl [Ha0]; · iexact Ha0
    isplitl [Hn0]; · iexact Hn0
    isplitl [Ha1]; · iexact Ha1
    isplitl [Hn1]; · iexact Hn1
    isplitl [Hy]; · iexact Hy
    isplitl [Hx Hc]
    · isplitl [Hx]; · iexact Hx
      iexact Hc
    isplitl [HA]; · iexact HA
    isplitl [H23]; · iexact H23
    isplitl [H24]; · iexact H24
    isplitl [Hh2]; · iexact Hh2
    isplitl [Hh3]; · iexact Hh3
    iexact HW
  by_cases hC : t.val = 21
  · rw [show next0 c W0 t.val = fly0 c W0 (Ring.sl 2 t.val) t.val from (if_neg (by omega)).trans (if_neg (by omega))]
    rw [show next0 c W0 (t.val + 1) = flyT0 c W0 (Ring.sl 2 (t.val + 1)) from (if_neg (by omega)).trans (if_pos (by omega))]
    rw [show next1 c W1 t.val = fly1 c W1 (Ring.sl 2 t.val) t.val from (if_neg (by omega)).trans (if_neg (by omega))]
    rw [show next1 c W1 (t.val + 1) = flyT1 c W1 (Ring.sl 2 (t.val + 1)) from (if_neg (by omega)).trans (if_pos (by omega))]
    rw [show yAt (F := F) c QY t.val = yfly c QY (Ring.bk 22 (t.val - 1)) from if_neg (by omega), show xsAt c W2 W3 t.val = _ from if_neg (by omega)]
    iintro ⟨⟨Hn0, Hf0⟩, ⟨Hn1, Hf1⟩, Hy, ⟨Hx, Hc⟩, HA, H23, H24, Hh2, Hh3, HW, Hk⟩
    iapply (headC c t hC _ _ _ _ _ _ _ _ _ _ _ _ _ _ _ _ _ _ _ _ _ _ _ _ _ _ _ _ _ _ _ _ _ _ _ _ _ _ _ _ W0 W1 QY W K)
    isplitl [Hn0]; · iexact Hn0
    isplitl [Hf0]; · iexact Hf0
    isplitl [Hn1]; · iexact Hn1
    isplitl [Hf1]; · iexact Hf1
    isplitl [Hy]; · iexact Hy
    isplitl [HW]; · iexact HW
    iintro ⟨Ha0, Hn0, Ha1, Hn1, Hy, HW⟩
    iapply hK
    iapply Hk
    isplitl [Ha0]; · iexact Ha0
    isplitl [Hn0]; · iexact Hn0
    isplitl [Ha1]; · iexact Ha1
    isplitl [Hn1]; · iexact Hn1
    isplitl [Hy]; · iexact Hy
    isplitl [Hx Hc]
    · isplitl [Hx]; · iexact Hx
      iexact Hc
    isplitl [HA]; · iexact HA
    isplitl [H23]; · iexact H23
    isplitl [H24]; · iexact H24
    isplitl [Hh2]; · iexact Hh2
    isplitl [Hh3]; · iexact Hh3
    iexact HW
  have hD : t.val = 22 := by omega
  rw [show next0 c W0 t.val = flyT0 c W0 (Ring.sl 2 t.val) from (if_neg (by omega)).trans (if_pos (by omega))]
  rw [show next0 c W0 (t.val + 1) = free0 c W0 (Ring.sl 2 (t.val + 1)) from if_pos (by omega)]
  rw [show next1 c W1 t.val = flyT1 c W1 (Ring.sl 2 t.val) from (if_neg (by omega)).trans (if_pos (by omega))]
  rw [show next1 c W1 (t.val + 1) = free1 c W1 (Ring.sl 2 (t.val + 1)) from if_pos (by omega)]
  rw [show yAt (F := F) c QY t.val = yfly c QY (Ring.bk 22 (t.val - 1)) from if_neg (by omega), show xsAt c W2 W3 t.val = _ from if_neg (by omega)]
  iintro ⟨⟨Hn0, Hf0⟩, ⟨Hn1, Hf1⟩, Hy, ⟨Hx, Hc⟩, HA, H23, H24, Hh2, Hh3, HW, Hk⟩
  iapply (headD c t hD _ _ _ _ _ _ _ _ _ _ _ _ _ _ _ _ _ _ _ _ _ _ _ _ _ _ _ _ _ _ _ _ _ _ _ _ _ _ _ _ W0 W1 QY W K)
  isplitl [Hn0]; · iexact Hn0
  isplitl [Hn1]; · iexact Hn1
  isplitl [Hy]; · iexact Hy
  isplitl [HW]; · iexact HW
  iintro ⟨Ha0, Ha1, Hy, HW⟩
  iapply hK
  iapply Hk
  isplitl [Ha0]; · iexact Ha0
  isplitl [Hf0]; · iexact Hf0
  isplitl [Ha1]; · iexact Ha1
  isplitl [Hf1]; · iexact Hf1
  isplitl [Hy]; · iexact Hy
  isplitl [Hx Hc]
  · isplitl [Hx]; · iexact Hx
    iexact Hc
  isplitl [HA]; · iexact HA
  isplitl [H23]; · iexact H23
  isplitl [H24]; · iexact H24
  isplitl [Hh2]; · iexact Hh2
  isplitl [Hh3]; · iexact Hh3
  iexact HW

/-- What follows the head. -/
def contR (t : Fin cfg0.N) (arg7 : Memref sig .tc .vmem S2880x256 .f32) (harg7 : arg7.IsWhole) (arg8 : Memref sig .tc .vmem S2880x256 .fp8e4m3) (harg8 : arg8.IsWhole) (arg9 : Memref sig .tc .vmem S90x256 .i8) (harg9 : arg9.IsWhole) (arg10 : Memref sig .tc .vmem S2880x256 .fp8e4m3) (harg10 : arg10.IsWhole) (arg11 : Memref sig .tc .vmem S8x2880 .i8) (harg11 : arg11.IsWhole) (arg12 : Memref sig .tc .vmem S4x384x256 .fp8e4m3) (harg12 : arg12.IsWhole) (arg13 : Memref sig .tc .vmem S8x4x384 .i8) (harg13 : arg13.IsWhole) (arg14 : Memref sig .tc .vmem S4x384x256 .fp8e4m3) (harg14 : arg14.IsWhole) (arg15 : Memref sig .tc .vmem S12x4x256 .i8) (harg15 : arg15.IsWhole) : (Σ' (arg0 : BitVec 32) (v26 : F .bf16), BitVec 32) → Prog (TpuEff nD τ sig (Elt F) Λ₀ .tc) PUnit := fun r => match r with
  | ⟨arg0, v26, c0_i32_19⟩ => rest (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) cc0_scratch14 cc0_scratch15 cc0_scratch16 arg0 v26 c0_i32_19 (fin (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) cc0_scratch14 cc0_scratch15 cc0_scratch16 arg0)
theorem mm_cont (t : Fin cfg0.N) (arg7 : Memref sig .tc .vmem S2880x256 .f32) (harg7 : arg7.IsWhole) (arg8 : Memref sig .tc .vmem S2880x256 .fp8e4m3) (harg8 : arg8.IsWhole) (arg9 : Memref sig .tc .vmem S90x256 .i8) (harg9 : arg9.IsWhole) (arg10 : Memref sig .tc .vmem S2880x256 .fp8e4m3) (harg10 : arg10.IsWhole) (arg11 : Memref sig .tc .vmem S8x2880 .i8) (harg11 : arg11.IsWhole) (arg12 : Memref sig .tc .vmem S4x384x256 .fp8e4m3) (harg12 : arg12.IsWhole) (arg13 : Memref sig .tc .vmem S8x4x384 .i8) (harg13 : arg13.IsWhole) (arg14 : Memref sig .tc .vmem S4x384x256 .fp8e4m3) (harg14 : arg14.IsWhole) (arg15 : Memref sig .tc .vmem S12x4x256 .i8) (harg15 : arg15.IsWhole) : cc0_mm (F := F) (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) cc0_scratch14 cc0_scratch15 cc0_scratch16 = k0_part66 (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) cc0_scratch14 cc0_scratch15 cc0_scratch16 >>= contR t arg7 harg7 arg8 harg8 arg9 harg9 arg10 harg10 arg11 harg11 arg12 harg12 arg13 harg13 arg14 harg14 arg15 harg15 := mm_split (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) cc0_scratch14 cc0_scratch15 cc0_scratch16

set_option maxHeartbeats 4000000 in
theorem finAll (c : Dev nD) (t : Fin cfg0.N) (arg7 : Memref sig .tc .vmem S2880x256 .f32) (harg7 : arg7.IsWhole) (arg8 : Memref sig .tc .vmem S2880x256 .fp8e4m3) (harg8 : arg8.IsWhole) (arg9 : Memref sig .tc .vmem S90x256 .i8) (harg9 : arg9.IsWhole) (arg10 : Memref sig .tc .vmem S2880x256 .fp8e4m3) (harg10 : arg10.IsWhole) (arg11 : Memref sig .tc .vmem S8x2880 .i8) (harg11 : arg11.IsWhole) (arg12 : Memref sig .tc .vmem S4x384x256 .fp8e4m3) (harg12 : arg12.IsWhole) (arg13 : Memref sig .tc .vmem S8x4x384 .i8) (harg13 : arg13.IsWhole) (arg14 : Memref sig .tc .vmem S4x384x256 .fp8e4m3) (harg14 : arg14.IsWhole) (arg15 : Memref sig .tc .vmem S12x4x256 .i8) (harg15 : arg15.IsWhole) (W : Waits sig Unit) (K : PUnit → sProp 𝕄) (QY : ℕ → (S1536x256.Idx → F .bf16) → Prop) :
    iprop((∃ d, owns (c : Thread nD τ) scM0_2 fullShare d) ∗ (∃ d, owns (c : Thread nD τ) scM0_5 fullShare d) ∗ (∃ d, owns (c : Thread nD τ) scM0_6 fullShare d) ∗ (∃ d, owns (c : Thread nD τ) scM0_7 fullShare d) ∗ yready (F := F) c QY t.val ∗ (∃ f, hbPt0 (F := F) c hbM0_5 f) ∗ owes (c : Thread nD τ) 0 W
      ∗ (iprop((∃ d, owns (c : Thread nD τ) scM0_2 fullShare d) ∗ (∃ d, owns (c : Thread nD τ) scM0_5 fullShare d) ∗ (∃ d, owns (c : Thread nD τ) scM0_6 fullShare d) ∗ (∃ d, owns (c : Thread nD τ) scM0_7 fullShare d) ∗ yAt (F := F) c QY (t.val + 1) ∗ (∃ f, hbPt0 (F := F) c hbM0_5 f) ∗ (∃ W', owes (c : Thread nD τ) 0 W')) -∗ K PUnit.unit))
    ⊢ wp frame (wpE (defs₀ (F := F)) Variants.none c none) Set.univ (fin (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) cc0_scratch14 cc0_scratch15 cc0_scratch16 (BitVec.ofNat 32 ((grid0.coords t) 0).val)) K := by
  have hN : t.val < 23 := lt_of_lt_of_eq t.isLt (show cfg0.N = 23 from N_0)
  by_cases h : t.val < 22
  · rw [show yAt (F := F) c QY (t.val + 1) = yfly c QY (Ring.bk 22 t.val) from if_neg (by omega)]
    iintro ⟨HA, H21, H22, H23, Hy, Hd, HW, Hk⟩
    iapply (finA c t h _ _ _ _ _ _ _ _ _ _ _ _ _ _ _ _ _ _ _ _ _ _ _ _ _ _ _ _ _ _ _ _ _ _ _ _ _ _ _ _ QY W K)
    isplitl [HA]; · iexact HA
    isplitl [H22]; · iexact H22
    isplitl [H23]; · iexact H23
    isplitl [Hy]; · iexact Hy
    isplitl [HW]; · iexact HW
    iintro ⟨HA, H22, H23, Hy, HW⟩
    iapply Hk
    isplitl [HA]; · iexact HA
    isplitl [H21]; · iexact H21
    isplitl [H22]; · iexact H22
    isplitl [H23]; · iexact H23
    isplitl [Hy]; · iexact Hy
    isplitl [Hd]; · iexact Hd
    iexact HW
  have h22 : t.val = 22 := by omega
  rw [show yAt (F := F) c QY (t.val + 1) = yfree c QY 23 from (if_pos (by omega)).trans (by rw [h22])]
  iintro ⟨HA, H21, H22, H23, Hy, Hd, HW, Hk⟩
  iapply (epiB c t h22 _ _ _ _ _ _ _ _ _ _ _ _ _ _ _ _ _ _ _ _ _ _ _ _ _ _ _ _ _ _ _ _ _ _ _ _ _ _ _ _ QY W K)
  isplitl [HA]; · iexact HA
  isplitl [H21]; · iexact H21
  isplitl [H22]; · iexact H22
  isplitl [H23]; · iexact H23
  isplitl [Hy]; · iexact Hy
  isplitl [Hd]; · iexact Hd
  isplitl [HW]; · iexact HW
  iintro ⟨HA, H21, H22, H23, Hy, Hd, HW⟩
  iapply Hk
  isplitl [HA]; · iexact HA
  isplitl [H21]; · iexact H21
  isplitl [H22]; · iexact H22
  isplitl [H23]; · iexact H23
  isplitl [Hy]; · iexact Hy
  isplitl [Hd]; · iexact Hd
  iexact HW

variable (m : (ℓ : Loc nD τ sig) → Buf (Elt F) ℓ)
/-- What step `t` leaves in the scratch `y` is copied from: the product of the row codes of `x` with the widened tile of
the `w` columns the step works on. -/
def YOk (c : Dev nD) (t : ℕ) (d : S1536x256.Idx → F .bf16) : Prop :=
  ∃ f0 : HbBuf0 (F := F) c (rslot0 (Ring.sl 2 t)), Ok0 c (V m c main_arg0) (Ring.sl 2 t) t f0
    ∧ d = k0_pay735 (hbM0_2.view.read (Elt F) (V m c main_arg2)) (wrD ((rslot0 (Ring.sl 2 t)).view.read (Elt F) f0))
/-- What holds before step `k`. -/
def PhiR (c : Dev nD) (k : ℕ) : sProp 𝕄 :=
  iprop((∃ d, owns (c : Thread nD τ) scM0_2 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_10 fullShare d) ∗ (∃ d, owns (c : Thread nD τ) scM0_11 fullShare d) ∗ (∃ d, owns (c : Thread nD τ) scM0_12 fullShare d) ∗ (∃ d, owns (c : Thread nD τ) scM0_13 fullShare d) ∗ (∃ r, prngReg c r) ∗ (semVal ((c : Thread nD τ), SemLoc.dma 23) 0 ∗ semVal ((c : Thread nD τ), SemLoc.dma 24) 0 ∗ hbPt0 c hbM0_2 (V m c main_arg2) ∗ hbPt0 c hbM0_3 (V m c main_arg3))
    ∗ xsAt c (V m c main_arg2) (V m c main_arg3) k ∗ ringAt0 c (V m c main_arg0) k ∗ ringAt1 c (V m c main_arg1) k ∗ yAt (F := F) c (YOk m c) k ∗ (∃ f, hbPt0 (F := F) c hbM0_5 f))

/-- What step `t` leaves in the `dw` window: the product of the column codes of `x` with the widened tile of the `dy`
columns the step works on. -/
def DwOk (c : Dev nD) (t : Fin cfg0.N) (d : S2880x256.Idx → F .f32) : Prop :=
  ∃ f1 : HbBuf0 (F := F) c (rslot1 (Ring.sl 2 t.val)), Ok1 c (V m c main_arg1) (Ring.sl 2 t.val) t.val f1
    ∧ d = k0_pay736 (hbM0_3.view.read (Elt F) (V m c main_arg3)) (dwD ((rslot1 (Ring.sl 2 t.val)).view.read (Elt F) f1))

set_option pp.maxSteps 150 in
set_option maxHeartbeats 8000000 in
theorem step (c : Dev nD) (t : Fin cfg0.N) (arg7 : Memref sig .tc .vmem S2880x256 .f32) (harg7 : arg7.IsWhole) (arg8 : Memref sig .tc .vmem S2880x256 .fp8e4m3) (harg8 : arg8.IsWhole) (arg9 : Memref sig .tc .vmem S90x256 .i8) (harg9 : arg9.IsWhole) (arg10 : Memref sig .tc .vmem S2880x256 .fp8e4m3) (harg10 : arg10.IsWhole) (arg11 : Memref sig .tc .vmem S8x2880 .i8) (harg11 : arg11.IsWhole) (arg12 : Memref sig .tc .vmem S4x384x256 .fp8e4m3) (harg12 : arg12.IsWhole) (arg13 : Memref sig .tc .vmem S8x4x384 .i8) (harg13 : arg13.IsWhole) (arg14 : Memref sig .tc .vmem S4x384x256 .fp8e4m3) (harg14 : arg14.IsWhole) (arg15 : Memref sig .tc .vmem S12x4x256 .i8) (harg15 : arg15.IsWhole) (W : Waits sig Unit) (K : PUnit → sProp 𝕄) :
    iprop(PhiR m c t.val ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owes (c : Thread nD τ) 0 W
      ∗ (iprop(PhiR m c (t.val + 1) ∗ (∃ d, ⌜DwOk m c t d⌝ ∗ owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ W', owes (c : Thread nD τ) 0 W')) -∗ K PUnit.unit))
    ⊢ wp frame (wpE (defs₀ (F := F)) Variants.none c none) Set.univ (cc0_mm (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) cc0_scratch14 cc0_scratch15 cc0_scratch16) K := by
  have hN : t.val < 23 := lt_of_lt_of_eq t.isLt (show cfg0.N = 23 from N_0)
  have hx1 : xsAt c (V m c main_arg2) (V m c main_arg3) (t.val + 1) ⊢ iprop(owns (c : Thread nD τ) scM0_0 fullShare (hbM0_2.view.read (Elt F) (V m c main_arg2)) ∗ owns (c : Thread nD τ) scM0_1 fullShare (hbM0_3.view.read (Elt F) (V m c main_arg3))) := BIBase.Entails.of_eq (if_neg (Nat.succ_ne_zero _))
  have hx2 : iprop(owns (c : Thread nD τ) scM0_0 fullShare (hbM0_2.view.read (Elt F) (V m c main_arg2)) ∗ owns (c : Thread nD τ) scM0_1 fullShare (hbM0_3.view.read (Elt F) (V m c main_arg3))) ⊢ xsAt c (V m c main_arg2) (V m c main_arg3) (t.val + 1) := BIBase.Entails.of_eq (if_neg (Nat.succ_ne_zero _)).symm
  have hsl : Ring.sl 2 (t.val + 1 + 1) = Ring.sl 2 t.val := Fin.ext (by simp only [Ring.sl, Fin.ofNat]; omega)
  have hfr0 : free0 c (V m c main_arg0) (Ring.sl 2 t.val) ⊢ free0 c (V m c main_arg0) (Ring.sl 2 (t.val + 1 + 1)) := by rw [hsl]
  have hfr1 : free1 c (V m c main_arg1) (Ring.sl 2 t.val) ⊢ free1 c (V m c main_arg1) (Ring.sl 2 (t.val + 1 + 1)) := by rw [hsl]
  rw [mm_cont, wp_bind]
  have hK : (wp frame (wpE (defs₀ (F := F)) Variants.none c none) Set.univ (rest (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) cc0_scratch14 cc0_scratch15 cc0_scratch16 (BitVec.ofNat 32 ((grid0.coords t) 0).val) (k0_pay502 (F := F) (grid0.coords t)) 0#32 (fin (F := F) (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) cc0_scratch14 cc0_scratch15 cc0_scratch16 (BitVec.ofNat 32 ((grid0.coords t) 0).val))) K) ⊢ (fun r => wp frame (wpE (defs₀ (F := F)) Variants.none c none) Set.univ (contR t arg7 harg7 arg8 harg8 arg9 harg9 arg10 harg10 arg11 harg11 arg12 harg12 arg13 harg13 arg14 harg14 arg15 harg15 r) K) ⟨BitVec.ofNat 32 ((grid0.coords t) 0).val, k0_pay502 (F := F) (grid0.coords t), 0#32⟩ := BIBase.Entails.rfl
  have hfin := fun W' => finAll (F := F) c t arg7 harg7 arg8 harg8 arg9 harg9 arg10 harg10 arg11 harg11 arg12 harg12 arg13 harg13 arg14 harg14 arg15 harg15 W' K
  generalize (fun r => wp frame (wpE (defs₀ (F := F)) Variants.none c none) Set.univ (contR t arg7 harg7 arg8 harg8 arg9 harg9 arg10 harg10 arg11 harg11 arg12 harg12 arg13 harg13 arg14 harg14 arg15 harg15 r) K) = K2 at hK ⊢
  generalize (fin (F := F) (grid0.coords t) hbM0_0 (Memref.isWhole_whole _) hbM0_1 (Memref.isWhole_whole _) hbM0_2 (Memref.isWhole_whole _) hbM0_3 (Memref.isWhole_whole _) hbM0_4 (Memref.isWhole_whole _) hbM0_5 (Memref.isWhole_whole _) arg7 harg7 arg8 harg8 arg9 harg9 arg10 harg10 arg11 harg11 arg12 harg12 arg13 harg13 arg14 harg14 arg15 harg15 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) cc0_scratch14 cc0_scratch15 cc0_scratch16 (BitVec.ofNat 32 ((grid0.coords t) 0).val)) = pf at hK hfin ⊢
  unfold PhiR
  iintro ⟨⟨HA, H21, H22, H23, H24, H26, H27, H28, H29, Hg, ⟨Hs23, Hs24, Hh2, Hh3⟩, Hx, Hr0, Hr1, Hy, Hd⟩, Hw0, Hw1, Hw2, Hw3, Hw4, Hw5, Hw6, Hw7, Hw8, HW, Hk⟩
  iapply (headAll c t arg7 harg7 arg8 harg8 arg9 harg9 arg10 harg10 arg11 harg11 arg12 harg12 arg13 harg13 arg14 harg14 arg15 harg15 (V m c main_arg0) (V m c main_arg1) (V m c main_arg2) (V m c main_arg3) W K2 (YOk m c) _ hK)
  isplitl [Hr0]; · iexact Hr0
  isplitl [Hr1]; · iexact Hr1
  isplitl [Hy]; · iexact Hy
  isplitl [Hx]; · iexact Hx
  isplitl [HA]; · iexact HA
  isplitl [Hs23]; · iexact Hs23
  isplitl [Hs24]; · iexact Hs24
  isplitl [Hh2]; · iexact Hh2
  isplitl [Hh3]; · iexact Hh3
  isplitl [HW]; · iexact HW
  iintro ⟨Ha0, Hn0, Ha1, Hn1, Hy, Hx, HA, Hs23, Hs24, Hh2, Hh3, ⟨%W1, HW⟩⟩
  unfold have0 have1 yfree ydlv
  icases Ha0 with ⟨Hc0, ⟨%f0, %hf0, HS0⟩, Hv0⟩
  icases Ha1 with ⟨Hc1, ⟨%f1, %hf1, HS1⟩, Hv1⟩
  icases Hy with ⟨Hq, Hgy, H25⟩
  ihave Hx := hx1 $$ Hx
  icases Hx with ⟨Hx, Hxc⟩
  iapply (mid c t _ _ _ _ _ _ _ _ _ _ _ _ _ _ _ _ _ _ _ _ _ _ _ _ _ _ _ _ _ _ _ _ _ _ _ _ _ _ _ _ _ _ _ _ f0 f1 (BitVec.ofNat 32 ((grid0.coords t) 0).val) _ W1 pf K)
  isplitl [Hw0]; · iexact Hw0
  isplitl [Hw1]; · iexact Hw1
  isplitl [Hw2]; · iexact Hw2
  isplitl [Hw3]; · iexact Hw3
  isplitl [Hw4]; · iexact Hw4
  isplitl [Hw5]; · iexact Hw5
  isplitl [Hw6]; · iexact Hw6
  isplitl [Hw7]; · iexact Hw7
  isplitl [Hw8]; · iexact Hw8
  isplitl [HA]; · iexact HA
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [Hx]; · iexact Hx
  isplitl [Hxc]; · iexact Hxc
  isplitl [HS0]; · iexact HS0
  isplitl [HS1]; · iexact HS1
  isplitl [HW]; · iexact HW
  iintro ⟨Hw0, Hw1, Hw2, Hw3, Hw4, Hw5, Hw6, Hw7, Hw8, HA, H21, H22, H23, H24, H25, H26, H27, H28, H29, Hx, Hxc, HS0, HS1, ⟨%W2, HW⟩⟩
  iapply (hfin W2)
  isplitl [HA]; · iexact HA
  isplitl [H21]; · iexact H21
  isplitl [H22]; · iexact H22
  isplitl [H23]; · iexact H23
  isplitl [Hq Hgy H25]
  · unfold yready
    isplitl [Hq]; · iexact Hq
    isplitl [Hgy]; · iexact Hgy
    iexists _; isplitr; swap; · iexact H25
    ipureintro; exact ⟨f0, hf0, rfl⟩
  isplitl [Hd]; · iexact Hd
  isplitl [HW]; · iexact HW
  iintro ⟨HA, H21, H22, H23, Hy, Hd, HW⟩
  iapply Hk
  isplitl [HA H21 H22 H23 H24 H26 H27 H28 H29 Hg Hs23 Hs24 Hh2 Hh3 Hx Hxc Hc0 HS0 Hv0 Hc1 HS1 Hv1 Hn0 Hn1 Hy Hd]
  · isplitl [HA]; · iexact HA
    isplitl [H21]; · iexact H21
    isplitl [H22]; · iexact H22
    isplitl [H23]; · iexact H23
    isplitl [H24]; · iexact H24
    isplitl [H26]; · iexact H26
    isplitl [H27]; · iexact H27
    isplitl [H28]; · iexact H28
    isplitl [H29]; · iexact H29
    isplitl [Hg]; · iexact Hg
    isplitl [Hs23 Hs24 Hh2 Hh3]
    · isplitl [Hs23]; · iexact Hs23
      isplitl [Hs24]; · iexact Hs24
      isplitl [Hh2]; · iexact Hh2
      iexact Hh3
    isplitl [Hx Hxc]
    · iapply hx2
      isplitl [Hx]; · iexact Hx
      iexact Hxc
    isplitl [Hc0 HS0 Hv0 Hn0]
    · unfold ringAt0
      isplitl [Hn0]; · iexact Hn0
      iapply hfr0
      unfold free0
      isplitl [Hc0]; · iexact Hc0
      isplitl [HS0]; · iexists f0; iexact HS0
      iexact Hv0
    isplitl [Hc1 HS1 Hv1 Hn1]
    · unfold ringAt1
      isplitl [Hn1]; · iexact Hn1
      iapply hfr1
      unfold free1
      isplitl [Hc1]; · iexact Hc1
      isplitl [HS1]; · iexists f1; iexact HS1
      iexact Hv1
    isplitl [Hy]; · iexact Hy
    iexact Hd
  isplitl [Hw0]
  · iexists _; isplitr; swap; · iexact Hw0
    ipureintro; exact ⟨f1, hf1, rfl⟩
  isplitl [Hw1]; · iexact Hw1
  isplitl [Hw2]; · iexact Hw2
  isplitl [Hw3]; · iexact Hw3
  isplitl [Hw4]; · iexact Hw4
  isplitl [Hw5]; · iexact Hw5
  isplitl [Hw6]; · iexact Hw6
  isplitl [Hw7]; · iexact Hw7
  isplitl [Hw8]; · iexact Hw8
  iexact HW

end Cert.KernelIdeal.Hand

end
-- ==== Proof.KernelIdeal.Frame.lean ====
/-
The frame of the call: the invariant between grid points, the body obligation, the run.
Of the windows only the first, `dw`, has its contents stated, and of the results outside the windows only `y` (`YAll`).
-/
module

public import proofs.«01_k».proof.Proof.KernelIdeal.Step
public import Idealize.ShloMosaic.Lib.Pipeline.FrameValue
public import Idealize.ShloMosaic.Lib.Claim
public import Idealize.ShloMosaic.Lib.Pipeline.DatRel
public import Idealize.ShloMosaic.Lib.Pipeline.ArrRel

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The nine windows are outputs whose contents are not named by the exact data. -/
def forgets0 : Fin 9 → Bool := fun w => w.val == 0 || w.val == 1 || w.val == 2 || w.val == 3 || w.val == 4 || w.val == 5 || w.val == 6 || w.val == 7 || w.val == 8
/-- The proof data of the pipeline on core `c`. -/
def dats (_ : Fin 1) (c : Dev nD) : Dat τ (Elt F) Unit ℕ (Pipeline.UD sig nD τ) ℕ cfg0 c where
  A w := V m c (Pipeline.arrRef spec0 w)
  after w t := match w with
    | ⟨0, h⟩ => Pipeline.Dat.unnamed (cfg := cfg0) ⟨0, h⟩ t
    | ⟨1, h⟩ => Pipeline.Dat.unnamed (cfg := cfg0) ⟨1, h⟩ t
    | ⟨2, h⟩ => Pipeline.Dat.unnamed (cfg := cfg0) ⟨2, h⟩ t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ t := PhiR m c t.val
  q _ := fullShare
  owed _ := 0
theorem A_eq (c : Dev nD) (w : Fin cfg0.W) : (dats m 0 c).A w = V m c (Pipeline.arrRef spec0 w) := by
  dsimp only [dats]
theorem PhiR_castSucc (c : Dev nD) (t : Fin cfg0.N) : (dats m 0 c).Φ t.castSucc = PhiR m c t.val := by
  dsimp only [dats]; simp only [Fin.val_castSucc]
theorem PhiR_succ (c : Dev nD) (t : Fin cfg0.N) : (dats m 0 c).Φ t.succ = PhiR m c (t.val + 1) := by
  dsimp only [dats]; simp only [Fin.val_succ]

/-- What a body may leave in each window: the first one, `dw`, is held to `DwOk`. -/
def Rl0 (c : Dev nD) : (w : Fin cfg0.W) → Fin cfg0.N → ((cfg0.win w).block.Idx → Elt F (cfg0.win w).elt) → Prop
  | ⟨0, _⟩, t, X => DwOk m c t X
  | ⟨_ + 1, _⟩, _, _ => True

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare d)
    ∗ (∃ d, owns (c : Thread nD τ) (ms0_1 t) fullShare d)
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d))
/-- and what it returns. -/
def bodyPost (c : Dev nD) (t : Fin cfg0.N) : sProp 𝕄 :=
  iprop((dats m 0 c).Φ t.succ ∗ (dats m 0 c).owesAt () t.succ
    ∗ (∃ d, ⌜DwOk m c t d⌝ ∗ owns (c : Thread nD τ) (ms0_0 t) fullShare d)
    ∗ (∃ d, owns (c : Thread nD τ) (ms0_1 t) fullShare d)
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [PhiR_castSucc m c t, PhiR_succ m c t]
  unfold Dat.owesAt Pipeline.owesWithin
  rw [show (dats m 0 c).owed t.castSucc = 0 from rfl, show (dats m 0 c).owed t.succ = 0 from rfl]
  iintro ⟨HP, ⟨%W, -, HW⟩, H0, H1, H2, H3, H4, H5, H6, H7, H8⟩
  iapply (step m c t _ _ _ _ _ _ _ _ _ _ _ _ _ _ _ _ _ _ W _)
  isplitl [HP]; · iexact HP
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HW]; · iexact HW
  iintro ⟨HP, H0, H1, H2, H3, H4, H5, H6, H7, H8, ⟨%W', HW'⟩⟩
  isplitl [HP]; · iexact HP
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

/-- The same two with what the windows' relations say, -/
def bodyPreR (c : Dev nD) (t : Fin cfg0.N) : sProp 𝕄 :=
  iprop((dats m 0 c).Φ t.castSucc ∗ (dats m 0 c).owesAt () t.castSucc
    ∗ (∃ Y, ⌜((dats m 0 c).toRRel forgets0 (Rl0 m c)).Finds 0 t Y⌝ ∗ owns (c : Thread nD τ) (ms0_0 t) fullShare Y)
    ∗ (∃ Y, ⌜((dats m 0 c).toRRel forgets0 (Rl0 m c)).Finds 1 t Y⌝ ∗ owns (c : Thread nD τ) (ms0_1 t) fullShare Y)
    ∗ (∃ Y, ⌜((dats m 0 c).toRRel forgets0 (Rl0 m c)).Finds 2 t Y⌝ ∗ owns (c : Thread nD τ) (ms0_2 t) fullShare Y)
    ∗ (∃ Y, ⌜((dats m 0 c).toRRel forgets0 (Rl0 m c)).Finds 3 t Y⌝ ∗ owns (c : Thread nD τ) (ms0_3 t) fullShare Y)
    ∗ (∃ Y, ⌜((dats m 0 c).toRRel forgets0 (Rl0 m c)).Finds 4 t Y⌝ ∗ owns (c : Thread nD τ) (ms0_4 t) fullShare Y)
    ∗ (∃ Y, ⌜((dats m 0 c).toRRel forgets0 (Rl0 m c)).Finds 5 t Y⌝ ∗ owns (c : Thread nD τ) (ms0_5 t) fullShare Y)
    ∗ (∃ Y, ⌜((dats m 0 c).toRRel forgets0 (Rl0 m c)).Finds 6 t Y⌝ ∗ owns (c : Thread nD τ) (ms0_6 t) fullShare Y)
    ∗ (∃ Y, ⌜((dats m 0 c).toRRel forgets0 (Rl0 m c)).Finds 7 t Y⌝ ∗ owns (c : Thread nD τ) (ms0_7 t) fullShare Y)
    ∗ (∃ Y, ⌜((dats m 0 c).toRRel forgets0 (Rl0 m c)).Finds 8 t Y⌝ ∗ owns (c : Thread nD τ) (ms0_8 t) fullShare Y))
/-- before and after. -/
def bodyPostR (c : Dev nD) (t : Fin cfg0.N) : sProp 𝕄 :=
  iprop((dats m 0 c).Φ t.succ ∗ (dats m 0 c).owesAt () t.succ
    ∗ (∃ d, ⌜DwOk m c t d⌝ ∗ owns (c : Thread nD τ) (ms0_0 t) fullShare d)
    ∗ (∃ d, ⌜True⌝ ∗ owns (c : Thread nD τ) (ms0_1 t) fullShare d)
    ∗ (∃ d, ⌜True⌝ ∗ owns (c : Thread nD τ) (ms0_2 t) fullShare d)
    ∗ (∃ d, ⌜True⌝ ∗ owns (c : Thread nD τ) (ms0_3 t) fullShare d)
    ∗ (∃ d, ⌜True⌝ ∗ owns (c : Thread nD τ) (ms0_4 t) fullShare d)
    ∗ (∃ d, ⌜True⌝ ∗ owns (c : Thread nD τ) (ms0_5 t) fullShare d)
    ∗ (∃ d, ⌜True⌝ ∗ owns (c : Thread nD τ) (ms0_6 t) fullShare d)
    ∗ (∃ d, ⌜True⌝ ∗ owns (c : Thread nD τ) (ms0_7 t) fullShare d)
    ∗ (∃ d, ⌜True⌝ ∗ owns (c : Thread nD τ) (ms0_8 t) fullShare d))

theorem sound_bodyR (c : Dev nD) (t : Fin cfg0.N) :
    bodyPreR m c t ⊢ wp frame (wpE (defs₀ (F := F)) Variants.none c none) Set.univ (bodyAt0 t) (fun _ => bodyPostR m c t) := by
  refine triple_restated (sound_body m c t) rfl ?_ fun _ => ?_
  · unfold bodyPre bodyPreR
    iintro ⟨HP, HW, ⟨%Y0, -, H0⟩, ⟨%Y1, -, H1⟩, ⟨%Y2, -, H2⟩, ⟨%Y3, -, H3⟩, ⟨%Y4, -, H4⟩, ⟨%Y5, -, H5⟩, ⟨%Y6, -, H6⟩, ⟨%Y7, -, H7⟩, ⟨%Y8, -, H8⟩⟩
    isplitl [HP]; · iexact HP
    isplitl [HW]; · iexact HW
    isplitl [H0]; · iexists Y0; iexact H0
    isplitl [H1]; · iexists Y1; iexact H1
    isplitl [H2]; · iexists Y2; iexact H2
    isplitl [H3]; · iexists Y3; iexact H3
    isplitl [H4]; · iexists Y4; iexact H4
    isplitl [H5]; · iexists Y5; iexact H5
    isplitl [H6]; · iexists Y6; iexact H6
    isplitl [H7]; · iexists Y7; iexact H7
    iexists Y8; iexact H8
  · unfold bodyPost bodyPostR
    iintro ⟨HP, HW, H0, ⟨%Y1, H1⟩, ⟨%Y2, H2⟩, ⟨%Y3, H3⟩, ⟨%Y4, H4⟩, ⟨%Y5, H5⟩, ⟨%Y6, H6⟩, ⟨%Y7, H7⟩, ⟨%Y8, H8⟩⟩
    isplitl [HP]; · iexact HP
    isplitl [HW]; · iexact HW
    isplitl [H0]; · iexact H0
    isplitl [H1]
    · iexists Y1
      isplitr; · ipureintro; trivial
      iexact H1
    isplitl [H2]
    · iexists Y2
      isplitr; · ipureintro; trivial
      iexact H2
    isplitl [H3]
    · iexists Y3
      isplitr; · ipureintro; trivial
      iexact H3
    isplitl [H4]
    · iexists Y4
      isplitr; · ipureintro; trivial
      iexact H4
    isplitl [H5]
    · iexists Y5
      isplitr; · ipureintro; trivial
      iexact H5
    isplitl [H6]
    · iexists Y6
      isplitr; · ipureintro; trivial
      iexact H6
    isplitl [H7]
    · iexists Y7
      isplitr; · ipureintro; trivial
      iexact H7
    iexists Y8
    isplitr; · ipureintro; trivial
    iexact H8

theorem body_obligation (c : Dev nD) : Pipeline.BodyObligationRel (dats (F := F) m 0 c) (defs₀ (F := F)) Variants.none () Set.univ forgets0 (Rl0 m c) := by
  intro t
  rw [bigSep_W0, bigSep_W0, defs₀_row]
  exact triple_restated (sound_bodyR m c t) rfl .rfl fun _ => .rfl

theorem hin (c : Dev nD) : Pipeline.ΦDR osem0 spec0 H0 R0 (V m) c ⊢ (dats m 0 c).Φ 0 := by
  rw [PhiDR0_eq, show (dats m 0 c).Φ 0 = PhiR m c 0 from rfl]
  have hx : iprop((∃ d, owns (c : Thread nD τ) scM0_0 fullShare d) ∗ (∃ d, owns (c : Thread nD τ) scM0_1 fullShare d)) ⊢ (xsAt (F := F) c (V m c main_arg2) (V m c main_arg3) 0 : sProp 𝕄) := BIBase.Entails.of_eq (if_pos rfl).symm
  have hy : yfree (F := F) c (YOk m c) 0 ⊢ yAt c (YOk m c) 0 := BIBase.Entails.of_eq (if_pos (Or.inl rfl)).symm
  unfold PhiR
  iintro ⟨⟨HS0, HS1, HS2, HS3, HS4, HS5, HS6, HS7, HS8, HS9, HS10, HS11, HS12, HS13⟩, Hg, ⟨Hq0, Hq1, Hq2, Hq3, Hq4, Hq5, Hq6⟩, ⟨Hh0, Hh1, Hh2, Hh3⟩, ⟨Hy, Hd⟩⟩
  isplitl [HS2]; · iexact HS2
  isplitl [HS5]; · iexact HS5
  isplitl [HS6]; · iexact HS6
  isplitl [HS7]; · iexact HS7
  isplitl [HS8]; · iexact HS8
  isplitl [HS10]; · iexact HS10
  isplitl [HS11]; · iexact HS11
  isplitl [HS12]; · iexact HS12
  isplitl [HS13]; · iexact HS13
  isplitl [Hg]; · iexact Hg
  isplitl [Hq5 Hq6 Hh2 Hh3]
  · isplitl [Hq5]; · iexact Hq5
    isplitl [Hq6]; · iexact Hq6
    isplitl [Hh2]; · iexact Hh2
    iexact Hh3
  isplitl [HS0 HS1]
  · iapply hx
    isplitl [HS0]; · iexact HS0
    iexact HS1
  isplitl [HS3 Hq0 Hq1 Hh0]
  · iapply (ring0_in (F := F) c (V m c main_arg0))
    isplitl [HS3]; · iexact HS3
    isplitl [Hq0 Hq1]
    · isplitl [Hq0]; · iexact Hq0
      iexact Hq1
    iexact Hh0
  isplitl [HS4 Hq2 Hq3 Hh1]
  · iapply (ring1_in (F := F) c (V m c main_arg1))
    isplitl [HS4]; · iexact HS4
    isplitl [Hq2 Hq3]
    · isplitl [Hq2]; · iexact Hq2
      iexact Hq3
    iexact Hh1
  isplitl [Hq4 Hy HS9]
  · iapply hy
    unfold yfree ydlv
    isplitl [Hq4]; · iexact Hq4
    isplitl [Hy]
    · icases Hy with ⟨%g, Hy⟩
      iexists g; isplitr; · ipureintro; exact fun b hb => absurd hb (Nat.not_lt_zero b)
      iexact Hy
    iexact HS9
  iexact Hd

/-- What the body gives back besides the two results it writes itself, conjunct by conjunct. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d) ∗ (∃ d, owns (c : Thread nD τ) scM0_13 fullShare d)) ∗ (∃ r, prngReg c r) ∗ iprop(semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0) ∗ iprop(hbPt0 c hbM0_0 (V m c main_arg0) ∗ hbPt0 c hbM0_1 (V m c main_arg1) ∗ hbPt0 c hbM0_2 (V m c main_arg2) ∗ hbPt0 c hbM0_3 (V m c main_arg3))) := by
  rw [Pipeline.ΦD_eq, scopedRest0_eq, ownSems00_eq, hbmPts0_eq]; simp only [scM0_0, scM0_1, scM0_2, scM0_3, scM0_4, scM0_5, scM0_6, scM0_7, scM0_8, scM0_9, scM0_10, scM0_11, scM0_12, scM0_13, owns_whole]; try rfl
/-- The result `y` holds every tile the steps computed. -/
def YAll (c : Dev nD) (W : (b : Ref sig .tc) → Buf (Elt F) ((c.tc : Thread nD τ).loc b)) : Prop := YDone c (YOk m c) 23 (W main_v0_0)
/-- The two results the body writes, given back. -/
theorem routed_back (c : Dev nD) :
    iprop((∃ g, ⌜YDone c (YOk m c) 23 g⌝ ∗ hbPt0 c hbM0_4 g) ∗ (∃ f, hbPt0 (F := F) c hbM0_5 f)) ⊢ (Pipeline.routedSat R0 c (YAll m c) : sProp 𝕄) := by
  have hR : ∀ W : (b : Ref sig .tc) → Buf (Elt F) ((c.tc : Thread nD τ).loc b),
      (Pipeline.routed R0 c W : sProp 𝕄) = iprop(hbPt0 c hbM0_4 (W main_v0_0) ∗ hbPt0 c hbM0_5 (W main_v0_1)) := fun W => by
    unfold Pipeline.routed; rw [BI.bigSep_eq_bigSepL_of_eq [main_v0_0, main_v0_1] (by decide) (by decide)]; rfl
  iintro ⟨⟨%g, %hg, Hg⟩, ⟨%f, Hf⟩⟩
  have e0 : (Function.update (Function.update (V m c) main_v0_1 f) main_v0_0 g) main_v0_0 = g := Function.update_self ..
  have e1 : (Function.update (Function.update (V m c) main_v0_1 f) main_v0_0 g) main_v0_1 = f :=
    (Function.update_of_ne (by decide) _ _).trans (Function.update_self ..)
  have hE : iprop(hbPt0 c hbM0_4 g ∗ hbPt0 c hbM0_5 f) ⊢ (Pipeline.routed R0 c (Function.update (Function.update (V m c) main_v0_1 f) main_v0_0 g) : sProp 𝕄) :=
    BIBase.Entails.of_eq (by rw [hR, e0, e1])
  unfold Pipeline.routedSat
  iexists (Function.update (Function.update (V m c) main_v0_1 f) main_v0_0 g)
  isplitr
  · ipureintro; unfold YAll; rw [e0]; exact hg
  iapply hE
  isplitl [Hg]; · iexact Hg
  iexact Hf

theorem hout (c : Dev nD) : (dats m 0 c).Φ (Fin.last cfg0.N) ⊢ iprop(Pipeline.ΦD osem0 spec0 H0 (V m) c ∗ Pipeline.routedSat R0 c (YAll m c)) := by
  rw [PhiD0_eq, show (dats m 0 c).Φ (Fin.last cfg0.N) = PhiR m c grid0.N from rfl]
  have hx : (xsAt (F := F) c (V m c main_arg2) (V m c main_arg3) 23 : sProp 𝕄) ⊢ iprop(owns (c : Thread nD τ) scM0_0 fullShare (hbM0_2.view.read (Elt F) (V m c main_arg2)) ∗ owns (c : Thread nD τ) scM0_1 fullShare (hbM0_3.view.read (Elt F) (V m c main_arg3))) := BIBase.Entails.of_eq (if_neg (by decide))
  have hy : yAt (F := F) c (YOk m c) 23 ⊢ yfree c (YOk m c) 23 := BIBase.Entails.of_eq (if_pos (Or.inr rfl))
  unfold PhiR
  rw [show grid0.N = 23 by rw [N_0]]
  iintro ⟨HS2, HS5, HS6, HS7, HS8, HS10, HS11, HS12, HS13, Hg, ⟨Hq5, Hq6, Hh2, Hh3⟩, Hx, Hr0, Hr1, Hy, Hd⟩
  ihave Hx := hx $$ Hx
  icases Hx with ⟨HS0, HS1⟩
  ihave Hr0 := (ring0_out (F := F) c (V m c main_arg0)) $$ Hr0
  icases Hr0 with ⟨HS3, ⟨Hq0, Hq1⟩, Hh0⟩
  ihave Hr1 := (ring1_out (F := F) c (V m c main_arg1)) $$ Hr1
  icases Hr1 with ⟨HS4, ⟨Hq2, Hq3⟩, Hh1⟩
  ihave Hy := hy $$ Hy
  unfold yfree ydlv
  icases Hy with ⟨Hq4, Hy, HS9⟩
  isplitr [Hy Hd]
  · isplitl [HS0 HS1 HS2 HS3 HS4 HS5 HS6 HS7 HS8 HS9 HS10 HS11 HS12 HS13]
    · isplitl [HS0]; · iexists _; iexact HS0
      isplitl [HS1]; · iexists _; iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      iexact HS13
    isplitl [Hg]; · iexact Hg
    isplitl [Hq0 Hq1 Hq2 Hq3 Hq4 Hq5 Hq6]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      iexact Hq6
    isplitl [Hh0]; · iexact Hh0
    isplitl [Hh1]; · iexact Hh1
    isplitl [Hh2]; · iexact Hh2
    iexact Hh3
  iapply (routed_back m c)
  isplitl [Hy]; · iexact Hy
  iexact Hd

set_option backward.isDefEq.respectTransparency.types false in
set_option maxHeartbeats 1600000 in
/-- The run of the call from any memory. -/
theorem run_main_quiescent : θ_run defs (onTc (τ := τ) (main (F := F))) (s₀ m ρ) (fun r => (Pipeline.RDat.FramePostR (cfgs 0) (fun c => (dats m 0 c).toRRel forgets0 (Rl0 m c)) R0 (V m) r
      ∧ ∀ c : Dev nD, ∃ W : (b : Ref sig .tc) → Buf (Elt F) ((c.tc : Thread nD τ).loc b), YAll m c W ∧ ∀ b ∈ R0, r.2.mem ((c.tc : Thread nD τ).loc b) = W b) ∧ r.2.sem = fun _ => 0) :=
  have hrest : Pipeline.restRefs sig (cfgs 0).spec ⊆ Pipeline.restRefsP sig Pipeline.Prefetch.none (cfgs 0).spec :=
    fun b hb => Finset.mem_sdiff.mpr ⟨hb, fun h => ((Finset.mem_image.mp h).elim fun k _ => k.elim0)⟩
  Pipeline.RDat.θ_run_frameP_dmaRSat_shared (Q' := _) (fun q => (cfgs q).toPCfg (Val := Elt F)) (fun q => (cfgs q).toPCfg_adm) (0 : Fin 1) launch0.toP.to₀ osem0 defs₀ Variants.none
    (fun c => (dats m 0 c).toRRel forgets0 (Rl0 m c)) ownSemFacts0 H0 R0 (H0_sub.trans hrest) (R0_sub.trans (Finset.sdiff_subset_sdiff hrest subset_rfl)) m ρ main
    (fun c => (body_obligation m c).toRRel)
    (fun c w hw => Pipeline.RDat.q_eq_shareOf_of_share_full ((dats m 0 c).toRRel forgets0 (Rl0 m c)) launch0.win.arr_inj ((dats m 0 c).share_full fun _ => rfl) w hw)
    (fun _ _ => rfl) (V m) (hmain m Variants.none) (A_eq m) (fun _ k => k.elim0) (YAll m)
    (fun c => (show _ ⊢ Pipeline.ΦDRG osem0 spec0 H0 R0 (V m) (V m) c from by iintro ⟨H, -⟩; iexact H).trans ((Pipeline.ΦDRG_ΦDR osem0 spec0 H0 R0 (V m) (V m) c).trans (hin m c)))
    (hout m)

/-- THE FRAME of the call: the arguments end unchanged and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1.1 c).2 main_arg0 (Finset.mem_sdiff.mpr ⟨Pipeline.mem_restRefs_of main_arg0 (by decide) (by decide), by decide⟩)),
      ((h.1.1 c).2 main_arg1 (Finset.mem_sdiff.mpr ⟨Pipeline.mem_restRefs_of main_arg1 (by decide) (by decide), by decide⟩)),
      ((h.1.1 c).2 main_arg2 (Finset.mem_sdiff.mpr ⟨Pipeline.mem_restRefs_of main_arg2 (by decide) (by decide), by decide⟩)),
      ((h.1.1 c).2 main_arg3 (Finset.mem_sdiff.mpr ⟨Pipeline.mem_restRefs_of main_arg3 (by decide) (by decide), by decide⟩))⟩, h.2⟩) (run_main_quiescent m ρ)

end Cert.KernelIdeal.Hand

end
-- ==== Proof.Value.Scalar.lean ====
/-
The arithmetic of one block, on extended reals: the scale that a block's largest magnitude gives, by doubling one step at
a time and by halving the exponent range, and the maximum over sixteen values taken by four exchanges.
-/
module

public import Idealize.ShloMosaic.PureOps.Ideal
public import Idealize.ShloMosaic.Lib.Pointwise

@[expose] public section

noncomputable section

namespace Cert.Dw

open Idealize.ShloMosaic

/-- The scale `2 ^ (n - 126)`. -/
def w (n : ℕ) : EReal := (((2 : ℝ) ^ n * ((2 : ℝ) ^ 126)⁻¹ : ℝ) : EReal)

/-- The magnitude `a` is at least `224 * 2 ^ (n - 126)`: the scale has to reach `n`. -/
def P (a : EReal) (n : ℕ) : Prop := (((224 : ℝ) * ((2 : ℝ) ^ n * ((2 : ℝ) ^ 126)⁻¹) : ℝ) : EReal) ≤ a

theorem P_anti (a : EReal) {i j : ℕ} (h : i ≤ j) (hj : P a j) : P a i := by
  refine le_trans ?_ hj
  rw [EReal.coe_le_coe_iff]
  have : (2 : ℝ) ^ i ≤ 2 ^ j := pow_le_pow_right₀ (by norm_num) h
  have h2 : (0 : ℝ) ≤ ((2 : ℝ) ^ 126)⁻¹ := by positivity
  nlinarith [mul_le_mul_of_nonneg_right this h2]

theorem w_mul (n k : ℕ) : w n * (((2 : ℝ) ^ k : ℝ) : EReal) = w (n + k) := by
  unfold w; rw [← EReal.coe_mul]; congr 1; rw [pow_add]; ring

theorem w_224 (n k : ℕ) : w n * (((2 : ℝ) ^ k : ℝ) : EReal) * ((224 : ℝ) : EReal) = (((224 : ℝ) * ((2 : ℝ) ^ (n + k) * ((2 : ℝ) ^ 126)⁻¹) : ℝ) : EReal) := by
  rw [w_mul]; unfold w; rw [← EReal.coe_mul]; congr 1; ring

theorem w_448 (n : ℕ) : ((448 : ℝ) : EReal) * w n = (((224 : ℝ) * ((2 : ℝ) ^ (n + 1) * ((2 : ℝ) ^ 126)⁻¹) : ℝ) : EReal) := by
  unfold w; rw [← EReal.coe_mul]; congr 1; rw [pow_succ]; ring

/-- `n` is the exponent of `a` within `lo … hi`: reached, and the next one not. -/
def Top (a : EReal) (hi n : ℕ) : Prop := n ≤ hi ∧ (n = 0 ∨ P a n) ∧ (n = hi ∨ ¬ P a (n + 1))

theorem Top.unique {a : EReal} {hi n k : ℕ} (hn : Top a hi n) (hk : Top a hi k) : n = k := by
  obtain ⟨h1, h2, h3⟩ := hn
  obtain ⟨k1, k2, k3⟩ := hk
  rcases lt_trichotomy n k with h | h | h
  · exfalso
    rcases h3 with h3 | h3
    · omega
    · rcases k2 with k2 | k2
      · omega
      · exact h3 (P_anti a (by omega) k2)
  · exact h
  · exfalso
    rcases k3 with k3 | k3
    · omega
    · rcases h2 with h2 | h2
      · omega
      · exact k3 (P_anti a (by omega) h2)

/-- One doubling. -/
def dbl (a s : EReal) : EReal := if ((448 : ℝ) : EReal) * s ≤ a then s * ((2 : ℝ) : EReal) else s

/-- The scale after `n` doublings from `2 ^ -126`. -/
def lin (a : EReal) : ℕ → EReal
  | 0 => w 0
  | n + 1 => dbl a (lin a n)

theorem lin_top (a : EReal) (j : ℕ) : ∃ n, lin a j = w n ∧ Top a j n := by
  induction j with
  | zero => exact ⟨0, rfl, le_rfl, Or.inl rfl, Or.inl rfl⟩
  | succ j ih =>
    obtain ⟨n, e, h1, h2, h3⟩ := ih
    rw [lin, e, dbl, w_448]
    split
    · rename_i h
      have hn : n = j := h3.resolve_right fun hx => hx h
      refine ⟨n + 1, ?_, by omega, Or.inr h, Or.inl (by omega)⟩
      have := w_mul n 1
      rw [pow_one] at this
      exact this
    · rename_i h
      exact ⟨n, rfl, by omega, h2, Or.inr h⟩

/-- One stage of the search: a factor `2 ^ 2 ^ k` if the magnitude allows it. -/
def stg (k : ℕ) (a s : EReal) : EReal :=
  if s * (((2 : ℝ) ^ (2 ^ k) : ℝ) : EReal) * ((224 : ℝ) : EReal) ≤ a then s * (((2 : ℝ) ^ (2 ^ k) : ℝ) : EReal) else s

/-- What the search knows before its stages of `2 ^ k - 1` in all: the exponent lies in `n … n + (2 ^ k - 1)`. -/
def Btw (a : EReal) (k n : ℕ) : Prop := n + (2 ^ k - 1) ≤ 255 ∧ (n = 0 ∨ P a n) ∧ (n + (2 ^ k - 1) = 255 ∨ ¬ P a (n + 2 ^ k))

theorem stg_btw (k : ℕ) (a : EReal) (n : ℕ) (h : Btw a (k + 1) n) : ∃ n', stg k a (w n) = w n' ∧ Btw a k n' := by
  obtain ⟨h1, h2, h3⟩ := h
  have hk : 1 ≤ 2 ^ k := Nat.one_le_two_pow
  have hs : 2 ^ (k + 1) = 2 * 2 ^ k := by rw [pow_succ]; ring
  rw [stg, w_224]
  split
  · rename_i hp
    refine ⟨n + 2 ^ k, ?_, ?_, Or.inr ?_, ?_⟩
    · exact w_mul n (2 ^ k)
    · omega
    · exact hp
    · rcases h3 with h3 | h3
      · exact Or.inl (by omega)
      · refine Or.inr fun hx => h3 ?_
        rw [hs, show n + 2 * 2 ^ k = n + 2 ^ k + 2 ^ k by ring]; exact hx
  · rename_i hp
    exact ⟨n, rfl, by omega, h2, Or.inr hp⟩

/-- The search's first choice: `2 ^ 2` or `2 ^ -126`. -/
def fst0 (a : EReal) : EReal := if ((896 : ℝ) : EReal) ≤ a then w 128 else w 0

/-- The scale that the search finds. -/
def bin (a : EReal) : EReal := stg 0 a (stg 1 a (stg 2 a (stg 3 a (stg 4 a (stg 5 a (stg 6 a (fst0 a)))))))

theorem fst0_btw (a : EReal) : ∃ n, fst0 a = w n ∧ Btw a 7 n := by
  have e : (((224 : ℝ) * ((2 : ℝ) ^ 128 * ((2 : ℝ) ^ 126)⁻¹) : ℝ) : EReal) = ((896 : ℝ) : EReal) := by congr 1; norm_num
  unfold fst0
  split
  · rename_i h
    exact ⟨128, rfl, by norm_num, Or.inr (by unfold P; rw [e]; exact h), Or.inl (by norm_num)⟩
  · rename_i h
    exact ⟨0, rfl, by norm_num, Or.inl rfl, Or.inr (by unfold P; rw [show 0 + 2 ^ 7 = 128 by norm_num, e]; exact h)⟩

/-- The search finds the scale that doubling reaches. -/
theorem bin_eq_lin (a : EReal) : bin a = lin a 255 := by
  obtain ⟨n7, e7, h7⟩ := fst0_btw a
  obtain ⟨n6, e6, h6⟩ := stg_btw 6 a n7 h7
  obtain ⟨n5, e5, h5⟩ := stg_btw 5 a n6 h6
  obtain ⟨n4, e4, h4⟩ := stg_btw 4 a n5 h5
  obtain ⟨n3, e3, h3⟩ := stg_btw 3 a n4 h4
  obtain ⟨n2, e2, h2⟩ := stg_btw 2 a n3 h3
  obtain ⟨n1, e1, h1⟩ := stg_btw 1 a n2 h2
  obtain ⟨n0, e0, h0⟩ := stg_btw 0 a n1 h1
  obtain ⟨n, e, h⟩ := lin_top a 255
  have ht : Top a 255 n0 := by
    obtain ⟨x1, x2, x3⟩ := h0
    rw [pow_zero] at x1 x3
    exact ⟨by omega, x2, x3.imp (fun x => by omega) id⟩
  unfold bin
  rw [e7, e6, e5, e4, e3, e2, e1, e0, e, ht.unique h]

/-- The scale of a block with largest magnitude `a`. -/
def scale (a : EReal) : EReal := if (((2 : ℝ) ^ 118)⁻¹ : ℝ) ≤ a ∧ a < ⊤ then lin a 255 else 1

/-- The value `v` quantised at scale `s` and widened again. -/
def deq (v s : EReal) : EReal := min ((448 : ℝ) : EReal) (max ((-448 : ℝ) : EReal) (v * Ideal.div 1 s)) * s

/-- Each row with the row that `p` exchanges it for. -/
def ex (p : Fin 16 → Fin 16) (v : Fin 16 → EReal) (r : Fin 16) : EReal := max (v r) (v (p r))

/-- Row `r` of sixteen rows held two to a word, the words rotated by `d`. -/
def rot (d : ℕ) (r : Fin 16) : Fin 16 := ⟨2 * ((r.val / 2 + 8 - d % 8) % 8) + r.val % 2, by omega⟩
/-- The other row of the word. -/
def swp (r : Fin 16) : Fin 16 := ⟨2 * (r.val / 2) + (1 - r.val % 2), by omega⟩

theorem reach : ∀ r i : Fin 16, ∃ b4 b2 b1 b0 : Bool,
    i = (let r0 := cond b0 (swp r) r; let r1 := cond b1 (rot 1 r0) r0; let r2 := cond b2 (rot 2 r1) r1; cond b4 (rot 4 r2) r2) := by
  decide +kernel

theorem le_ex (p : Fin 16 → Fin 16) (v : Fin 16 → EReal) (r : Fin 16) (b : Bool) : v (cond b (p r) r) ≤ ex p v r := by
  cases b
  · exact le_max_left _ _
  · exact le_max_right _ _

theorem ex_le (p : Fin 16 → Fin 16) (v : Fin 16 → EReal) (B : EReal) (h : ∀ r, v r ≤ B) (r : Fin 16) : ex p v r ≤ B :=
  max_le (h _) (h _)

/-- Four exchanges leave the maximum of the sixteen rows in every row. -/
theorem ex_all (v : Fin 16 → EReal) (r : Fin 16) :
    ex swp (ex (rot 1) (ex (rot 2) (ex (rot 4) v))) r = Finset.univ.sup v := by
  refine le_antisymm ?_ (Finset.sup_le fun i _ => ?_)
  · exact ex_le _ _ _ (ex_le _ _ _ (ex_le _ _ _ (ex_le _ _ _ fun r => Finset.le_sup (Finset.mem_univ r)))) r
  · obtain ⟨b4, b2, b1, b0, e⟩ := reach r i
    rw [e]
    exact (le_ex (rot 4) v _ b4).trans ((le_ex (rot 2) _ _ b2).trans ((le_ex (rot 1) _ _ b1).trans (le_ex swp _ _ b0)))

/-- The maximum of thirty-two is the maximum of the sixteen larger ones of row `r` and row `r + 16`. -/
theorem sup_halves (g : Fin 32 → EReal) :
    Finset.univ.sup (fun r : Fin 16 => max (g ⟨r.val, by omega⟩) (g ⟨r.val + 16, by omega⟩)) = Finset.univ.sup g := by
  refine le_antisymm (Finset.sup_le fun r _ => max_le (Finset.le_sup (f := g) (Finset.mem_univ _)) (Finset.le_sup (f := g) (Finset.mem_univ _))) (Finset.sup_le fun i _ => ?_)
  by_cases h : i.val < 16
  · exact (le_max_left _ _).trans (Finset.le_sup (f := fun r : Fin 16 => max (g ⟨r.val, by omega⟩) (g ⟨r.val + 16, by omega⟩)) (Finset.mem_univ (⟨i.val, h⟩ : Fin 16)))
  · refine le_trans ?_ (Finset.le_sup (f := fun r : Fin 16 => max (g ⟨r.val, by omega⟩) (g ⟨r.val + 16, by omega⟩)) (Finset.mem_univ (⟨i.val - 16, by omega⟩ : Fin 16)))
    refine le_trans (le_of_eq ?_) (le_max_right _ _)
    congr 1
    exact Fin.ext (by simp only []; omega)

/-- The magnitude. -/
def mag (x : EReal) : EReal := max x (-x)

/-- The largest magnitude of the 32 rows of block `b` in column `c` of `dy`. -/
def amax (Y : Fin 1536 → Fin 5760 → EReal) (b : Fin 48) (c : Fin 5760) : EReal :=
  Finset.univ.sup fun i : Fin 32 => mag (Y ⟨32 * b.val + i.val, by omega⟩ c)

/-- Row `r`, column `c` of `dy`, quantised with its block of rows and widened again. -/
def dyq (Y : Fin 1536 → Fin 5760 → EReal) (r : Fin 1536) (c : Fin 5760) : EReal :=
  deq (Y r c) (scale (amax Y ⟨r.val / 32, by omega⟩ c))

/-- `dw`: the widened column codes of `x` times the widened column codes of `dy`. -/
def DW (X : Fin 2880 → Fin 1536 → EReal) (Y : Fin 1536 → Fin 5760 → EReal) (k : Fin 2880) (n : Fin 5760) : EReal :=
  ∑ r : Fin 1536, X k r * dyq Y r n

/-- The largest magnitude of the 32 rows of block `b` in column `c` of `w`. -/
def amaxW (Y : Fin 2880 → Fin 5760 → EReal) (b : Fin 90) (c : Fin 5760) : EReal :=
  Finset.univ.sup fun i : Fin 32 => mag (Y ⟨32 * b.val + i.val, by omega⟩ c)
/-- Row `r`, column `c` of `w`, quantised with its block of rows and widened again. -/
def wq (Y : Fin 2880 → Fin 5760 → EReal) (r : Fin 2880) (c : Fin 5760) : EReal :=
  deq (Y r c) (scale (amaxW Y ⟨r.val / 32, by omega⟩ c))
/-- `y`: the widened row codes of `x` times the widened codes of `w`. -/
def YW (X : Fin 1536 → Fin 2880 → EReal) (Y : Fin 2880 → Fin 5760 → EReal) (r : Fin 1536) (n : Fin 5760) : EReal :=
  ∑ k : Fin 2880, X r k * wq Y k n

end Cert.Dw
-- ==== Proof.Value.Block.lean ====
/-
One block of 32 rows of `dy` at `Ideal`: the largest magnitude of each column, its scale, and the widened codes.
-/
module

public import proofs.«01_k».proof.Proof.KernelIdeal.DwTile
public import proofs.«01_k».proof.Proof.Value.Scalar
public import Idealize.ShloMosaic.Lib.Pointwise

@[expose] public section

set_option maxRecDepth 16384

noncomputable section

namespace Cert.Dw

open Cert.KernelIdeal Cert.KernelIdeal.Gen Cert.KernelIdeal.Hand
open Idealize.ShloMosaic Idealize.ShloMosaic.TcCoe

/-- The words of sixteen rows rotated by `d`: each row is the row `rot d` of it. -/
theorem rot_apply (d : ℕ) (n : BitVec 32) (hn : n.toNat = d) (v : FVec Ideal S16x128 .bf16) (r : Fin 16) (c : Fin 128) :
    interleaveRows S16x128 (dynamicRotate 0 n none (rowsOfParity 0 S8x128 v bitcasts_S16x128_w16_S8x128_w32) rotates_S8x128_d0)
      (dynamicRotate 0 n none (rowsOfParity 1 S8x128 v bitcasts_S16x128_w16_S8x128_w32) rotates_S8x128_d0) bitcasts_S16x128_w16_S8x128_w32 (ix2 r c)
      = v (ix2 (rot d r) c) := by
  rw [interleaveRows_apply]
  have hrow : S16x128.row (ix2 r c) = r.val := rfl
  rw [hrow]
  subst hn
  split
  · rename_i h
    rw [Pointwise.dynamicRotate_apply, rowsOfParity_apply, Shape.Idx.norm2, Shape.Idx.norm2, Shape.Idx.norm2]
    refine congrArg v ?_
    funext a
    refine Fin.ext ?_
    fin_cases a
    · show 2 * ((r.val / 2 + 8 - (n.toNat + 0) % 8) % 8) + 0 = 2 * ((r.val / 2 + 8 - n.toNat % 8) % 8) + r.val % 2
      omega
    · rfl
  · rename_i h
    rw [Pointwise.dynamicRotate_apply, rowsOfParity_apply, Shape.Idx.norm2, Shape.Idx.norm2, Shape.Idx.norm2]
    refine congrArg v ?_
    funext a
    refine Fin.ext ?_
    fin_cases a
    · show 2 * ((r.val / 2 + 8 - (n.toNat + 0) % 8) % 8) + 1 = 2 * ((r.val / 2 + 8 - n.toNat % 8) % 8) + r.val % 2
      omega
    · rfl

theorem swp_apply (v : FVec Ideal S16x128 .bf16) (r : Fin 16) (c : Fin 128) :
    interleaveRows S16x128 (rowsOfParity 1 S8x128 v bitcasts_S16x128_w16_S8x128_w32)
      (rowsOfParity 0 S8x128 v bitcasts_S16x128_w16_S8x128_w32) bitcasts_S16x128_w16_S8x128_w32 (ix2 r c)
      = v (ix2 (swp r) c) := by
  rw [interleaveRows_apply]
  have hrow : S16x128.row (ix2 r c) = r.val := rfl
  rw [hrow]
  split
  · rename_i h
    rw [rowsOfParity_apply, Shape.Idx.norm2, Shape.Idx.norm2]
    refine congrArg v ?_
    funext a
    refine Fin.ext ?_
    fin_cases a
    · show 2 * (r.val / 2) + 1 = 2 * (r.val / 2) + (1 - r.val % 2)
      omega
    · rfl
  · rename_i h
    rw [rowsOfParity_apply, Shape.Idx.norm2, Shape.Idx.norm2]
    refine congrArg v ?_
    funext a
    refine Fin.ext ?_
    fin_cases a
    · show 2 * (r.val / 2) + 0 = 2 * (r.val / 2) + (1 - r.val % 2)
      omega
    · rfl

theorem ex_rot (d : ℕ) (n : BitVec 32) (hn : n.toNat = d) (v : FVec Ideal S16x128 .bf16) (g : Fin 16 → EReal) (c : Fin 128) (hg : ∀ r, v (ix2 r c) = g r) (r : Fin 16) :
    maximumf (F := Ideal) v (interleaveRows S16x128 (dynamicRotate 0 n none (rowsOfParity 0 S8x128 v bitcasts_S16x128_w16_S8x128_w32) rotates_S8x128_d0)
      (dynamicRotate 0 n none (rowsOfParity 1 S8x128 v bitcasts_S16x128_w16_S8x128_w32) rotates_S8x128_d0) bitcasts_S16x128_w16_S8x128_w32) (ix2 r c)
      = ex (rot d) g r := by
  unfold ex
  rw [← hg, ← hg, ← rot_apply d n hn v r c]
  rfl

theorem ex_swp (v : FVec Ideal S16x128 .bf16) (g : Fin 16 → EReal) (c : Fin 128) (hg : ∀ r, v (ix2 r c) = g r) (r : Fin 16) :
    maximumf (F := Ideal) v (interleaveRows S16x128 (rowsOfParity 1 S8x128 v bitcasts_S16x128_w16_S8x128_w32)
      (rowsOfParity 0 S8x128 v bitcasts_S16x128_w16_S8x128_w32) bitcasts_S16x128_w16_S8x128_w32) (ix2 r c)
      = ex swp g r := by
  unfold ex
  rw [← hg, ← hg, ← swp_apply v r c]
  rfl

/-- The kernel's magnitude of column `c`, in every row, is the largest magnitude of the column. -/
theorem amax_apply (x : Vec Ideal S32x128 .bf16) (r : Fin 16) (c : Fin 128) :
    k0_pay3 (F := Ideal) x (ix2 r c) = Finset.univ.sup fun i : Fin 32 => mag (x (ix2 i c)) := by
  rw [← sup_halves, ← ex_all _ r]
  unfold k0_pay3
  refine ex_swp _ _ c (ex_rot 1 1#32 rfl _ _ c (ex_rot 2 2#32 rfl _ _ c (ex_rot 4 4#32 rfl _ _ c fun r => ?_))) r
  have e0 : ∀ (a b : Fin 32), a = b → FloatOps.absf (F := Ideal) (φ := .bf16) (x (ix2 a c)) = mag (x (ix2 b c)) := fun a b h => by rw [h]; rfl
  refine congrArg₂ (max : EReal → EReal → EReal) ?_ ?_
  · refine Eq.trans (congrArg (fun i => FloatOps.absf (F := Ideal) (φ := .bf16) (x i)) ?_) (e0 ⟨r.val, by omega⟩ ⟨r.val, by omega⟩ rfl)
    funext a; refine Fin.ext ?_
    fin_cases a
    · exact Nat.zero_add _
    · exact Nat.zero_add _
  · refine Eq.trans (congrArg (fun i => FloatOps.absf (F := Ideal) (φ := .bf16) (x i)) ?_) (e0 ⟨r.val + 16, by omega⟩ ⟨r.val + 16, by omega⟩ rfl)
    funext a; refine Fin.ext ?_
    fin_cases a
    · exact Nat.add_comm _ _
    · exact Nat.zero_add _

theorem c_5F80 : Ideal.ofBits .bf16 0x5F80#16 = (((2 : ℝ) ^ (2 ^ 6) : ℝ) : EReal) := by simp [Ideal.ofBits, Ideal.ieee, -EReal.coe_mul, -EReal.coe_pow]; norm_num
theorem c_4F80 : Ideal.ofBits .bf16 0x4F80#16 = (((2 : ℝ) ^ (2 ^ 5) : ℝ) : EReal) := by simp [Ideal.ofBits, Ideal.ieee, -EReal.coe_mul, -EReal.coe_pow]; norm_num
theorem c_4780 : Ideal.ofBits .bf16 0x4780#16 = (((2 : ℝ) ^ (2 ^ 4) : ℝ) : EReal) := by simp [Ideal.ofBits, Ideal.ieee, -EReal.coe_mul, -EReal.coe_pow]; norm_num
theorem c_4380 : Ideal.ofBits .bf16 0x4380#16 = (((2 : ℝ) ^ (2 ^ 3) : ℝ) : EReal) := by simp [Ideal.ofBits, Ideal.ieee, -EReal.coe_mul, -EReal.coe_pow]; norm_num
theorem c_4180 : Ideal.ofBits .bf16 0x4180#16 = (((2 : ℝ) ^ (2 ^ 2) : ℝ) : EReal) := by simp [Ideal.ofBits, Ideal.ieee, -EReal.coe_mul, -EReal.coe_pow]; norm_num
theorem c_4080 : Ideal.ofBits .bf16 0x4080#16 = (((2 : ℝ) ^ (2 ^ 1) : ℝ) : EReal) := by simp [Ideal.ofBits, Ideal.ieee, -EReal.coe_mul, -EReal.coe_pow]; norm_num
theorem c_4000 : Ideal.ofBits .bf16 0x4000#16 = (((2 : ℝ) ^ (2 ^ 0) : ℝ) : EReal) := by simp [Ideal.ofBits, Ideal.ieee, -EReal.coe_mul, -EReal.coe_pow]; norm_num
theorem c_4360 : Ideal.ofBits .bf16 0x4360#16 = ((224 : ℝ) : EReal) := by simp [Ideal.ofBits, Ideal.ieee, -EReal.coe_mul, -EReal.coe_pow]
theorem c_4460 : Ideal.ofBits .bf16 0x4460#16 = ((896 : ℝ) : EReal) := by simp [Ideal.ofBits, Ideal.ieee, -EReal.coe_mul, -EReal.coe_pow]; norm_num
theorem c_4080' : Ideal.ofBits .bf16 0x4080#16 = w 128 := by unfold w; simp [Ideal.ofBits, Ideal.ieee, -EReal.coe_mul, -EReal.coe_pow]; norm_num
theorem c_0080 : Ideal.ofBits .bf16 0x0080#16 = w 0 := by unfold w; simp [Ideal.ofBits, Ideal.ieee, -EReal.coe_mul, -EReal.coe_pow]; norm_num
theorem c_0480 : Ideal.ofBits .bf16 0x0480#16 = (((2 : ℝ) ^ 118)⁻¹ : ℝ) := by simp [Ideal.ofBits, Ideal.ieee, -EReal.coe_mul, -EReal.coe_pow]; norm_num
theorem c_7F80 : Ideal.ofBits .bf16 0x7F80#16 = ⊤ := by simp [Ideal.ofBits, Ideal.ieee]
theorem c_3F80 : Ideal.ofBits .bf16 0x3F80#16 = 1 := by
  rw [← EReal.coe_one]; simp [Ideal.ofBits, Ideal.ieee, -EReal.coe_mul, -EReal.coe_pow, -EReal.coe_one]; norm_num
theorem c_43E0 : Ideal.ofBits .f32 0x43E00000#32 = ((448 : ℝ) : EReal) := by simp [Ideal.ofBits, Ideal.ieee, -EReal.coe_mul, -EReal.coe_pow]; norm_num
theorem c_C3E0 : Ideal.ofBits .f32 0xC3E00000#32 = ((-448 : ℝ) : EReal) := by simp [Ideal.ofBits, Ideal.ieee, -EReal.coe_mul, -EReal.coe_pow]; norm_num

theorem pay7_apply (a s : FVec Ideal S16x128 .bf16) (i : S16x128.Idx) : k0_pay7 (F := Ideal) a s i = stg 6 (a i) (s i) := by
  simp only [k0_pay7, k0_pay6, pointwise]
  rw [stg, ← c_5F80, ← c_4360]
theorem pay9_apply (a s : FVec Ideal S16x128 .bf16) (i : S16x128.Idx) : k0_pay9 (F := Ideal) a s i = stg 5 (a i) (k0_pay7 (F := Ideal) a s i) := by
  simp only [k0_pay9, k0_pay8, pointwise]
  rw [stg, ← c_4F80, ← c_4360]
theorem pay11_apply (a s : FVec Ideal S16x128 .bf16) (i : S16x128.Idx) : k0_pay11 (F := Ideal) a s i = stg 4 (a i) (k0_pay9 (F := Ideal) a s i) := by
  simp only [k0_pay11, k0_pay10, pointwise]
  rw [stg, ← c_4780, ← c_4360]
theorem pay14_apply (a s : FVec Ideal S16x128 .bf16) (i : S16x128.Idx) : k0_pay14 (F := Ideal) a s i = stg 3 (a i) (k0_pay11 (F := Ideal) a s i) := by
  simp only [k0_pay14, k0_pay13, pointwise]
  rw [stg, ← c_4380, ← c_4360]
theorem pay16_apply (a s : FVec Ideal S16x128 .bf16) (i : S16x128.Idx) : k0_pay16 (F := Ideal) a s i = stg 2 (a i) (s i) := by
  simp only [k0_pay16, k0_pay15, pointwise]
  rw [stg, ← c_4180, ← c_4360]
theorem pay18_apply (a s : FVec Ideal S16x128 .bf16) (i : S16x128.Idx) : k0_pay18 (F := Ideal) a s i = stg 1 (a i) (k0_pay16 (F := Ideal) a s i) := by
  simp only [k0_pay18, k0_pay17, pointwise]
  rw [stg, ← c_4080, ← c_4360]
theorem pay5_apply (x : Vec Ideal S32x128 .bf16) (i : S16x128.Idx) : k0_pay5 (F := Ideal) x i = fst0 (k0_pay3 (F := Ideal) x i) := by
  simp only [k0_pay5, k0_pay4, pointwise]
  rw [fst0, ← c_4080', ← c_4460, ← c_0080]
theorem pay22_apply (a s : FVec Ideal S16x128 .bf16) (i : S16x128.Idx) :
    k0_pay22 (F := Ideal) a s i = if (((2 : ℝ) ^ 118)⁻¹ : ℝ) ≤ a i ∧ a i < ⊤ then stg 0 (a i) (k0_pay18 (F := Ideal) a s i) else 1 := by
  simp only [k0_pay22, k0_pay21, k0_pay19, pointwise]
  rw [stg, ← c_4000, ← c_4360, ← c_0480, ← c_7F80]
  by_cases h1 : Ideal.ofBits .bf16 0x0480#16 ≤ a i <;> by_cases h2 : a i < Ideal.ofBits .bf16 0x7F80#16 <;> simp only [h1, h2, decide_true, decide_false, if_true, if_false, and_self, and_true, true_and, and_false, false_and] <;> rfl

/-- The kernel's scale. -/
theorem scale_apply (x : Vec Ideal S32x128 .bf16) (i : S16x128.Idx) :
    k0_pay22 (F := Ideal) (k0_pay3 x) (k0_pay14 (k0_pay3 x) (k0_pay5 x)) i = scale (k0_pay3 (F := Ideal) x i) := by
  rw [pay22_apply, pay18_apply, pay16_apply, pay14_apply, pay11_apply, pay9_apply, pay7_apply, pay5_apply, scale, ← bin_eq_lin]
  rfl

theorem dqB_eq (x : Vec Ideal S32x128 .bf16) : dqB (F := Ideal) x = dqA x := rfl

theorem dqA_apply (x : Vec Ideal S32x128 .bf16) (r : Fin 32) (c : Fin 128) :
    dqA (F := Ideal) x (ix2 r c) = deq (x (ix2 r c)) (scale (Finset.univ.sup fun i : Fin 32 => mag (x (ix2 i c)))) := by
  unfold dqA
  have h : ∀ r' : Fin 16, k0_pay22 (F := Ideal) (k0_pay3 x) (k0_pay14 (k0_pay3 x) (k0_pay5 x)) (ix2 r' c) = scale (Finset.univ.sup fun i : Fin 32 => mag (x (ix2 i c))) := fun r' => by
    rw [scale_apply, amax_apply]
  generalize k0_pay22 (F := Ideal) (k0_pay3 x) (k0_pay14 (k0_pay3 x) (k0_pay5 x)) = s at h
  have hs : ∀ i : S16x128.Idx, (i 1).val = c.val → s i = scale (Finset.univ.sup fun i : Fin 32 => mag (x (ix2 i c))) := by
    intro i hi
    have e : i = ix2 (i 0) c := by
      funext a
      fin_cases a
      · rfl
      · exact Fin.ext hi
    rw [e]
    exact h (i 0)
  simp only [k0_pay506, k0_pay504, k0_pay503, pointwise]
  rw [c_43E0, c_C3E0]
  unfold deq
  have e : ∀ (q : EReal), q = scale (Finset.univ.sup fun i : Fin 32 => mag (x (ix2 i c))) → min ((448 : ℝ) : EReal) (max ((-448 : ℝ) : EReal) (x (ix2 r c) * Ideal.div 1 q)) * q = min ((448 : ℝ) : EReal) (max ((-448 : ℝ) : EReal) (x (ix2 r c) * Ideal.div 1 (scale (Finset.univ.sup fun i : Fin 32 => mag (x (ix2 i c)))))) * (scale (Finset.univ.sup fun i : Fin 32 => mag (x (ix2 i c)))) := fun q hq => by rw [hq]
  refine e _ ?_
  split
  · exact hs _ rfl
  · refine hs _ ?_
    simp [ix2]

end Cert.Dw
-- ==== Proof.Value.Tile.lean ====
/-
One tile of `dw` at `Ideal`: what a step of the kernel leaves in the window, element by element.
-/
module

public import proofs.«01_k».proof.Proof.KernelIdeal.Step
public import proofs.«01_k».proof.Proof.Value.Block

@[expose] public section

set_option maxRecDepth 16384

noncomputable section

namespace Cert.Dw

open Cert.KernelIdeal Cert.KernelIdeal.Gen Cert.KernelIdeal.Hand
open Idealize.ShloMosaic Idealize.ShloMosaic.TcCoe

theorem mm_apply (X : FVec Ideal S2880x1536 .bf16) (Z : FVec Ideal S1536x256 .bf16) (k : Fin 2880) (n : Fin 256) :
    k0_pay736 (F := Ideal) X Z (ix2 k n) = ∑ r : Fin 1536, X (ix2 k r) * Z (ix2 r n) := by
  simp only [k0_pay736, pointwise]
  exact zero_add _

/-- A column of the widened tile, where the slot holds column `n` of `dy` in its column `c`. -/
theorem dwD_apply (Y : S1536x256.Idx → EReal) (dy : Fin 1536 → Fin 5760 → EReal) (c : Fin 256) (n : Fin 5760)
    (h : ∀ r : Fin 1536, Y (ix2 r c) = dy r n) (r : Fin 1536) : dwD (F := Ideal) Y (ix2 r c) = dyq dy r n := by
  have key : ∀ (o : ℕ) (ho : o ≤ 128) (c' : Fin 128) (hc : o + c'.val = c.val),
      dqA (F := Ideal) (blk Y (r.val / 32) (by omega) o ho) (ix2 (⟨r.val % 32, Nat.mod_lt _ (by decide)⟩ : Fin 32) c') = dyq dy r n := by
    intro o ho c' hc
    rw [dqA_apply]
    have hb : ∀ i : Fin 32, blk (F := Ideal) Y (r.val / 32) (by omega) o ho (ix2 i c') = dy ⟨32 * (r.val / 32) + i.val, by omega⟩ n := by
      intro i
      rw [← h]
      exact congrArg (fun q : Fin 256 => Y (ix2 (⟨32 * (r.val / 32) + i.val, by omega⟩ : Fin 1536) q)) (Fin.ext hc)
    simp only [hb]
    have er : (⟨32 * (r.val / 32) + r.val % 32, by omega⟩ : Fin 1536) = r := Fin.ext (by show 32 * (r.val / 32) + r.val % 32 = r.val; omega)
    exact congrArg (fun q : Fin 1536 => deq (dy q n) (scale (amax dy ⟨r.val / 32, by omega⟩ n))) er
  unfold dwD
  split
  · exact key 0 (by omega) ⟨c.val, by assumption⟩ (Nat.zero_add _)
  · rename_i hc
    have hc' : ¬ c.val < 128 := hc
    refine (congrFun (dqB_eq _) _).trans ?_
    exact key 128 (by omega) ⟨c.val - 128, by omega⟩ (by show 128 + (c.val - 128) = c.val; omega)

theorem srcB1_read (c : Dev nD) (W : HbBuf0 (F := Ideal) c hbM0_1) (b : Fin 22) (r : Fin 1536) (j : Fin 256) :
    (srcB1 b).view.read (Elt Ideal) W (ix2 r j) = hbM0_1.view.read (Elt Ideal) W (ix2 r ⟨256 * b.val + j.val, by omega⟩) := by
  unfold srcB1
  refine congrArg (hbM0_1.view.read (Elt Ideal) W) (?_ : (Rect.unit (s := S1536x5760) ![0, 256 * b.val] S1536x256.size (inb_src1 b)).emb (ix2 r j) = _)
  funext a
  refine Fin.ext ?_
  match a with
  | ⟨0, _⟩ => exact (show 0 + 1 * r.val = r.val by omega)
  | ⟨1, _⟩ => exact (show 256 * b.val + 1 * j.val = 256 * b.val + j.val by omega)

theorem srcT1_read (c : Dev nD) (W : HbBuf0 (F := Ideal) c hbM0_1) (r : Fin 1536) (j : Fin 128) :
    srcT1.view.read (Elt Ideal) W (ix2 r j) = hbM0_1.view.read (Elt Ideal) W (ix2 r ⟨5632 + j.val, by omega⟩) := by
  unfold srcT1
  refine congrArg (hbM0_1.view.read (Elt Ideal) W) (?_ : (Rect.unit (s := S1536x5760) ![0, 5632] S1536x128.size inb_tail1).emb (ix2 r j) = _)
  funext a
  refine Fin.ext ?_
  match a with
  | ⟨0, _⟩ => exact (show 0 + 1 * r.val = r.val by omega)
  | ⟨1, _⟩ => exact (show 5632 + 1 * j.val = 5632 + j.val by omega)

theorem nslot1_read (c : Dev nD) (s : Fin 2) (f : HbBuf0 (F := Ideal) c (rslot1 s)) (r : Fin 1536) (j : Fin 128) :
    (nslot1 s).view.read (Elt Ideal) f (ix2 r j) = (rslot1 s).view.read (Elt Ideal) f (ix2 r ⟨j.val, by omega⟩) := by
  unfold nslot1 rslot1
  have h1 : S1x1536x128.ShapeCasts S1536x128 := by decide
  have h2 : S1x1536x256.ShapeCasts S1536x256 := by decide
  have e1 := Memref.read_squeeze_slice (Val := Elt Ideal) scM0_4 (Rect.unit (s := S2x1536x256) ![s.val, 0, 0] S1x1536x128.size (inb_nslot1 s)) (fun _ => rfl) squeezes_S1x1536x128_S1536x128 h1 f
  have e2 := Memref.read_squeeze_slice (Val := Elt Ideal) scM0_4 (Rect.unit (s := S2x1536x256) ![s.val, 0, 0] S1x1536x256.size (inb_slot1 s)) (fun _ => rfl) squeezes_S1x1536x256_S1536x256 h2 f
  refine (congrFun e1 (ix2 r j)).trans (Eq.trans ?_ (congrFun e2 (ix2 r (⟨j.val, by omega⟩ : Fin 256))).symm)
  refine (shapeCast_dropUnit_apply ![1536, 128] _ h1 _).trans ((?_ : _ = _).trans (shapeCast_dropUnit_apply ![1536, 256] _ h2 _).symm)
  refine congrArg (scM0_4.view.read (Elt Ideal) f) ?_
  funext a
  refine Fin.ext ?_
  match a with
  | ⟨0, _⟩ => rfl
  | ⟨1, _⟩ => rfl
  | ⟨2, _⟩ => rfl

/-- What the slot holds of the columns of `dy`. -/
theorem slot_apply (c : Dev nD) (W : HbBuf0 (F := Ideal) c hbM0_1) (s : Fin 2) (t : ℕ) (f : HbBuf0 (F := Ideal) c (rslot1 s)) (hf : Ok1 c W s t f)
    (ht : t < 23) (j : Fin 256) (hj : 256 * t + j.val < 5760) (r : Fin 1536) :
    (rslot1 s).view.read (Elt Ideal) f (ix2 r j) = hbM0_1.view.read (Elt Ideal) W (ix2 r ⟨256 * t + j.val, hj⟩) := by
  by_cases h : t < 22
  · rw [hf.1 h, srcB1_read]
  · have e : t = 22 := by omega
    subst e
    have := congrFun (hf.2 rfl) (ix2 r (⟨j.val, by omega⟩ : Fin 128))
    rw [nslot1_read, srcT1_read] at this
    exact this

/-- What a step leaves in the columns of the window that are in the array. -/
theorem dwOk_apply (m : (ℓ : Loc nD τ sig) → Buf (Elt Ideal) ℓ) (c : Dev nD) (t : Fin cfg0.N) (d : S2880x256.Idx → EReal) (h : DwOk (F := Ideal) m c t d)
    (k : Fin 2880) (j : Fin 256) (hj : 256 * t.val + j.val < 5760) :
    d (ix2 k j) = DW (fun k r => hbM0_3.view.read (Elt Ideal) (V m c main_arg3) (ix2 k r)) (fun r n => hbM0_1.view.read (Elt Ideal) (V m c main_arg1) (ix2 r n)) k ⟨256 * t.val + j.val, hj⟩ := by
  obtain ⟨f, hf, rfl⟩ := h
  rw [mm_apply, DW]
  refine Finset.sum_congr rfl fun r _ => ?_
  rw [dwD_apply _ (fun r n => hbM0_1.view.read (Elt Ideal) (V m c main_arg1) (ix2 r n)) j ⟨256 * t.val + j.val, hj⟩ fun r => slot_apply c _ _ t.val f hf t.isLt j hj r]

end Cert.Dw
-- ==== Proof.Value.TileW.lean ====
/-
`y` at `Ideal`: what a step of the kernel leaves in the scratch it copies to the result, and the result once every tile is in it.
-/
module

public import proofs.«01_k».proof.Proof.KernelIdeal.Step
public import proofs.«01_k».proof.Proof.Value.Block

@[expose] public section

set_option maxRecDepth 16384

noncomputable section

namespace Cert.Dw

open Cert.KernelIdeal Cert.KernelIdeal.Gen Cert.KernelIdeal.Hand
open Idealize.ShloMosaic Idealize.ShloMosaic.TcCoe

theorem mmY_apply (X : FVec Ideal S1536x2880 .bf16) (Z : FVec Ideal S2880x256 .bf16) (r : Fin 1536) (n : Fin 256) :
    k0_pay735 (F := Ideal) X Z (ix2 r n) = ∑ k : Fin 2880, X (ix2 r k) * Z (ix2 k n) := by
  simp only [k0_pay735, shapeCast_self, pointwise]
  exact zero_add _

theorem wqA_eq (x : Vec Ideal S32x128 .bf16) : wqA (F := Ideal) x = dqA x := rfl
theorem wqB_eq (x : Vec Ideal S32x128 .bf16) : wqB (F := Ideal) x = dqA x := rfl

/-- A column of the widened tile, where the slot holds column `n` of `w` in its column `c`. -/
theorem wrD_apply (Y : S2880x256.Idx → EReal) (w : Fin 2880 → Fin 5760 → EReal) (c : Fin 256) (n : Fin 5760)
    (h : ∀ r : Fin 2880, Y (ix2 r c) = w r n) (r : Fin 2880) : wrD (F := Ideal) Y (ix2 r c) = wq w r n := by
  have key : ∀ (o : ℕ) (ho : o ≤ 128) (c' : Fin 128) (hc : o + c'.val = c.val),
      wqA (F := Ideal) (blkW Y (r.val / 32) (by omega) o ho) (ix2 (⟨r.val % 32, Nat.mod_lt _ (by decide)⟩ : Fin 32) c') = wq w r n := by
    intro o ho c' hc
    rw [wqA_eq, dqA_apply]
    have hb : ∀ i : Fin 32, blkW (F := Ideal) Y (r.val / 32) (by omega) o ho (ix2 i c') = w ⟨32 * (r.val / 32) + i.val, by omega⟩ n := by
      intro i
      rw [← h]
      exact congrArg (fun q : Fin 256 => Y (ix2 (⟨32 * (r.val / 32) + i.val, by omega⟩ : Fin 2880) q)) (Fin.ext hc)
    simp only [hb]
    have er : (⟨32 * (r.val / 32) + r.val % 32, by omega⟩ : Fin 2880) = r := Fin.ext (by show 32 * (r.val / 32) + r.val % 32 = r.val; omega)
    exact congrArg (fun q : Fin 2880 => deq (w q n) (scale (amaxW w ⟨r.val / 32, by omega⟩ n))) er
  unfold wrD
  split
  · exact key 0 (by omega) ⟨c.val, by assumption⟩ (Nat.zero_add _)
  · rename_i hc
    have hc' : ¬ c.val < 128 := hc
    refine (congrFun ((wqB_eq _).trans (wqA_eq _).symm) _).trans ?_
    exact key 128 (by omega) ⟨c.val - 128, by omega⟩ (by show 128 + (c.val - 128) = c.val; omega)

theorem srcB0_read (c : Dev nD) (W : HbBuf0 (F := Ideal) c hbM0_0) (b : Fin 22) (r : Fin 2880) (j : Fin 256) :
    (srcB0 b).view.read (Elt Ideal) W (ix2 r j) = hbM0_0.view.read (Elt Ideal) W (ix2 r ⟨256 * b.val + j.val, by omega⟩) := by
  unfold srcB0
  refine congrArg (hbM0_0.view.read (Elt Ideal) W) (?_ : (Rect.unit (s := S2880x5760) ![0, 256 * b.val] S2880x256.size (inb_src0 b)).emb (ix2 r j) = _)
  funext a
  refine Fin.ext ?_
  match a with
  | ⟨0, _⟩ => exact (show 0 + 1 * r.val = r.val by omega)
  | ⟨1, _⟩ => exact (show 256 * b.val + 1 * j.val = 256 * b.val + j.val by omega)

theorem srcT0_read (c : Dev nD) (W : HbBuf0 (F := Ideal) c hbM0_0) (r : Fin 2880) (j : Fin 128) :
    srcT0.view.read (Elt Ideal) W (ix2 r j) = hbM0_0.view.read (Elt Ideal) W (ix2 r ⟨5632 + j.val, by omega⟩) := by
  unfold srcT0
  refine congrArg (hbM0_0.view.read (Elt Ideal) W) (?_ : (Rect.unit (s := S2880x5760) ![0, 5632] S2880x128.size inb_tail0).emb (ix2 r j) = _)
  funext a
  refine Fin.ext ?_
  match a with
  | ⟨0, _⟩ => exact (show 0 + 1 * r.val = r.val by omega)
  | ⟨1, _⟩ => exact (show 5632 + 1 * j.val = 5632 + j.val by omega)

theorem nslot0_read (c : Dev nD) (s : Fin 2) (f : HbBuf0 (F := Ideal) c (rslot0 s)) (r : Fin 2880) (j : Fin 128) :
    (nslot0 s).view.read (Elt Ideal) f (ix2 r j) = (rslot0 s).view.read (Elt Ideal) f (ix2 r ⟨j.val, by omega⟩) := by
  unfold nslot0 rslot0
  have h1 : S1x2880x128.ShapeCasts S2880x128 := by decide
  have h2 : S1x2880x256.ShapeCasts S2880x256 := by decide
  have e1 := Memref.read_squeeze_slice (Val := Elt Ideal) scM0_3 (Rect.unit (s := S2x2880x256) ![s.val, 0, 0] S1x2880x128.size (inb_nslot0 s)) (fun _ => rfl) squeezes_S1x2880x128_S2880x128 h1 f
  have e2 := Memref.read_squeeze_slice (Val := Elt Ideal) scM0_3 (Rect.unit (s := S2x2880x256) ![s.val, 0, 0] S1x2880x256.size (inb_slot0 s)) (fun _ => rfl) squeezes_S1x2880x256_S2880x256 h2 f
  refine (congrFun e1 (ix2 r j)).trans (Eq.trans ?_ (congrFun e2 (ix2 r (⟨j.val, by omega⟩ : Fin 256))).symm)
  refine (shapeCast_dropUnit_apply ![2880, 128] _ h1 _).trans ((?_ : _ = _).trans (shapeCast_dropUnit_apply ![2880, 256] _ h2 _).symm)
  refine congrArg (scM0_3.view.read (Elt Ideal) f) ?_
  funext a
  refine Fin.ext ?_
  match a with
  | ⟨0, _⟩ => rfl
  | ⟨1, _⟩ => rfl
  | ⟨2, _⟩ => rfl

/-- What the slot holds of the columns of `w`. -/
theorem slot0_apply (c : Dev nD) (W : HbBuf0 (F := Ideal) c hbM0_0) (s : Fin 2) (t : ℕ) (f : HbBuf0 (F := Ideal) c (rslot0 s)) (hf : Ok0 c W s t f)
    (ht : t < 23) (j : Fin 256) (hj : 256 * t + j.val < 5760) (r : Fin 2880) :
    (rslot0 s).view.read (Elt Ideal) f (ix2 r j) = hbM0_0.view.read (Elt Ideal) W (ix2 r ⟨256 * t + j.val, hj⟩) := by
  by_cases h : t < 22
  · rw [hf.1 h, srcB0_read]
  · have e : t = 22 := by omega
    subst e
    have := congrFun (hf.2 rfl) (ix2 r (⟨j.val, by omega⟩ : Fin 128))
    rw [nslot0_read, srcT0_read] at this
    exact this

/-- What a step leaves in the scratch, in the columns that are in the result. -/
theorem yOk_apply (m : (ℓ : Loc nD τ sig) → Buf (Elt Ideal) ℓ) (c : Dev nD) (t : ℕ) (ht : t < 23) (d : S1536x256.Idx → EReal) (h : YOk (F := Ideal) m c t d)
    (r : Fin 1536) (j : Fin 256) (hj : 256 * t + j.val < 5760) :
    d (ix2 r j) = YW (fun r k => hbM0_2.view.read (Elt Ideal) (V m c main_arg2) (ix2 r k)) (fun k n => hbM0_0.view.read (Elt Ideal) (V m c main_arg0) (ix2 k n)) r ⟨256 * t + j.val, hj⟩ := by
  obtain ⟨f, hf, rfl⟩ := h
  rw [mmY_apply, YW]
  refine Finset.sum_congr rfl fun k _ => ?_
  rw [wrD_apply _ (fun k n => hbM0_0.view.read (Elt Ideal) (V m c main_arg0) (ix2 k n)) j ⟨256 * t + j.val, hj⟩ fun k => slot0_apply c _ _ t f hf ht j hj k]

/-- `y` as a function of the kernel's arguments. -/
def kernelY (m : (ℓ : Loc nD τ sig) → Buf (Elt Ideal) ℓ) (c : Dev nD) : Buf (Elt Ideal) ((c.tc : Thread nD τ).loc main_v0_0) := fun i : S1536x5760.Idx =>
  YW (fun r k => (m ((c.tc : Thread nD τ).loc main_arg2) : S1536x2880.Idx → EReal) (ix2 r k))
    (fun k n => (m ((c.tc : Thread nD τ).loc main_arg0) : S2880x5760.Idx → EReal) (ix2 k n)) (i 0 : Fin 1536) (i 1 : Fin 5760)

/-- A result with every tile in it is `y`. -/
theorem y_all (m : (ℓ : Loc nD τ sig) → Buf (Elt Ideal) ℓ) (c : Dev nD) (W : Buf (Elt Ideal) ((c.tc : Thread nD τ).loc main_v0_0)) (h : YDone (F := Ideal) c (YOk m c) 23 W) :
    W = kernelY m c := by
  funext i
  have h0 : ((i : S1536x5760.Idx) 0).val < 1536 := ((i : S1536x5760.Idx) 0).isLt
  have h1 : ((i : S1536x5760.Idx) 1).val < 5760 := ((i : S1536x5760.Idx) 1).isLt
  obtain ⟨d, hd, hr⟩ := h (((i : S1536x5760.Idx) 1).val / 256) (by omega)
  have hj : 256 * (((i : S1536x5760.Idx) 1).val / 256) + ((i : S1536x5760.Idx) 1).val % 256 < 5760 := by omega
  have e := hr ⟨((i : S1536x5760.Idx) 0).val, h0⟩ ⟨((i : S1536x5760.Idx) 1).val % 256, Nat.mod_lt _ (by decide)⟩ hj
  have e2 := yOk_apply m c _ (by omega) d hd ⟨((i : S1536x5760.Idx) 0).val, h0⟩ ⟨((i : S1536x5760.Idx) 1).val % 256, Nat.mod_lt _ (by decide)⟩ hj
  have ei : (yix (⟨((i : S1536x5760.Idx) 0).val, h0⟩ : Fin 1536) (⟨256 * (((i : S1536x5760.Idx) 1).val / 256) + ((i : S1536x5760.Idx) 1).val % 256, hj⟩ : Fin 5760) : S1536x5760.Idx) = i := by
    funext a
    refine Fin.ext ?_
    match a with
    | ⟨0, _⟩ => rfl
    | ⟨1, _⟩ => exact Nat.div_add_mod _ 256
  have ej : (yix (⟨((i : S1536x5760.Idx) 0).val, h0⟩ : Fin 1536) (⟨((i : S1536x5760.Idx) 1).val % 256, Nat.mod_lt _ (by decide)⟩ : Fin 256) : S1536x256.Idx) = ix2 ⟨((i : S1536x5760.Idx) 0).val, h0⟩ ⟨((i : S1536x5760.Idx) 1).val % 256, Nat.mod_lt _ (by decide)⟩ := by
    funext a
    match a with
    | ⟨0, _⟩ => rfl
    | ⟨1, _⟩ => rfl
  have e3 := e.trans ((congrArg d ej).trans e2)
  refine (congrArg (W : S1536x5760.Idx → EReal) ei).symm.trans (e3.trans ?_)
  unfold kernelY
  exact congrArg₂ (YW _ _) rfl (Fin.ext (Nat.div_add_mod _ 256))

end Cert.Dw
-- ==== Proof.Value.Kernel.lean ====
/-
The kernel's results at `Ideal`: the arrays `y` and `dw` after the run, element by element.
-/
module

public import proofs.«01_k».proof.Proof.KernelIdeal.Frame
public import proofs.«01_k».proof.Proof.Value.Tile
public import proofs.«01_k».proof.Proof.Value.TileW

@[expose] public section

set_option maxRecDepth 16384

noncomputable section

namespace Cert.Dw

open Cert.KernelIdeal Cert.KernelIdeal.Gen Cert.KernelIdeal.Hand
open Idealize.ShloMosaic Idealize.ShloMosaic.TcCoe Idealize.SL.Sem

variable (m : (ℓ : Loc nD τ sig) → Buf (Elt Ideal) ℓ) (ρ : Dev nD → PrngReg)

/-- `dw` as a function of the kernel's arguments. -/
def kernelDw (c : Dev nD) : Buf (Elt Ideal) ((c.tc : Thread nD τ).loc main_v0_2) := fun i : S2880x5760.Idx =>
  DW (fun k r => (m ((c.tc : Thread nD τ).loc main_arg3) : S2880x1536.Idx → EReal) (ix2 k r))
    (fun r n => (m ((c.tc : Thread nD τ).loc main_arg1) : S1536x5760.Idx → EReal) (ix2 r n)) (i 0 : Fin 2880) (i 1 : Fin 5760)

/-- Where the window's block sits in the array. -/
theorem blk0_emb (t : Fin cfg0.N) (y : ((cfg0.win 0).xblock (cfg0.grid.coords t)).Idx) :
    ((((cfg0.win 0).blk t).view.emb y : S2880x5760.Idx) 0).val = (y 0).val ∧ ((((cfg0.win 0).blk t).view.emb y : S2880x5760.Idx) 1).val = 256 * t.val + (y 1).val := by
  have hi : ∀ t : Fin grid0.N, cc0_transform_6 (grid0.coords t) 0 = 0 ∧ cc0_transform_6 (grid0.coords t) 1 = t.val := by decide +kernel
  have h0 := Pipeline.Window.rect_emb_val win0_0 t y 0 rfl
  have h1 := Pipeline.Window.rect_emb_val win0_0 t y 1 rfl
  have i0 : win0_0.index t 0 = 0 := (hi t).1
  have i1 : win0_0.index t 1 = t.val := (hi t).2
  rw [i0, Nat.zero_mul, Nat.zero_add] at h0
  rw [i1] at h1
  refine ⟨h0, h1.trans ?_⟩
  exact congrArg (· + (y 1).val) (Nat.mul_comm t.val 256)

theorem arr0 (c : Dev nD) (after : (w' : Fin cfg0.W) → Fin cfg0.N → (cfg0.win w').block.Idx → Elt Ideal (cfg0.win w').elt)
    (h : ∀ t, DwOk (F := Ideal) m c t (after 0 t)) :
    (((dats m 0 c).toRRel forgets0 (Rl0 m c)).withAfter after).arrAt 0 cfg0.N = kernelDw m c := by
  refine Pipeline.Dat.arrAt_eq_of_covers _ 0 _ (by decide +kernel) fun t hf y => ?_
  have e := blk0_emb t y
  have hy0 : (y 0).val < 2880 := by rw [← e.1]; exact (((cfg0.win 0).blk t).view.emb y 0).isLt
  have hy1 : 256 * t.val + (y 1).val < 5760 := by rw [← e.2]; exact (((cfg0.win 0).blk t).view.emb y 1).isLt
  have hz1 : (y 1).val < 256 := ((cfg0.win 0).xinj (cfg0.grid.coords t) y 1).isLt
  have ey : (cfg0.win 0).xinj (cfg0.grid.coords t) y = (ix2 (⟨(y 0).val, hy0⟩ : Fin 2880) (⟨(y 1).val, hz1⟩ : Fin 256) : S2880x256.Idx) := by
    funext a
    refine Fin.ext ?_
    match a with
    | ⟨0, _⟩ => rfl
    | ⟨1, _⟩ => rfl
  have key := dwOk_apply m c t (after 0 t) (h t) ⟨(y 0).val, hy0⟩ ⟨(y 1).val, hz1⟩ hy1
  show after 0 t ((cfg0.win 0).xinj (cfg0.grid.coords t) y) = _
  rw [ey]
  refine key.trans ?_
  unfold kernelDw
  exact congrArg₂ (DW _ _) (Fin.ext e.1.symm) (Fin.ext e.2.symm)

theorem kernel_value : θ_run defs (onTc (τ := τ) (main (F := Ideal))) ⟨m, fun _ => 0, ρ⟩ (fun r => ∀ c : Dev nD,
      r.2.mem ((c.tc : Thread nD τ).loc main_v0_0) = kernelY m c
      ∧ r.2.mem ((c.tc : Thread nD τ).loc main_v0_2) = kernelDw m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨by
      obtain ⟨W, hY, hW⟩ := h.1.2 c
      exact (hW main_v0_0 (by decide)).trans (y_all m c _ hY), by
      obtain ⟨after, hL, hA⟩ := Pipeline.RDat.FramePostR.exists_exact h.1.1 c
      exact (hA 0).trans (arr0 m c after fun t => Pipeline.Dat.toRRel_leaves (dat := dats m 0 c) (fgt := forgets0) (Rl := Rl0 m c) (w := 0) rfl (hL 0 t (flush0_0 t))),
      (h.1.1 c).2 main_arg0 (Finset.mem_sdiff.mpr ⟨Pipeline.mem_restRefs_of main_arg0 (by decide) (by decide), by decide⟩),
      (h.1.1 c).2 main_arg1 (Finset.mem_sdiff.mpr ⟨Pipeline.mem_restRefs_of main_arg1 (by decide) (by decide), by decide⟩),
      (h.1.1 c).2 main_arg2 (Finset.mem_sdiff.mpr ⟨Pipeline.mem_restRefs_of main_arg2 (by decide) (by decide), by decide⟩),
      (h.1.1 c).2 main_arg3 (Finset.mem_sdiff.mpr ⟨Pipeline.mem_restRefs_of main_arg3 (by decide) (by decide), by decide⟩)⟩) (run_main_quiescent m ρ)

end Cert.Dw
-- ==== Proof.Value.Ref.lean ====
/-
What the reference's call computes at `Ideal`: every element of `dw` as a sum over the rows of `dy`.
-/
module

public import proofs.«01_k».proof.Proof.Gen.ReferenceIdeal.Value
public import proofs.«01_k».proof.Proof.Value.Scalar
public import Idealize.ShloMosaic.Lib.Pointwise

@[expose] public section

set_option maxRecDepth 16384

noncomputable section

namespace Cert.Dw

open Idealize.ShloMosaic Idealize.ShloMosaic.TcCoe Idealize.SL.Sem
open Cert.ReferenceIdeal Cert.ReferenceIdeal.Gen

section
variable {α : Type}

/-- The reshapes and the broadcast, read at an index. -/
theorem cast3 (v : S1536x5760.Idx → α) (h : S1536x5760.ShapeCasts S48x32x5760) (b : Fin 48) (i : Fin 32) (c : Fin 5760) :
    shapeCast S48x32x5760 v h (ix3 b i c) = v (ix2 ⟨32 * b.val + i.val, by omega⟩ c) := by
  refine shapeCast_apply v h _ _ ?_
  rw [Shape.rowMajor_val_two, Shape.rowMajor_val_three]
  show (32 * b.val + i.val) * 5760 + c.val = (b.val * 32 + i.val) * 5760 + c.val
  omega

theorem cast2 (v : S48x32x5760.Idx → α) (h : S48x32x5760.ShapeCasts S1536x5760) (r : Fin 1536) (c : Fin 5760) :
    shapeCast S1536x5760 v h (ix2 r c) = v (ix3 ⟨r.val / 32, by omega⟩ ⟨r.val % 32, by omega⟩ c) := by
  refine shapeCast_apply v h _ _ ?_
  rw [Shape.rowMajor_val_two, Shape.rowMajor_val_three]
  show (r.val / 32 * 32 + r.val % 32) * 5760 + c.val = r.val * 5760 + c.val
  omega

theorem cast1 (v : S48x5760.Idx → α) (h : S48x5760.ShapeCasts S48x1x5760) (b : Fin 48) (c : Fin 5760) :
    shapeCast S48x1x5760 v h (ix3 b 0 c) = v (ix2 b c) := by
  refine shapeCast_apply v h _ _ ?_
  rw [Shape.rowMajor_val_two, Shape.rowMajor_val_three]
  show b.val * 5760 + c.val = (b.val * 1 + 0) * 5760 + c.val
  omega

theorem bcast (v : S48x1x5760.Idx → α) (h : S48x1x5760.Broadcasts S48x32x5760) (b : Fin 48) (i : Fin 32) (c : Fin 5760) :
    broadcastTo S48x32x5760 v h (ix3 b i c) = v (ix3 b 0 c) := by
  refine broadcastTo_apply v h _ _ ?_
  intro a
  fin_cases a <;> rfl
end

theorem ref_mm (X : FVec Ideal S2880x1536 .bf16) (Z : FVec Ideal S1536x5760 .bf16) (k : Fin 2880) (n : Fin 5760) :
    matmul dot_S2880x1536_S1536x5760_S2880x5760_1_0_0_1_n_n none X Z (constant S2880x5760 .f32 0x00000000#32) (ix2 k n) = ∑ r : Fin 1536, X (ix2 k r) * Z (ix2 r n) := by
  simp only [pointwise]
  exact zero_add _

theorem c_FF80 : Ideal.ofBits .f32 0xFF800000#32 = (⊥ : EReal) := by simp [Ideal.ofBits, Ideal.ieee]
theorem c_7F80f : Ideal.ofBits .f32 0x7F800000#32 = (⊤ : EReal) := by simp [Ideal.ofBits, Ideal.ieee]
theorem c_4000f : Ideal.ofBits .f32 0x40000000#32 = ((2 : ℝ) : EReal) := by
  rw [show (2 : ℝ) = 2 ^ (2 ^ 0) by norm_num]; simp [Ideal.ofBits, Ideal.ieee, -EReal.coe_mul, -EReal.coe_pow]; norm_num
theorem c_0080f : Ideal.ofBits .f32 0x00800000#32 = w 0 := by unfold w; simp [Ideal.ofBits, Ideal.ieee, -EReal.coe_mul, -EReal.coe_pow]; norm_num
theorem c_0480f : Ideal.ofBits .f32 0x04800000#32 = ((((2 : ℝ) ^ 118)⁻¹ : ℝ) : EReal) := by simp [Ideal.ofBits, Ideal.ieee, -EReal.coe_mul, -EReal.coe_pow]; norm_num
theorem c_3F80f : Ideal.ofBits .f32 0x3F800000#32 = (1 : EReal) := by
  rw [← EReal.coe_one]; simp [Ideal.ofBits, Ideal.ieee, -EReal.coe_mul, -EReal.coe_pow, -EReal.coe_one]; norm_num
theorem c_43E0f : Ideal.ofBits .f32 0x43E00000#32 = ((448 : ℝ) : EReal) := by simp [Ideal.ofBits, Ideal.ieee, -EReal.coe_mul, -EReal.coe_pow]; norm_num
theorem c_C3E0f : Ideal.ofBits .f32 0xC3E00000#32 = ((-448 : ℝ) : EReal) := by simp [Ideal.ofBits, Ideal.ieee, -EReal.coe_mul, -EReal.coe_pow]; norm_num

/-- The largest magnitudes of the blocks of `dy`. -/
def am (Y : Vec Ideal S1536x5760 .bf16) : FVec Ideal S48x5760 .f32 := k0_pay1 (F := Ideal) (k0_pay11 Y)

theorem ref_amax (Y : Vec Ideal S1536x5760 .bf16) (b : Fin 48) (c : Fin 5760) :
    am Y (ix2 b c) = amax (fun r c => Y (ix2 r c)) b c := by
  unfold am k0_pay1
  refine (Ideal.multiReduction_maximumf_single _ _ _ _ _ _).trans ?_
  have e0 : FloatOps.ofBits (F := Ideal) .f32 0xFF800000#32 = (⊥ : EReal) := c_FF80
  rw [e0]
  unfold amax
  refine (congrArg (fun f => Finset.fold max (⊥ : EReal) f Finset.univ) ?_).trans rfl
  funext i
  have el : reduces_S48x32x5760_S48x5760.lift (ix2 b c) i = ix3 b (i : Fin 32) c := by
    funext a
    fin_cases a <;> rfl
  have e1 : k0_pay10 (F := Ideal) Y (ix3 b (i : Fin 32) c) = Y (ix2 ⟨32 * b.val + i.val, by have := i.isLt; have h : i.val < 32 := this; omega⟩ c) := by
    unfold k0_pay10
    exact cast3 _ _ b i c
  show mag (k0_pay10 (F := Ideal) Y (reduces_S48x32x5760_S48x5760.lift (ix2 b c) i)) = _
  rw [el]
  exact congrArg mag e1

theorem ref_pay3 (Y : Vec Ideal S1536x5760 .bf16) (s : FVec Ideal S48x5760 .f32) (i : S48x5760.Idx) :
    k0_pay3 (F := Ideal) (k0_pay11 Y) s i = dbl (am Y i) (s i) := by
  simp only [k0_pay3, am, pointwise]
  rw [c_43E0f, c_4000f, dbl]

theorem ref_pay2 (i : S48x5760.Idx) : k0_pay2 (F := Ideal) i = w 0 := by
  simp only [k0_pay2, pointwise]
  exact c_0080f

/-- The doubling loop, element by element. -/
theorem ref_loop (Y : Vec Ideal S1536x5760 .bf16) {N : ℕ} (hN : N = 255) (g : Fin N → FVec Ideal S48x5760 .f32 → FVec Ideal S48x5760 .f32) (hg : ∀ k s, g k s = k0_pay3 (k0_pay11 Y) s) (i : S48x5760.Idx) :
    Scf.fold g (k0_pay2 (F := Ideal)) i = lin (am Y i) 255 := by
  rw [Scf.fold_eq]
  have key : ∀ (l : List (Fin N)) (s : FVec Ideal S48x5760 .f32) (n : ℕ), s i = lin (am Y i) n →
      l.foldl (fun acc k => g k acc) s i = lin (am Y i) (n + l.length) := by
    intro l
    induction l with
    | nil => intro s n h; exact h
    | cons k l ih =>
      intro s n h
      rw [List.foldl_cons, ih (g k s) (n + 1) (by rw [hg, ref_pay3, h]; rfl), List.length_cons, Nat.add_assoc, Nat.add_comm 1]
  rw [key _ _ 0 (ref_pay2 i), List.length_finRange, hN]

/-- The scale of a block. -/
theorem ref_scale (a s : FVec Ideal S48x5760 .f32) (i : S48x5760.Idx) (h : s i = lin (a i) 255) :
    select (andi (cmpf .oge a (broadcast S48x5760 (Scalar.ofBits (F := Ideal) .f32 0x04800000#32))) (cmpf .olt a (broadcast S48x5760 (Scalar.ofBits (F := Ideal) .f32 0x7F800000#32)))) s
      (broadcast S48x5760 (Scalar.ofBits (F := Ideal) .f32 0x3F800000#32)) i = scale (a i) := by
  simp only [pointwise]
  rw [scale, ← h, ← c_0480f, ← c_7F80f]
  by_cases h1 : Ideal.ofBits .f32 0x04800000#32 ≤ a i <;> by_cases h2 : a i < Ideal.ofBits .f32 0x7F800000#32 <;> simp only [h1, h2, decide_true, decide_false, if_true, if_false, and_self, and_true, true_and, and_false, false_and] <;> rfl

/-- The scales of the blocks, with the scale 1 where the magnitude has none. -/
def scl (Y : Vec Ideal S1536x5760 .bf16) (s : FVec Ideal S48x5760 .f32) : FVec Ideal S48x5760 .f32 :=
  select (andi (cmpf .oge (am Y) (broadcast S48x5760 (Scalar.ofBits (F := Ideal) .f32 0x04800000#32))) (cmpf .olt (am Y) (broadcast S48x5760 (Scalar.ofBits (F := Ideal) .f32 0x7F800000#32)))) s
    (broadcast S48x5760 (Scalar.ofBits (F := Ideal) .f32 0x3F800000#32))

/-- A vector of one value per block, spread over the blocks' rows. -/
def spread {φ : FTy} (v : FVec Ideal S48x5760 φ) : FVec Ideal S48x32x5760 φ :=
  broadcastTo S48x32x5760 (shapeCast S48x1x5760 v shapeCasts_S48x5760_S48x1x5760) broadcasts_S48x1x5760_S48x32x5760

theorem spread_apply {φ : FTy} (v : FVec Ideal S48x5760 φ) (b : Fin 48) (i : Fin 32) (c : Fin 5760) : spread v (ix3 b i c) = v (ix2 b c) :=
  (bcast _ _ b i c).trans (cast1 _ _ b c)

/-- The widened codes, block by block. -/
def wide (x : FVec Ideal S48x32x5760 .f32) (s : FVec Ideal S48x5760 .f32) : FVec Ideal S48x32x5760 .bf16 :=
  mulf (F := Ideal) (φ := .bf16) (extf .bf16 (truncf .fp8e4m3 (minimumf (broadcast S48x32x5760 (Scalar.ofBits (F := Ideal) .f32 0x43E00000#32)) (maximumf (broadcast S48x32x5760 (Scalar.ofBits (F := Ideal) .f32 0xC3E00000#32))
      (mulf x (spread (divf (broadcast S48x5760 (Scalar.ofBits (F := Ideal) .f32 0x3F800000#32)) s))))) bitsLt_fp8e4m3_f32) bitsLt_fp8e4m3_bf16)
    (spread (truncf .bf16 s bitsLt_bf16_f32))

theorem wide_apply (x : FVec Ideal S48x32x5760 .f32) (s : FVec Ideal S48x5760 .f32) (b : Fin 48) (i : Fin 32) (c : Fin 5760) :
    wide x s (ix3 b i c) = deq (x (ix3 b i c)) (s (ix2 b c)) := by
  simp only [wide, pointwise, spread_apply]
  rw [c_43E0f, c_C3E0f, deq]

theorem ref_pay4 (X : Vec Ideal S2880x1536 .bf16) (Y : Vec Ideal S1536x5760 .bf16) (s : FVec Ideal S48x5760 .f32) :
    k0_pay4 (F := Ideal) (k0_pay10 Y) (k0_pay11 Y) s X = matmul (φ₁ := .bf16) dot_S2880x1536_S1536x5760_S2880x5760_1_0_0_1_n_n none X (shapeCast S1536x5760 (wide (k0_pay10 (F := Ideal) Y) (scl Y s)) shapeCasts_S48x32x5760_S1536x5760) (constant S2880x5760 .f32 0x00000000#32) := rfl

theorem pay10_apply (Y : Vec Ideal S1536x5760 .bf16) (b : Fin 48) (i : Fin 32) (c : Fin 5760) :
    k0_pay10 (F := Ideal) Y (ix3 b i c) = Y (ix2 ⟨32 * b.val + i.val, by omega⟩ c) :=
  cast3 _ _ b i c

theorem ref_value (X : Vec Ideal S2880x1536 .bf16) (Y : Vec Ideal S1536x5760 .bf16) (s : FVec Ideal S48x5760 .f32)
    (hs : ∀ i, s i = lin (am Y i) 255) (k : Fin 2880) (n : Fin 5760) :
    k0_pay4 (F := Ideal) (k0_pay10 Y) (k0_pay11 Y) s X (ix2 k n) = DW (fun k r => X (ix2 k r)) (fun r n => Y (ix2 r n)) k n := by
  rw [ref_pay4, ref_mm, DW]
  refine Finset.sum_congr rfl fun r _ => ?_
  rw [cast2, wide_apply, pay10_apply, scl, ref_scale _ _ _ (hs _), ref_amax, dyq]
  have er : (⟨32 * (r.val / 32) + r.val % 32, by omega⟩ : Fin 1536) = r := Fin.ext (by show 32 * (r.val / 32) + r.val % 32 = r.val; omega)
  exact congrArg (fun q : Fin 1536 => X (ix2 k r) * deq (Y (ix2 q n)) (scale (amax (fun r n => Y (ix2 r n)) ⟨r.val / 32, by omega⟩ n))) er

end Cert.Dw
-- ==== Proof.Value.RefW.lean ====
/-
What the reference's call computes at `Ideal`: every element of `y` as a sum over the rows of `w`.
-/
module

public import proofs.«01_k».proof.Proof.Gen.ReferenceIdeal.Value
public import proofs.«01_k».proof.Proof.Value.Ref
public import Idealize.ShloMosaic.Lib.Pointwise

@[expose] public section

set_option maxRecDepth 16384

noncomputable section

namespace Cert.Dw.W

open Idealize.ShloMosaic Idealize.ShloMosaic.TcCoe Idealize.SL.Sem
open Cert.ReferenceIdeal Cert.ReferenceIdeal.Gen

section
variable {α : Type}

/-- The reshapes and the broadcast, read at an index. -/
theorem cast3 (v : S2880x5760.Idx → α) (h : S2880x5760.ShapeCasts S90x32x5760) (b : Fin 90) (i : Fin 32) (c : Fin 5760) :
    shapeCast S90x32x5760 v h (ix3 b i c) = v (ix2 ⟨32 * b.val + i.val, by omega⟩ c) := by
  refine shapeCast_apply v h _ _ ?_
  rw [Shape.rowMajor_val_two, Shape.rowMajor_val_three]
  show (32 * b.val + i.val) * 5760 + c.val = (b.val * 32 + i.val) * 5760 + c.val
  omega

theorem cast2 (v : S90x32x5760.Idx → α) (h : S90x32x5760.ShapeCasts S2880x5760) (r : Fin 2880) (c : Fin 5760) :
    shapeCast S2880x5760 v h (ix2 r c) = v (ix3 ⟨r.val / 32, by omega⟩ ⟨r.val % 32, by omega⟩ c) := by
  refine shapeCast_apply v h _ _ ?_
  rw [Shape.rowMajor_val_two, Shape.rowMajor_val_three]
  show (r.val / 32 * 32 + r.val % 32) * 5760 + c.val = r.val * 5760 + c.val
  omega

theorem cast1 (v : S90x5760.Idx → α) (h : S90x5760.ShapeCasts S90x1x5760) (b : Fin 90) (c : Fin 5760) :
    shapeCast S90x1x5760 v h (ix3 b 0 c) = v (ix2 b c) := by
  refine shapeCast_apply v h _ _ ?_
  rw [Shape.rowMajor_val_two, Shape.rowMajor_val_three]
  show b.val * 5760 + c.val = (b.val * 1 + 0) * 5760 + c.val
  omega

theorem bcast (v : S90x1x5760.Idx → α) (h : S90x1x5760.Broadcasts S90x32x5760) (b : Fin 90) (i : Fin 32) (c : Fin 5760) :
    broadcastTo S90x32x5760 v h (ix3 b i c) = v (ix3 b 0 c) := by
  refine broadcastTo_apply v h _ _ ?_
  intro a
  fin_cases a <;> rfl
end

theorem ref_mm (X : FVec Ideal S1536x2880 .bf16) (Z : FVec Ideal S2880x5760 .bf16) (k : Fin 1536) (n : Fin 5760) :
    matmul dot_S1536x2880_S2880x5760_S1536x5760_1_0_0_1_n_n none X Z (constant S1536x5760 .f32 0x00000000#32) (ix2 k n) = ∑ r : Fin 2880, X (ix2 k r) * Z (ix2 r n) := by
  simp only [pointwise]
  exact zero_add _

theorem ref_amax (Y : Vec Ideal S2880x5760 .bf16) (b : Fin 90) (c : Fin 5760) :
    k0_pay6 (F := Ideal) Y (ix2 b c) = amaxW (fun r c => Y (ix2 r c)) b c := by
  unfold k0_pay6
  refine (Ideal.multiReduction_maximumf_single _ _ _ _ _ _).trans ?_
  have e0 : FloatOps.ofBits (F := Ideal) .f32 0xFF800000#32 = (⊥ : EReal) := c_FF80
  rw [e0]
  unfold amaxW
  refine (congrArg (fun f => Finset.fold max (⊥ : EReal) f Finset.univ) ?_).trans rfl
  funext i
  have el : reduces_S90x32x5760_S90x5760.lift (ix2 b c) i = ix3 b (i : Fin 32) c := by
    funext a
    fin_cases a <;> rfl
  have e1 : k0_pay5 (F := Ideal) Y (ix3 b (i : Fin 32) c) = Y (ix2 ⟨32 * b.val + i.val, by have := i.isLt; have h : i.val < 32 := this; omega⟩ c) := by
    unfold k0_pay5
    exact cast3 _ _ b i c
  show mag (k0_pay5 (F := Ideal) Y (reduces_S90x32x5760_S90x5760.lift (ix2 b c) i)) = _
  rw [el]
  exact congrArg mag e1

theorem ref_pay8 (Y : Vec Ideal S2880x5760 .bf16) (s : FVec Ideal S90x5760 .f32) (i : S90x5760.Idx) :
    k0_pay8 (F := Ideal) Y s i = dbl (k0_pay6 (F := Ideal) Y i) (s i) := by
  simp only [k0_pay8, pointwise]
  rw [c_43E0f, c_4000f, dbl]

theorem ref_pay7 (i : S90x5760.Idx) : k0_pay7 (F := Ideal) i = w 0 := by
  simp only [k0_pay7, pointwise]
  exact c_0080f

/-- The doubling loop, element by element. -/
theorem ref_loop (Y : Vec Ideal S2880x5760 .bf16) {N : ℕ} (hN : N = 255) (g : Fin N → FVec Ideal S90x5760 .f32 → FVec Ideal S90x5760 .f32) (hg : ∀ k s, g k s = k0_pay8 Y s) (i : S90x5760.Idx) :
    Scf.fold g (k0_pay7 (F := Ideal)) i = lin (k0_pay6 (F := Ideal) Y i) 255 := by
  rw [Scf.fold_eq]
  have key : ∀ (l : List (Fin N)) (s : FVec Ideal S90x5760 .f32) (n : ℕ), s i = lin (k0_pay6 (F := Ideal) Y i) n →
      l.foldl (fun acc k => g k acc) s i = lin (k0_pay6 (F := Ideal) Y i) (n + l.length) := by
    intro l
    induction l with
    | nil => intro s n h; exact h
    | cons k l ih =>
      intro s n h
      rw [List.foldl_cons, ih (g k s) (n + 1) (by rw [hg, ref_pay8, h]; rfl), List.length_cons, Nat.add_assoc, Nat.add_comm 1]
  rw [key _ _ 0 (ref_pay7 i), List.length_finRange, hN]

/-- The scale of a block. -/
theorem ref_scale (a s : FVec Ideal S90x5760 .f32) (i : S90x5760.Idx) (h : s i = lin (a i) 255) :
    select (andi (cmpf .oge a (broadcast S90x5760 (Scalar.ofBits (F := Ideal) .f32 0x04800000#32))) (cmpf .olt a (broadcast S90x5760 (Scalar.ofBits (F := Ideal) .f32 0x7F800000#32)))) s
      (broadcast S90x5760 (Scalar.ofBits (F := Ideal) .f32 0x3F800000#32)) i = scale (a i) := by
  simp only [pointwise]
  rw [scale, ← h, ← c_0480f, ← c_7F80f]
  by_cases h1 : Ideal.ofBits .f32 0x04800000#32 ≤ a i <;> by_cases h2 : a i < Ideal.ofBits .f32 0x7F800000#32 <;> simp only [h1, h2, decide_true, decide_false, if_true, if_false, and_self, and_true, true_and, and_false, false_and] <;> rfl

/-- The scales of the blocks, with the scale 1 where the magnitude has none. -/
def scl (Y : Vec Ideal S2880x5760 .bf16) (s : FVec Ideal S90x5760 .f32) : FVec Ideal S90x5760 .f32 :=
  select (andi (cmpf .oge (k0_pay6 (F := Ideal) Y) (broadcast S90x5760 (Scalar.ofBits (F := Ideal) .f32 0x04800000#32))) (cmpf .olt (k0_pay6 (F := Ideal) Y) (broadcast S90x5760 (Scalar.ofBits (F := Ideal) .f32 0x7F800000#32)))) s
    (broadcast S90x5760 (Scalar.ofBits (F := Ideal) .f32 0x3F800000#32))

/-- A vector of one value per block, spread over the blocks' rows. -/
def spread {φ : FTy} (v : FVec Ideal S90x5760 φ) : FVec Ideal S90x32x5760 φ :=
  broadcastTo S90x32x5760 (shapeCast S90x1x5760 v shapeCasts_S90x5760_S90x1x5760) broadcasts_S90x1x5760_S90x32x5760

theorem spread_apply {φ : FTy} (v : FVec Ideal S90x5760 φ) (b : Fin 90) (i : Fin 32) (c : Fin 5760) : spread v (ix3 b i c) = v (ix2 b c) :=
  (bcast _ _ b i c).trans (cast1 _ _ b c)

/-- The widened codes, block by block. -/
def wide (x : FVec Ideal S90x32x5760 .f32) (s : FVec Ideal S90x5760 .f32) : FVec Ideal S90x32x5760 .bf16 :=
  mulf (F := Ideal) (φ := .bf16) (extf .bf16 (truncf .fp8e4m3 (minimumf (broadcast S90x32x5760 (Scalar.ofBits (F := Ideal) .f32 0x43E00000#32)) (maximumf (broadcast S90x32x5760 (Scalar.ofBits (F := Ideal) .f32 0xC3E00000#32))
      (mulf x (spread (divf (broadcast S90x5760 (Scalar.ofBits (F := Ideal) .f32 0x3F800000#32)) s))))) bitsLt_fp8e4m3_f32) bitsLt_fp8e4m3_bf16)
    (spread (truncf .bf16 s bitsLt_bf16_f32))

theorem wide_apply (x : FVec Ideal S90x32x5760 .f32) (s : FVec Ideal S90x5760 .f32) (b : Fin 90) (i : Fin 32) (c : Fin 5760) :
    wide x s (ix3 b i c) = deq (x (ix3 b i c)) (s (ix2 b c)) := by
  simp only [wide, pointwise, spread_apply]
  rw [c_43E0f, c_C3E0f, deq]

theorem ref_pay9 (X : Vec Ideal S1536x2880 .bf16) (Y : Vec Ideal S2880x5760 .bf16) (s : FVec Ideal S90x5760 .f32) :
    k0_pay9 (F := Ideal) Y s X = truncf .bf16 (matmul (φ₁ := .bf16) dot_S1536x2880_S2880x5760_S1536x5760_1_0_0_1_n_n none X (shapeCast S2880x5760 (wide (k0_pay5 (F := Ideal) Y) (scl Y s)) shapeCasts_S90x32x5760_S2880x5760) (constant S1536x5760 .f32 0x00000000#32)) bitsLt_bf16_f32 := rfl

theorem pay5_apply (Y : Vec Ideal S2880x5760 .bf16) (b : Fin 90) (i : Fin 32) (c : Fin 5760) :
    k0_pay5 (F := Ideal) Y (ix3 b i c) = Y (ix2 ⟨32 * b.val + i.val, by omega⟩ c) :=
  cast3 _ _ b i c

theorem ref_value (X : Vec Ideal S1536x2880 .bf16) (Y : Vec Ideal S2880x5760 .bf16) (s : FVec Ideal S90x5760 .f32)
    (hs : ∀ i, s i = lin (k0_pay6 (F := Ideal) Y i) 255) (k : Fin 1536) (n : Fin 5760) :
    k0_pay9 (F := Ideal) Y s X (ix2 k n) = YW (fun k r => X (ix2 k r)) (fun r n => Y (ix2 r n)) k n := by
  rw [ref_pay9]
  refine (ref_mm X _ k n).trans ?_
  rw [YW]
  refine Finset.sum_congr rfl fun r _ => ?_
  rw [cast2, wide_apply, pay5_apply, scl, ref_scale _ _ _ (hs _), ref_amax, wq]
  have er : (⟨32 * (r.val / 32) + r.val % 32, by omega⟩ : Fin 2880) = r := Fin.ext (by show 32 * (r.val / 32) + r.val % 32 = r.val; omega)
  exact congrArg (fun q : Fin 2880 => X (ix2 k r) * deq (Y (ix2 q n)) (scale (amaxW (fun r n => Y (ix2 r n)) ⟨r.val / 32, by omega⟩ n))) er

end Cert.Dw.W
-- ==== Proof.Value.RefArray.lean ====
/-
The reference's results at `Ideal`: the arrays `y` and `dw` after the run, element by element.
-/
module

public import proofs.«01_k».proof.Proof.Value.RefW
public import Idealize.ShloMosaic.Lib.VecWindow
public import Idealize.ShloMosaic.Lib.WritesUnit
public import Idealize.ShloMosaic.Lib.Pipeline.ValueKit.Geometry

@[expose] public section

set_option maxRecDepth 16384

noncomputable section

namespace Cert.Dw

open Cert.ReferenceIdeal Cert.ReferenceIdeal.Gen Cert.ReferenceIdeal.Value
open Idealize.ShloMosaic Idealize.ShloMosaic.TcCoe Idealize.SL.Sem

variable (m : (ℓ : Loc nD τ sig) → Buf (Elt Ideal) ℓ) (ρ : Dev nD → PrngReg)

/-- `y` as a function of the reference's arguments. -/
def refY (c : Dev nD) : Buf (Elt Ideal) ((c.tc : Thread nD τ).loc main_v0_0) := fun i : S1536x5760.Idx =>
  YW (fun k r => (m ((c.tc : Thread nD τ).loc main_arg2) : S1536x2880.Idx → EReal) (ix2 k r))
    (fun r n => (m ((c.tc : Thread nD τ).loc main_arg0) : S2880x5760.Idx → EReal) (ix2 r n)) (i 0 : Fin 1536) (i 1 : Fin 5760)

/-- `dw` as a function of the reference's arguments. -/
def refDw (c : Dev nD) : Buf (Elt Ideal) ((c.tc : Thread nD τ).loc main_v0_1) := fun i : S2880x5760.Idx =>
  DW (fun k r => (m ((c.tc : Thread nD τ).loc main_arg3) : S2880x1536.Idx → EReal) (ix2 k r))
    (fun r n => (m ((c.tc : Thread nD τ).loc main_arg1) : S1536x5760.Idx → EReal) (ix2 r n)) (i 0 : Fin 2880) (i 1 : Fin 5760)

/-- What the body leaves in `y`, of the inputs it has read. -/
theorem out_y (c : Dev nD) (a0 : Memref sig .tc .vmem S2880x5760 .bf16) (h0 : a0.IsWhole) (a1 : Memref sig .tc .vmem S1536x5760 .bf16) (h1 : a1.IsWhole) (a2 : Memref sig .tc .vmem S1536x2880 .bf16) (h2 : a2.IsWhole)
    (a3 : Memref sig .tc .vmem S2880x1536 .bf16) (h3 : a3.IsWhole) (a4 : Memref sig .tc .vmem S1536x5760 .bf16) (h4 : a4.IsWhole) (a5 : Memref sig .tc .vmem S2880x5760 .f32) (h5 : a5.IsWhole)
    (x0 : Vec Ideal S2880x5760 .bf16) (x1 : Vec Ideal S1536x5760 .bf16) (x2 : Vec Ideal S1536x2880 .bf16) (x3 : Vec Ideal S2880x1536 .bf16) (k : Fin 1536) (n : Fin 5760) :
    out0_A_4 (F := Ideal) c a0 h0 a1 h1 a2 h2 a3 h3 a4 h4 a5 h5 x0 x1 x2 x3 (ix2 k n) = YW (fun k r => x2 (ix2 k r)) (fun r n => x0 (ix2 r n)) k n := by
  unfold out0_A_4 kernelRun0_A
  have eY := (View.readAt_full a0.view (h0.unread (Val := Elt Ideal) x0) inb_S2880x5760_S2880x5760_0_0).trans (h0.read_unread x0)
  have eX := (View.readAt_full a2.view (h2.unread (Val := Elt Ideal) x2) inb_S1536x2880_S1536x2880_0_0).trans (h2.read_unread x2)
  have es : ∀ i, kernelRun0_A.sl.r (F := Ideal) c a0 h0 x0 i = lin (k0_pay6 (F := Ideal) x0 i) 255 := by
    intro i
    unfold kernelRun0_A.sl.r
    exact W.ref_loop x0 (by decide) _ (fun _ s => congrArg (fun Z => k0_pay8 (F := Ideal) Z s) eY) i
  refine (congrFun (View.read_writes_full VO0_4 VO0_4.junk inb_S1536x5760_S1536x5760_0_0 _ _) (ix2 k n)).trans ?_
  rw [eY, eX]
  exact W.ref_value x2 x0 _ es k n

/-- What the body leaves in `dw`, of the inputs it has read. -/
theorem out_dw (c : Dev nD) (a0 : Memref sig .tc .vmem S2880x5760 .bf16) (h0 : a0.IsWhole) (a1 : Memref sig .tc .vmem S1536x5760 .bf16) (h1 : a1.IsWhole) (a2 : Memref sig .tc .vmem S1536x2880 .bf16) (h2 : a2.IsWhole)
    (a3 : Memref sig .tc .vmem S2880x1536 .bf16) (h3 : a3.IsWhole) (a4 : Memref sig .tc .vmem S1536x5760 .bf16) (h4 : a4.IsWhole) (a5 : Memref sig .tc .vmem S2880x5760 .f32) (h5 : a5.IsWhole)
    (x0 : Vec Ideal S2880x5760 .bf16) (x1 : Vec Ideal S1536x5760 .bf16) (x2 : Vec Ideal S1536x2880 .bf16) (x3 : Vec Ideal S2880x1536 .bf16) (k : Fin 2880) (n : Fin 5760) :
    out0_A_5 (F := Ideal) c a0 h0 a1 h1 a2 h2 a3 h3 a4 h4 a5 h5 x0 x1 x2 x3 (ix2 k n) = DW (fun k r => x3 (ix2 k r)) (fun r n => x1 (ix2 r n)) k n := by
  unfold out0_A_5 kernelRun0_A
  have eY := (View.readAt_full a1.view (h1.unread (Val := Elt Ideal) x1) inb_S1536x5760_S1536x5760_0_0).trans (h1.read_unread x1)
  have eX := (View.readAt_full a3.view (h3.unread (Val := Elt Ideal) x3) inb_S2880x1536_S2880x1536_0_0).trans (h3.read_unread x3)
  have e1 : kernelRun0_A.sl.r_1 (F := Ideal) c a1 h1 x1 = k0_pay10 x1 := by
    unfold kernelRun0_A.sl.r_1
    exact congrArg (k0_pay10 (F := Ideal)) eY
  have e2 : kernelRun0_A.sl.r_2 (F := Ideal) c a1 h1 x1 = k0_pay11 x1 := by
    unfold kernelRun0_A.sl.r_2
    exact congrArg (k0_pay11 (F := Ideal)) eY
  have es : ∀ i, kernelRun0_A.sl.r_3 (F := Ideal) c a1 h1 x1 i = lin (am x1 i) 255 := by
    intro i
    unfold kernelRun0_A.sl.r_3
    exact ref_loop x1 (by decide) _ (fun _ s => congrArg (fun Z => k0_pay3 (F := Ideal) Z s) e2) i
  refine (congrFun (View.read_writes_full VO0_5 VO0_5.junk inb_S2880x5760_S2880x5760_0_0 _ _) (ix2 k n)).trans ?_
  rw [e1, e2, eX]
  exact ref_value x3 x1 _ es k n

/-- The inputs' blocks are the whole arguments. -/
theorem iblk0 (c : Dev nD) (t : Fin cfg0.N) (i : S2880x5760.Idx) : (iblk (F := Ideal) m c 0 t : S2880x5760.Idx → EReal) i = (m ((c.tc : Thread nD τ).loc main_arg0) : S2880x5760.Idx → EReal) i := by
  have e : (((cfg0.win 0).blk t).view.emb i : S2880x5760.Idx) = i := by
    funext a
    exact Fin.ext (Pipeline.Window.rect_emb_val_of_index_zero win0_0 t a rfl i)
  show V m c main_arg0 (((cfg0.win 0).blk t).view.emb i) = _
  rw [e, V_main_arg0]

theorem iblk1 (c : Dev nD) (t : Fin cfg0.N) (i : S1536x5760.Idx) : (iblk (F := Ideal) m c 1 t : S1536x5760.Idx → EReal) i = (m ((c.tc : Thread nD τ).loc main_arg1) : S1536x5760.Idx → EReal) i := by
  have e : (((cfg0.win 1).blk t).view.emb i : S1536x5760.Idx) = i := by
    funext a
    exact Fin.ext (Pipeline.Window.rect_emb_val_of_index_zero win0_1 t a rfl i)
  show V m c main_arg1 (((cfg0.win 1).blk t).view.emb i) = _
  rw [e, V_main_arg1]

theorem iblk2 (c : Dev nD) (t : Fin cfg0.N) (i : S1536x2880.Idx) : (iblk (F := Ideal) m c 2 t : S1536x2880.Idx → EReal) i = (m ((c.tc : Thread nD τ).loc main_arg2) : S1536x2880.Idx → EReal) i := by
  have e : (((cfg0.win 2).blk t).view.emb i : S1536x2880.Idx) = i := by
    funext a
    exact Fin.ext (Pipeline.Window.rect_emb_val_of_index_zero win0_2 t a rfl i)
  show V m c main_arg2 (((cfg0.win 2).blk t).view.emb i) = _
  rw [e, V_main_arg2]

theorem iblk3 (c : Dev nD) (t : Fin cfg0.N) (i : S2880x1536.Idx) : (iblk (F := Ideal) m c 3 t : S2880x1536.Idx → EReal) i = (m ((c.tc : Thread nD τ).loc main_arg3) : S2880x1536.Idx → EReal) i := by
  have e : (((cfg0.win 3).blk t).view.emb i : S2880x1536.Idx) = i := by
    funext a
    exact Fin.ext (Pipeline.Window.rect_emb_val_of_index_zero win0_3 t a rfl i)
  show V m c main_arg3 (((cfg0.win 3).blk t).view.emb i) = _
  rw [e, V_main_arg3]

theorem after4 (c : Dev nD) (t : Fin cfg0.N) (k : Fin 1536) (n : Fin 5760) :
    ((dats (F := Ideal) m 0 c).after 4 t : S1536x5760.Idx → EReal) (ix2 k n) = refY m c (ix2 k n) := by
  rw [after0_4]
  dsimp only [outsAt0]
  refine (out_y c (ms0_0 t) (hs0_0 t) (ms0_1 t) (hs0_1 t) (ms0_2 t) (hs0_2 t) (ms0_3 t) (hs0_3 t) (ms0_4 t) (hs0_4 t) (ms0_5 t) (hs0_5 t) (iblk (F := Ideal) m c 0 t) (iblk (F := Ideal) m c 1 t) (iblk (F := Ideal) m c 2 t) (iblk (F := Ideal) m c 3 t) k n).trans ?_
  have eX : (fun (k : Fin 1536) (n : Fin 2880) => (iblk (F := Ideal) m c 2 t : S1536x2880.Idx → EReal) (ix2 k n)) = fun k n => (m ((c.tc : Thread nD τ).loc main_arg2) : S1536x2880.Idx → EReal) (ix2 k n) := by
    funext k n
    exact iblk2 m c t _
  have eY : (fun (k : Fin 2880) (n : Fin 5760) => (iblk (F := Ideal) m c 0 t : S2880x5760.Idx → EReal) (ix2 k n)) = fun k n => (m ((c.tc : Thread nD τ).loc main_arg0) : S2880x5760.Idx → EReal) (ix2 k n) := by
    funext k n
    exact iblk0 m c t _
  exact congrArg₂ (fun X Y => YW X Y k n) eX eY

theorem arr4 (c : Dev nD) : (dats (F := Ideal) m 0 c).arrAt 4 cfg0.N = refY m c := by
  refine Pipeline.Dat.arrAt_eq_of_covers _ 4 _ (by decide +kernel) fun t hf y => ?_
  have e0 : ((((cfg0.win 4).blk t).view.emb y : S1536x5760.Idx) 0).val = (y 0).val := Pipeline.Window.rect_emb_val_of_index_zero win0_4 t 0 rfl y
  have e1 : ((((cfg0.win 4).blk t).view.emb y : S1536x5760.Idx) 1).val = (y 1).val := Pipeline.Window.rect_emb_val_of_index_zero win0_4 t 1 rfl y
  have hy0 : (y 0).val < 1536 := by rw [← e0]; exact (((cfg0.win 4).blk t).view.emb y 0).isLt
  have hy1 : (y 1).val < 5760 := by rw [← e1]; exact (((cfg0.win 4).blk t).view.emb y 1).isLt
  have ey : (cfg0.win 4).xinj (cfg0.grid.coords t) y = (ix2 (⟨(y 0).val, hy0⟩ : Fin 1536) (⟨(y 1).val, hy1⟩ : Fin 5760) : S1536x5760.Idx) := by
    funext a
    refine Fin.ext ?_
    match a with
    | ⟨0, _⟩ => rfl
    | ⟨1, _⟩ => rfl
  have key := after4 m c t ⟨(y 0).val, hy0⟩ ⟨(y 1).val, hy1⟩
  show (dats (F := Ideal) m 0 c).after 4 t ((cfg0.win 4).xinj (cfg0.grid.coords t) y) = _
  rw [ey]
  refine key.trans ?_
  refine congrArg (refY m c) ?_
  funext a
  refine Fin.ext ?_
  match a with
  | ⟨0, _⟩ => exact e0.symm
  | ⟨1, _⟩ => exact e1.symm

theorem after5 (c : Dev nD) (t : Fin cfg0.N) (k : Fin 2880) (n : Fin 5760) :
    ((dats (F := Ideal) m 0 c).after 5 t : S2880x5760.Idx → EReal) (ix2 k n) = refDw m c (ix2 k n) := by
  rw [after0_5]
  dsimp only [outsAt0]
  refine (out_dw c (ms0_0 t) (hs0_0 t) (ms0_1 t) (hs0_1 t) (ms0_2 t) (hs0_2 t) (ms0_3 t) (hs0_3 t) (ms0_4 t) (hs0_4 t) (ms0_5 t) (hs0_5 t) (iblk (F := Ideal) m c 0 t) (iblk (F := Ideal) m c 1 t) (iblk (F := Ideal) m c 2 t) (iblk (F := Ideal) m c 3 t) k n).trans ?_
  have eX : (fun (k : Fin 2880) (n : Fin 1536) => (iblk (F := Ideal) m c 3 t : S2880x1536.Idx → EReal) (ix2 k n)) = fun k n => (m ((c.tc : Thread nD τ).loc main_arg3) : S2880x1536.Idx → EReal) (ix2 k n) := by
    funext k n
    exact iblk3 m c t _
  have eY : (fun (k : Fin 1536) (n : Fin 5760) => (iblk (F := Ideal) m c 1 t : S1536x5760.Idx → EReal) (ix2 k n)) = fun k n => (m ((c.tc : Thread nD τ).loc main_arg1) : S1536x5760.Idx → EReal) (ix2 k n) := by
    funext k n
    exact iblk1 m c t _
  exact congrArg₂ (fun X Y => DW X Y k n) eX eY

theorem arr5 (c : Dev nD) : (dats (F := Ideal) m 0 c).arrAt 5 cfg0.N = refDw m c := by
  refine Pipeline.Dat.arrAt_eq_of_covers _ 5 _ (by decide +kernel) fun t hf y => ?_
  have e0 : ((((cfg0.win 5).blk t).view.emb y : S2880x5760.Idx) 0).val = (y 0).val := Pipeline.Window.rect_emb_val_of_index_zero win0_5 t 0 rfl y
  have e1 : ((((cfg0.win 5).blk t).view.emb y : S2880x5760.Idx) 1).val = (y 1).val := Pipeline.Window.rect_emb_val_of_index_zero win0_5 t 1 rfl y
  have hy0 : (y 0).val < 2880 := by rw [← e0]; exact (((cfg0.win 5).blk t).view.emb y 0).isLt
  have hy1 : (y 1).val < 5760 := by rw [← e1]; exact (((cfg0.win 5).blk t).view.emb y 1).isLt
  have ey : (cfg0.win 5).xinj (cfg0.grid.coords t) y = (ix2 (⟨(y 0).val, hy0⟩ : Fin 2880) (⟨(y 1).val, hy1⟩ : Fin 5760) : S2880x5760.Idx) := by
    funext a
    refine Fin.ext ?_
    match a with
    | ⟨0, _⟩ => rfl
    | ⟨1, _⟩ => rfl
  have key := after5 m c t ⟨(y 0).val, hy0⟩ ⟨(y 1).val, hy1⟩
  show (dats (F := Ideal) m 0 c).after 5 t ((cfg0.win 5).xinj (cfg0.grid.coords t) y) = _
  rw [ey]
  refine key.trans ?_
  refine congrArg (refDw m c) ?_
  funext a
  refine Fin.ext ?_
  match a with
  | ⟨0, _⟩ => exact e0.symm
  | ⟨1, _⟩ => exact e1.symm

end Cert.Dw
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Value
public import proofs.«01_k».proof.Proof.Kernel.Frame
public import proofs.«01_k».proof.Proof.KernelIdeal.Frame
public import proofs.«01_k».proof.Proof.Value.Kernel
public import proofs.«01_k».proof.Proof.Value.RefArray
public import Idealize.ShloMosaic.Adequacy
public import Idealize.ShloMosaic.Init
public import Idealize.ShloMosaic.Lib.Bf16Pair

@[expose] public section

noncomputable section

namespace Cert.Proof

open Idealize.ShloMosaic Idealize.SL.Sem Cert.Kernel

/-- The two programs' results are one function of arguments that agree. -/
theorem algebraic : Cert.algebraic_KernelIdeal_ReferenceIdeal := fun m g m' g' _ h =>
  ⟨Cert.Dw.kernelY m, Cert.Dw.kernelDw m, Cert.Dw.kernel_value m g, (θ_run Cert.ReferenceIdeal.defs _ _).mono
    (fun r hr c => ⟨((hr c).1.trans (Cert.Dw.arr4 m' c)).trans (by
      unfold Cert.Dw.refY Cert.Dw.kernelY
      rw [(h c).1, (h c).2.2.1]), ((hr c).2.1.trans (Cert.Dw.arr5 m' c)).trans (by
      unfold Cert.Dw.refDw Cert.Dw.kernelDw
      rw [(h c).2.1, (h c).2.2.2]), (hr c).2.2⟩) (Cert.ReferenceIdeal.Value.run_blocks m' g')⟩

theorem claim : Cert.Claim := ⟨Cert.Kernel.Gen.facts, Cert.KernelIdeal.Gen.facts, Cert.ReferenceIdeal.Gen.facts,
  fun m ρ _ => Cert.Kernel.Hand.frame m ρ,
  fun m ρ _ => Cert.KernelIdeal.Hand.frame m ρ,
  fun m ρ _ => Cert.ReferenceIdeal.Gen.frame m ρ,
  IdealRules.bf16_pair.statement _ _, algebraic⟩

end Cert.Proof

end
